-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v84) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)) (v4 : (c : Dev Cert.Kernel3Ideal.nD) → Buf (Elt Ideal) ((c.tc : Thread Cert.Kernel3Ideal.nD Cert.Kernel3Ideal.τ).loc Cert.Kernel3Ideal.main_v5_4)) (v5 : (c : Dev Cert.Kernel3Ideal.nD) → Buf (Elt Ideal) ((c.tc : Thread Cert.Kernel3Ideal.nD Cert.Kernel3Ideal.τ).loc Cert.Kernel3Ideal.main_v5_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_v5_4) = v4 c
          ∧ r.2.mem ((c.tc : Thread Cert.Kernel3Ideal.nD Cert.Kernel3Ideal.τ).loc Cert.Kernel3Ideal.main_v5_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v77) = v0 c
          ∧ r.2.mem ((c.tc : Thread Cert.Reference3Ideal.nD Cert.Reference3Ideal.τ).loc Cert.Reference3Ideal.main_v78) = v1 c
          ∧ r.2.mem ((c.tc : Thread Cert.Reference3Ideal.nD Cert.Reference3Ideal.τ).loc Cert.Reference3Ideal.main_v79) = v2 c
          ∧ r.2.mem ((c.tc : Thread Cert.Reference3Ideal.nD Cert.Reference3Ideal.τ).loc Cert.Reference3Ideal.main_v80) = v3 c
          ∧ r.2.mem ((c.tc : Thread Cert.Reference3Ideal.nD Cert.Reference3Ideal.τ).loc Cert.Reference3Ideal.main_v81) = v4 c
          ∧ r.2.mem ((c.tc : Thread Cert.Reference3Ideal.nD Cert.Reference3Ideal.τ).loc Cert.Reference3Ideal.main_v82) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v19)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v78) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v93) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S8x4352x512 : Shape := ⟨3, ![8, 4352, 512]⟩
abbrev S4x8x15x31 : Shape := ⟨4, ![4, 8, 15, 31]⟩
abbrev S_ : Shape := ⟨0, ![]⟩

class Facts : Prop where
  bitsLt_bf16_f32 : FTy.bits .bf16 < FTy.bits .f32
  bcast_S_S8x4352x512 : S_.BroadcastsInDim S8x4352x512 (![] : Fin 0 → Fin S8x4352x512.rank)
  bcast_S_S4x8x15x31 : S_.BroadcastsInDim S4x8x15x31 (![] : Fin 0 → Fin S4x8x15x31.rank)

variable [Facts]

def fn {F : FTy → Type} [FloatOps F] (main_arg0 : FVec F S8x4352x512 .bf16) (main_arg1 : FVec F S8x4352x512 .bf16) (main_arg2 : FVec F S8x4352x512 .bf16) (main_arg3 : FVec F S4x8x15x31 .f32) : IVec S8x4352x512 1 × IVec S8x4352x512 1 × IVec S4x8x15x31 1 :=
  let main_v0 : FVec F S8x4352x512 .f32 := (extf .f32 · bitsLt_bf16_f32) main_arg0
  let main_v1 : FVec F S8x4352x512 .f32 := Host.absf main_v0
  let main_cst : FVec F S_ .f32 := constant S_ .f32 0x7F800000#32
  let main_v2 : FVec F S8x4352x512 .f32 := broadcastInDim S8x4352x512 ![] bcast_S_S8x4352x512 main_cst
  let main_v3 : IVec S8x4352x512 1 := cmpf .olt main_v1 main_v2
  let main_v4 : FVec F S8x4352x512 .f32 := (extf .f32 · bitsLt_bf16_f32) main_arg1
  let main_v5 : FVec F S8x4352x512 .f32 := Host.absf main_v4
  let main_cst_0 : FVec F S_ .f32 := constant S_ .f32 0x7F800000#32
  let main_v6 : FVec F S8x4352x512 .f32 := broadcastInDim S8x4352x512 ![] bcast_S_S8x4352x512 main_cst_0
  let main_v7 : IVec S8x4352x512 1 := cmpf .olt main_v5 main_v6
  let main_v8 : FVec F S4x8x15x31 .f32 := Host.absf main_arg3
  let main_cst_1 : FVec F S_ .f32 := constant S_ .f32 0x7F800000#32
  let main_v9 : FVec F S4x8x15x31 .f32 := broadcastInDim S4x8x15x31 ![] bcast_S_S4x8x15x31 main_cst_1
  let main_v10 : IVec S4x8x15x31 1 := cmpf .olt main_v8 main_v9
  (main_v3, main_v7, main_v10)
-- ==== Kernel.lean ====
abbrev S8x4352x512 : Shape := ⟨3, ![8, 4352, 512]⟩
abbrev S4x8x15x31 : Shape := ⟨4, ![4, 8, 15, 31]⟩
abbrev S64x64 : Shape := ⟨2, ![64, 64]⟩
abbrev S_ : Shape := ⟨0, ![]⟩
abbrev S4x8x15x128 : Shape := ⟨4, ![4, 8, 15, 128]⟩
abbrev S1x4x1x8x1x15x1x128 : Shape := ⟨8, ![1, 4, 1, 8, 1, 15, 1, 128]⟩
abbrev S1x4x1x8x1x15x64x128 : Shape := ⟨8, ![1, 4, 1, 8, 1, 15, 64, 128]⟩
abbrev S4x8x15x8192 : Shape := ⟨4, ![4, 8, 15, 8192]⟩
abbrev S4x8x15x8128 : Shape := ⟨4, ![4, 8, 15, 8128]⟩
abbrev S4x8x15x64x127 : Shape := ⟨5, ![4, 8, 15, 64, 127]⟩
abbrev S4x8x15x64x64 : Shape := ⟨5, ![4, 8, 15, 64, 64]⟩
abbrev S4x8x64x15x64 : Shape := ⟨5, ![4, 8, 64, 15, 64]⟩
abbrev S4x8x64x8x64 : Shape := ⟨5, ![4, 8, 64, 8, 64]⟩
abbrev S4x8x1x64x8x64 : Shape := ⟨6, ![4, 8, 1, 64, 8, 64]⟩
abbrev S4x8x8x64x8x64 : Shape := ⟨6, ![4, 8, 8, 64, 8, 64]⟩
abbrev S4x8x8x64x512 : Shape := ⟨5, ![4, 8, 8, 64, 512]⟩
abbrev S1x256x256 : Shape := ⟨3, ![1, 256, 256]⟩
abbrev S1x4352x256 : Shape := ⟨3, ![1, 4352, 256]⟩
abbrev S1x4x8x64x512 : Shape := ⟨5, ![1, 4, 8, 64, 512]⟩
abbrev S1x128 : Shape := ⟨2, ![1, 128]⟩
abbrev S1x256x128 : Shape := ⟨3, ![1, 256, 128]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1x512x128 : Shape := ⟨3, ![1, 512, 128]⟩
abbrev S1x1x1x64x512 : Shape := ⟨5, ![1, 1, 1, 64, 512]⟩
abbrev S64x512 : Shape := ⟨2, ![64, 512]⟩
abbrev S128x512 : Shape := ⟨2, ![128, 512]⟩
abbrev S1x64x128 : Shape := ⟨3, ![1, 64, 128]⟩
abbrev S64x128 : Shape := ⟨2, ![64, 128]⟩
abbrev S128x128 : Shape := ⟨2, ![128, 128]⟩
abbrev S128x256 : Shape := ⟨2, ![128, 256]⟩
abbrev S128 : Shape := ⟨1, ![128]⟩
abbrev S128x1 : Shape := ⟨2, ![128, 1]⟩

abbrev nBuf : Space → Nat
  | .hbm => 39
  | .vmem => 10
  | .smem => 0
  | _ => 0

abbrev bufTy : (tb : Table) → Fin (tcTables nBuf tb) → BufTy
  | .hbm, ⟨0, _⟩ => ⟨S8x4352x512, .bf16⟩
  | .hbm, ⟨1, _⟩ => ⟨S8x4352x512, .bf16⟩
  | .hbm, ⟨2, _⟩ => ⟨S8x4352x512, .bf16⟩
  | .hbm, ⟨3, _⟩ => ⟨S4x8x15x31, .f32⟩
  | .hbm, ⟨4, _⟩ => ⟨S64x64, .i1⟩
  | .hbm, ⟨5, _⟩ => ⟨S_, .i32⟩
  | .hbm, ⟨6, _⟩ => ⟨S_, .f32⟩
  | .hbm, ⟨7, _⟩ => ⟨S4x8x15x128, .f32⟩
  | .hbm, ⟨8, _⟩ => ⟨S1x4x1x8x1x15x1x128, .f32⟩
  | .hbm, ⟨9, _⟩ => ⟨S1x4x1x8x1x15x64x128, .f32⟩
  | .hbm, ⟨10, _⟩ => ⟨S4x8x15x8192, .f32⟩
  | .hbm, ⟨11, _⟩ => ⟨S4x8x15x8128, .f32⟩
  | .hbm, ⟨12, _⟩ => ⟨S4x8x15x64x127, .f32⟩
  | .hbm, ⟨13, _⟩ => ⟨S4x8x15x64x64, .f32⟩
  | .hbm, ⟨14, _⟩ => ⟨S_, .f32⟩
  | .hbm, ⟨15, _⟩ => ⟨S_, .f32⟩
  | .hbm, ⟨16, _⟩ => ⟨S4x8x15x64x64, .i1⟩
  | .hbm, ⟨17, _⟩ => ⟨S4x8x15x64x64, .f32⟩
  | .hbm, ⟨18, _⟩ => ⟨S4x8x15x64x64, .f32⟩
  | .hbm, ⟨19, _⟩ => ⟨S4x8x64x15x64, .f32⟩
  | .hbm, ⟨20, _⟩ => ⟨S4x8x64x8x64, .f32⟩
  | .hbm, ⟨21, _⟩ => ⟨S4x8x64x8x64, .f32⟩
  | .hbm, ⟨22, _⟩ => ⟨S4x8x64x8x64, .f32⟩
  | .hbm, ⟨23, _⟩ => ⟨S4x8x64x8x64, .f32⟩
  | .hbm, ⟨24, _⟩ => ⟨S4x8x64x8x64, .f32⟩
  | .hbm, ⟨25, _⟩ => ⟨S4x8x64x8x64, .f32⟩
  | .hbm, ⟨26, _⟩ => ⟨S4x8x64x8x64, .f32⟩
  | .hbm, ⟨27, _⟩ => ⟨S4x8x64x8x64, .f32⟩
  | .hbm, ⟨28, _⟩ => ⟨S4x8x1x64x8x64, .f32⟩
  | .hbm, ⟨29, _⟩ => ⟨S4x8x1x64x8x64, .f32⟩
  | .hbm, ⟨30, _⟩ => ⟨S4x8x1x64x8x64, .f32⟩
  | .hbm, ⟨31, _⟩ => ⟨S4x8x1x64x8x64, .f32⟩
  | .hbm, ⟨32, _⟩ => ⟨S4x8x1x64x8x64, .f32⟩
  | .hbm, ⟨33, _⟩ => ⟨S4x8x1x64x8x64, .f32⟩
  | .hbm, ⟨34, _⟩ => ⟨S4x8x1x64x8x64, .f32⟩
  | .hbm, ⟨35, _⟩ => ⟨S4x8x1x64x8x64, .f32⟩
  | .hbm, ⟨36, _⟩ => ⟨S4x8x8x64x8x64, .f32⟩
  | .hbm, ⟨37, _⟩ => ⟨S4x8x8x64x512, .f32⟩
  | .hbm, ⟨38, _⟩ => ⟨S8x4352x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x4352x256, .bf16⟩
  | .local _ .vmem, ⟨3, _⟩ => ⟨S1x4352x256, .bf16⟩
  | .local _ .vmem, ⟨4, _⟩ => ⟨S1x4352x256, .bf16⟩
  | .local _ .vmem, ⟨5, _⟩ => ⟨S1x4352x256, .bf16⟩
  | .local _ .vmem, ⟨6, _⟩ => ⟨S1x4x8x64x512, .f32⟩
  | .local _ .vmem, ⟨7, _⟩ => ⟨S1x4x8x64x512, .f32⟩
  | .local _ .vmem, ⟨8, _⟩ => ⟨S1x256x256, .bf16⟩
  | .local _ .vmem, ⟨9, _⟩ => ⟨S1x256x256, .bf16⟩
  | _, _ => ⟨S8x4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 17], ![false, false, false]⟩

def k0_cond2 (i : grid0.Coords) : BitVec 1 :=
  let arg2 : BitVec 32 := BitVec.ofNat 32 (i 2).val
  let c0_i32_2 : BitVec 32 := 0#32
  let v8 : BitVec 1 := Scalar.cmpi .sgt arg2 c0_i32_2
  let v9 : BitVec 32 := Scalar.extui v8
  let c0_i32_3 : BitVec 32 := 0#32
  let v10 : BitVec 1 := Scalar.cmpi .ne v9 c0_i32_3
  v10

def k0_mult1 (i : grid0.Coords) : BitVec 32 :=
  let c256_i32 : BitVec 32 := 256#32
  let c56_i32 : BitVec 32 := 56#32
  let c0_i32_6 : BitVec 32 := 0#32
  let arg2 : BitVec 32 := BitVec.ofNat 32 (i 2).val
  let c1_i32 : BitVec 32 := 1#32
  let v11 : BitVec 32 := Scalar.subi arg2 c1_i32
  let c4_i32 : BitVec 32 := 4#32
  let v12 : BitVec 32 := Scalar.muli v11 c4_i32
  let c0_i32_4 : BitVec 32 := 0#32
  let v13 : BitVec 32 := Scalar.addi v12 c0_i32_4
  let c4_i32_5 : BitVec 32 := 4#32
  let v14 : BitVec 32 := Scalar.subi v13 c4_i32_5
  let v15 : BitVec 32 := Scalar.maxsi c0_i32_6 v14
  let v16 : BitVec 32 := Scalar.minsi c56_i32 v15
  let c64_i32_7 : BitVec 32 := 64#32
  let v19 : BitVec 32 := Scalar.muli v16 c64_i32_7
  let v20 : BitVec 32 := Scalar.addi c256_i32 v19
  v20
def k0_off1 (i : grid0.Coords) (c0_i32_4 : BitVec 32) : Fin 3 → Nat :=
  let c0 : Index := 0#32
  let c256_i32 : BitVec 32 := 256#32
  let c56_i32 : BitVec 32 := 56#32
  let c0_i32_6 : BitVec 32 := 0#32
  let arg2 : BitVec 32 := BitVec.ofNat 32 (i 2).val
  let c1_i32 : BitVec 32 := 1#32
  let v11 : BitVec 32 := Scalar.subi arg2 c1_i32
  let c4_i32 : BitVec 32 := 4#32
  let v12 : BitVec 32 := Scalar.muli v11 c4_i32
  let v13 : BitVec 32 := Scalar.addi v12 c0_i32_4
  let c4_i32_5 : BitVec 32 := 4#32
  let v14 : BitVec 32 := Scalar.subi v13 c4_i32_5
  let v15 : BitVec 32 := Scalar.maxsi c0_i32_6 v14
  let v16 : BitVec 32 := Scalar.minsi c56_i32 v15
  let c64_i32_7 : BitVec 32 := 64#32
  let v19 : BitVec 32 := Scalar.muli v16 c64_i32_7
  let v20 : BitVec 32 := Scalar.addi c256_i32 v19
  let v21 : BitVec 32 := v20
  let v22 : Index := Scalar.indexCast v21
  let c0_8 : Index := 0#32
  ![0, v22.toNat, 0]
def k0_off2 (i : grid0.Coords) (c0_i32_4 : BitVec 32) : Fin 5 → Nat :=
  let c0_11 : Index := 0#32
  let c0_12 : Index := 0#32
  let c56_i32 : BitVec 32 := 56#32
  let c0_i32_6 : BitVec 32 := 0#32
  let arg2 : BitVec 32 := BitVec.ofNat 32 (i 2).val
  let c1_i32 : BitVec 32 := 1#32
  let v11 : BitVec 32 := Scalar.subi arg2 c1_i32
  let c4_i32 : BitVec 32 := 4#32
  let v12 : BitVec 32 := Scalar.muli v11 c4_i32
  let v13 : BitVec 32 := Scalar.addi v12 c0_i32_4
  let c4_i32_5 : BitVec 32 := 4#32
  let v14 : BitVec 32 := Scalar.subi v13 c4_i32_5
  let v15 : BitVec 32 := Scalar.maxsi c0_i32_6 v14
  let v16 : BitVec 32 := Scalar.minsi c56_i32 v15
  let v17 : BitVec 32 := Scalar.subi v16 v13
  let c7_i32 : BitVec 32 := 7#32
  let v18 : BitVec 32 := Scalar.addi v17 c7_i32
  let v28 : Index := Scalar.indexCast v18
  let c0_13 : Index := 0#32
  let c0_14 : Index := 0#32
  ![0, 0, v28.toNat, 0, 0]
def k0_off3 (i : grid0.Coords) (c0_i32_4 : BitVec 32) : Fin 5 → Nat :=
  let c0_15 : Index := 0#32
  let c1 : Index := 1#32
  let c56_i32 : BitVec 32 := 56#32
  let c0_i32_6 : BitVec 32 := 0#32
  let arg2 : BitVec 32 := BitVec.ofNat 32 (i 2).val
  let c1_i32 : BitVec 32 := 1#32
  let v11 : BitVec 32 := Scalar.subi arg2 c1_i32
  let c4_i32 : BitVec 32 := 4#32
  let v12 : BitVec 32 := Scalar.muli v11 c4_i32
  let v13 : BitVec 32 := Scalar.addi v12 c0_i32_4
  let c4_i32_5 : BitVec 32 := 4#32
  let v14 : BitVec 32 := Scalar.subi v13 c4_i32_5
  let v15 : BitVec 32 := Scalar.maxsi c0_i32_6 v14
  let v16 : BitVec 32 := Scalar.minsi c56_i32 v15
  let v17 : BitVec 32 := Scalar.subi v16 v13
  let c7_i32 : BitVec 32 := 7#32
  let v18 : BitVec 32 := Scalar.addi v17 c7_i32
  let v31 : Index := Scalar.indexCast v18
  let c0_16 : Index := 0#32
  let c0_17 : Index := 0#32
  ![0, 1, v31.toNat, 0, 0]
def k0_mult2 (i : grid0.Coords) : BitVec 32 :=
  let c256_i32_30 : BitVec 32 := 256#32
  let c56_i32_27 : BitVec 32 := 56#32
  let c0_i32_26 : BitVec 32 := 0#32
  let arg2 : BitVec 32 := BitVec.ofNat 32 (i 2).val
  let c1_i32_22 : BitVec 32 := 1#32
  let v46 : BitVec 32 := Scalar.subi arg2 c1_i32_22
  let c4_i32_23 : BitVec 32 := 4#32
  let v47 : BitVec 32 := Scalar.muli v46 c4_i32_23
  let c1_i32_24 : BitVec 32 := 1#32
  let v48 : BitVec 32 := Scalar.addi v47 c1_i32_24
  let c4_i32_25 : BitVec 32 := 4#32
  let v49 : BitVec 32 := Scalar.subi v48 c4_i32_25
  let v50 : BitVec 32 := Scalar.maxsi c0_i32_26 v49
  let v51 : BitVec 32 := Scalar.minsi c56_i32_27 v50
  let c64_i32_29 : BitVec 32 := 64#32
  let v54 : BitVec 32 := Scalar.muli v51 c64_i32_29
  let v55 : BitVec 32 := Scalar.addi c256_i32_30 v54
  v55
def k0_mult3 (i : grid0.Coords) : BitVec 32 :=
  let c256_i32_54 : BitVec 32 := 256#32
  let c56_i32_51 : BitVec 32 := 56#32
  let c0_i32_50 : BitVec 32 := 0#32
  let arg2 : BitVec 32 := BitVec.ofNat 32 (i 2).val
  let c1_i32_47 : BitVec 32 := 1#32
  let v81 : BitVec 32 := Scalar.subi arg2 c1_i32_47
  let c4_i32_48 : BitVec 32 := 4#32
  let v82 : BitVec 32 := Scalar.muli v81 c4_i32_48
  let c2_i32 : BitVec 32 := 2#32
  let v83 : BitVec 32 := Scalar.addi v82 c2_i32
  let c4_i32_49 : BitVec 32 := 4#32
  let v84 : BitVec 32 := Scalar.subi v83 c4_i32_49
  let v85 : BitVec 32 := Scalar.maxsi c0_i32_50 v84
  let v86 : BitVec 32 := Scalar.minsi c56_i32_51 v85
  let c64_i32_53 : BitVec 32 := 64#32
  let v89 : BitVec 32 := Scalar.muli v86 c64_i32_53
  let v90 : BitVec 32 := Scalar.addi c256_i32_54 v89
  v90
def k0_mult4 (i : grid0.Coords) : BitVec 32 :=
  let c256_i32_78 : BitVec 32 := 256#32
  let c56_i32_75 : BitVec 32 := 56#32
  let c0_i32_74 : BitVec 32 := 0#32
  let arg2 : BitVec 32 := BitVec.ofNat 32 (i 2).val
  let c1_i32_71 : BitVec 32 := 1#32
  let v116 : BitVec 32 := Scalar.subi arg2 c1_i32_71
  let c4_i32_72 : BitVec 32 := 4#32
  let v117 : BitVec 32 := Scalar.muli v116 c4_i32_72
  let c3_i32 : BitVec 32 := 3#32
  let v118 : BitVec 32 := Scalar.addi v117 c3_i32
  let c4_i32_73 : BitVec 32 := 4#32
  let v119 : BitVec 32 := Scalar.subi v118 c4_i32_73
  let v120 : BitVec 32 := Scalar.maxsi c0_i32_74 v119
  let v121 : BitVec 32 := Scalar.minsi c56_i32_75 v120
  let c64_i32_77 : BitVec 32 := 64#32
  let v124 : BitVec 32 := Scalar.muli v121 c64_i32_77
  let v125 : BitVec 32 := Scalar.addi c256_i32_78 v124
  v125
def k0_mult5 (i : grid0.Coords) : BitVec 32 :=
  let c256_i32_103 : BitVec 32 := 256#32
  let c56_i32_100 : BitVec 32 := 56#32
  let c0_i32_99 : BitVec 32 := 0#32
  let arg2 : BitVec 32 := BitVec.ofNat 32 (i 2).val
  let c1_i32_95 : BitVec 32 := 1#32
  let v151 : BitVec 32 := Scalar.subi arg2 c1_i32_95
  let c4_i32_96 : BitVec 32 := 4#32
  let v152 : BitVec 32 := Scalar.muli v151 c4_i32_96
  let c0_i32_97 : BitVec 32 := 0#32
  let v153 : BitVec 32 := Scalar.addi v152 c0_i32_97
  let c4_i32_98 : BitVec 32 := 4#32
  let v154 : BitVec 32 := Scalar.subi v153 c4_i32_98
  let v155 : BitVec 32 := Scalar.maxsi c0_i32_99 v154
  let v156 : BitVec 32 := Scalar.minsi c56_i32_100 v155
  let c64_i32_102 : BitVec 32 := 64#32
  let v159 : BitVec 32 := Scalar.muli v156 c64_i32_102
  let v160 : BitVec 32 := Scalar.addi c256_i32_103 v159
  v160
def k0_off4 (i : grid0.Coords) (c0_i32_97 : BitVec 32) : Fin 3 → Nat :=
  let c0_104 : Index := 0#32
  let c256_i32_103 : BitVec 32 := 256#32
  let c56_i32_100 : BitVec 32 := 56#32
  let c0_i32_99 : BitVec 32 := 0#32
  let arg2 : BitVec 32 := BitVec.ofNat 32 (i 2).val
  let c1_i32_95 : BitVec 32 := 1#32
  let v151 : BitVec 32 := Scalar.subi arg2 c1_i32_95
  let c4_i32_96 : BitVec 32 := 4#32
  let v152 : BitVec 32 := Scalar.muli v151 c4_i32_96
  let v153 : BitVec 32 := Scalar.addi v152 c0_i32_97
  let c4_i32_98 : BitVec 32 := 4#32
  let v154 : BitVec 32 := Scalar.subi v153 c4_i32_98
  let v155 : BitVec 32 := Scalar.maxsi c0_i32_99 v154
  let v156 : BitVec 32 := Scalar.minsi c56_i32_100 v155
  let c64_i32_102 : BitVec 32 := 64#32
  let v159 : BitVec 32 := Scalar.muli v156 c64_i32_102
  let v160 : BitVec 32 := Scalar.addi c256_i32_103 v159
  let v161 : BitVec 32 := v160
  let v162 : Index := Scalar.indexCast v161
  let c128_105 : Index := 128#32
  ![0, v162.toNat, 128]
def k0_off5 (i : grid0.Coords) (c0_i32_97 : BitVec 32) : Fin 5 → Nat :=
  let c0_108 : Index := 0#32
  let c2 : Index := 2#32
  let c56_i32_100 : BitVec 32 := 56#32
  let c0_i32_99 : BitVec 32 := 0#32
  let arg2 : BitVec 32 := BitVec.ofNat 32 (i 2).val
  let c1_i32_95 : BitVec 32 := 1#32
  let v151 : BitVec 32 := Scalar.subi arg2 c1_i32_95
  let c4_i32_96 : BitVec 32 := 4#32
  let v152 : BitVec 32 := Scalar.muli v151 c4_i32_96
  let v153 : BitVec 32 := Scalar.addi v152 c0_i32_97
  let c4_i32_98 : BitVec 32 := 4#32
  let v154 : BitVec 32 := Scalar.subi v153 c4_i32_98
  let v155 : BitVec 32 := Scalar.maxsi c0_i32_99 v154
  let v156 : BitVec 32 := Scalar.minsi c56_i32_100 v155
  let v157 : BitVec 32 := Scalar.subi v156 v153
  let c7_i32_101 : BitVec 32 := 7#32
  let v158 : BitVec 32 := Scalar.addi v157 c7_i32_101
  let v168 : Index := Scalar.indexCast v158
  let c0_109 : Index := 0#32
  let c0_110 : Index := 0#32
  ![0, 2, v168.toNat, 0, 0]
def k0_off6 (i : grid0.Coords) (c0_i32_97 : BitVec 32) : Fin 5 → Nat :=
  let c0_111 : Index := 0#32
  let c3 : Index := 3#32
  let c56_i32_100 : BitVec 32 := 56#32
  let c0_i32_99 : BitVec 32 := 0#32
  let arg2 : BitVec 32 := BitVec.ofNat 32 (i 2).val
  let c1_i32_95 : BitVec 32 := 1#32
  let v151 : BitVec 32 := Scalar.subi arg2 c1_i32_95
  let c4_i32_96 : BitVec 32 := 4#32
  let v152 : BitVec 32 := Scalar.muli v151 c4_i32_96
  let v153 : BitVec 32 := Scalar.addi v152 c0_i32_97
  let c4_i32_98 : BitVec 32 := 4#32
  let v154 : BitVec 32 := Scalar.subi v153 c4_i32_98
  let v155 : BitVec 32 := Scalar.maxsi c0_i32_99 v154
  let v156 : BitVec 32 := Scalar.minsi c56_i32_100 v155
  let v157 : BitVec 32 := Scalar.subi v156 v153
  let c7_i32_101 : BitVec 32 := 7#32
  let v158 : BitVec 32 := Scalar.addi v157 c7_i32_101
  let v171 : Index := Scalar.indexCast v158
  let c0_112 : Index := 0#32
  let c0_113 : Index := 0#32
  ![0, 3, v171.toNat, 0, 0]
def k0_mult6 (i : grid0.Coords) : BitVec 32 :=
  let c256_i32_127 : BitVec 32 := 256#32
  let c56_i32_124 : BitVec 32 := 56#32
  let c0_i32_123 : BitVec 32 := 0#32
  let arg2 : BitVec 32 := BitVec.ofNat 32 (i 2).val
  let c1_i32_119 : BitVec 32 := 1#32
  let v186 : BitVec 32 := Scalar.subi arg2 c1_i32_119
  let c4_i32_120 : BitVec 32 := 4#32
  let v187 : BitVec 32 := Scalar.muli v186 c4_i32_120
  let c1_i32_121 : BitVec 32 := 1#32
  let v188 : BitVec 32 := Scalar.addi v187 c1_i32_121
  let c4_i32_122 : BitVec 32 := 4#32
  let v189 : BitVec 32 := Scalar.subi v188 c4_i32_122
  let v190 : BitVec 32 := Scalar.maxsi c0_i32_123 v189
  let v191 : BitVec 32 := Scalar.minsi c56_i32_124 v190
  let c64_i32_126 : BitVec 32 := 64#32
  let v194 : BitVec 32 := Scalar.muli v191 c64_i32_126
  let v195 : BitVec 32 := Scalar.addi c256_i32_127 v194
  v195
def k0_mult7 (i : grid0.Coords) : BitVec 32 :=
  let c256_i32_153 : BitVec 32 := 256#32
  let c56_i32_150 : BitVec 32 := 56#32
  let c0_i32_149 : BitVec 32 := 0#32
  let arg2 : BitVec 32 := BitVec.ofNat 32 (i 2).val
  let c1_i32_145 : BitVec 32 := 1#32
  let v221 : BitVec 32 := Scalar.subi arg2 c1_i32_145
  let c4_i32_146 : BitVec 32 := 4#32
  let v222 : BitVec 32 := Scalar.muli v221 c4_i32_146
  let c2_i32_147 : BitVec 32 := 2#32
  let v223 : BitVec 32 := Scalar.addi v222 c2_i32_147
  let c4_i32_148 : BitVec 32 := 4#32
  let v224 : BitVec 32 := Scalar.subi v223 c4_i32_148
  let v225 : BitVec 32 := Scalar.maxsi c0_i32_149 v224
  let v226 : BitVec 32 := Scalar.minsi c56_i32_150 v225
  let c64_i32_152 : BitVec 32 := 64#32
  let v229 : BitVec 32 := Scalar.muli v226 c64_i32_152
  let v230 : BitVec 32 := Scalar.addi c256_i32_153 v229
  v230
def k0_mult8 (i : grid0.Coords) : BitVec 32 :=
  let c256_i32_179 : BitVec 32 := 256#32
  let c56_i32_176 : BitVec 32 := 56#32
  let c0_i32_175 : BitVec 32 := 0#32
  let arg2 : BitVec 32 := BitVec.ofNat 32 (i 2).val
  let c1_i32_171 : BitVec 32 := 1#32
  let v256 : BitVec 32 := Scalar.subi arg2 c1_i32_171
  let c4_i32_172 : BitVec 32 := 4#32
  let v257 : BitVec 32 := Scalar.muli v256 c4_i32_172
  let c3_i32_173 : BitVec 32 := 3#32
  let v258 : BitVec 32 := Scalar.addi v257 c3_i32_173
  let c4_i32_174 : BitVec 32 := 4#32
  let v259 : BitVec 32 := Scalar.subi v258 c4_i32_174
  let v260 : BitVec 32 := Scalar.maxsi c0_i32_175 v259
  let v261 : BitVec 32 := Scalar.minsi c56_i32_176 v260
  let c64_i32_178 : BitVec 32 := 64#32
  let v264 : BitVec 32 := Scalar.muli v261 c64_i32_178
  let v265 : BitVec 32 := Scalar.addi c256_i32_179 v264
  v265
def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_1 : BitVec 32 := 0#32
  let v7 : BitVec 1 := Scalar.cmpi .ne v6 c0_i32_1
  v7

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x8x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8x4352x512 : Shape := ⟨3, ![8, 4352, 512]⟩
abbrev S4x8x15x31 : Shape := ⟨4, ![4, 8, 15, 31]⟩
abbrev S8x256x512 : Shape := ⟨3, ![8, 256, 512]⟩
abbrev S8x256x8x64 : Shape := ⟨4, ![8, 256, 8, 64]⟩
abbrev S8x4096x512 : Shape := ⟨3, ![8, 4096, 512]⟩
abbrev S8x64x64x8x64 : Shape := ⟨5, ![8, 64, 64, 8, 64]⟩
abbrev S8x8x256x256 : Shape := ⟨4, ![8, 8, 256, 256]⟩
abbrev S_ : Shape := ⟨0, ![]⟩
abbrev S8x8x256 : Shape := ⟨3, ![8, 8, 256]⟩
abbrev S8x8x256x1 : Shape := ⟨4, ![8, 8, 256, 1]⟩
abbrev S8x8x64x256 : Shape := ⟨4, ![8, 8, 64, 256]⟩
abbrev S64 : Shape := ⟨1, ![64]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S16 : Shape := ⟨1, ![16]⟩
abbrev S1x16 : Shape := ⟨2, ![1, 16]⟩
abbrev S64x16 : Shape := ⟨2, ![64, 16]⟩
abbrev S64x8x1x1 : Shape := ⟨4, ![64, 8, 1, 1]⟩
abbrev S1x1x64x16 : Shape := ⟨4, ![1, 1, 64, 16]⟩
abbrev S64x8x64x16 : Shape := ⟨4, ![64, 8, 64, 16]⟩
abbrev S64x8x64x16x1 : Shape := ⟨5, ![64, 8, 64, 16, 1]⟩
abbrev S64x8x64x16x2 : Shape := ⟨5, ![64, 8, 64, 16, 2]⟩
abbrev S8x64x8x64x16x8x64 : Shape := ⟨7, ![8, 64, 8, 64, 16, 8, 64]⟩
abbrev S1x8x15x31 : Shape := ⟨4, ![1, 8, 15, 31]⟩
abbrev S8x15x31 : Shape := ⟨3, ![8, 15, 31]⟩
abbrev S8x64x8x64x16 : Shape := ⟨5, ![8, 64, 8, 64, 16]⟩
abbrev S8x64x64x8x8x16 : Shape := ⟨6, ![8, 64, 64, 8, 8, 16]⟩
abbrev S64x64x8x8x16 : Shape := ⟨5, ![64, 64, 8, 8, 16]⟩
abbrev S1x64x64x8x8x16 : Shape := ⟨6, ![1, 64, 64, 8, 8, 16]⟩
abbrev S8x8x256x64x64 : Shape := ⟨5, ![8, 8, 256, 64, 64]⟩
abbrev S8x64x64x8x256 : Shape := ⟨5, ![8, 64, 64, 8, 256]⟩
abbrev S8x64x64x8x128 : Shape := ⟨5, ![8, 64, 64, 8, 128]⟩
abbrev S8x64x64x8x384 : Shape := ⟨5, ![8, 64, 64, 8, 384]⟩
abbrev S8x64x64x8 : Shape := ⟨4, ![8, 64, 64, 8]⟩
abbrev S8x64x64x8x1 : Shape := ⟨5, ![8, 64, 64, 8, 1]⟩
abbrev S8x8x64x64x64 : Shape := ⟨5, ![8, 8, 64, 64, 64]⟩

abbrev nBuf : Space → Nat
  | .hbm => 144
  | .vmem => 0
  | .smem => 0
  | _ => 0

abbrev hbmTy0_0 (i : Nat) : BufTy := match i % 128 with
  | 0 => ⟨S8x4352x512, .bf16⟩
  | 1 => ⟨S8x4352x512, .bf16⟩
  | 2 => ⟨S8x4352x512, .bf16⟩
  | 3 => ⟨S4x8x15x31, .f32⟩
  | 4 => ⟨S8x4352x512, .f32⟩
  | 5 => ⟨S8x4352x512, .f32⟩
  | 6 => ⟨S8x4352x512, .f32⟩
  | 7 => ⟨S8x256x512, .f32⟩
  | 8 => ⟨S8x256x8x64, .f32⟩
  | 9 => ⟨S8x256x512, .f32⟩
  | 10 => ⟨S8x256x8x64, .f32⟩
  | 11 => ⟨S8x256x512, .f32⟩
  | 12 => ⟨S8x256x8x64, .f32⟩
  | 13 => ⟨S8x4096x512, .f32⟩
  | 14 => ⟨S8x64x64x8x64, .f32⟩
  | 15 => ⟨S8x4096x512, .f32⟩
  | 16 => ⟨S8x64x64x8x64, .f32⟩
  | 17 => ⟨S8x4096x512, .f32⟩
  | 18 => ⟨S8x64x64x8x64, .f32⟩
  | 19 => ⟨S8x8x256x256, .f32⟩
  | 20 => ⟨S_, .f32⟩
  | 21 => ⟨S8x8x256, .f32⟩
  | 22 => ⟨S_, .f32⟩
  | 23 => ⟨S8x8x256, .f32⟩
  | 24 => ⟨S8x8x256, .f32⟩
  | 25 => ⟨S8x8x256x1, .f32⟩
  | 26 => ⟨S8x8x256x256, .f32⟩
  | 27 => ⟨S8x8x256x256, .f32⟩
  | 28 => ⟨S8x8x256x256, .f32⟩
  | 29 => ⟨S_, .f32⟩
  | 30 => ⟨S8x8x256, .f32⟩
  | 31 => ⟨S8x8x256x1, .f32⟩
  | 32 => ⟨S8x8x256x256, .f32⟩
  | 33 => ⟨S8x8x256x256, .f32⟩
  | 34 => ⟨S8x8x64x256, .f32⟩
  | 35 => ⟨S8x256x8x64, .f32⟩
  | 36 => ⟨S64, .i32⟩
  | 37 => ⟨S_, .i32⟩
  | 38 => ⟨S64, .i32⟩
  | 39 => ⟨S64, .i32⟩
  | 40 => ⟨S_, .i32⟩
  | 41 => ⟨S_, .i32⟩
  | 42 => ⟨S_, .i32⟩
  | 43 => ⟨S64, .i32⟩
  | 44 => ⟨S64, .i32⟩
  | 45 => ⟨S_, .i32⟩
  | 46 => ⟨S64, .i32⟩
  | 47 => ⟨S64, .i32⟩
  | 48 => ⟨S64x1, .i32⟩
  | 49 => ⟨S8, .i32⟩
  | 50 => ⟨S1x8, .i32⟩
  | 51 => ⟨S64x8, .i32⟩
  | 52 => ⟨S64x8, .i32⟩
  | 53 => ⟨S64x8, .i32⟩
  | 54 => ⟨S64x1, .i32⟩
  | 55 => ⟨S64x8, .i32⟩
  | 56 => ⟨S64x8, .i32⟩
  | 57 => ⟨S_, .i32⟩
  | 58 => ⟨S64x8, .i32⟩
  | 59 => ⟨S64x8, .i32⟩
  | 60 => ⟨S64, .i32⟩
  | 61 => ⟨S_, .i32⟩
  | 62 => ⟨S64, .i32⟩
  | 63 => ⟨S64, .i32⟩
  | 64 => ⟨S_, .i32⟩
  | 65 => ⟨S_, .i32⟩
  | 66 => ⟨S_, .i32⟩
  | 67 => ⟨S64, .i32⟩
  | 68 => ⟨S64, .i32⟩
  | 69 => ⟨S_, .i32⟩
  | 70 => ⟨S64, .i32⟩
  | 71 => ⟨S64, .i32⟩
  | 72 => ⟨S64x1, .i32⟩
  | 73 => ⟨S16, .i32⟩
  | 74 => ⟨S1x16, .i32⟩
  | 75 => ⟨S64x16, .i32⟩
  | 76 => ⟨S64x16, .i32⟩
  | 77 => ⟨S64x16, .i32⟩
  | 78 => ⟨S64x1, .i32⟩
  | 79 => ⟨S64x16, .i32⟩
  | 80 => ⟨S64x16, .i32⟩
  | 81 => ⟨S_, .i32⟩
  | 82 => ⟨S64x16, .i32⟩
  | 83 => ⟨S64x16, .i32⟩
  | 84 => ⟨S64x8x1x1, .i32⟩
  | 85 => ⟨S1x1x64x16, .i32⟩
  | 86 => ⟨S64x8x64x16, .i32⟩
  | 87 => ⟨S64x8x64x16, .i32⟩
  | 88 => ⟨S64x8x64x16x1, .i32⟩
  | 89 => ⟨S64x8x64x16x1, .i32⟩
  | 90 => ⟨S64x8x64x16x2, .i32⟩
  | 91 => ⟨S8x64x8x64x16x8x64, .f32⟩
  | 92 => ⟨S64x8x1x1, .i32⟩
  | 93 => ⟨S1x1x64x16, .i32⟩
  | 94 => ⟨S64x8x64x16, .i32⟩
  | 95 => ⟨S64x8x64x16, .i32⟩
  | 96 => ⟨S64x8x64x16x1, .i32⟩
  | 97 => ⟨S64x8x64x16x1, .i32⟩
  | 98 => ⟨S64x8x64x16x2, .i32⟩
  | 99 => ⟨S8x64x8x64x16x8x64, .f32⟩
  | 100 => ⟨S1x8x15x31, .f32⟩
  | 101 => ⟨S8x15x31, .f32⟩
  | 102 => ⟨S64x8x1x1, .i32⟩
  | 103 => ⟨S1x1x64x16, .i32⟩
  | 104 => ⟨S64x8x64x16, .i32⟩
  | 105 => ⟨S64x8x64x16, .i32⟩
  | 106 => ⟨S64x8x64x16x1, .i32⟩
  | 107 => ⟨S64x8x64x16x1, .i32⟩
  | 108 => ⟨S64x8x64x16x2, .i32⟩
  | 109 => ⟨S8x64x8x64x16, .f32⟩
  | 110 => ⟨S8x64x64x8x8x16, .f32⟩
  | 111 => ⟨S64x64x8x8x16, .f32⟩
  | 112 => ⟨S1x64x64x8x8x16, .f32⟩
  | 113 => ⟨S8x64x64x8x8x16, .f32⟩
  | 114 => ⟨S8x64x64x8x8x16, .f32⟩
  | 115 => ⟨S8x8x256x64x64, .f32⟩
  | 116 => ⟨S8x64x64x8x256, .f32⟩
  | 117 => ⟨S8x64x64x8x128, .f32⟩
  | 118 => ⟨S8x64x64x8x384, .f32⟩
  | 119 => ⟨S_, .f32⟩
  | 120 => ⟨S8x64x64x8, .f32⟩
  | 121 => ⟨S_, .f32⟩
  | 122 => ⟨S8x64x64x8, .f32⟩
  | 123 => ⟨S8x64x64x8, .f32⟩
  | 124 => ⟨S8x64x64x8x1, .f32⟩
  | 125 => ⟨S8x64x64x8x384, .f32⟩
  | 126 => ⟨S8x64x64x8x384, .f32⟩
  | 127 => ⟨S8x64x64x8x384, .f32⟩
  | _ => ⟨S8x4352x512, .bf16⟩

abbrev hbmTy0_1 (i : Nat) : BufTy := match i % 128 with
  | 0 => ⟨S_, .f32⟩
  | 1 => ⟨S8x64x64x8, .f32⟩
  | 2 => ⟨S8x64x64x8x1, .f32⟩
  | 3 => ⟨S8x64x64x8x384, .f32⟩
  | 4 => ⟨S8x64x64x8x384, .f32⟩
  | 5 => ⟨S8x64x64x8x128, .f32⟩
  | 6 => ⟨S8x64x64x8x8x16, .f32⟩
  | 7 => ⟨S8x64x64x8x256, .f32⟩
  | 8 => ⟨S8x64x64x8x64, .f32⟩
  | 9 => ⟨S8x8x64x64x64, .f32⟩
  | 10 => ⟨S8x64x64x8x64, .f32⟩
  | 11 => ⟨S8x64x64x8x64, .f32⟩
  | 12 => ⟨S8x256x512, .f32⟩
  | 13 => ⟨S8x4096x512, .f32⟩
  | 14 => ⟨S8x4352x512, .f32⟩
  | 15 => ⟨S8x4352x512, .bf16⟩
  | _ => ⟨S8x4352x512, .bf16⟩

abbrev hbmTy (i : Nat) : BufTy := match i / 128 with
  | 0 => hbmTy0_0 i
  | 1 => hbmTy0_1 i
  | _ => ⟨S8x4352x512, .bf16⟩

abbrev bufTy : (tb : Table) → Fin (tcTables nBuf tb) → BufTy
  | .hbm, ⟨i, _⟩ => hbmTy i
  | _, _ => ⟨S8x4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_c_3 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_5 : Ref sig .tc := ⟨.hbm, 61, rfl⟩
abbrev main_v45 : Ref sig .tc := ⟨.hbm, 62, rfl⟩
abbrev main_v46 : Ref sig .tc := ⟨.hbm, 63, rfl⟩
abbrev main_c_6 : Ref sig .tc := ⟨.hbm, 64, rfl⟩
abbrev main_c_7 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_8 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_9 : Ref sig .tc := ⟨.hbm, 119, rfl⟩
abbrev main_v94 : Ref sig .tc := ⟨.hbm, 120, rfl⟩
abbrev main_cst_10 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_11 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩

abbrev nD : Nat := 1
abbrev τ : Topo := Topo.v7x

variable {F : FTy → Type} [FloatOps F]
-- ==== Kernel2.lean ====
abbrev S8x4352x1024 : Shape := ⟨3, ![8, 4352, 1024]⟩
abbrev S4x16x1x6144 : Shape := ⟨4, ![4, 16, 1, 6144]⟩
abbrev S4x1024 : Shape := ⟨2, ![4, 1024]⟩
abbrev S4x1024x5632 : Shape := ⟨3, ![4, 1024, 5632]⟩
abbrev S4x3x5632 : Shape := ⟨3, ![4, 3, 5632]⟩
abbrev S4x2816x1024 : Shape := ⟨3, ![4, 2816, 1024]⟩
abbrev S1x1024 : Shape := ⟨2, ![1, 1024]⟩
abbrev S1024 : Shape := ⟨1, ![1024]⟩
abbrev S1x3x5632 : Shape := ⟨3, ![1, 3, 5632]⟩
abbrev S3x5632 : Shape := ⟨2, ![3, 5632]⟩
abbrev S8x4096x1024 : Shape := ⟨3, ![8, 4096, 1024]⟩
abbrev S1x256x1024 : Shape := ⟨3, ![1, 256, 1024]⟩
abbrev S1x8x1024 : Shape := ⟨3, ![1, 8, 1024]⟩
abbrev S1x1x1x6144 : Shape := ⟨4, ![1, 1, 1, 6144]⟩
abbrev S1x1024x5632 : Shape := ⟨3, ![1, 1024, 5632]⟩
abbrev S1x2816x1024 : Shape := ⟨3, ![1, 2816, 1024]⟩
abbrev S256x2816 : Shape := ⟨2, ![256, 2816]⟩
abbrev S1x6144 : Shape := ⟨2, ![1, 6144]⟩
abbrev S256x1024 : Shape := ⟨2, ![256, 1024]⟩
abbrev S8x1024 : Shape := ⟨2, ![8, 1024]⟩
abbrev S8 : Shape := ⟨1, ![8]⟩
abbrev S8x1 : Shape := ⟨2, ![8, 1]⟩
abbrev S256 : Shape := ⟨1, ![256]⟩
abbrev S256x1 : Shape := ⟨2, ![256, 1]⟩
abbrev S272x1024 : Shape := ⟨2, ![272, 1024]⟩
abbrev S1x1024x256 : Shape := ⟨3, ![1, 1024, 256]⟩
abbrev S1024x256 : Shape := ⟨2, ![1024, 256]⟩
abbrev S272x256 : Shape := ⟨2, ![272, 256]⟩
abbrev S256x256 : Shape := ⟨2, ![256, 256]⟩
abbrev S1x256 : Shape := ⟨2, ![1, 256]⟩
abbrev S2816x1024 : Shape := ⟨2, ![2816, 1024]⟩

abbrev nBuf : Space → Nat
  | .hbm => 18
  | .vmem => 16
  | .smem => 0
  | _ => 0

abbrev bufTy : (tb : Table) → Fin (tcTables nBuf tb) → BufTy
  | .hbm, ⟨0, _⟩ => ⟨S8x4352x1024, .f32⟩
  | .hbm, ⟨1, _⟩ => ⟨S4x16x1x6144, .f32⟩
  | .hbm, ⟨2, _⟩ => ⟨S4x1024, .f32⟩
  | .hbm, ⟨3, _⟩ => ⟨S4x1024, .f32⟩
  | .hbm, ⟨4, _⟩ => ⟨S4x1024x5632, .f32⟩
  | .hbm, ⟨5, _⟩ => ⟨S4x3x5632, .f32⟩
  | .hbm, ⟨6, _⟩ => ⟨S4x2816x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S4x1024x5632, .bf16⟩
  | .hbm, ⟨14, _⟩ => ⟨S1x3x5632, .f32⟩
  | .hbm, ⟨15, _⟩ => ⟨S3x5632, .f32⟩
  | .hbm, ⟨16, _⟩ => ⟨S4x2816x1024, .bf16⟩
  | .hbm, ⟨17, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1x6144, .f32⟩
  | .local _ .vmem, ⟨7, _⟩ => ⟨S1x1x1x6144, .f32⟩
  | .local _ .vmem, ⟨8, _⟩ => ⟨S1x1024, .f32⟩
  | .local _ .vmem, ⟨9, _⟩ => ⟨S1x1024, .f32⟩
  | .local _ .vmem, ⟨10, _⟩ => ⟨S1x1024x5632, .bf16⟩
  | .local _ .vmem, ⟨11, _⟩ => ⟨S3x5632, .f32⟩
  | .local _ .vmem, ⟨12, _⟩ => ⟨S1x2816x1024, .bf16⟩
  | .local _ .vmem, ⟨13, _⟩ => ⟨S1x256x1024, .f32⟩
  | .local _ .vmem, ⟨14, _⟩ => ⟨S1x256x1024, .f32⟩
  | .local _ .vmem, ⟨15, _⟩ => ⟨S256x2816, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  let c0_i32_2 : BitVec 32 := 0#32
  ![arg0.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.addi v0 c1_i32_0
  let c32_i32 : BitVec 32 := 32#32
  let v2 : BitVec 32 := Scalar.muli v1 c32_i32
  let c543_i32 : BitVec 32 := 543#32
  let v3 : BitVec 32 := Scalar.minsi v2 c543_i32
  let c0_i32 : BitVec 32 := 0#32
  let c0_i32_1 : BitVec 32 := 0#32
  ![arg0.toNat, v3.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let v1 : BitVec 1 := Scalar.cmpi .eq v0 c0_i32
  let c8_i32 : BitVec 32 := 8#32
  let v2 : BitVec 32 := Scalar.select v1 c8_i32 arg0
  let c3_i32 : BitVec 32 := 3#32
  let c0_i32_0 : BitVec 32 := 0#32
  let c0_i32_1 : BitVec 32 := 0#32
  let c0_i32_2 : BitVec 32 := 0#32
  ![c3_i32.toNat, v2.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S8x4352x1024 : Shape := ⟨3, ![8, 4352, 1024]⟩
abbrev S4x16x1x6144 : Shape := ⟨4, ![4, 16, 1, 6144]⟩
abbrev S4x1024 : Shape := ⟨2, ![4, 1024]⟩
abbrev S4x1024x5632 : Shape := ⟨3, ![4, 1024, 5632]⟩
abbrev S4x3x5632 : Shape := ⟨3, ![4, 3, 5632]⟩
abbrev S4x2816x1024 : Shape := ⟨3, ![4, 2816, 1024]⟩
abbrev S8x4096x1024 : Shape := ⟨3, ![8, 4096, 1024]⟩
abbrev S1x8x1x6144 : Shape := ⟨4, ![1, 8, 1, 6144]⟩
abbrev S8x1x6144 : Shape := ⟨3, ![8, 1, 6144]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S8x4096x5632 : Shape := ⟨3, ![8, 4096, 5632]⟩
abbrev S8x4097x5632 : Shape := ⟨3, ![8, 4097, 5632]⟩
abbrev S1x1x5632 : Shape := ⟨3, ![1, 1, 5632]⟩
abbrev S5632 : Shape := ⟨1, ![5632]⟩
abbrev S8x4096x2816 : Shape := ⟨3, ![8, 4096, 2816]⟩
abbrev S1x2816x1024 : Shape := ⟨3, ![1, 2816, 1024]⟩
abbrev S2816x1024 : Shape := ⟨2, ![2816, 1024]⟩

abbrev nBuf : Space → Nat
  | .hbm => 105
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S4x16x1x6144, .f32⟩
  | .hbm, ⟨2, _⟩ => ⟨S4x1024, .f32⟩
  | .hbm, ⟨3, _⟩ => ⟨S4x1024, .f32⟩
  | .hbm, ⟨4, _⟩ => ⟨S4x1024x5632, .f32⟩
  | .hbm, ⟨5, _⟩ => ⟨S4x3x5632, .f32⟩
  | .hbm, ⟨6, _⟩ => ⟨S4x2816x1024, .f32⟩
  | .hbm, ⟨7, _⟩ => ⟨S8x4096x1024, .f32⟩
  | .hbm, ⟨8, _⟩ => ⟨S1x8x1x6144, .f32⟩
  | .hbm, ⟨9, _⟩ => ⟨S8x1x6144, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S1x1024, .f32⟩
  | .hbm, ⟨17, _⟩ => ⟨S1024, .f32⟩
  | .hbm, ⟨18, _⟩ => ⟨S8x4096x1024, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x1, .f32⟩
  | .hbm, ⟨29, _⟩ => ⟨S8x4096x1024, .f32⟩
  | .hbm, ⟨30, _⟩ => ⟨S8x4096x1024, .f32⟩
  | .hbm, ⟨31, _⟩ => ⟨S1x1x1024, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S1x1024x5632, .f32⟩
  | .hbm, ⟨42, _⟩ => ⟨S1024x5632, .f32⟩
  | .hbm, ⟨43, _⟩ => ⟨S8x4096x5632, .f32⟩
  | .hbm, ⟨44, _⟩ => ⟨S_, .i32⟩
  | .hbm, ⟨45, _⟩ => ⟨S_, .f32⟩
  | .hbm, ⟨46, _⟩ => ⟨S8x4097x5632, .f32⟩
  | .hbm, ⟨47, _⟩ => ⟨S8x4096x5632, .f32⟩
  | .hbm, ⟨48, _⟩ => ⟨S_, .i32⟩
  | .hbm, ⟨49, _⟩ => ⟨S_, .f32⟩
  | .hbm, ⟨50, _⟩ => ⟨S8x4097x5632, .f32⟩
  | .hbm, ⟨51, _⟩ => ⟨S8x4096x5632, .f32⟩
  | .hbm, ⟨52, _⟩ => ⟨S1x1x5632, .f32⟩
  | .hbm, ⟨53, _⟩ => ⟨S5632, .f32⟩
  | .hbm, ⟨54, _⟩ => ⟨S1x1x5632, .f32⟩
  | .hbm, ⟨55, _⟩ => ⟨S8x4096x5632, .f32⟩
  | .hbm, ⟨56, _⟩ => ⟨S8x4096x5632, .f32⟩
  | .hbm, ⟨57, _⟩ => ⟨S1x1x5632, .f32⟩
  | .hbm, ⟨58, _⟩ => ⟨S5632, .f32⟩
  | .hbm, ⟨59, _⟩ => ⟨S1x1x5632, .f32⟩
  | .hbm, ⟨60, _⟩ => ⟨S8x4096x5632, .f32⟩
  | .hbm, ⟨61, _⟩ => ⟨S8x4096x5632, .f32⟩
  | .hbm, ⟨62, _⟩ => ⟨S8x4096x5632, .f32⟩
  | .hbm, ⟨63, _⟩ => ⟨S1x1x5632, .f32⟩
  | .hbm, ⟨64, _⟩ => ⟨S5632, .f32⟩
  | .hbm, ⟨65, _⟩ => ⟨S1x1x5632, .f32⟩
  | .hbm, ⟨66, _⟩ => ⟨S8x4096x5632, .f32⟩
  | .hbm, ⟨67, _⟩ => ⟨S8x4096x5632, .f32⟩
  | .hbm, ⟨68, _⟩ => ⟨S8x4096x5632, .f32⟩
  | .hbm, ⟨69, _⟩ => ⟨S8x4096x2816, .f32⟩
  | .hbm, ⟨70, _⟩ => ⟨S8x4096x2816, .f32⟩
  | .hbm, ⟨71, _⟩ => ⟨S8x4096x2816, .f32⟩
  | .hbm, ⟨72, _⟩ => ⟨S8x4096x2816, .f32⟩
  | .hbm, ⟨73, _⟩ => ⟨S_, .f32⟩
  | .hbm, ⟨74, _⟩ => ⟨S8x4096x2816, .f32⟩
  | .hbm, ⟨75, _⟩ => ⟨S8x4096x2816, .f32⟩
  | .hbm, ⟨76, _⟩ => ⟨S_, .f32⟩
  | .hbm, ⟨77, _⟩ => ⟨S8x4096x2816, .f32⟩
  | .hbm, ⟨78, _⟩ => ⟨S8x4096x2816, .f32⟩
  | .hbm, ⟨79, _⟩ => ⟨S8x4096x2816, .f32⟩
  | .hbm, ⟨80, _⟩ => ⟨S8x4096x2816, .f32⟩
  | .hbm, ⟨81, _⟩ => ⟨S1x2816x1024, .f32⟩
  | .hbm, ⟨82, _⟩ => ⟨S2816x1024, .f32⟩
  | .hbm, ⟨83, _⟩ => ⟨S8x4096x1024, .f32⟩
  | .hbm, ⟨84, _⟩ => ⟨S1x1024, .f32⟩
  | .hbm, ⟨85, _⟩ => ⟨S1024, .f32⟩
  | .hbm, ⟨86, _⟩ => ⟨S8x4096x1024, .f32⟩
  | .hbm, ⟨87, _⟩ => ⟨S_, .f32⟩
  | .hbm, ⟨88, _⟩ => ⟨S8x4096, .f32⟩
  | .hbm, ⟨89, _⟩ => ⟨S8x4096x1, .f32⟩
  | .hbm, ⟨90, _⟩ => ⟨S_, .f32⟩
  | .hbm, ⟨91, _⟩ => ⟨S8x4096x1, .f32⟩
  | .hbm, ⟨92, _⟩ => ⟨S8x4096x1, .f32⟩
  | .hbm, ⟨93, _⟩ => ⟨S_, .f32⟩
  | .hbm, ⟨94, _⟩ => ⟨S8x4096x1, .f32⟩
  | .hbm, ⟨95, _⟩ => ⟨S8x4096x1, .f32⟩
  | .hbm, ⟨96, _⟩ => ⟨S8x4096x1, .f32⟩
  | .hbm, ⟨97, _⟩ => ⟨S8x4096x1024, .f32⟩
  | .hbm, ⟨98, _⟩ => ⟨S8x4096x1024, .f32⟩
  | .hbm, ⟨99, _⟩ => ⟨S1x1x1024, .f32⟩
  | .hbm, ⟨100, _⟩ => ⟨S8x4096x1024, .f32⟩
  | .hbm, ⟨101, _⟩ => ⟨S8x4096x1024, .f32⟩
  | .hbm, ⟨102, _⟩ => ⟨S8x4096x1024, .f32⟩
  | .hbm, ⟨103, _⟩ => ⟨S8x4096x1024, .f32⟩
  | .hbm, ⟨104, _⟩ => ⟨S8x4096x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c : Ref sig .tc := ⟨.hbm, 44, rfl⟩
abbrev main_call0_v0 : Ref sig .tc := ⟨.hbm, 45, rfl⟩
abbrev main_v33 : Ref sig .tc := ⟨.hbm, 46, rfl⟩
abbrev main_v34 : Ref sig .tc := ⟨.hbm, 47, rfl⟩
abbrev main_c_3 : Ref sig .tc := ⟨.hbm, 48, rfl⟩
abbrev main_call1_v0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_4 : Ref sig .tc := ⟨.hbm, 73, rfl⟩
abbrev main_v58 : Ref sig .tc := ⟨.hbm, 74, rfl⟩
abbrev main_v59 : Ref sig .tc := ⟨.hbm, 75, rfl⟩
abbrev main_cst_5 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_6 : Ref sig .tc := ⟨.hbm, 87, rfl⟩
abbrev main_v70 : Ref sig .tc := ⟨.hbm, 88, rfl⟩
abbrev main_v71 : Ref sig .tc := ⟨.hbm, 89, rfl⟩
abbrev main_cst_7 : Ref sig .tc := ⟨.hbm, 90, rfl⟩
abbrev main_v72 : Ref sig .tc := ⟨.hbm, 91, rfl⟩
abbrev main_v73 : Ref sig .tc := ⟨.hbm, 92, rfl⟩
abbrev main_cst_8 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩

abbrev nD : Nat := 1
abbrev τ : Topo := Topo.v7x

variable {F : FTy → Type} [FloatOps F]
-- ==== Kernel3.lean ====
abbrev S8x4352x1024 : Shape := ⟨3, ![8, 4352, 1024]⟩
abbrev S4x16x1x6144 : Shape := ⟨4, ![4, 16, 1, 6144]⟩
abbrev S4x1024 : Shape := ⟨2, ![4, 1024]⟩
abbrev S4x1024x3616 : Shape := ⟨3, ![4, 1024, 3616]⟩
abbrev S_ : Shape := ⟨0, ![]⟩
abbrev S4x1024x3712 : Shape := ⟨3, ![4, 1024, 3712]⟩
abbrev S1x1024 : Shape := ⟨2, ![1, 1024]⟩
abbrev S1024 : Shape := ⟨1, ![1024]⟩
abbrev S8x4352x512 : Shape := ⟨3, ![8, 4352, 512]⟩
abbrev S8x4352x1536 : Shape := ⟨3, ![8, 4352, 1536]⟩
abbrev S8x4352x128 : Shape := ⟨3, ![8, 4352, 128]⟩
abbrev S1x256x1024 : Shape := ⟨3, ![1, 256, 1024]⟩
abbrev S1x1x1x6144 : Shape := ⟨4, ![1, 1, 1, 6144]⟩
abbrev S1x1024x3712 : Shape := ⟨3, ![1, 1024, 3712]⟩
abbrev S1x256x512 : Shape := ⟨3, ![1, 256, 512]⟩
abbrev S1x256x1536 : Shape := ⟨3, ![1, 256, 1536]⟩
abbrev S1x256x128 : Shape := ⟨3, ![1, 256, 128]⟩
abbrev S256x1024 : Shape := ⟨2, ![256, 1024]⟩
abbrev S1x6144 : Shape := ⟨2, ![1, 6144]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S1x1024x1536 : Shape := ⟨3, ![1, 1024, 1536]⟩
abbrev S1024x1536 : Shape := ⟨2, ![1024, 1536]⟩
abbrev S256x1536 : Shape := ⟨2, ![256, 1536]⟩
abbrev S1x1024x128 : Shape := ⟨3, ![1, 1024, 128]⟩
abbrev S1024x128 : Shape := ⟨2, ![1024, 128]⟩
abbrev S256x128 : Shape := ⟨2, ![256, 128]⟩

abbrev nBuf : Space → Nat
  | .hbm => 17
  | .vmem => 18
  | .smem => 0
  | _ => 0

abbrev bufTy : (tb : Table) → Fin (tcTables nBuf tb) → BufTy
  | .hbm, ⟨0, _⟩ => ⟨S8x4352x1024, .f32⟩
  | .hbm, ⟨1, _⟩ => ⟨S4x16x1x6144, .f32⟩
  | .hbm, ⟨2, _⟩ => ⟨S4x1024, .f32⟩
  | .hbm, ⟨3, _⟩ => ⟨S4x1024x3616, .f32⟩
  | .hbm, ⟨4, _⟩ => ⟨S_, .i32⟩
  | .hbm, ⟨5, _⟩ => ⟨S_, .f32⟩
  | .hbm, ⟨6, _⟩ => ⟨S4x1024x3712, .f32⟩
  | .hbm, ⟨7, _⟩ => ⟨S4x1024x3712, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S8x4352x512, .bf16⟩
  | .hbm, ⟨12, _⟩ => ⟨S8x4352x512, .bf16⟩
  | .hbm, ⟨13, _⟩ => ⟨S8x4352x512, .bf16⟩
  | .hbm, ⟨14, _⟩ => ⟨S8x4352x1536, .bf16⟩
  | .hbm, ⟨15, _⟩ => ⟨S8x4352x512, .bf16⟩
  | .hbm, ⟨16, _⟩ => ⟨S8x4352x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1x6144, .f32⟩
  | .local _ .vmem, ⟨3, _⟩ => ⟨S1x1x1x6144, .f32⟩
  | .local _ .vmem, ⟨4, _⟩ => ⟨S1x1024, .f32⟩
  | .local _ .vmem, ⟨5, _⟩ => ⟨S1x1024x3712, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x1536, .bf16⟩
  | .local _ .vmem, ⟨13, _⟩ => ⟨S1x256x1536, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x128, .f32⟩
  | .local _ .vmem, ⟨17, _⟩ => ⟨S1x256x128, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 1 := Scalar.cmpi .eq v0 c0_i32_0
  let c8_i32 : BitVec 32 := 8#32
  let v2 : BitVec 32 := Scalar.select v1 c8_i32 arg0
  let c1_i32 : BitVec 32 := 1#32
  let c0_i32_1 : BitVec 32 := 0#32
  let c0_i32_2 : BitVec 32 := 0#32
  let c0_i32_3 : BitVec 32 := 0#32
  ![c1_i32.toNat, v2.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x3712 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S8x4352x1024 : Shape := ⟨3, ![8, 4352, 1024]⟩
abbrev S4x16x1x6144 : Shape := ⟨4, ![4, 16, 1, 6144]⟩
abbrev S4x1024 : Shape := ⟨2, ![4, 1024]⟩
abbrev S4x1024x3616 : Shape := ⟨3, ![4, 1024, 3616]⟩
abbrev S1x8x1x6144 : Shape := ⟨4, ![1, 8, 1, 6144]⟩
abbrev S8x1x6144 : Shape := ⟨3, ![8, 1, 6144]⟩
abbrev S8x1x1024 : Shape := ⟨3, ![8, 1, 1024]⟩
abbrev S1x1x1x6144 : Shape := ⟨4, ![1, 1, 1, 6144]⟩
abbrev S1x6144 : Shape := ⟨2, ![1, 6144]⟩
abbrev S1x1024 : Shape := ⟨2, ![1, 1024]⟩
abbrev S8x4096x1024 : Shape := ⟨3, ![8, 4096, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x256x1024 : Shape := ⟨3, ![8, 256, 1024]⟩
abbrev S8x256 : Shape := ⟨2, ![8, 256]⟩
abbrev S8x256x1 : Shape := ⟨3, ![8, 256, 1]⟩
abbrev S1x1024x3616 : Shape := ⟨3, ![1, 1024, 3616]⟩
abbrev S1024x3616 : Shape := ⟨2, ![1024, 3616]⟩
abbrev S8x256x3616 : Shape := ⟨3, ![8, 256, 3616]⟩
abbrev S8x4096x3616 : Shape := ⟨3, ![8, 4096, 3616]⟩
abbrev S8x4352x3616 : Shape := ⟨3, ![8, 4352, 3616]⟩
abbrev S8x4352x512 : Shape := ⟨3, ![8, 4352, 512]⟩
abbrev S8x4352x1536 : Shape := ⟨3, ![8, 4352, 1536]⟩
abbrev S8x4352x32 : Shape := ⟨3, ![8, 4352, 32]⟩
abbrev S8x4352x128 : Shape := ⟨3, ![8, 4352, 128]⟩

abbrev nBuf : Space → Nat
  | .hbm => 98
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S4x16x1x6144, .f32⟩
  | .hbm, ⟨2, _⟩ => ⟨S4x1024, .f32⟩
  | .hbm, ⟨3, _⟩ => ⟨S4x1024x3616, .f32⟩
  | .hbm, ⟨4, _⟩ => ⟨S1x8x1x6144, .f32⟩
  | .hbm, ⟨5, _⟩ => ⟨S8x1x6144, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S1x1x1x6144, .f32⟩
  | .hbm, ⟨13, _⟩ => ⟨S1x6144, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S8x4096x1024, .f32⟩
  | .hbm, ⟨21, _⟩ => ⟨S1x1024, .f32⟩
  | .hbm, ⟨22, _⟩ => ⟨S1024, .f32⟩
  | .hbm, ⟨23, _⟩ => ⟨S8x4096x1024, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S8x4096x1, .f32⟩
  | .hbm, ⟨34, _⟩ => ⟨S8x4096x1024, .f32⟩
  | .hbm, ⟨35, _⟩ => ⟨S8x4096x1024, .f32⟩
  | .hbm, ⟨36, _⟩ => ⟨S1x1x1024, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S8x1x1024, .f32⟩
  | .hbm, ⟨41, _⟩ => ⟨S8x1x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x256x1024, .f32⟩
  | .hbm, ⟨47, _⟩ => ⟨S1x1024, .f32⟩
  | .hbm, ⟨48, _⟩ => ⟨S1024, .f32⟩
  | .hbm, ⟨49, _⟩ => ⟨S8x256x1024, .f32⟩
  | .hbm, ⟨50, _⟩ => ⟨S_, .f32⟩
  | .hbm, ⟨51, _⟩ => ⟨S8x256, .f32⟩
  | .hbm, ⟨52, _⟩ => ⟨S8x256x1, .f32⟩
  | .hbm, ⟨53, _⟩ => ⟨S_, .f32⟩
  | .hbm, ⟨54, _⟩ => ⟨S8x256x1, .f32⟩
  | .hbm, ⟨55, _⟩ => ⟨S8x256x1, .f32⟩
  | .hbm, ⟨56, _⟩ => ⟨S_, .f32⟩
  | .hbm, ⟨57, _⟩ => ⟨S8x256x1, .f32⟩
  | .hbm, ⟨58, _⟩ => ⟨S8x256x1, .f32⟩
  | .hbm, ⟨59, _⟩ => ⟨S8x256x1, .f32⟩
  | .hbm, ⟨60, _⟩ => ⟨S8x256x1024, .f32⟩
  | .hbm, ⟨61, _⟩ => ⟨S8x256x1024, .f32⟩
  | .hbm, ⟨62, _⟩ => ⟨S1x1x1024, .f32⟩
  | .hbm, ⟨63, _⟩ => ⟨S8x256x1024, .f32⟩
  | .hbm, ⟨64, _⟩ => ⟨S8x256x1024, .f32⟩
  | .hbm, ⟨65, _⟩ => ⟨S_, .f32⟩
  | .hbm, ⟨66, _⟩ => ⟨S1x1024, .f32⟩
  | .hbm, ⟨67, _⟩ => ⟨S1x1024, .f32⟩
  | .hbm, ⟨68, _⟩ => ⟨S1x1x1024, .f32⟩
  | .hbm, ⟨69, _⟩ => ⟨S8x256x1024, .f32⟩
  | .hbm, ⟨70, _⟩ => ⟨S8x256x1024, .f32⟩
  | .hbm, ⟨71, _⟩ => ⟨S1x1x1024, .f32⟩
  | .hbm, ⟨72, _⟩ => ⟨S8x256x1024, .f32⟩
  | .hbm, ⟨73, _⟩ => ⟨S8x256x1024, .f32⟩
  | .hbm, ⟨74, _⟩ => ⟨S1x1024x3616, .f32⟩
  | .hbm, ⟨75, _⟩ => ⟨S1024x3616, .f32⟩
  | .hbm, ⟨76, _⟩ => ⟨S8x256x3616, .f32⟩
  | .hbm, ⟨77, _⟩ => ⟨S1x1024x3616, .f32⟩
  | .hbm, ⟨78, _⟩ => ⟨S1024x3616, .f32⟩
  | .hbm, ⟨79, _⟩ => ⟨S8x4096x3616, .f32⟩
  | .hbm, ⟨80, _⟩ => ⟨S8x4352x3616, .f32⟩
  | .hbm, ⟨81, _⟩ => ⟨S8x4352x512, .f32⟩
  | .hbm, ⟨82, _⟩ => ⟨S_, .f32⟩
  | .hbm, ⟨83, _⟩ => ⟨S8x4352x512, .f32⟩
  | .hbm, ⟨84, _⟩ => ⟨S8x4352x512, .f32⟩
  | .hbm, ⟨85, _⟩ => ⟨S8x4352x512, .f32⟩
  | .hbm, ⟨86, _⟩ => ⟨S8x4352x512, .f32⟩
  | .hbm, ⟨87, _⟩ => ⟨S8x4352x1536, .f32⟩
  | .hbm, ⟨88, _⟩ => ⟨S8x4352x512, .f32⟩
  | .hbm, ⟨89, _⟩ => ⟨S8x4352x32, .f32⟩
  | .hbm, ⟨90, _⟩ => ⟨S8x4352x512, .bf16⟩
  | .hbm, ⟨91, _⟩ => ⟨S8x4352x512, .bf16⟩
  | .hbm, ⟨92, _⟩ => ⟨S8x4352x512, .bf16⟩
  | .hbm, ⟨93, _⟩ => ⟨S8x4352x1536, .bf16⟩
  | .hbm, ⟨94, _⟩ => ⟨S8x4352x512, .bf16⟩
  | .hbm, ⟨95, _⟩ => ⟨S_, .i32⟩
  | .hbm, ⟨96, _⟩ => ⟨S_, .f32⟩
  | .hbm, ⟨97, _⟩ => ⟨S8x4352x128, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_6 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_7 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_c : Ref sig .tc := ⟨.hbm, 95, rfl⟩
abbrev main_call0_v0 : Ref sig .tc := ⟨.hbm, 96, rfl⟩
abbrev main_v82 : Ref sig .tc := ⟨.hbm, 97, rfl⟩

abbrev nD : Nat := 1
abbrev τ : Topo := Topo.v7x

variable {F : FTy → Type} [FloatOps F]
-- ==== Kernel4.lean ====
abbrev S8x4352x1024 : Shape := ⟨3, ![8, 4352, 1024]⟩
abbrev S4x16x1x6144 : Shape := ⟨4, ![4, 16, 1, 6144]⟩
abbrev S8x4352x512 : Shape := ⟨3, ![8, 4352, 512]⟩
abbrev S4x64 : Shape := ⟨2, ![4, 64]⟩
abbrev S4x1024 : Shape := ⟨2, ![4, 1024]⟩
abbrev S4x1024x1024 : Shape := ⟨3, ![4, 1024, 1024]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x64 : Shape := ⟨2, ![1, 64]⟩
abbrev S64 : Shape := ⟨1, ![64]⟩
abbrev S8x64 : Shape := ⟨2, ![8, 64]⟩
abbrev S1x1024 : Shape := ⟨2, ![1, 1024]⟩
abbrev S1024 : Shape := ⟨1, ![1024]⟩
abbrev S1x256x1024 : Shape := ⟨3, ![1, 256, 1024]⟩
abbrev S1x1x1x6144 : Shape := ⟨4, ![1, 1, 1, 6144]⟩
abbrev S1x256x512 : Shape := ⟨3, ![1, 256, 512]⟩
abbrev S1x1024x1024 : Shape := ⟨3, ![1, 1024, 1024]⟩
abbrev S256x1024 : Shape := ⟨2, ![256, 1024]⟩
abbrev S1x6144 : Shape := ⟨2, ![1, 6144]⟩
abbrev S1x128x512 : Shape := ⟨3, ![1, 128, 512]⟩
abbrev S128x512 : Shape := ⟨2, ![128, 512]⟩
abbrev S1x512x1024 : Shape := ⟨3, ![1, 512, 1024]⟩
abbrev S512x1024 : Shape := ⟨2, ![512, 1024]⟩
abbrev S128x1024 : Shape := ⟨2, ![128, 1024]⟩
abbrev S128 : Shape := ⟨1, ![128]⟩
abbrev S128x1 : Shape := ⟨2, ![128, 1]⟩
abbrev S1x128x1024 : Shape := ⟨3, ![1, 128, 1024]⟩

abbrev nBuf : Space → Nat
  | .hbm => 46
  | .vmem => 18
  | .smem => 0
  | _ => 0

abbrev bufTy : (tb : Table) → Fin (tcTables nBuf tb) → BufTy
  | .hbm, ⟨0, _⟩ => ⟨S8x4352x1024, .f32⟩
  | .hbm, ⟨1, _⟩ => ⟨S4x16x1x6144, .f32⟩
  | .hbm, ⟨2, _⟩ => ⟨S8x4352x512, .bf16⟩
  | .hbm, ⟨3, _⟩ => ⟨S8x4352x512, .bf16⟩
  | .hbm, ⟨4, _⟩ => ⟨S8x4352x512, .bf16⟩
  | .hbm, ⟨5, _⟩ => ⟨S8x4352x512, .bf16⟩
  | .hbm, ⟨6, _⟩ => ⟨S4x64, .f32⟩
  | .hbm, ⟨7, _⟩ => ⟨S4x1024, .f32⟩
  | .hbm, ⟨8, _⟩ => ⟨S4x1024x1024, .f32⟩
  | .hbm, ⟨9, _⟩ => ⟨S512, .i32⟩
  | .hbm, ⟨10, _⟩ => ⟨S_, .i32⟩
  | .hbm, ⟨11, _⟩ => ⟨S_, .i32⟩
  | .hbm, ⟨12, _⟩ => ⟨S512, .i32⟩
  | .hbm, ⟨13, _⟩ => ⟨S512, .i32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S512, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S512x1, .i32⟩
  | .hbm, ⟨29, _⟩ => ⟨S1x512, .i32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S512x512, .f32⟩
  | .hbm, ⟨34, _⟩ => ⟨S512x512, .bf16⟩
  | .hbm, ⟨35, _⟩ => ⟨S1x64, .f32⟩
  | .hbm, ⟨36, _⟩ => ⟨S64, .f32⟩
  | .hbm, ⟨37, _⟩ => ⟨S1x64, .f32⟩
  | .hbm, ⟨38, _⟩ => ⟨S8x64, .f32⟩
  | .hbm, ⟨39, _⟩ => ⟨S512, .f32⟩
  | .hbm, ⟨40, _⟩ => ⟨S1x512, .f32⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S4x1024x1024, .bf16⟩
  | .hbm, ⟨45, _⟩ => ⟨S8x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1x6144, .f32⟩
  | .local _ .vmem, ⟨3, _⟩ => ⟨S1x1x1x6144, .f32⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x512, .f32⟩
  | .local _ .vmem, ⟨13, _⟩ => ⟨S1x1024, .f32⟩
  | .local _ .vmem, ⟨14, _⟩ => ⟨S1x1024x1024, .bf16⟩
  | .local _ .vmem, ⟨15, _⟩ => ⟨S512x512, .bf16⟩
  | .local _ .vmem, ⟨16, _⟩ => ⟨S1x256x1024, .f32⟩
  | .local _ .vmem, ⟨17, _⟩ => ⟨S1x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 1 := Scalar.cmpi .eq v0 c0_i32_0
  let c8_i32 : BitVec 32 := 8#32
  let v2 : BitVec 32 := Scalar.select v1 c8_i32 arg0
  let c1_i32 : BitVec 32 := 1#32
  let c0_i32_1 : BitVec 32 := 0#32
  let c0_i32_2 : BitVec 32 := 0#32
  let c0_i32_3 : BitVec 32 := 0#32
  ![c1_i32.toNat, v2.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S8x4352x1024 : Shape := ⟨3, ![8, 4352, 1024]⟩
abbrev S4x16x1x6144 : Shape := ⟨4, ![4, 16, 1, 6144]⟩
abbrev S8x4352x512 : Shape := ⟨3, ![8, 4352, 512]⟩
abbrev S4x64 : Shape := ⟨2, ![4, 64]⟩
abbrev S4x1024 : Shape := ⟨2, ![4, 1024]⟩
abbrev S4x1024x1024 : Shape := ⟨3, ![4, 1024, 1024]⟩
abbrev S1x8x1x6144 : Shape := ⟨4, ![1, 8, 1, 6144]⟩
abbrev S8x1x6144 : Shape := ⟨3, ![8, 1, 6144]⟩
abbrev S8x1x1024 : Shape := ⟨3, ![8, 1, 1024]⟩
abbrev S1x1x1x6144 : Shape := ⟨4, ![1, 1, 1, 6144]⟩
abbrev S1x6144 : Shape := ⟨2, ![1, 6144]⟩
abbrev S1x1024 : Shape := ⟨2, ![1, 1024]⟩
abbrev S8x4352x8x64 : Shape := ⟨4, ![8, 4352, 8, 64]⟩
abbrev S1x64 : Shape := ⟨2, ![1, 64]⟩
abbrev S64 : Shape := ⟨1, ![64]⟩
abbrev S_ : Shape := ⟨0, ![]⟩
abbrev S8x4352x8 : Shape := ⟨3, ![8, 4352, 8]⟩
abbrev S8x4352x8x1 : Shape := ⟨4, ![8, 4352, 8, 1]⟩
abbrev S1x1x1x64 : Shape := ⟨4, ![1, 1, 1, 64]⟩
abbrev S1x1024x1024 : Shape := ⟨3, ![1, 1024, 1024]⟩
abbrev S1024x1024 : Shape := ⟨2, ![1024, 1024]⟩
abbrev S1024 : Shape := ⟨1, ![1024]⟩
abbrev S8x4352 : Shape := ⟨2, ![8, 4352]⟩
abbrev S8x4352x1 : Shape := ⟨3, ![8, 4352, 1]⟩
abbrev S1x1x1024 : Shape := ⟨3, ![1, 1, 1024]⟩
abbrev S8x256x1024 : Shape := ⟨3, ![8, 256, 1024]⟩
abbrev S8x4096x1024 : Shape := ⟨3, ![8, 4096, 1024]⟩

abbrev nBuf : Space → Nat
  | .hbm => 96
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S4x16x1x6144, .f32⟩
  | .hbm, ⟨2, _⟩ => ⟨S8x4352x512, .bf16⟩
  | .hbm, ⟨3, _⟩ => ⟨S8x4352x512, .bf16⟩
  | .hbm, ⟨4, _⟩ => ⟨S8x4352x512, .bf16⟩
  | .hbm, ⟨5, _⟩ => ⟨S8x4352x512, .bf16⟩
  | .hbm, ⟨6, _⟩ => ⟨S4x64, .f32⟩
  | .hbm, ⟨7, _⟩ => ⟨S4x1024, .f32⟩
  | .hbm, ⟨8, _⟩ => ⟨S4x1024x1024, .f32⟩
  | .hbm, ⟨9, _⟩ => ⟨S1x8x1x6144, .f32⟩
  | .hbm, ⟨10, _⟩ => ⟨S8x1x6144, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S1x1x1x6144, .f32⟩
  | .hbm, ⟨18, _⟩ => ⟨S1x6144, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S8x4352x512, .f32⟩
  | .hbm, ⟨26, _⟩ => ⟨S8x4352x8x64, .f32⟩
  | .hbm, ⟨27, _⟩ => ⟨S8x4352x512, .f32⟩
  | .hbm, ⟨28, _⟩ => ⟨S8x4352x8x64, .f32⟩
  | .hbm, ⟨29, _⟩ => ⟨S8x4352x512, .f32⟩
  | .hbm, ⟨30, _⟩ => ⟨S8x4352x8x64, .f32⟩
  | .hbm, ⟨31, _⟩ => ⟨S8x4352x8x64, .f32⟩
  | .hbm, ⟨32, _⟩ => ⟨S1x64, .f32⟩
  | .hbm, ⟨33, _⟩ => ⟨S64, .f32⟩
  | .hbm, ⟨34, _⟩ => ⟨S8x4352x8x64, .f32⟩
  | .hbm, ⟨35, _⟩ => ⟨S_, .f32⟩
  | .hbm, ⟨36, _⟩ => ⟨S8x4352x8, .f32⟩
  | .hbm, ⟨37, _⟩ => ⟨S8x4352x8x1, .f32⟩
  | .hbm, ⟨38, _⟩ => ⟨S_, .f32⟩
  | .hbm, ⟨39, _⟩ => ⟨S8x4352x8x1, .f32⟩
  | .hbm, ⟨40, _⟩ => ⟨S8x4352x8x1, .f32⟩
  | .hbm, ⟨41, _⟩ => ⟨S_, .f32⟩
  | .hbm, ⟨42, _⟩ => ⟨S8x4352x8x1, .f32⟩
  | .hbm, ⟨43, _⟩ => ⟨S8x4352x8x1, .f32⟩
  | .hbm, ⟨44, _⟩ => ⟨S8x4352x8x1, .f32⟩
  | .hbm, ⟨45, _⟩ => ⟨S8x4352x8x64, .f32⟩
  | .hbm, ⟨46, _⟩ => ⟨S8x4352x8x64, .f32⟩
  | .hbm, ⟨47, _⟩ => ⟨S1x1x1x64, .f32⟩
  | .hbm, ⟨48, _⟩ => ⟨S8x4352x8x64, .f32⟩
  | .hbm, ⟨49, _⟩ => ⟨S8x4352x8x64, .f32⟩
  | .hbm, ⟨50, _⟩ => ⟨S8x4352x8x64, .f32⟩
  | .hbm, ⟨51, _⟩ => ⟨S8x4352x8x64, .f32⟩
  | .hbm, ⟨52, _⟩ => ⟨S_, .f32⟩
  | .hbm, ⟨53, _⟩ => ⟨S8x4352x8x64, .f32⟩
  | .hbm, ⟨54, _⟩ => ⟨S8x4352x8x64, .f32⟩
  | .hbm, ⟨55, _⟩ => ⟨S_, .f32⟩
  | .hbm, ⟨56, _⟩ => ⟨S8x4352x8x64, .f32⟩
  | .hbm, ⟨57, _⟩ => ⟨S8x4352x8x64, .f32⟩
  | .hbm, ⟨58, _⟩ => ⟨S8x4352x8x64, .f32⟩
  | .hbm, ⟨59, _⟩ => ⟨S8x4352x8x64, .f32⟩
  | .hbm, ⟨60, _⟩ => ⟨S8x4352x512, .f32⟩
  | .hbm, ⟨61, _⟩ => ⟨S8x4352x512, .f32⟩
  | .hbm, ⟨62, _⟩ => ⟨S8x4352x1024, .f32⟩
  | .hbm, ⟨63, _⟩ => ⟨S1x1024x1024, .f32⟩
  | .hbm, ⟨64, _⟩ => ⟨S1024x1024, .f32⟩
  | .hbm, ⟨65, _⟩ => ⟨S8x4352x1024, .f32⟩
  | .hbm, ⟨66, _⟩ => ⟨S1x1024, .f32⟩
  | .hbm, ⟨67, _⟩ => ⟨S1024, .f32⟩
  | .hbm, ⟨68, _⟩ => ⟨S8x4352x1024, .f32⟩
  | .hbm, ⟨69, _⟩ => ⟨S_, .f32⟩
  | .hbm, ⟨70, _⟩ => ⟨S8x4352, .f32⟩
  | .hbm, ⟨71, _⟩ => ⟨S8x4352x1, .f32⟩
  | .hbm, ⟨72, _⟩ => ⟨S_, .f32⟩
  | .hbm, ⟨73, _⟩ => ⟨S8x4352x1, .f32⟩
  | .hbm, ⟨74, _⟩ => ⟨S8x4352x1, .f32⟩
  | .hbm, ⟨75, _⟩ => ⟨S_, .f32⟩
  | .hbm, ⟨76, _⟩ => ⟨S8x4352x1, .f32⟩
  | .hbm, ⟨77, _⟩ => ⟨S8x4352x1, .f32⟩
  | .hbm, ⟨78, _⟩ => ⟨S8x4352x1, .f32⟩
  | .hbm, ⟨79, _⟩ => ⟨S8x4352x1024, .f32⟩
  | .hbm, ⟨80, _⟩ => ⟨S8x4352x1024, .f32⟩
  | .hbm, ⟨81, _⟩ => ⟨S1x1x1024, .f32⟩
  | .hbm, ⟨82, _⟩ => ⟨S8x4352x1024, .f32⟩
  | .hbm, ⟨83, _⟩ => ⟨S8x4352x1024, .f32⟩
  | .hbm, ⟨84, _⟩ => ⟨S8x256x1024, .f32⟩
  | .hbm, ⟨85, _⟩ => ⟨S8x256x1024, .f32⟩
  | .hbm, ⟨86, _⟩ => ⟨S1x1x1024, .f32⟩
  | .hbm, ⟨87, _⟩ => ⟨S8x256x1024, .f32⟩
  | .hbm, ⟨88, _⟩ => ⟨S8x256x1024, .f32⟩
  | .hbm, ⟨89, _⟩ => ⟨S8x256x1024, .f32⟩
  | .hbm, ⟨90, _⟩ => ⟨S8x4096x1024, .f32⟩
  | .hbm, ⟨91, _⟩ => ⟨S8x4096x1024, .f32⟩
  | .hbm, ⟨92, _⟩ => ⟨S8x4096x1024, .f32⟩
  | .hbm, ⟨93, _⟩ => ⟨S8x4096x1024, .f32⟩
  | .hbm, ⟨94, _⟩ => ⟨S8x4096x1024, .f32⟩
  | .hbm, ⟨95, _⟩ => ⟨S8x4352x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_2 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_4 : Ref sig .tc := ⟨.hbm, 69, rfl⟩
abbrev main_v55 : Ref sig .tc := ⟨.hbm, 70, rfl⟩
abbrev main_v56 : Ref sig .tc := ⟨.hbm, 71, rfl⟩
abbrev main_cst_5 : Ref sig .tc := ⟨.hbm, 72, rfl⟩
abbrev main_v57 : Ref sig .tc := ⟨.hbm, 73, rfl⟩
abbrev main_v58 : Ref sig .tc := ⟨.hbm, 74, rfl⟩
abbrev main_cst_6 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩

abbrev nD : Nat := 1
abbrev τ : Topo := Topo.v7x

variable {F : FTy → Type} [FloatOps F]
-- ==== Kernel5.lean ====
abbrev S8x4352x1024 : Shape := ⟨3, ![8, 4352, 1024]⟩
abbrev S4x16x1x6144 : Shape := ⟨4, ![4, 16, 1, 6144]⟩
abbrev S4x1024 : Shape := ⟨2, ![4, 1024]⟩
abbrev S4x1024x5632 : Shape := ⟨3, ![4, 1024, 5632]⟩
abbrev S4x3x5632 : Shape := ⟨3, ![4, 3, 5632]⟩
abbrev S4x2816x1024 : Shape := ⟨3, ![4, 2816, 1024]⟩
abbrev S1x1024 : Shape := ⟨2, ![1, 1024]⟩
abbrev S1024 : Shape := ⟨1, ![1024]⟩
abbrev S1x3x5632 : Shape := ⟨3, ![1, 3, 5632]⟩
abbrev S3x5632 : Shape := ⟨2, ![3, 5632]⟩
abbrev S1x256x1024 : Shape := ⟨3, ![1, 256, 1024]⟩
abbrev S1x8x1024 : Shape := ⟨3, ![1, 8, 1024]⟩
abbrev S1x1x1x6144 : Shape := ⟨4, ![1, 1, 1, 6144]⟩
abbrev S1x1024x5632 : Shape := ⟨3, ![1, 1024, 5632]⟩
abbrev S1x2816x1024 : Shape := ⟨3, ![1, 2816, 1024]⟩
abbrev S256x2816 : Shape := ⟨2, ![256, 2816]⟩
abbrev S1x6144 : Shape := ⟨2, ![1, 6144]⟩
abbrev S256x1024 : Shape := ⟨2, ![256, 1024]⟩
abbrev S8x1024 : Shape := ⟨2, ![8, 1024]⟩
abbrev S8 : Shape := ⟨1, ![8]⟩
abbrev S8x1 : Shape := ⟨2, ![8, 1]⟩
abbrev S256 : Shape := ⟨1, ![256]⟩
abbrev S256x1 : Shape := ⟨2, ![256, 1]⟩
abbrev S272x1024 : Shape := ⟨2, ![272, 1024]⟩
abbrev S1x1024x256 : Shape := ⟨3, ![1, 1024, 256]⟩
abbrev S1024x256 : Shape := ⟨2, ![1024, 256]⟩
abbrev S272x256 : Shape := ⟨2, ![272, 256]⟩
abbrev S256x256 : Shape := ⟨2, ![256, 256]⟩
abbrev S1x256 : Shape := ⟨2, ![1, 256]⟩
abbrev S2816x1024 : Shape := ⟨2, ![2816, 1024]⟩

abbrev nBuf : Space → Nat
  | .hbm => 18
  | .vmem => 16
  | .smem => 0
  | _ => 0

abbrev bufTy : (tb : Table) → Fin (tcTables nBuf tb) → BufTy
  | .hbm, ⟨0, _⟩ => ⟨S8x4352x1024, .f32⟩
  | .hbm, ⟨1, _⟩ => ⟨S4x16x1x6144, .f32⟩
  | .hbm, ⟨2, _⟩ => ⟨S4x1024, .f32⟩
  | .hbm, ⟨3, _⟩ => ⟨S4x1024, .f32⟩
  | .hbm, ⟨4, _⟩ => ⟨S4x1024x5632, .f32⟩
  | .hbm, ⟨5, _⟩ => ⟨S4x3x5632, .f32⟩
  | .hbm, ⟨6, _⟩ => ⟨S4x2816x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S4x1024x5632, .bf16⟩
  | .hbm, ⟨14, _⟩ => ⟨S1x3x5632, .f32⟩
  | .hbm, ⟨15, _⟩ => ⟨S3x5632, .f32⟩
  | .hbm, ⟨16, _⟩ => ⟨S4x2816x1024, .bf16⟩
  | .hbm, ⟨17, _⟩ => ⟨S8x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1x6144, .f32⟩
  | .local _ .vmem, ⟨7, _⟩ => ⟨S1x1x1x6144, .f32⟩
  | .local _ .vmem, ⟨8, _⟩ => ⟨S1x1024, .f32⟩
  | .local _ .vmem, ⟨9, _⟩ => ⟨S1x1024, .f32⟩
  | .local _ .vmem, ⟨10, _⟩ => ⟨S1x1024x5632, .bf16⟩
  | .local _ .vmem, ⟨11, _⟩ => ⟨S3x5632, .f32⟩
  | .local _ .vmem, ⟨12, _⟩ => ⟨S1x2816x1024, .bf16⟩
  | .local _ .vmem, ⟨13, _⟩ => ⟨S1x256x1024, .f32⟩
  | .local _ .vmem, ⟨14, _⟩ => ⟨S1x256x1024, .f32⟩
  | .local _ .vmem, ⟨15, _⟩ => ⟨S256x2816, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c32_i32 : BitVec 32 := 32#32
  let v1 : BitVec 32 := Scalar.muli v0 c32_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![arg0.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.addi v0 c1_i32
  let c32_i32 : BitVec 32 := 32#32
  let v2 : BitVec 32 := Scalar.muli v1 c32_i32
  let c543_i32 : BitVec 32 := 543#32
  let v3 : BitVec 32 := Scalar.minsi v2 c543_i32
  let c0_i32_0 : BitVec 32 := 0#32
  let c0_i32_1 : BitVec 32 := 0#32
  ![arg0.toNat, v3.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 1 := Scalar.cmpi .eq v0 c0_i32_0
  let c8_i32 : BitVec 32 := 8#32
  let v2 : BitVec 32 := Scalar.select v1 c8_i32 arg0
  let c1_i32 : BitVec 32 := 1#32
  let c0_i32_1 : BitVec 32 := 0#32
  let c0_i32_2 : BitVec 32 := 0#32
  let c0_i32_3 : BitVec 32 := 0#32
  ![c1_i32.toNat, v2.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S8x4352x1024 : Shape := ⟨3, ![8, 4352, 1024]⟩
abbrev S4x16x1x6144 : Shape := ⟨4, ![4, 16, 1, 6144]⟩
abbrev S4x1024 : Shape := ⟨2, ![4, 1024]⟩
abbrev S4x1024x5632 : Shape := ⟨3, ![4, 1024, 5632]⟩
abbrev S4x3x5632 : Shape := ⟨3, ![4, 3, 5632]⟩
abbrev S4x2816x1024 : Shape := ⟨3, ![4, 2816, 1024]⟩
abbrev S1x1x1x6144 : Shape := ⟨4, ![1, 1, 1, 6144]⟩
abbrev S1x6144 : Shape := ⟨2, ![1, 6144]⟩
abbrev S8x256x6144 : Shape := ⟨3, ![8, 256, 6144]⟩
abbrev S1x8x1x6144 : Shape := ⟨4, ![1, 8, 1, 6144]⟩
abbrev S8x1x6144 : Shape := ⟨3, ![8, 1, 6144]⟩
abbrev S8x4096x6144 : Shape := ⟨3, ![8, 4096, 6144]⟩
abbrev S8x4352x6144 : Shape := ⟨3, ![8, 4352, 6144]⟩
abbrev S1x1024 : Shape := ⟨2, ![1, 1024]⟩
abbrev S1024 : Shape := ⟨1, ![1024]⟩
abbrev S_ : Shape := ⟨0, ![]⟩
abbrev S8x4352 : Shape := ⟨2, ![8, 4352]⟩
abbrev S8x4352x1 : Shape := ⟨3, ![8, 4352, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S8x4352x5632 : Shape := ⟨3, ![8, 4352, 5632]⟩
abbrev S8x256x5632 : Shape := ⟨3, ![8, 256, 5632]⟩
abbrev S8x4096x5632 : Shape := ⟨3, ![8, 4096, 5632]⟩
abbrev S8x257x5632 : Shape := ⟨3, ![8, 257, 5632]⟩
abbrev S8x4097x5632 : Shape := ⟨3, ![8, 4097, 5632]⟩
abbrev S1x1x5632 : Shape := ⟨3, ![1, 1, 5632]⟩
abbrev S5632 : Shape := ⟨1, ![5632]⟩
abbrev S8x4352x2816 : Shape := ⟨3, ![8, 4352, 2816]⟩
abbrev S1x2816x1024 : Shape := ⟨3, ![1, 2816, 1024]⟩
abbrev S2816x1024 : Shape := ⟨2, ![2816, 1024]⟩

abbrev nBuf : Space → Nat
  | .hbm => 118
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S4x16x1x6144, .f32⟩
  | .hbm, ⟨2, _⟩ => ⟨S4x1024, .f32⟩
  | .hbm, ⟨3, _⟩ => ⟨S4x1024, .f32⟩
  | .hbm, ⟨4, _⟩ => ⟨S4x1024x5632, .f32⟩
  | .hbm, ⟨5, _⟩ => ⟨S4x3x5632, .f32⟩
  | .hbm, ⟨6, _⟩ => ⟨S4x2816x1024, .f32⟩
  | .hbm, ⟨7, _⟩ => ⟨S1x1x1x6144, .f32⟩
  | .hbm, ⟨8, _⟩ => ⟨S1x6144, .f32⟩
  | .hbm, ⟨9, _⟩ => ⟨S8x256x6144, .f32⟩
  | .hbm, ⟨10, _⟩ => ⟨S1x8x1x6144, .f32⟩
  | .hbm, ⟨11, _⟩ => ⟨S8x1x6144, .f32⟩
  | .hbm, ⟨12, _⟩ => ⟨S8x4096x6144, .f32⟩
  | .hbm, ⟨13, _⟩ => ⟨S8x4352x6144, .f32⟩
  | .hbm, ⟨14, _⟩ => ⟨S8x4352x1024, .f32⟩
  | .hbm, ⟨15, _⟩ => ⟨S8x4352x1024, .f32⟩
  | .hbm, ⟨16, _⟩ => ⟨S8x4352x1024, .f32⟩
  | .hbm, ⟨17, _⟩ => ⟨S8x4352x1024, .f32⟩
  | .hbm, ⟨18, _⟩ => ⟨S8x4352x1024, .f32⟩
  | .hbm, ⟨19, _⟩ => ⟨S8x4352x1024, .f32⟩
  | .hbm, ⟨20, _⟩ => ⟨S1x1024, .f32⟩
  | .hbm, ⟨21, _⟩ => ⟨S1024, .f32⟩
  | .hbm, ⟨22, _⟩ => ⟨S8x4352x1024, .f32⟩
  | .hbm, ⟨23, _⟩ => ⟨S_, .f32⟩
  | .hbm, ⟨24, _⟩ => ⟨S8x4352, .f32⟩
  | .hbm, ⟨25, _⟩ => ⟨S8x4352x1, .f32⟩
  | .hbm, ⟨26, _⟩ => ⟨S_, .f32⟩
  | .hbm, ⟨27, _⟩ => ⟨S8x4352x1, .f32⟩
  | .hbm, ⟨28, _⟩ => ⟨S8x4352x1, .f32⟩
  | .hbm, ⟨29, _⟩ => ⟨S_, .f32⟩
  | .hbm, ⟨30, _⟩ => ⟨S8x4352x1, .f32⟩
  | .hbm, ⟨31, _⟩ => ⟨S8x4352x1, .f32⟩
  | .hbm, ⟨32, _⟩ => ⟨S8x4352x1, .f32⟩
  | .hbm, ⟨33, _⟩ => ⟨S8x4352x1024, .f32⟩
  | .hbm, ⟨34, _⟩ => ⟨S8x4352x1024, .f32⟩
  | .hbm, ⟨35, _⟩ => ⟨S1x1x1024, .f32⟩
  | .hbm, ⟨36, _⟩ => ⟨S8x4352x1024, .f32⟩
  | .hbm, ⟨37, _⟩ => ⟨S8x4352x1024, .f32⟩
  | .hbm, ⟨38, _⟩ => ⟨S_, .f32⟩
  | .hbm, ⟨39, _⟩ => ⟨S8x4352x1024, .f32⟩
  | .hbm, ⟨40, _⟩ => ⟨S8x4352x1024, .f32⟩
  | .hbm, ⟨41, _⟩ => ⟨S8x4352x1024, .f32⟩
  | .hbm, ⟨42, _⟩ => ⟨S8x4352x1024, .f32⟩
  | .hbm, ⟨43, _⟩ => ⟨S1x1024x5632, .f32⟩
  | .hbm, ⟨44, _⟩ => ⟨S1024x5632, .f32⟩
  | .hbm, ⟨45, _⟩ => ⟨S8x4352x5632, .f32⟩
  | .hbm, ⟨46, _⟩ => ⟨S8x256x5632, .f32⟩
  | .hbm, ⟨47, _⟩ => ⟨S8x4096x5632, .f32⟩
  | .hbm, ⟨48, _⟩ => ⟨S_, .i32⟩
  | .hbm, ⟨49, _⟩ => ⟨S_, .f32⟩
  | .hbm, ⟨50, _⟩ => ⟨S8x257x5632, .f32⟩
  | .hbm, ⟨51, _⟩ => ⟨S8x256x5632, .f32⟩
  | .hbm, ⟨52, _⟩ => ⟨S_, .i32⟩
  | .hbm, ⟨53, _⟩ => ⟨S_, .f32⟩
  | .hbm, ⟨54, _⟩ => ⟨S8x4097x5632, .f32⟩
  | .hbm, ⟨55, _⟩ => ⟨S8x4096x5632, .f32⟩
  | .hbm, ⟨56, _⟩ => ⟨S8x4352x5632, .f32⟩
  | .hbm, ⟨57, _⟩ => ⟨S_, .i32⟩
  | .hbm, ⟨58, _⟩ => ⟨S_, .f32⟩
  | .hbm, ⟨59, _⟩ => ⟨S8x257x5632, .f32⟩
  | .hbm, ⟨60, _⟩ => ⟨S8x256x5632, .f32⟩
  | .hbm, ⟨61, _⟩ => ⟨S_, .i32⟩
  | .hbm, ⟨62, _⟩ => ⟨S_, .f32⟩
  | .hbm, ⟨63, _⟩ => ⟨S8x4097x5632, .f32⟩
  | .hbm, ⟨64, _⟩ => ⟨S8x4096x5632, .f32⟩
  | .hbm, ⟨65, _⟩ => ⟨S8x4352x5632, .f32⟩
  | .hbm, ⟨66, _⟩ => ⟨S1x1x5632, .f32⟩
  | .hbm, ⟨67, _⟩ => ⟨S5632, .f32⟩
  | .hbm, ⟨68, _⟩ => ⟨S1x1x5632, .f32⟩
  | .hbm, ⟨69, _⟩ => ⟨S8x4352x5632, .f32⟩
  | .hbm, ⟨70, _⟩ => ⟨S8x4352x5632, .f32⟩
  | .hbm, ⟨71, _⟩ => ⟨S1x1x5632, .f32⟩
  | .hbm, ⟨72, _⟩ => ⟨S5632, .f32⟩
  | .hbm, ⟨73, _⟩ => ⟨S1x1x5632, .f32⟩
  | .hbm, ⟨74, _⟩ => ⟨S8x4352x5632, .f32⟩
  | .hbm, ⟨75, _⟩ => ⟨S8x4352x5632, .f32⟩
  | .hbm, ⟨76, _⟩ => ⟨S8x4352x5632, .f32⟩
  | .hbm, ⟨77, _⟩ => ⟨S1x1x5632, .f32⟩
  | .hbm, ⟨78, _⟩ => ⟨S5632, .f32⟩
  | .hbm, ⟨79, _⟩ => ⟨S1x1x5632, .f32⟩
  | .hbm, ⟨80, _⟩ => ⟨S8x4352x5632, .f32⟩
  | .hbm, ⟨81, _⟩ => ⟨S8x4352x5632, .f32⟩
  | .hbm, ⟨82, _⟩ => ⟨S8x4352x5632, .f32⟩
  | .hbm, ⟨83, _⟩ => ⟨S8x4352x2816, .f32⟩
  | .hbm, ⟨84, _⟩ => ⟨S8x4352x2816, .f32⟩
  | .hbm, ⟨85, _⟩ => ⟨S8x4352x2816, .f32⟩
  | .hbm, ⟨86, _⟩ => ⟨S8x4352x2816, .f32⟩
  | .hbm, ⟨87, _⟩ => ⟨S_, .f32⟩
  | .hbm, ⟨88, _⟩ => ⟨S8x4352x2816, .f32⟩
  | .hbm, ⟨89, _⟩ => ⟨S8x4352x2816, .f32⟩
  | .hbm, ⟨90, _⟩ => ⟨S_, .f32⟩
  | .hbm, ⟨91, _⟩ => ⟨S8x4352x2816, .f32⟩
  | .hbm, ⟨92, _⟩ => ⟨S8x4352x2816, .f32⟩
  | .hbm, ⟨93, _⟩ => ⟨S8x4352x2816, .f32⟩
  | .hbm, ⟨94, _⟩ => ⟨S8x4352x2816, .f32⟩
  | .hbm, ⟨95, _⟩ => ⟨S1x2816x1024, .f32⟩
  | .hbm, ⟨96, _⟩ => ⟨S2816x1024, .f32⟩
  | .hbm, ⟨97, _⟩ => ⟨S8x4352x1024, .f32⟩
  | .hbm, ⟨98, _⟩ => ⟨S1x1024, .f32⟩
  | .hbm, ⟨99, _⟩ => ⟨S1024, .f32⟩
  | .hbm, ⟨100, _⟩ => ⟨S8x4352x1024, .f32⟩
  | .hbm, ⟨101, _⟩ => ⟨S_, .f32⟩
  | .hbm, ⟨102, _⟩ => ⟨S8x4352, .f32⟩
  | .hbm, ⟨103, _⟩ => ⟨S8x4352x1, .f32⟩
  | .hbm, ⟨104, _⟩ => ⟨S_, .f32⟩
  | .hbm, ⟨105, _⟩ => ⟨S8x4352x1, .f32⟩
  | .hbm, ⟨106, _⟩ => ⟨S8x4352x1, .f32⟩
  | .hbm, ⟨107, _⟩ => ⟨S_, .f32⟩
  | .hbm, ⟨108, _⟩ => ⟨S8x4352x1, .f32⟩
  | .hbm, ⟨109, _⟩ => ⟨S8x4352x1, .f32⟩
  | .hbm, ⟨110, _⟩ => ⟨S8x4352x1, .f32⟩
  | .hbm, ⟨111, _⟩ => ⟨S8x4352x1024, .f32⟩
  | .hbm, ⟨112, _⟩ => ⟨S8x4352x1024, .f32⟩
  | .hbm, ⟨113, _⟩ => ⟨S1x1x1024, .f32⟩
  | .hbm, ⟨114, _⟩ => ⟨S8x4352x1024, .f32⟩
  | .hbm, ⟨115, _⟩ => ⟨S8x4352x1024, .f32⟩
  | .hbm, ⟨116, _⟩ => ⟨S8x4352x1024, .f32⟩
  | .hbm, ⟨117, _⟩ => ⟨S8x4352x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c : Ref sig .tc := ⟨.hbm, 48, rfl⟩
abbrev main_call0_v0 : Ref sig .tc := ⟨.hbm, 49, rfl⟩
abbrev main_v37 : Ref sig .tc := ⟨.hbm, 50, rfl⟩
abbrev main_v38 : Ref sig .tc := ⟨.hbm, 51, rfl⟩
abbrev main_c_3 : Ref sig .tc := ⟨.hbm, 52, rfl⟩
abbrev main_call1_v0 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_4 : Ref sig .tc := ⟨.hbm, 57, rfl⟩
abbrev main_call2_v0 : Ref sig .tc := ⟨.hbm, 58, rfl⟩
abbrev main_v42 : Ref sig .tc := ⟨.hbm, 59, rfl⟩
abbrev main_v43 : Ref sig .tc := ⟨.hbm, 60, rfl⟩
abbrev main_c_5 : Ref sig .tc := ⟨.hbm, 61, rfl⟩
abbrev main_call3_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_6 : Ref sig .tc := ⟨.hbm, 87, rfl⟩
abbrev main_v68 : Ref sig .tc := ⟨.hbm, 88, rfl⟩
abbrev main_v69 : Ref sig .tc := ⟨.hbm, 89, rfl⟩
abbrev main_cst_7 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_8 : Ref sig .tc := ⟨.hbm, 101, rfl⟩
abbrev main_v80 : Ref sig .tc := ⟨.hbm, 102, rfl⟩
abbrev main_v81 : Ref sig .tc := ⟨.hbm, 103, rfl⟩
abbrev main_cst_9 : Ref sig .tc := ⟨.hbm, 104, rfl⟩
abbrev main_v82 : Ref sig .tc := ⟨.hbm, 105, rfl⟩
abbrev main_v83 : Ref sig .tc := ⟨.hbm, 106, rfl⟩
abbrev main_cst_10 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩

abbrev nD : Nat := 1
abbrev τ : Topo := Topo.v7x

variable {F : FTy → Type} [FloatOps F]
-- ==== Proof.NA.Gather.lean ====
/-
The neighbourhood the plain program gathers: which keys, values and biases its index arrays name.
-/
module
public import proofs.«01_k».proof.Proof.Gen.ReferenceIdeal.Read
public import Idealize.ShloMosaic.Lib.Pointwise
@[expose] public section
noncomputable section
namespace Cert.ReferenceIdeal.NA
open Cert.ReferenceIdeal Cert.ReferenceIdeal.Gen Cert.ReferenceIdeal.Read Idealize.ShloMosaic Idealize.ShloMosaic.TcCoe Idealize.SL.Sem

/-- The first key row of a query row's neighbourhood. -/
def row0 (r : Fin 64) : Nat := min (r.val - 4) 56
/-- The first key column of a query column's neighbourhood. -/
def col0 (w : Fin 64) : Nat := min (w.val - 8) 48
/-- The key row `i` of the neighbourhood of query row `r`. -/
def rowAt (r : Fin 64) (i : Fin 8) : Fin 64 := ⟨row0 r + i.val, by unfold row0; omega⟩
/-- The key column `j` of the neighbourhood of query column `w`. -/
def colAt (w : Fin 64) (j : Fin 16) : Fin 64 := ⟨col0 w + j.val, by unfold col0; omega⟩
/-- The bias row of key row `i` for query row `r`. -/
def dRow (r : Fin 64) (i : Fin 8) : Fin 15 := ⟨row0 r + i.val + 7 - r.val, by unfold row0; omega⟩
/-- The bias column of key column `j` for query column `w`. -/
def dCol (w : Fin 64) (j : Fin 16) : Fin 31 := ⟨col0 w + j.val + 15 - w.val, by unfold col0; omega⟩

theorem word_row (r : Fin 64) (i : Fin 8) :
    IntOp.addi (IntOp.minsi 56#32 (IntOp.maxsi 0#32 (IntOp.subi (BitVec.ofNat 32 r.val) 4#32))) (BitVec.ofNat 32 i.val)
      = BitVec.ofNat 32 (rowAt r i).val := by
  revert r i; decide +kernel

theorem word_col (w : Fin 64) (j : Fin 16) :
    IntOp.addi (IntOp.minsi 48#32 (IntOp.maxsi 0#32 (IntOp.subi (BitVec.ofNat 32 w.val) 8#32))) (BitVec.ofNat 32 j.val)
      = BitVec.ofNat 32 (colAt w j).val := by
  revert w j; decide +kernel

theorem word_drow (r : Fin 64) (i : Fin 8) :
    IntOp.addi (IntOp.subi (BitVec.ofNat 32 (rowAt r i).val) (BitVec.ofNat 32 r.val)) 7#32 = BitVec.ofNat 32 (dRow r i).val := by
  revert r i; decide +kernel

theorem word_dcol (w : Fin 64) (j : Fin 16) :
    IntOp.addi (IntOp.subi (BitVec.ofNat 32 (colAt w j).val) (BitVec.ofNat 32 w.val)) 15#32 = BitVec.ofNat 32 (dCol w j).val := by
  revert w j; decide +kernel

theorem word_nat (n : Nat) (h : n < 64) : (BitVec.ofNat 32 n).toInt.toNat = n := by
  have H : ∀ m : Fin 64, (BitVec.ofNat 32 m.val).toInt.toNat = m.val := by decide +kernel
  exact H ⟨n, h⟩

theorem v38_at (r : Fin 64) (i : Fin 8) : val_main_v38 (F := Ideal) (ix2 r i) = BitVec.ofNat 32 (rowAt r i).val := by
  refine Eq.trans ?_ (word_row r i)
  pointwise [val_main_v38, val_main_v37, val_main_v36, val_main_v35, val_main_v34, val_main_v33, val_main_v32, val_main_call0_v4, val_main_call0_v3, val_main_call0_v2, val_main_call0_v1, val_main_call0_v0, val_main_c_3, val_main_c_2, val_main_v31, val_main_v30, val_main_c, val_main_v29]
  rfl

theorem v53_at (w : Fin 64) (j : Fin 16) : val_main_v53 (F := Ideal) (ix2 w j) = BitVec.ofNat 32 (colAt w j).val := by
  refine Eq.trans ?_ (word_col w j)
  pointwise [val_main_v53, val_main_v52, val_main_v51, val_main_v50, val_main_v49, val_main_v48, val_main_v47, val_main_call1_v4, val_main_call1_v3, val_main_call1_v2, val_main_call1_v1, val_main_call1_v0, val_main_c_7, val_main_c_6, val_main_v46, val_main_v45, val_main_c_5, val_main_v44]
  rfl

theorem v43_at (r : Fin 64) (i : Fin 8) : val_main_v43 (F := Ideal) (ix2 r i) = BitVec.ofNat 32 (dRow r i).val := by
  refine Eq.trans ?_ (word_drow r i)
  have h := v38_at r i
  revert h
  unfold val_main_v43 val_main_v41
  generalize val_main_v38 (F := Ideal) = y
  intro h
  rw [← h]
  pointwise [val_main_v42, val_main_c_4, val_main_v40, val_main_v39, val_main_v29]

theorem v58_at (w : Fin 64) (j : Fin 16) : val_main_v58 (F := Ideal) (ix2 w j) = BitVec.ofNat 32 (dCol w j).val := by
  refine Eq.trans ?_ (word_dcol w j)
  have h := v53_at w j
  revert h
  unfold val_main_v58 val_main_v56
  generalize val_main_v53 (F := Ideal) = y
  intro h
  rw [← h]
  pointwise [val_main_v57, val_main_c_8, val_main_v55, val_main_v54, val_main_v44]

/-- The gather of whole key (or value) vectors, read at an index. -/
theorem gatherK_at {α : Type} (x : S8x64x64x8x64.Idx → α) (idx : IVec S64x8x64x16x2 32)
    (b : Fin 8) (r : Fin 64) (i : Fin 8) (w : Fin 64) (j : Fin 16) (h : Fin 8) (d : Fin 64) (R C : Fin 64)
    (hR : idx (ix5 r i w j (0 : Fin 2)) = BitVec.ofNat 32 R.val) (hC : idx (ix5 r i w j (1 : Fin 2)) = BitVec.ofNat 32 C.val) :
    Host.gather gather_S8x64x64x8x64_S64x8x64x16x2_S8x64x8x64x16x8x64_056_12_n_n_12_4_811864 x idx (ix7 b r i w j h d)
      = x (ix5 b R C h d) := by
  have hRl := R.isLt
  have hCl := C.isLt
  unfold Host.gather
  refine congrArg x (funext fun a => Fin.ext ?_)
  match a with
  | ⟨0, _⟩ => show 0 + 0 + b.val = b.val; omega
  | ⟨1, _⟩ =>
    show min ((idx _).toInt.toNat) 63 + 0 + 0 = R.val
    rw [show idx _ = BitVec.ofNat 32 R.val from Eq.trans (congrArg idx (funext fun b' => Fin.ext (by
      match b' with | ⟨0, _⟩ => rfl | ⟨1, _⟩ => rfl | ⟨2, _⟩ => rfl | ⟨3, _⟩ => rfl | ⟨4, _⟩ => rfl))) hR,
      word_nat _ (by omega)]
    omega
  | ⟨2, _⟩ =>
    show min ((idx _).toInt.toNat) 63 + 0 + 0 = C.val
    rw [show idx _ = BitVec.ofNat 32 C.val from Eq.trans (congrArg idx (funext fun b' => Fin.ext (by
      match b' with | ⟨0, _⟩ => rfl | ⟨1, _⟩ => rfl | ⟨2, _⟩ => rfl | ⟨3, _⟩ => rfl | ⟨4, _⟩ => rfl))) hC,
      word_nat _ (by omega)]
    omega
  | ⟨3, _⟩ => show 0 + 0 + h.val = h.val; omega
  | ⟨4, _⟩ => show 0 + 0 + d.val = d.val; omega

/-- The gather of biases, read at an index. -/
theorem gatherB_at {α : Type} (x : S8x15x31.Idx → α) (idx : IVec S64x8x64x16x2 32)
    (h : Fin 8) (r : Fin 64) (i : Fin 8) (w : Fin 64) (j : Fin 16) (R : Fin 15) (C : Fin 31)
    (hR : idx (ix5 r i w j (0 : Fin 2)) = BitVec.ofNat 32 R.val) (hC : idx (ix5 r i w j (1 : Fin 2)) = BitVec.ofNat 32 C.val) :
    Host.gather gather_S8x15x31_S64x8x64x16x2_S8x64x8x64x16_0_12_n_n_12_4_811 x idx (ix5 h r i w j) = x (ix3 h R C) := by
  have hRl := R.isLt
  have hCl := C.isLt
  unfold Host.gather
  refine congrArg x (funext fun a => Fin.ext ?_)
  match a with
  | ⟨0, _⟩ => show 0 + 0 + h.val = h.val; omega
  | ⟨1, _⟩ =>
    show min ((idx _).toInt.toNat) 14 + 0 + 0 = R.val
    rw [show idx _ = BitVec.ofNat 32 R.val from Eq.trans (congrArg idx (funext fun b' => Fin.ext (by
      match b' with | ⟨0, _⟩ => rfl | ⟨1, _⟩ => rfl | ⟨2, _⟩ => rfl | ⟨3, _⟩ => rfl | ⟨4, _⟩ => rfl))) hR,
      word_nat _ (by omega)]
    omega
  | ⟨2, _⟩ =>
    show min ((idx _).toInt.toNat) 30 + 0 + 0 = C.val
    rw [show idx _ = BitVec.ofNat 32 C.val from Eq.trans (congrArg idx (funext fun b' => Fin.ext (by
      match b' with | ⟨0, _⟩ => rfl | ⟨1, _⟩ => rfl | ⟨2, _⟩ => rfl | ⟨3, _⟩ => rfl | ⟨4, _⟩ => rfl))) hC,
      word_nat _ (by omega)]
    omega

/-- The two words of the index array for the keys. -/
theorem v65_row (r : Fin 64) (i : Fin 8) (w : Fin 64) (j : Fin 16) :
    val_main_v65 (F := Ideal) (ix5 r i w j (0 : Fin 2)) = BitVec.ofNat 32 (rowAt r i).val := by
  refine Eq.trans ?_ (v38_at r i)
  unfold val_main_v65 val_main_v63 val_main_v61 val_main_v59 val_main_v64 val_main_v62 val_main_v60
  generalize val_main_v38 (F := Ideal) = y
  generalize val_main_v53 (F := Ideal) = z
  pointwise []
theorem v65_col (r : Fin 64) (i : Fin 8) (w : Fin 64) (j : Fin 16) :
    val_main_v65 (F := Ideal) (ix5 r i w j (1 : Fin 2)) = BitVec.ofNat 32 (colAt w j).val := by
  refine Eq.trans ?_ (v53_at w j)
  unfold val_main_v65 val_main_v63 val_main_v61 val_main_v59 val_main_v64 val_main_v62 val_main_v60
  generalize val_main_v38 (F := Ideal) = y
  generalize val_main_v53 (F := Ideal) = z
  pointwise []
/-- The two words of the index array for the values. -/
theorem v73_row (r : Fin 64) (i : Fin 8) (w : Fin 64) (j : Fin 16) :
    val_main_v73 (F := Ideal) (ix5 r i w j (0 : Fin 2)) = BitVec.ofNat 32 (rowAt r i).val := by
  refine Eq.trans ?_ (v38_at r i)
  unfold val_main_v73 val_main_v71 val_main_v69 val_main_v67 val_main_v72 val_main_v70 val_main_v68
  generalize val_main_v38 (F := Ideal) = y
  generalize val_main_v53 (F := Ideal) = z
  pointwise []
theorem v73_col (r : Fin 64) (i : Fin 8) (w : Fin 64) (j : Fin 16) :
    val_main_v73 (F := Ideal) (ix5 r i w j (1 : Fin 2)) = BitVec.ofNat 32 (colAt w j).val := by
  refine Eq.trans ?_ (v53_at w j)
  unfold val_main_v73 val_main_v71 val_main_v69 val_main_v67 val_main_v72 val_main_v70 val_main_v68
  generalize val_main_v38 (F := Ideal) = y
  generalize val_main_v53 (F := Ideal) = z
  pointwise []
/-- The two words of the index array for the biases. -/
theorem v83_row (r : Fin 64) (i : Fin 8) (w : Fin 64) (j : Fin 16) :
    val_main_v83 (F := Ideal) (ix5 r i w j (0 : Fin 2)) = BitVec.ofNat 32 (dRow r i).val := by
  refine Eq.trans ?_ (v43_at r i)
  unfold val_main_v83 val_main_v81 val_main_v79 val_main_v77 val_main_v82 val_main_v80 val_main_v78
  generalize val_main_v43 (F := Ideal) = y
  generalize val_main_v58 (F := Ideal) = z
  pointwise []
theorem v83_col (r : Fin 64) (i : Fin 8) (w : Fin 64) (j : Fin 16) :
    val_main_v83 (F := Ideal) (ix5 r i w j (1 : Fin 2)) = BitVec.ofNat 32 (dCol w j).val := by
  refine Eq.trans ?_ (v58_at w j)
  unfold val_main_v83 val_main_v81 val_main_v79 val_main_v77 val_main_v82 val_main_v80 val_main_v78
  generalize val_main_v43 (F := Ideal) = y
  generalize val_main_v58 (F := Ideal) = z
  pointwise []

variable (x1 x2 : Vec Ideal S8x4352x512 .bf16) (x3 : Vec Ideal S4x8x15x31 .f32)

/-- The gathered keys. -/
theorem v66_at (b : Fin 8) (r : Fin 64) (i : Fin 8) (w : Fin 64) (j : Fin 16) (h : Fin 8) (d : Fin 64) :
    val_main_v66 (F := Ideal) x1 (ix7 b r i w j h d) = val_main_v12 (F := Ideal) x1 (ix5 b (rowAt r i) (colAt w j) h d) := by
  unfold val_main_v66
  generalize val_main_v12 (F := Ideal) x1 = y
  exact gatherK_at y _ b r i w j h d _ _ (v65_row r i w j) (v65_col r i w j)
/-- The gathered values. -/
theorem v74_at (b : Fin 8) (r : Fin 64) (i : Fin 8) (w : Fin 64) (j : Fin 16) (h : Fin 8) (d : Fin 64) :
    val_main_v74 (F := Ideal) x2 (ix7 b r i w j h d) = val_main_v14 (F := Ideal) x2 (ix5 b (rowAt r i) (colAt w j) h d) := by
  unfold val_main_v74
  generalize val_main_v14 (F := Ideal) x2 = y
  exact gatherK_at y _ b r i w j h d _ _ (v73_row r i w j) (v73_col r i w j)
/-- The gathered biases. -/
theorem v84_at (h : Fin 8) (r : Fin 64) (i : Fin 8) (w : Fin 64) (j : Fin 16) :
    val_main_v84 (F := Ideal) x3 (ix5 h r i w j) = val_main_v76 (F := Ideal) x3 (ix3 h (dRow r i) (dCol w j)) := by
  unfold val_main_v84
  generalize val_main_v76 (F := Ideal) x3 = y
  exact gatherB_at y _ h r i w j _ _ (v83_row r i w j) (v83_col r i w j)

end Cert.ReferenceIdeal.NA
-- ==== Proof.NA.Softmax.lean ====
/- The softmax average of the neighbourhood attention over the extended reals.

   The kernel sums the unnormalised weights of ALL the keys of a band (those outside the window carry a score of −∞) and
   divides the weighted sum once; the reference divides each weight of the window first. The two are one number when no
   score is +∞ and the context scores are finite. -/
module

public import Idealize.ShloMosaic.Lib.Pointwise

@[expose] public section

noncomputable section

namespace Cert.NA

open Idealize.ShloMosaic

variable {ι ι' κ : Type} [Fintype ι] [Fintype ι'] [Fintype κ]

/-- The greatest score of the two families. -/
def peak (sw : ι → EReal) (sc : κ → EReal) : EReal := max (Finset.univ.sup sw) (Finset.univ.sup sc)

/-- The sum of the weights of both families. -/
def mass (sw : ι → EReal) (sc : κ → EReal) : EReal :=
  (∑ c, Ideal.exp (sw c - peak sw sc)) + ∑ j, Ideal.exp (sc j - peak sw sc)

/-- The weighted sum divided once, at the end. -/
def lateAvg (sw : ι → EReal) (sc : κ → EReal) (vw : ι → EReal) (vc : κ → EReal) : EReal :=
  Ideal.div ((∑ c, Ideal.exp (sw c - peak sw sc) * vw c) + ∑ j, Ideal.exp (sc j - peak sw sc) * vc j) (mass sw sc)

/-- Each weight divided before it is used. -/
def earlyAvg (sw : ι → EReal) (sc : κ → EReal) (vw : ι → EReal) (vc : κ → EReal) : EReal :=
  (∑ c, Ideal.div (Ideal.exp (sw c - peak sw sc)) (mass sw sc) * vw c)
    + ∑ j, Ideal.div (Ideal.exp (sc j - peak sw sc)) (mass sw sc) * vc j

theorem exp_nonneg (x : EReal) : 0 ≤ Ideal.exp x := by
  induction x using EReal.rec with
  | bot => exact le_refl _
  | top => exact le_top
  | coe r => exact EReal.coe_nonneg.mpr (Real.exp_pos r).le

theorem exp_ne_top {x : EReal} (h : x ≠ ⊤) : Ideal.exp x ≠ ⊤ := by
  induction x using EReal.rec with
  | bot => exact EReal.zero_ne_top
  | top => exact absurd rfl h
  | coe r => exact EReal.coe_ne_top _

theorem exp_pos_of_real {x : EReal} (h : x ≠ ⊥) : 0 < Ideal.exp x := by
  induction x using EReal.rec with
  | bot => exact absurd rfl h
  | top => exact EReal.zero_lt_top
  | coe r => exact EReal.coe_pos.mpr (Real.exp_pos r)

theorem sum_nonneg' (f : ι → EReal) (h : ∀ i, 0 ≤ f i) : 0 ≤ ∑ i, f i := Finset.sum_nonneg fun i _ => h i

theorem sum_ne_top (f : ι → EReal) (h : ∀ i, f i ≠ ⊤) : ∑ i, f i ≠ ⊤ := by
  classical
  refine Finset.sum_induction f (fun x => x ≠ ⊤) (fun a b ha hb => ?_) EReal.zero_ne_top fun i _ => h i
  exact EReal.add_ne_top ha hb

/-- A finite sum times a nonnegative real, term by term. -/
theorem sum_mul_real (f : ι → EReal) {r : ℝ} (hr : 0 ≤ r) : (∑ i, f i) * (r : EReal) = ∑ i, f i * (r : EReal) := by
  classical
  induction (Finset.univ : Finset ι) using Finset.induction_on with
  | empty => simp
  | insert a s ha ih =>
    rw [Finset.sum_insert ha, Finset.sum_insert ha, ← ih,
      EReal.right_distrib_of_nonneg_of_ne_top (EReal.coe_nonneg.mpr hr) (EReal.coe_ne_top r)]

section Peak
variable (sw : ι → EReal) (sc : κ → EReal)

theorem peak_ne_top (hw : ∀ i, sw i ≠ ⊤) (hc : ∀ j, sc j ≠ ⊤) : peak sw sc ≠ ⊤ := by
  refine ne_of_lt (max_lt ?_ ?_)
  · exact (Finset.sup_lt_iff (bot_lt_top)).mpr fun i _ => lt_top_iff_ne_top.mpr (hw i)
  · exact (Finset.sup_lt_iff (bot_lt_top)).mpr fun i _ => lt_top_iff_ne_top.mpr (hc i)

theorem peak_ne_bot (j : κ) (hj : sc j ≠ ⊥) : peak sw sc ≠ ⊥ := by
  intro h
  have : sc j ≤ peak sw sc := (Finset.le_sup (f := sc) (Finset.mem_univ j)).trans (le_max_right _ _)
  rw [h] at this
  exact hj (le_bot_iff.mp this)

theorem sub_ne_top {x m : EReal} (hx : x ≠ ⊤) (hm : m ≠ ⊥) : x - m ≠ ⊤ := by
  rw [sub_eq_add_neg]
  exact EReal.add_ne_top hx (by simpa using hm)

theorem sub_ne_bot {x m : EReal} (hx : x ≠ ⊥) (hm : m ≠ ⊤) : x - m ≠ ⊥ := by
  rw [sub_eq_add_neg]
  intro h
  rcases EReal.add_eq_bot_iff.mp h with h | h
  · exact hx h
  · exact hm (by simpa using h)

/-- The sum of the weights is a positive real. -/
theorem mass_real [Nonempty κ] (hw : ∀ i, sw i ≠ ⊤) (hc : ∀ j, sc j ≠ ⊤) (hb : ∀ j, sc j ≠ ⊥) :
    ∃ d : ℝ, 0 < d ∧ mass sw sc = (d : EReal) := by
  obtain ⟨j⟩ := ‹Nonempty κ›
  have pb := peak_ne_bot sw sc j (hb j)
  have pt := peak_ne_top sw sc hw hc
  have top : mass sw sc ≠ ⊤ := EReal.add_ne_top
    (sum_ne_top _ fun i => exp_ne_top (sub_ne_top (hw i) pb)) (sum_ne_top _ fun i => exp_ne_top (sub_ne_top (hc i) pb))
  have pos : 0 < mass sw sc := by
    have h1 : 0 < Ideal.exp (sc j - peak sw sc) := exp_pos_of_real (sub_ne_bot (hb j) pt)
    have h2 : Ideal.exp (sc j - peak sw sc) ≤ ∑ j, Ideal.exp (sc j - peak sw sc) :=
      Finset.single_le_sum (f := fun j => Ideal.exp (sc j - peak sw sc)) (fun i _ => exp_nonneg _) (Finset.mem_univ j)
    refine lt_of_lt_of_le (h1.trans_le h2) ?_
    exact le_add_of_nonneg_left (sum_nonneg' _ fun i => exp_nonneg _)
  refine ⟨(mass sw sc).toReal, ?_, (EReal.coe_toReal top ?_).symm⟩
  · exact EReal.toReal_pos pos top
  · intro h; rw [h] at pos; exact absurd pos (by simp)

end Peak

/-- Dividing by a positive real is multiplying by its inverse. -/
theorem div_real (x : EReal) {d : ℝ} (hd : 0 < d) : Ideal.div x (d : EReal) = x * ((d⁻¹ : ℝ) : EReal) := by
  unfold Ideal.div
  rw [if_neg (by exact_mod_cast hd.ne'), ← EReal.coe_inv]

/-- Dividing at the end is dividing each weight. -/
theorem late_eq_early [Nonempty κ] (sw : ι → EReal) (sc : κ → EReal) (vw : ι → EReal) (vc : κ → EReal)
    (hw : ∀ i, sw i ≠ ⊤) (hc : ∀ j, sc j ≠ ⊤) (hb : ∀ j, sc j ≠ ⊥) :
    lateAvg sw sc vw vc = earlyAvg sw sc vw vc := by
  obtain ⟨d, hd, e⟩ := mass_real sw sc hw hc hb
  have hi : 0 ≤ d⁻¹ := (inv_pos.mpr hd).le
  unfold lateAvg earlyAvg
  simp only [e, div_real _ hd]
  rw [EReal.right_distrib_of_nonneg_of_ne_top (EReal.coe_nonneg.mpr hi) (EReal.coe_ne_top _), sum_mul_real _ hi, sum_mul_real _ hi]
  congr 1 <;> exact Finset.sum_congr rfl fun i _ => mul_right_comm _ _ _

section Window
variable (e : ι' → ι) (he : Function.Injective e) (sw : ι → EReal) (sw' : ι' → EReal) (sc : κ → EReal)
  (hs : ∀ i, sw (e i) = sw' i) (ho : ∀ c, (∀ i, e i ≠ c) → sw c = ⊥)
include he hs ho

omit he in
/-- A key outside the window does not change the greatest score. -/
theorem peak_window : peak sw sc = peak sw' sc := by
  classical
  unfold peak
  congr 1
  apply le_antisymm
  · refine Finset.sup_le fun c _ => ?_
    by_cases h : ∃ i, e i = c
    · obtain ⟨i, rfl⟩ := h
      rw [hs]; exact Finset.le_sup (f := sw') (Finset.mem_univ i)
    · rw [ho c fun i hi => h ⟨i, hi⟩]; exact bot_le
  · refine Finset.sup_le fun i _ => ?_
    rw [← hs]; exact Finset.le_sup (f := sw) (Finset.mem_univ (e i))

/-- A key outside the window has weight zero, so a sum over the band is the sum over the window. -/
theorem sum_window (m : EReal) (g : ι → EReal) :
    ∑ c, Ideal.exp (sw c - m) * g c = ∑ i, Ideal.exp (sw' i - m) * g (e i) := by
  symm
  refine Finset.sum_of_injOn e (fun a _ b _ h => he h) (fun _ _ => Finset.mem_coe.mpr (Finset.mem_univ _)) (fun c _ hc => ?_) fun i _ => ?_
  · have : sw c = ⊥ := ho c fun i hi => hc ⟨i, Finset.mem_coe.mpr (Finset.mem_univ _), hi⟩
    rw [this, EReal.bot_sub]
    show (0 : EReal) * _ = 0
    exact zero_mul _
  · rw [hs]

theorem mass_window : mass sw sc = mass sw' sc := by
  unfold mass
  rw [peak_window e sw sw' sc hs ho]
  congr 1
  have := sum_window e he sw sw' hs ho (peak sw' sc) fun _ => 1
  simpa only [mul_one] using this

/-- THE MEETING POINT: the kernel's average over the band, divided at the end, is the reference's over the window. -/
theorem late_band_eq_early_window [Nonempty κ] (vw : ι → EReal) (vw' : ι' → EReal) (vc : κ → EReal) (hv : ∀ i, vw (e i) = vw' i)
    (hw : ∀ i, sw' i ≠ ⊤) (hc : ∀ j, sc j ≠ ⊤) (hb : ∀ j, sc j ≠ ⊥) :
    lateAvg sw sc vw vc = earlyAvg sw' sc vw' vc := by
  rw [← late_eq_early sw' sc vw' vc hw hc hb]
  unfold lateAvg
  rw [mass_window e he sw sw' sc hs ho, peak_window e sw sw' sc hs ho, sum_window e he sw sw' hs ho]
  simp only [hv]

end Window

end Cert.NA

end
-- ==== Proof.NA.RefParts.lean ====
/-
The plain program's attention, step by step at an index: scores, peaks, weights, averages.
-/
module
public import proofs.«01_k».proof.Proof.NA.Gather
public import proofs.«01_k».proof.Proof.NA.Softmax
@[expose] public section
noncomputable section
namespace Cert.ReferenceIdeal.NA
open Cert.ReferenceIdeal Cert.ReferenceIdeal.Gen Cert.ReferenceIdeal.Read Idealize.ShloMosaic Idealize.ShloMosaic.TcCoe Idealize.SL.Sem

theorem neg_inf_word : Ideal.ofBits .f32 0xFF800000#32 = ⊥ := by
  simp only [Ideal.ofBits]; rfl

theorem reduceMax_eq {s t u : Shape} {a : Fin s.rank} (x : s.Idx → EReal) (init : u.Idx → EReal)
    (h' : s.ReducesTo [a] t) (h : s.Reduces [a] t) (hu : 0 < u.numel) (hi : ∀ i, init i = ⊥) (j : t.Idx) :
    Host.reduce (FloatOps.maximumf (F := Ideal) (φ := .f32)) x init h' hu j = (Finset.univ : Finset (Fin (s.size a))).sup (x ∘ h.lift j) := by
  show Host.reduce (max : EReal → EReal → EReal) x init h' hu j = _
  rw [Host.reduce_eq_fold_single _ x init h' h hu j, hi]
  rfl

theorem reduces16 : S8x8x256x256.Reduces [3] S8x8x256 := by decide
theorem reduces94 : S8x64x64x8x384.Reduces [4] S8x64x64x8 := by decide

theorem lift16 (b h : Fin 8) (n m : Fin 256) : reduces16.lift (ix3 b h n) m = ix4 b h n m := by
  funext a
  match a with | ⟨0, _⟩ => rfl | ⟨1, _⟩ => rfl | ⟨2, _⟩ => rfl | ⟨3, _⟩ => rfl

theorem lift94 (b : Fin 8) (r w : Fin 64) (h : Fin 8) (m : Fin 384) : reduces94.lift (ix4 b r w h) m = ix5 b r w h m := by
  funext a
  match a with | ⟨0, _⟩ => rfl | ⟨1, _⟩ => rfl | ⟨2, _⟩ => rfl | ⟨3, _⟩ => rfl | ⟨4, _⟩ => rfl

theorem max16 (x : Vec Ideal S8x8x256x256 .f32) (b h : Fin 8) (n : Fin 256) :
    Host.reduce (FloatOps.maximumf (F := Ideal) (φ := .f32)) x (val_main_cst (F := Ideal)) reducesTo_S8x8x256x256_S8x8x256_d3 h_S_ (ix3 b h n)
      = Finset.univ.sup fun m : Fin 256 => x (ix4 b h n m) := by
  rw [reduceMax_eq x (val_main_cst (F := Ideal)) reducesTo_S8x8x256x256_S8x8x256_d3 reduces16 h_S_ (fun i => neg_inf_word)]
  exact Finset.sup_congr rfl fun m _ => congrArg x (lift16 b h n m)

theorem max94 (x : Vec Ideal S8x64x64x8x384 .f32) (b : Fin 8) (r w : Fin 64) (h : Fin 8) :
    Host.reduce (FloatOps.maximumf (F := Ideal) (φ := .f32)) x (val_main_cst_9 (F := Ideal)) reducesTo_S8x64x64x8x384_S8x64x64x8_d4 h_S_ (ix4 b r w h)
      = Finset.univ.sup fun m : Fin 384 => x (ix5 b r w h m) := by
  rw [reduceMax_eq x (val_main_cst_9 (F := Ideal)) reducesTo_S8x64x64x8x384_S8x64x64x8_d4 reduces94 h_S_ (fun i => neg_inf_word)]
  exact Finset.sup_congr rfl fun m _ => congrArg x (lift94 b r w h m)

variable (x0 x1 x2 : Vec Ideal S8x4352x512 .bf16) (x3 : Vec Ideal S4x8x15x31 .f32)

theorem bot_max (x : EReal) : max (Ideal.ofBits .f32 0xFF800000#32) x = x := by
  rw [neg_inf_word]; exact bot_sup_eq x

theorem weight22 (y : Vec Ideal S8x8x256x256 .f32) (z : Vec Ideal S8x8x256 .f32) (b h : Fin 8) (n m : Fin 256) :
    (Host.exp (subf y (broadcastInDim S8x8x256x256 ![0, 1, 2, 3] bcast_S8x8x256x1_S8x8x256x256_0_1_2_3 (broadcastInDim S8x8x256x1 ![0, 1, 2] bcast_S8x8x256_S8x8x256x1_0_1_2 (maximumf (broadcastInDim S8x8x256 ![] bcast_S_S8x8x256 (val_main_cst_0 (F := Ideal))) z)))) : FVec Ideal S8x8x256x256 .f32) (ix4 b h n m)
      = Ideal.exp (y (ix4 b h n m) - max (Ideal.ofBits .f32 0xFF800000#32) (z (ix3 b h n))) := by
  pointwise [val_main_cst_0]

theorem weight100 (y : Vec Ideal S8x64x64x8x384 .f32) (z : Vec Ideal S8x64x64x8 .f32) (b : Fin 8) (r w : Fin 64) (h : Fin 8) (e : Fin 384) :
    (Host.exp (subf y (broadcastInDim S8x64x64x8x384 ![0, 1, 2, 3, 4] bcast_S8x64x64x8x1_S8x64x64x8x384_0_1_2_3_4 (broadcastInDim S8x64x64x8x1 ![0, 1, 2, 3] bcast_S8x64x64x8_S8x64x64x8x1_0_1_2_3 (maximumf (broadcastInDim S8x64x64x8 ![] bcast_S_S8x64x64x8 (val_main_cst_10 (F := Ideal))) z)))) : FVec Ideal S8x64x64x8x384 .f32) (ix5 b r w h e)
      = Ideal.exp (y (ix5 b r w h e) - max (Ideal.ofBits .f32 0xFF800000#32) (z (ix4 b r w h))) := by
  pointwise [val_main_cst_10]

/-- The latent weights. -/
theorem v100_at (b : Fin 8) (r w : Fin 64) (h : Fin 8) (e : Fin 384) : val_main_v100 (F := Ideal) x0 x1 x3 (ix5 b r w h e)
    = Ideal.exp (val_main_v93 (F := Ideal) x0 x1 x3 (ix5 b r w h e)
        - Finset.univ.sup fun m : Fin 384 => val_main_v93 (F := Ideal) x0 x1 x3 (ix5 b r w h m)) := by
  unfold val_main_v100 val_main_v99 val_main_v98 val_main_v97 val_main_v96 val_main_v95 val_main_v94
  generalize val_main_v93 (F := Ideal) x0 x1 x3 = y
  rw [← max94 y b r w h]
  generalize Host.reduce (FloatOps.maximumf (F := Ideal) (φ := .f32)) y (val_main_cst_9 (F := Ideal)) reducesTo_S8x64x64x8x384_S8x64x64x8_d4 h_S_ = z
  have e := weight100 y z b r w h e
  rw [bot_max] at e
  exact e

/-- The latent probabilities. -/
theorem v104_at (b : Fin 8) (r w : Fin 64) (h : Fin 8) (e : Fin 384) : val_main_v104 (F := Ideal) x0 x1 x3 (ix5 b r w h e)
    = Ideal.div (val_main_v100 (F := Ideal) x0 x1 x3 (ix5 b r w h e)) (∑ m : Fin 384, val_main_v100 (F := Ideal) x0 x1 x3 (ix5 b r w h m)) := by
  unfold val_main_v104 val_main_v103 val_main_v102 val_main_v101
  generalize val_main_v100 (F := Ideal) x0 x1 x3 = y
  pointwise [val_main_cst_11]

/-- The average over the neighbourhood. -/
theorem v108_at (b : Fin 8) (r w : Fin 64) (h : Fin 8) (d : Fin 64) : val_main_v108 (F := Ideal) x0 x1 x2 x3 (ix5 b r w h d)
    = ∑ i : Fin 8, ∑ j : Fin 16, val_main_v104 (F := Ideal) x0 x1 x3 (ix5 b r w h ⟨i.val * 16 + j.val, by omega⟩)
        * val_main_v14 (F := Ideal) x2 (ix5 b (rowAt r i) (colAt w j) h d) := by
  refine Eq.trans ?_ (Finset.sum_congr rfl fun i _ => Finset.sum_congr rfl fun j _ => congrArg _ (v74_at x2 b r i w j h d))
  unfold val_main_v108 val_main_v106 val_main_v105
  generalize val_main_v104 (F := Ideal) x0 x1 x3 = y
  generalize val_main_v74 (F := Ideal) x2 = z
  pointwise []

/-- The average over the context, for a latent query. -/
theorem v110_at (b : Fin 8) (r w : Fin 64) (h : Fin 8) (d : Fin 64) : val_main_v110 (F := Ideal) x0 x1 x2 x3 (ix5 b r w h d)
    = ∑ m : Fin 256, val_main_v104 (F := Ideal) x0 x1 x3 (ix5 b r w h ⟨128 + m.val, by omega⟩) * val_main_v8 (F := Ideal) x2 (ix4 b m h d) := by
  refine Eq.trans ?_ (Finset.sum_congr rfl fun m _ => mul_comm _ _)
  unfold val_main_v110 val_main_v109 val_main_v107
  generalize val_main_v104 (F := Ideal) x0 x1 x3 = y
  generalize val_main_v8 (F := Ideal) x2 = z
  pointwise []

/-- A score against a key of the neighbourhood. -/
theorem v93_near (b : Fin 8) (r w : Fin 64) (h : Fin 8) (i : Fin 8) (j : Fin 16) :
    val_main_v93 (F := Ideal) x0 x1 x3 (ix5 b r w h ⟨i.val * 16 + j.val, by omega⟩)
      = (∑ x : Fin 64, val_main_v10 (F := Ideal) x0 (ix5 b r w h x) * val_main_v12 (F := Ideal) x1 (ix5 b (rowAt r i) (colAt w j) h x))
        + val_main_v76 (F := Ideal) x3 (ix3 h (dRow r i) (dCol w j)) := by
  refine Eq.trans ?_ (congrArg₂ _ (Finset.sum_congr rfl fun x _ => congrArg _ (v66_at x1 b r i w j h x)) (v84_at x3 h r i w j))
  unfold val_main_v93 val_main_v92 val_main_v89 val_main_v88 val_main_v87 val_main_v86 val_main_v85
  generalize val_main_v91 (F := Ideal) x0 x1 = y
  generalize val_main_v10 (F := Ideal) x0 = y1
  generalize val_main_v66 (F := Ideal) x1 = y2
  generalize val_main_v84 (F := Ideal) x3 = y3
  pointwise []
  rw [dif_pos (show i.val * 16 + j.val < 128 by omega)]

/-- A score of a latent query against a context key. -/
theorem v93_ctx (b : Fin 8) (r w : Fin 64) (h : Fin 8) (m : Fin 256) :
    val_main_v93 (F := Ideal) x0 x1 x3 (ix5 b r w h ⟨128 + m.val, by omega⟩)
      = ∑ x : Fin 64, val_main_v10 (F := Ideal) x0 (ix5 b r w h x) * val_main_v6 (F := Ideal) x1 (ix4 b m h x) := by
  refine Eq.trans ?_ (Finset.sum_congr rfl fun x _ => mul_comm _ _)
  unfold val_main_v93 val_main_v91 val_main_v90
  generalize val_main_v92 (F := Ideal) x0 x1 x3 = y
  generalize val_main_v10 (F := Ideal) x0 = y1
  generalize val_main_v6 (F := Ideal) x1 = y2
  pointwise []

/-- The context scores, weights, probabilities and averages. -/
theorem v15_at (b h : Fin 8) (n m : Fin 256) : val_main_v15 (F := Ideal) x0 x1 (ix4 b h n m)
    = ∑ x : Fin 64, val_main_v4 (F := Ideal) x0 (ix4 b n h x) * val_main_v6 (F := Ideal) x1 (ix4 b m h x) := by
  unfold val_main_v15
  generalize val_main_v4 (F := Ideal) x0 = y1
  generalize val_main_v6 (F := Ideal) x1 = y2
  pointwise []

theorem v22_at (b h : Fin 8) (n m : Fin 256) : val_main_v22 (F := Ideal) x0 x1 (ix4 b h n m)
    = Ideal.exp (val_main_v15 (F := Ideal) x0 x1 (ix4 b h n m) - Finset.univ.sup fun m' : Fin 256 => val_main_v15 (F := Ideal) x0 x1 (ix4 b h n m')) := by
  unfold val_main_v22 val_main_v21 val_main_v20 val_main_v19 val_main_v18 val_main_v17 val_main_v16
  generalize val_main_v15 (F := Ideal) x0 x1 = y
  rw [← max16 y b h n]
  generalize Host.reduce (FloatOps.maximumf (F := Ideal) (φ := .f32)) y (val_main_cst (F := Ideal)) reducesTo_S8x8x256x256_S8x8x256_d3 h_S_ = z
  have e := weight22 y z b h n m
  rw [bot_max] at e
  exact e

theorem v26_at (b h : Fin 8) (n m : Fin 256) : val_main_v26 (F := Ideal) x0 x1 (ix4 b h n m)
    = Ideal.div (val_main_v22 (F := Ideal) x0 x1 (ix4 b h n m)) (∑ m' : Fin 256, val_main_v22 (F := Ideal) x0 x1 (ix4 b h n m')) := by
  unfold val_main_v26 val_main_v25 val_main_v24 val_main_v23
  generalize val_main_v22 (F := Ideal) x0 x1 = y
  pointwise [val_main_cst_1]

theorem v28_at (b h : Fin 8) (n : Fin 256) (d : Fin 64) : val_main_v28 (F := Ideal) x0 x1 x2 (ix4 b n h d)
    = ∑ m : Fin 256, val_main_v26 (F := Ideal) x0 x1 (ix4 b h n m) * val_main_v8 (F := Ideal) x2 (ix4 b m h d) := by
  refine Eq.trans ?_ (Finset.sum_congr rfl fun m _ => mul_comm _ _)
  unfold val_main_v28 val_main_v27
  generalize val_main_v26 (F := Ideal) x0 x1 = y
  generalize val_main_v8 (F := Ideal) x2 = z
  pointwise []

/-- Lane `d` of head `H`; context token `n`; the latent token at row `R`, column `w`. -/
def hl (H : Fin 8) (d : Fin 64) : Fin 512 := ⟨H.val * 64 + d.val, by omega⟩
def ctxTok (n : Fin 256) : Fin 4352 := ⟨n.val, by omega⟩
def latNum (R w : Fin 64) : Fin 4096 := ⟨R.val * 64 + w.val, by omega⟩
def latTok (R w : Fin 64) : Fin 4352 := ⟨256 + (latNum R w).val, by have := (latNum R w).isLt; omega⟩

/-- The heads' entries of the arguments. -/
theorem v4_at (b H : Fin 8) (n : Fin 256) (d : Fin 64) : val_main_v4 (F := Ideal) x0 (ix4 b n H d) = x0 (ix3 b (ctxTok n) (hl H d)) := by
  pointwise [val_main_v4, val_main_v3, val_main_v0, ctxTok, hl]
theorem v6_at (b H : Fin 8) (n : Fin 256) (d : Fin 64) : val_main_v6 (F := Ideal) x0 (ix4 b n H d) = x0 (ix3 b (ctxTok n) (hl H d)) := by
  pointwise [val_main_v6, val_main_v5, val_main_v1, ctxTok, hl]
theorem v8_at (b H : Fin 8) (n : Fin 256) (d : Fin 64) : val_main_v8 (F := Ideal) x0 (ix4 b n H d) = x0 (ix3 b (ctxTok n) (hl H d)) := by
  pointwise [val_main_v8, val_main_v7, val_main_v2, ctxTok, hl]
theorem v10_at (b H : Fin 8) (R w : Fin 64) (d : Fin 64) : val_main_v10 (F := Ideal) x0 (ix5 b R w H d) = x0 (ix3 b (latTok R w) (hl H d)) := by
  pointwise [val_main_v10, val_main_v9, val_main_v0, latTok, latNum, hl]
theorem v12_at (b H : Fin 8) (R w : Fin 64) (d : Fin 64) : val_main_v12 (F := Ideal) x0 (ix5 b R w H d) = x0 (ix3 b (latTok R w) (hl H d)) := by
  pointwise [val_main_v12, val_main_v11, val_main_v1, latTok, latNum, hl]
theorem v14_at (b H : Fin 8) (R w : Fin 64) (d : Fin 64) : val_main_v14 (F := Ideal) x0 (ix5 b R w H d) = x0 (ix3 b (latTok R w) (hl H d)) := by
  pointwise [val_main_v14, val_main_v13, val_main_v2, latTok, latNum, hl]
theorem v76_at (h : Fin 8) (r : Fin 15) (c : Fin 31) : val_main_v76 (F := Ideal) x3 (ix3 h r c) = x3 (ix4 0 h r c) := by
  pointwise [val_main_v76, val_main_v75]

/-- The result at a context token and at a latent token. -/
theorem v115_ctx (b H : Fin 8) (n : Fin 256) (d : Fin 64) :
    val_main_v115 (F := Ideal) x0 x1 x2 x3 (ix3 b (ctxTok n) (hl H d)) = val_main_v28 (F := Ideal) x0 x1 x2 (ix4 b n H d) := by
  unfold val_main_v115 val_main_v114 val_main_v112
  generalize val_main_v113 (F := Ideal) x0 x1 x2 x3 = y
  generalize val_main_v28 (F := Ideal) x0 x1 x2 = z
  pointwise [hl, ctxTok]

theorem v113_at (b H : Fin 8) (R w : Fin 64) (d : Fin 64) :
    val_main_v113 (F := Ideal) x0 x1 x2 x3 (ix3 b (latNum R w) (hl H d)) = val_main_v111 (F := Ideal) x0 x1 x2 x3 (ix5 b R w H d) := by
  unfold val_main_v113
  generalize val_main_v111 (F := Ideal) x0 x1 x2 x3 = z
  pointwise [hl, latNum]

theorem tail_at0 (y : Vec Ideal S8x256x512 .f32) (z : Vec Ideal S8x4096x512 .f32) (b : Fin 8) (n : Fin 4352) (l : Fin 512) :
    (truncf .bf16 (concatenate S8x4352x512 1 [⟨S8x256x512, y⟩, ⟨S8x4096x512, z⟩] concatenates_S8x256x512_S8x4096x512_S8x4352x512_d1)
      bitsLt_bf16_f32 : FVec Ideal S8x4352x512 .bf16) (ix3 b n l)
      = if h : n.val < 256 then y (ix3 b ⟨n.val, h⟩ l) else z (ix3 b ⟨n.val - 256, by omega⟩ l) := by
  pointwise []

theorem tail_at (y : Vec Ideal S8x256x512 .f32) (z : Vec Ideal S8x4096x512 .f32) (b : Fin 8) (n : Fin 4096) (l : Fin 512) :
    (truncf .bf16 (concatenate S8x4352x512 1 [⟨S8x256x512, y⟩, ⟨S8x4096x512, z⟩] concatenates_S8x256x512_S8x4096x512_S8x4352x512_d1)
      bitsLt_bf16_f32 : FVec Ideal S8x4352x512 .bf16) (ix3 b ⟨256 + n.val, by omega⟩ l) = z (ix3 b n l) := by
  rw [tail_at0 y z b ⟨256 + n.val, by omega⟩ l, dif_neg (show ¬ (256 + n.val < 256) by omega)]
  have e : (⟨256 + n.val - 256, by omega⟩ : Fin 4096) = n := Fin.ext (Nat.add_sub_cancel_left 256 n.val)
  exact congrArg (fun k => z (ix3 b k l)) e

theorem sum_at (u u' : Vec Ideal S8x64x64x8x64 .f32) (b H : Fin 8) (R w : Fin 64) (d : Fin 64) :
    (addf u u' : FVec Ideal S8x64x64x8x64 .f32) (ix5 b R w H d) = u (ix5 b R w H d) + u' (ix5 b R w H d) := by
  pointwise []

theorem v111_at (b H : Fin 8) (R w : Fin 64) (d : Fin 64) :
    val_main_v111 (F := Ideal) x0 x1 x2 x3 (ix5 b R w H d)
      = ((val_main_v108 (F := Ideal) x0 x1 x2 x3 : Vec Ideal S8x64x64x8x64 .f32) (ix5 b R w H d) : EReal)
        + ((val_main_v110 (F := Ideal) x0 x1 x2 x3 : Vec Ideal S8x64x64x8x64 .f32) (ix5 b R w H d) : EReal) := by
  unfold val_main_v111
  generalize val_main_v108 (F := Ideal) x0 x1 x2 x3 = u
  generalize val_main_v110 (F := Ideal) x0 x1 x2 x3 = u'
  exact sum_at u u' b H R w d

theorem v115_lat (b H : Fin 8) (R w : Fin 64) (d : Fin 64) :
    val_main_v115 (F := Ideal) x0 x1 x2 x3 (ix3 b (latTok R w) (hl H d)) = val_main_v111 (F := Ideal) x0 x1 x2 x3 (ix5 b R w H d) := by
  rw [← v113_at x0 x1 x2 x3 b H R w d]
  unfold val_main_v115 val_main_v114
  generalize val_main_v112 (F := Ideal) x0 x1 x2 = y
  generalize val_main_v113 (F := Ideal) x0 x1 x2 x3 = z
  exact tail_at y z b (latNum R w) (hl H d)

end Cert.ReferenceIdeal.NA
-- ==== Proof.NA.Ref.lean ====
/-
The plain program's attention as averages: over the context alone, and over the neighbourhood and the context.
-/
module
public import proofs.«01_k».proof.Proof.NA.RefParts
@[expose] public section
noncomputable section
namespace Cert.ReferenceIdeal.NA
open Cert.ReferenceIdeal Cert.ReferenceIdeal.Gen Cert.ReferenceIdeal.Read Idealize.ShloMosaic Idealize.ShloMosaic.TcCoe Idealize.SL.Sem Cert.NA

/-- Position `(i, j)` of the neighbourhood, and context position `m`, among the 384 keys. -/
def nearPos (p : Fin 8 × Fin 16) : Fin 384 := ⟨p.1.val * 16 + p.2.val, by omega⟩
def ctxPos (m : Fin 256) : Fin 384 := ⟨128 + m.val, by omega⟩

theorem pos_cases (e : Fin 384) : (∃ p, nearPos p = e) ∨ ∃ m, ctxPos m = e := by
  by_cases h : e.val < 128
  · exact Or.inl ⟨(⟨e.val / 16, by omega⟩, ⟨e.val % 16, by omega⟩), Fin.ext (by simp only [nearPos]; omega)⟩
  · exact Or.inr ⟨⟨e.val - 128, by omega⟩, Fin.ext (by simp only [ctxPos]; omega)⟩

theorem sup_split (f : Fin 384 → EReal) :
    Finset.univ.sup f = max (Finset.univ.sup fun p => f (nearPos p)) (Finset.univ.sup fun m => f (ctxPos m)) := by
  apply le_antisymm
  · refine Finset.sup_le fun e _ => ?_
    rcases pos_cases e with ⟨p, rfl⟩ | ⟨m, rfl⟩
    · exact le_max_of_le_left (Finset.le_sup (f := fun p => f (nearPos p)) (Finset.mem_univ p))
    · exact le_max_of_le_right (Finset.le_sup (f := fun m => f (ctxPos m)) (Finset.mem_univ m))
  · exact max_le (Finset.sup_le fun p _ => Finset.le_sup (Finset.mem_univ _)) (Finset.sup_le fun m _ => Finset.le_sup (Finset.mem_univ _))

theorem sum_split (f : Fin 384 → EReal) : ∑ e, f e = (∑ p, f (nearPos p)) + ∑ m, f (ctxPos m) := by
  have h := Fin.sum_univ_add (a := 128) (b := 256) f
  refine h.trans (congrArg₂ _ ?_ ?_)
  · refine (Fintype.sum_equiv (finProdFinEquiv (m := 8) (n := 16)) (fun p => f (nearPos p)) (fun i => f (Fin.castAdd 256 i)) fun p => congrArg f (Fin.ext ?_)).symm
    show p.1.val * 16 + p.2.val = p.2.val + 16 * p.1.val
    omega
  · exact Finset.sum_congr rfl fun m _ => congrArg f (Fin.ext rfl)

variable (x0 x1 x2 : Vec Ideal S8x4352x512 .bf16) (x3 : Vec Ideal S4x8x15x31 .f32)

/-- A context token's scores; a latent token's scores against the context and against its neighbourhood. -/
def scCC (b H : Fin 8) (n m : Fin 256) : EReal := ∑ x : Fin 64, x0 (ix3 b (ctxTok n) (hl H x)) * x1 (ix3 b (ctxTok m) (hl H x))
def scLC (b H : Fin 8) (R w : Fin 64) (m : Fin 256) : EReal := ∑ x : Fin 64, x0 (ix3 b (latTok R w) (hl H x)) * x1 (ix3 b (ctxTok m) (hl H x))
def scLL (b H : Fin 8) (R w : Fin 64) (p : Fin 8 × Fin 16) : EReal :=
  (∑ x : Fin 64, x0 (ix3 b (latTok R w) (hl H x)) * x1 (ix3 b (latTok (rowAt R p.1) (colAt w p.2)) (hl H x)))
    + x3 (ix4 0 H (dRow R p.1) (dCol w p.2))

theorem ctx_eq (b H : Fin 8) (n : Fin 256) (d : Fin 64) :
    val_main_v115 (F := Ideal) x0 x1 x2 x3 (ix3 b (ctxTok n) (hl H d))
      = earlyAvg (fun _ : Fin 0 => (0 : EReal)) (scCC x0 x1 b H n) (fun _ => 0) (fun m => x2 (ix3 b (ctxTok m) (hl H d))) := by
  have e : ∀ m, val_main_v15 (F := Ideal) x0 x1 (ix4 b H n m) = scCC x0 x1 b H n m := fun m => by
    rw [v15_at]; exact Finset.sum_congr rfl fun x _ => congrArg₂ _ (v4_at x0 b H n x) (v6_at x1 b H m x)
  have pk : peak (fun _ : Fin 0 => (0 : EReal)) (scCC x0 x1 b H n) = Finset.univ.sup (scCC x0 x1 b H n) := by
    unfold peak; rw [Finset.univ_eq_empty, Finset.sup_empty]; exact bot_sup_eq _
  have ew : ∀ m, val_main_v22 (F := Ideal) x0 x1 (ix4 b H n m) = Ideal.exp (scCC x0 x1 b H n m - peak (fun _ : Fin 0 => (0 : EReal)) (scCC x0 x1 b H n)) := fun m => by
    rw [v22_at, pk]
    exact congrArg Ideal.exp (congrArg₂ _ (e m) (Finset.sup_congr rfl fun m' _ => e m'))
  have ms : mass (fun _ : Fin 0 => (0 : EReal)) (scCC x0 x1 b H n) = ∑ m, val_main_v22 (F := Ideal) x0 x1 (ix4 b H n m) := by
    unfold mass; rw [Finset.univ_eq_empty, Finset.sum_empty, zero_add]; exact Finset.sum_congr rfl fun m _ => (ew m).symm
  rw [v115_ctx, v28_at]
  unfold earlyAvg
  rw [Finset.univ_eq_empty (α := Fin 0), Finset.sum_empty, zero_add, ms]
  refine Finset.sum_congr rfl fun m _ => congrArg₂ _ ?_ (v8_at x2 b H m d)
  rw [v26_at, ew m]

theorem lat_eq (b H : Fin 8) (R w : Fin 64) (d : Fin 64) :
    val_main_v115 (F := Ideal) x0 x1 x2 x3 (ix3 b (latTok R w) (hl H d))
      = earlyAvg (scLL x0 x1 x3 b H R w) (scLC x0 x1 b H R w) (fun p => x2 (ix3 b (latTok (rowAt R p.1) (colAt w p.2)) (hl H d)))
          (fun m => x2 (ix3 b (ctxTok m) (hl H d))) := by
  have en : ∀ p, val_main_v93 (F := Ideal) x0 x1 x3 (ix5 b R w H (nearPos p)) = scLL x0 x1 x3 b H R w p := fun p => by
    refine (v93_near x0 x1 x3 b R w H p.1 p.2).trans (congrArg₂ _ (Finset.sum_congr rfl fun x _ => congrArg₂ _ (v10_at x0 b H R w x) (v12_at x1 b H _ _ x)) (v76_at x3 H _ _))
  have ec : ∀ m, val_main_v93 (F := Ideal) x0 x1 x3 (ix5 b R w H (ctxPos m)) = scLC x0 x1 b H R w m := fun m =>
    (v93_ctx x0 x1 x3 b R w H m).trans (Finset.sum_congr rfl fun x _ => congrArg₂ _ (v10_at x0 b H R w x) (v6_at x1 b H m x))
  have pk : (Finset.univ.sup fun e : Fin 384 => val_main_v93 (F := Ideal) x0 x1 x3 (ix5 b R w H e)) = peak (scLL x0 x1 x3 b H R w) (scLC x0 x1 b H R w) := by
    rw [sup_split]
    exact congrArg₂ _ (Finset.sup_congr rfl fun p _ => en p) (Finset.sup_congr rfl fun m _ => ec m)
  have wn : ∀ p, val_main_v100 (F := Ideal) x0 x1 x3 (ix5 b R w H (nearPos p)) = Ideal.exp (scLL x0 x1 x3 b H R w p - peak (scLL x0 x1 x3 b H R w) (scLC x0 x1 b H R w)) := fun p => by
    rw [v100_at, pk, en p]
  have wc : ∀ m, val_main_v100 (F := Ideal) x0 x1 x3 (ix5 b R w H (ctxPos m)) = Ideal.exp (scLC x0 x1 b H R w m - peak (scLL x0 x1 x3 b H R w) (scLC x0 x1 b H R w)) := fun m => by
    rw [v100_at, pk, ec m]
  have ms : (∑ e : Fin 384, val_main_v100 (F := Ideal) x0 x1 x3 (ix5 b R w H e)) = mass (scLL x0 x1 x3 b H R w) (scLC x0 x1 b H R w) := by
    rw [sum_split]
    exact congrArg₂ _ (Finset.sum_congr rfl fun p _ => wn p) (Finset.sum_congr rfl fun m _ => wc m)
  rw [v115_lat, v111_at, v108_at, v110_at]
  unfold earlyAvg
  refine congrArg₂ _ ?_ ?_
  · rw [Fintype.sum_prod_type]
    refine Finset.sum_congr rfl fun i _ => Finset.sum_congr rfl fun j _ => congrArg₂ _ ?_ (v14_at x2 b H _ _ d)
    refine (v104_at x0 x1 x3 b R w H (nearPos (i, j))).trans ?_
    rw [ms, wn]
  · refine Finset.sum_congr rfl fun m _ => congrArg₂ _ ?_ (v8_at x2 b H m d)
    refine (v104_at x0 x1 x3 b R w H (ctxPos m)).trans ?_
    rw [ms, wc]

end Cert.ReferenceIdeal.NA
-- ==== Proof.NA.Stages.lean ====
/- The kernel's arithmetic at one grid point, as named stages.

   A point works on two PAIRS of heads (128 lanes each); for a latent tile a pair has four problems, one per row of the
   tile. `blkB` is what one pair stores at a latent tile, as a function of the vectors it loads; `blkA` is the same at the
   context tile. `outB_eq` and `outA_eq` say that the kernel's two stores are these. -/
module

public import proofs.«01_k».proof.Proof.Gen.KernelIdeal.Value

@[expose] public section

noncomputable section

namespace Cert.KernelIdeal.NA

open Cert.KernelIdeal Cert.KernelIdeal.Gen Idealize.ShloMosaic Idealize.ShloMosaic.TcCoe Idealize.SL.Sem

variable {F : FTy → Type} [FloatOps F]

/-- A row of queries of two heads, stacked: the first head's lanes, then the second's, the other head's lanes zero. -/
def q2 (q : Vec F S1x64x128 .bf16) : FVec F S128x128 .bf16 :=
  concatenate S128x128 0
    [⟨S64x128, select (broadcastTo S64x128 (shapeCast S1x128 k0_pay1 shapeCasts_S1x128_S1x128) broadcasts_S1x128_S64x128)
        (shapeCast S64x128 q shapeCasts_S1x64x128_S64x128) (broadcast S64x128 (Scalar.ofBits .bf16 0x0000#16))⟩,
     ⟨S64x128, select (broadcastTo S64x128 (shapeCast S1x128 k0_pay2 shapeCasts_S1x128_S1x128) broadcasts_S1x128_S64x128)
        (shapeCast S64x128 q shapeCasts_S1x64x128_S64x128) (broadcast S64x128 (Scalar.ofBits .bf16 0x0000#16))⟩]
    concatenates_S64x128_S64x128_S128x128_d0

/-- The scores of four stacked rows against the context keys. -/
def scAll (q : Fin 4 → FVec F S128x128 .bf16) (kc : Vec F S1x256x128 .bf16) : FVec F S512x256 .f32 :=
  matmul dot_S512x128_S256x128_S512x256_1_1_0_0_n_n none
    (concatenate S512x128 0 [⟨S128x128, q 0⟩, ⟨S128x128, q 1⟩, ⟨S128x128, q 2⟩, ⟨S128x128, q 3⟩]
      concatenates_S128x128_S128x128_S128x128_S128x128_S512x128_d0)
    (shapeCast S256x128 kc shapeCasts_S1x256x128_S256x128) (constant S512x256 .f32 0x00000000#32)

/-- The part of the context scores that belongs to row `r`. -/
def scOf (r : Fin 4) (s : FVec F S512x256 .f32) : FVec F S128x256 .f32 :=
  match r with
  | 0 => extractStridedSlice S128x256 ![0, 0] s slices_S512x256_o0_0_S128x256
  | 1 => extractStridedSlice S128x256 ![128, 0] s slices_S512x256_o128_0_S128x256
  | 2 => extractStridedSlice S128x256 ![256, 0] s slices_S512x256_o256_0_S128x256
  | 3 => extractStridedSlice S128x256 ![384, 0] s slices_S512x256_o384_0_S128x256

/-- The scores of a stacked row against the band of keys, with the bias of its two heads. -/
def swOf (q : FVec F S128x128 .bf16) (kw : Vec F S1x512x128 .bf16) (b0 b1 : Vec F S1x1x1x64x512 .f32) : FVec F S128x512 .f32 :=
  addf (matmul dot_S128x128_S512x128_S128x512_1_1_0_0_n_n none q (shapeCast S512x128 kw shapeCasts_S1x512x128_S512x128)
      (constant S128x512 .f32 0x00000000#32))
    (concatenate S128x512 0 [⟨S64x512, shapeCast S64x512 b0 shapeCasts_S1x1x1x64x512_S64x512⟩,
      ⟨S64x512, shapeCast S64x512 b1 shapeCasts_S1x1x1x64x512_S64x512⟩] concatenates_S64x512_S64x512_S128x512_d0)

/-- The greatest score of each stacked row. -/
def mxOf (sw : FVec F S128x512 .f32) (sc : FVec F S128x256 .f32) : FVec F S128x1 .f32 :=
  maximumf
    (shapeCast S128x1 (multiReduction .maximumf [1] S128 sw 0xFF800000#32 reduces_S128x512_S128 (.inl rfl) rfl) shapeCasts_S128_S128x1)
    (shapeCast S128x1 (multiReduction .maximumf [1] S128 sc 0xFF800000#32 reduces_S128x256_S128 (.inl rfl) rfl) shapeCasts_S128_S128x1)

/-- The unnormalised weights of the band. -/
def pwOf (sw : FVec F S128x512 .f32) (sc : FVec F S128x256 .f32) : FVec F S128x512 .f32 :=
  exp (subf sw (broadcastTo S128x512 (mxOf sw sc) broadcasts_S128x1_S128x512))

/-- The unnormalised weights of the context keys. -/
def pcOf (sw : FVec F S128x512 .f32) (sc : FVec F S128x256 .f32) : FVec F S128x256 .f32 :=
  exp (subf sc (broadcastTo S128x256 (mxOf sw sc) broadcasts_S128x1_S128x256))

/-- Their sum, for each stacked row. -/
def denOf (sw : FVec F S128x512 .f32) (sc : FVec F S128x256 .f32) : FVec F S128x1 .f32 :=
  addf
    (shapeCast S128x1 (multiReduction .add [1] S128 (pwOf sw sc) 0x00000000#32 reduces_S128x512_S128 (.inl rfl) rfl) shapeCasts_S128_S128x1)
    (shapeCast S128x1 (multiReduction .add [1] S128 (pcOf sw sc) 0x00000000#32 reduces_S128x256_S128 (.inl rfl) rfl) shapeCasts_S128_S128x1)

/-- The weighted sums of the context values, the four rows' weights stacked. -/
def ocAll (pc : Fin 4 → FVec F S128x256 .f32) (vc : Vec F S1x256x128 .bf16) : FVec F S512x128 .f32 :=
  matmul dot_S512x256_S256x128_S512x128_1_0_0_1_n_n none
    (concatenate S512x256 0 [⟨S128x256, truncf .bf16 (pc 0) bitsLt_bf16_f32⟩, ⟨S128x256, truncf .bf16 (pc 1) bitsLt_bf16_f32⟩,
      ⟨S128x256, truncf .bf16 (pc 2) bitsLt_bf16_f32⟩, ⟨S128x256, truncf .bf16 (pc 3) bitsLt_bf16_f32⟩]
      concatenates_S128x256_S128x256_S128x256_S128x256_S512x256_d0)
    (shapeCast S256x128 vc shapeCasts_S1x256x128_S256x128) (constant S512x128 .f32 0x00000000#32)

/-- The part of the context sums that belongs to row `r`. -/
def ocOf (r : Fin 4) (s : FVec F S512x128 .f32) : FVec F S128x128 .f32 :=
  match r with
  | 0 => extractStridedSlice S128x128 ![0, 0] s slices_S512x128_o0_0_S128x128
  | 1 => extractStridedSlice S128x128 ![128, 0] s slices_S512x128_o128_0_S128x128
  | 2 => extractStridedSlice S128x128 ![256, 0] s slices_S512x128_o256_0_S128x128
  | 3 => extractStridedSlice S128x128 ![384, 0] s slices_S512x128_o384_0_S128x128

/-- The weighted average of a stacked row. -/
def o2Of (pw : FVec F S128x512 .f32) (vw : Vec F S1x512x128 .bf16) (oc : FVec F S128x128 .f32) (den : FVec F S128x1 .f32) :
    FVec F S128x128 .f32 :=
  divf (addf (matmul dot_S128x512_S512x128_S128x128_1_0_0_1_n_n none (truncf .bf16 pw bitsLt_bf16_f32)
      (shapeCast S512x128 vw shapeCasts_S1x512x128_S512x128) (constant S128x128 .f32 0x00000000#32)) oc)
    (broadcastTo S128x128 den broadcasts_S128x1_S128x128)

/-- A stacked row taken apart: lane by lane the average of the head the lane belongs to. -/
def unstack (o : FVec F S128x128 .f32) : FVec F S64x128 .bf16 :=
  truncf .bf16 (select (broadcastTo S64x128 (shapeCast S1x128 k0_pay1 shapeCasts_S1x128_S1x128) broadcasts_S1x128_S64x128)
    (extractStridedSlice S64x128 ![0, 0] o slices_S128x128_o0_0_S64x128)
    (extractStridedSlice S64x128 ![64, 0] o slices_S128x128_o64_0_S64x128)) bitsLt_bf16_f32

section B
variable (q : Fin 4 → Vec F S1x64x128 .bf16) (kw vw : Fin 4 → Vec F S1x512x128 .bf16) (b0 b1 : Fin 4 → Vec F S1x1x1x64x512 .f32)
  (kc vc : Vec F S1x256x128 .bf16)

/-- Row `r`'s band scores and context scores. -/
def swB (r : Fin 4) : FVec F S128x512 .f32 := swOf (q2 (q r)) (kw r) (b0 r) (b1 r)
def scB (r : Fin 4) : FVec F S128x256 .f32 := scOf r (scAll (fun r => q2 (q r)) kc)

/-- Row `r`'s averages. -/
def oB (r : Fin 4) : FVec F S128x128 .f32 :=
  o2Of (pwOf (swB q kw b0 b1 r) (scB q kc r)) (vw r)
    (ocOf r (ocAll (fun r => pcOf (swB q kw b0 b1 r) (scB q kc r)) vc)) (denOf (swB q kw b0 b1 r) (scB q kc r))

/-- What one pair of heads stores at a latent tile. -/
def blkB : FVec F S1x256x128 .bf16 :=
  shapeCast S1x256x128
    (concatenate S256x128 0 [⟨S64x128, unstack (oB q kw vw b0 b1 kc vc 0)⟩, ⟨S64x128, unstack (oB q kw vw b0 b1 kc vc 1)⟩,
      ⟨S64x128, unstack (oB q kw vw b0 b1 kc vc 2)⟩, ⟨S64x128, unstack (oB q kw vw b0 b1 kc vc 3)⟩]
      concatenates_S64x128_S64x128_S64x128_S64x128_S256x128_d0) shapeCasts_S256x128_S1x256x128

end B

section A
variable (q kc vc : Vec F S1x256x128 .bf16)

/-- The context tile's queries, stacked. -/
def q2A : FVec F S512x128 .bf16 :=
  concatenate S512x128 0
    [⟨S256x128, select (broadcastTo S256x128 (shapeCast S1x128 k0_pay1 shapeCasts_S1x128_S1x128) broadcasts_S1x128_S256x128)
        (shapeCast S256x128 q shapeCasts_S1x256x128_S256x128) (broadcast S256x128 (Scalar.ofBits .bf16 0x0000#16))⟩,
     ⟨S256x128, select (broadcastTo S256x128 (shapeCast S1x128 k0_pay2 shapeCasts_S1x128_S1x128) broadcasts_S1x128_S256x128)
        (shapeCast S256x128 q shapeCasts_S1x256x128_S256x128) (broadcast S256x128 (Scalar.ofBits .bf16 0x0000#16))⟩]
    concatenates_S256x128_S256x128_S512x128_d0

/-- Their scores against the context keys. -/
def scA : FVec F S512x256 .f32 :=
  matmul dot_S512x128_S256x128_S512x256_1_1_0_0_n_n none (q2A q) (shapeCast S256x128 kc shapeCasts_S1x256x128_S256x128)
    (constant S512x256 .f32 0x00000000#32)

/-- The unnormalised weights. -/
def pA : FVec F S512x256 .f32 :=
  exp (subf (scA q kc) (broadcastTo S512x256 (shapeCast S512x1
    (multiReduction .maximumf [1] S512 (scA q kc) 0xFF800000#32 reduces_S512x256_S512 (.inl rfl) rfl) shapeCasts_S512_S512x1)
    broadcasts_S512x1_S512x256))

/-- The averages of the stacked rows. -/
def oA : FVec F S512x128 .f32 :=
  divf (matmul dot_S512x256_S256x128_S512x128_1_0_0_1_n_n none (truncf .bf16 (pA q kc) bitsLt_bf16_f32)
      (shapeCast S256x128 vc shapeCasts_S1x256x128_S256x128) (constant S512x128 .f32 0x00000000#32))
    (broadcastTo S512x128 (shapeCast S512x1
      (multiReduction .add [1] S512 (pA q kc) 0x00000000#32 reduces_S512x256_S512 (.inl rfl) rfl) shapeCasts_S512_S512x1)
      broadcasts_S512x1_S512x128)

/-- What one pair of heads stores at the context tile. -/
def blkA : FVec F S1x256x128 .bf16 :=
  shapeCast S1x256x128
    (truncf .bf16 (select (broadcastTo S256x128 (shapeCast S1x128 k0_pay1 shapeCasts_S1x128_S1x128) broadcasts_S1x128_S256x128)
      (extractStridedSlice S256x128 ![0, 0] (oA q kc vc) slices_S512x128_o0_0_S256x128)
      (extractStridedSlice S256x128 ![256, 0] (oA q kc vc) slices_S512x128_o256_0_S256x128)) bitsLt_bf16_f32)
    shapeCasts_S256x128_S1x256x128

end A

variable (m : (ℓ : Loc nD τ sig) → Buf (Elt F) ℓ) (ρ : Dev nD → PrngReg)

/-- The rectangles of the two stores. -/
abbrev lane0 : Rect S1x256x256 := Rect.unit ![0, 0, 0] S1x256x128.size inb_S1x256x256_S1x256x128_0_0_0
abbrev lane1 : Rect S1x256x256 := Rect.unit ![0, 0, 128] S1x256x128.size inb_S1x256x256_S1x256x128_0_0_128

/-- THE CONTEXT TILE: what the point leaves in the output's buffer. -/
theorem outA_eq (c : Dev nD) (t : Fin cfg0.N) (h0 : t.val % 17 = 0) (h1 : ¬1 ≤ t.val % 17) :
    outsAt0 m c t.val t.isLt = View.canon
      [⟨lane1, blkA (View.ld (iblk m c 0 t) lane1)
          (View.ld (iblk m c 1 t) (Rect.unit ![0, 0, 128] S1x256x128.size inb_S1x4352x256_S1x256x128_0_0_128))
          (View.ld (iblk m c 2 t) (Rect.unit ![0, 0, 128] S1x256x128.size inb_S1x4352x256_S1x256x128_0_0_128))⟩,
       ⟨lane0, blkA (View.ld (iblk m c 0 t) lane0)
          (View.ld (iblk m c 1 t) (Rect.unit ![0, 0, 0] S1x256x128.size inb_S1x4352x256_S1x256x128_0_0_0))
          (View.ld (iblk m c 2 t) (Rect.unit ![0, 0, 0] S1x256x128.size inb_S1x4352x256_S1x256x128_0_0_0))⟩] := by
  rw [outsAt0_A m c t h0 h1]
  unfold out0_A_4
  rw [View.read_writes_eq_canon _ _ _ (fun y => cover0_A_4 c _ _ _ _ _ _ _ _ _ _ _ _ _ _ _ _ _ y)]
  unfold kernelRun0_A
  dsimp only
  sl_unfold_run_names
  simp only [View.readAt_eq_ld, (hs0_0 t).read_unread, (hs0_1 t).read_unread, (hs0_2 t).read_unread, (hs0_3 t).read_unread]
  rfl

/-- The rectangles of the loads at a latent tile: row `r`'s queries, its band of keys or values, its bias. -/
abbrev rq (p : Fin 2) (r : Fin 4) : Rect S1x256x256 :=
  Rect.unit ![0, 64 * r.val, 128 * p.val] S1x64x128.size (by revert p r; decide +kernel)
abbrev rc (p : Fin 2) : Rect S1x4352x256 := Rect.unit ![0, 0, 128 * p.val] S1x256x128.size (by revert p; decide +kernel)
abbrev rb0 (i : grid0.Coords) (h : k0_cond2 i = 1#1) (r : Fin 4) : Rect S1x4352x256 :=
  Rect.unit (k0_off1 i (BitVec.ofNat 32 r.val)) S1x512x128.size (k0_off1_inb i h r)
abbrev rb1 (i : grid0.Coords) (h : k0_cond2 i = 1#1) (r : Fin 4) : Rect S1x4352x256 :=
  Rect.unit (k0_off4 i (BitVec.ofNat 32 r.val)) S1x512x128.size (k0_off4_inb i h r)
abbrev rt0 (i : grid0.Coords) (h : k0_cond2 i = 1#1) (r : Fin 4) : Rect S1x4x8x64x512 :=
  Rect.unit (k0_off2 i (BitVec.ofNat 32 r.val)) S1x1x1x64x512.size (k0_off2_inb i h r)
abbrev rt1 (i : grid0.Coords) (h : k0_cond2 i = 1#1) (r : Fin 4) : Rect S1x4x8x64x512 :=
  Rect.unit (k0_off3 i (BitVec.ofNat 32 r.val)) S1x1x1x64x512.size (k0_off3_inb i h r)
abbrev rt2 (i : grid0.Coords) (h : k0_cond2 i = 1#1) (r : Fin 4) : Rect S1x4x8x64x512 :=
  Rect.unit (k0_off5 i (BitVec.ofNat 32 r.val)) S1x1x1x64x512.size (k0_off5_inb i h r)
abbrev rt3 (i : grid0.Coords) (h : k0_cond2 i = 1#1) (r : Fin 4) : Rect S1x4x8x64x512 :=
  Rect.unit (k0_off6 i (BitVec.ofNat 32 r.val)) S1x1x1x64x512.size (k0_off6_inb i h r)

/-- A LATENT TILE: what the point leaves in the output's buffer. -/
theorem outB_eq (c : Dev nD) (t : Fin cfg0.N) (h0 : ¬t.val % 17 = 0) (h1 : 1 ≤ t.val % 17) (h : k0_cond2 (grid0.coords t) = 1#1) :
    outsAt0 m c t.val t.isLt = View.canon
      [⟨lane1, blkB (fun r => View.ld (iblk m c 0 t) (rq 1 r)) (fun r => View.ld (iblk m c 1 t) (rb1 (grid0.coords t) h r))
          (fun r => View.ld (iblk m c 2 t) (rb1 (grid0.coords t) h r)) (fun r => View.ld (iblk m c 3 t) (rt2 (grid0.coords t) h r))
          (fun r => View.ld (iblk m c 3 t) (rt3 (grid0.coords t) h r)) (View.ld (iblk m c 1 t) (rc 1)) (View.ld (iblk m c 2 t) (rc 1))⟩,
       ⟨lane0, blkB (fun r => View.ld (iblk m c 0 t) (rq 0 r)) (fun r => View.ld (iblk m c 1 t) (rb0 (grid0.coords t) h r))
          (fun r => View.ld (iblk m c 2 t) (rb0 (grid0.coords t) h r)) (fun r => View.ld (iblk m c 3 t) (rt0 (grid0.coords t) h r))
          (fun r => View.ld (iblk m c 3 t) (rt1 (grid0.coords t) h r)) (View.ld (iblk m c 1 t) (rc 0)) (View.ld (iblk m c 2 t) (rc 0))⟩] := by
  rw [outsAt0_B m c t h0 h1]
  unfold out0_B_4
  rw [View.read_writes_eq_canon _ _ _ (fun y => cover0_B_4 c _ _ _ _ _ _ _ _ _ _ _ _ _ _ _ _ _ y)]
  unfold kernelRun0_B
  dsimp only
  sl_unfold_run_names
  simp only [View.readAt_eq_ld, (hs0_0 t).read_unread, (hs0_1 t).read_unread, (hs0_2 t).read_unread, (hs0_3 t).read_unread]
  rfl

end Cert.KernelIdeal.NA

end
-- ==== Proof.NA.Elements.lean ====
/- The kernel's stages read at one element over the extended reals: what a pair of heads stores is, lane by lane, the
   average of Softmax.lean over the band of keys and the context keys, on the 64 lanes of the lane's own head. -/
module

public import proofs.«01_k».proof.Proof.NA.Stages
public import proofs.«01_k».proof.Proof.NA.Softmax

@[expose] public section

noncomputable section

namespace Cert.KernelIdeal.NA

open Cert.KernelIdeal Cert.KernelIdeal.Gen Idealize.ShloMosaic Idealize.ShloMosaic.TcCoe Cert.NA

/-- Lane `d` of head `a` of a pair; stacked row `w` of head `a`. -/
abbrev lane (a : Fin 2) (d : Fin 64) : Fin 128 := ⟨64 * a.val + d.val, by omega⟩

/-- The lane mask is the comparison of the lane with 64. -/
theorem slt_lane (a : Fin 2) (d : Fin 64) {α : Type} (x y : α) :
    Scalar.select (IntOp.cmpi .slt (BitVec.ofNat 32 (lane a d).val) 64#32) x y = if a = 0 then x else y := by
  have : IntOp.cmpi .slt (BitVec.ofNat 32 (lane a d).val) 64#32 = if a = 0 then 1#1 else 0#1 := by
    revert a d; decide +kernel
  rw [this]; unfold Scalar.select; split <;> simp_all

theorem sge_lane (a : Fin 2) (d : Fin 64) {α : Type} (x y : α) :
    Scalar.select (IntOp.cmpi .sge (BitVec.ofNat 32 (lane a d).val) 64#32) x y = if a = 0 then y else x := by
  have : IntOp.cmpi .sge (BitVec.ofNat 32 (lane a d).val) 64#32 = if a = 0 then 0#1 else 1#1 := by
    revert a d; decide +kernel
  rw [this]; unfold Scalar.select; split <;> simp_all

/-- A sum over a pair's lanes of which only head `a`'s count. -/
theorem sum_lanes (a : Fin 2) (f : Fin 128 → EReal) (h : ∀ b d, b ≠ a → f (lane b d) = 0) :
    ∑ x, f x = ∑ d, f (lane a d) := by
  have e : ∑ x, f x = (∑ d : Fin 64, f (lane 0 d)) + ∑ d : Fin 64, f (lane 1 d) := by
    refine (Fin.sum_univ_add (a := 64) (b := 64) f).trans ?_
    congr 1 <;> refine Finset.sum_congr rfl fun d _ => congrArg f (Fin.ext ?_) <;> simp [lane]
  rw [e]
  match a with
  | 0 => rw [Finset.sum_eq_zero (s := Finset.univ) (f := fun d => f (lane 1 d)) fun d _ => h 1 d (by decide), add_zero]
  | 1 => rw [Finset.sum_eq_zero (s := Finset.univ) (f := fun d => f (lane 0 d)) fun d _ => h 0 d (by decide), zero_add]

/-- A stacked row of queries: its own head's lanes, zero on the other's. -/
theorem q2_apply (q : Vec Ideal S1x64x128 .bf16) (a b : Fin 2) (w d : Fin 64) :
    q2 q (ix2 (lane a w) (lane b d)) = if b = a then q (ix3 0 w (lane a d)) else 0 := by
  have e : ∀ r l : Fin 128, q2 q (ix2 r l)
      = if h : r.val < 64 then Scalar.select (IntOp.cmpi .slt (BitVec.ofNat 32 l.val) 64#32) (q (ix3 0 ⟨r.val, h⟩ l)) 0
        else Scalar.select (IntOp.cmpi .sge (BitVec.ofNat 32 l.val) 64#32) (q (ix3 0 ⟨r.val - 64, by omega⟩ l)) 0 := by
    intro r l
    pointwise [q2, k0_pay1, k0_pay2]
  rw [e]
  match a, b with
  | 0, 0 => rw [dif_pos (by simp [lane]), slt_lane, if_pos rfl, if_pos rfl]; congr 2; exact Fin.ext (by simp [lane])
  | 0, 1 => rw [dif_pos (by simp [lane]), slt_lane, if_neg (by decide), if_neg (by decide)]
  | 1, 0 => rw [dif_neg (by simp [lane]), sge_lane, if_pos rfl, if_neg (by decide)]
  | 1, 1 => rw [dif_neg (by simp [lane]), sge_lane, if_neg (by decide), if_pos rfl]; congr 2; exact Fin.ext (by simp [lane])

/-- … so its product with a row of keys is over its own head's lanes. -/
theorem q2_sum (q : Vec Ideal S1x64x128 .bf16) (a : Fin 2) (w : Fin 64) (K : Fin 128 → EReal) :
    ∑ x, q2 q (ix2 (lane a w) x) * K x = ∑ d, q (ix3 0 w (lane a d)) * K (lane a d) := by
  rw [sum_lanes a _ fun b d hb => by rw [q2_apply, if_neg hb, zero_mul]]
  exact Finset.sum_congr rfl fun d _ => by rw [q2_apply, if_pos rfl]

theorem scOf_scAll_apply (q : Fin 4 → FVec Ideal S128x128 .bf16) (kc : Vec Ideal S1x256x128 .bf16) (r : Fin 4) (x : Fin 128) (j : Fin 256) :
    scOf r (scAll q kc) (ix2 x j) = ∑ e, q r (ix2 x e) * kc (ix3 0 j e) := by
  match r with
  | 0 => pointwise [scOf, scAll]
  | 1 => pointwise [scOf, scAll]
  | 2 =>
    pointwise [scOf, scAll]
    refine Finset.sum_congr rfl fun y _ => ?_
    congr 1
    rw [dif_neg (by omega), dif_neg (by omega), dif_pos (by omega)]
    congr 2
    exact Fin.ext (by dsimp only; omega)
  | 3 =>
    pointwise [scOf, scAll]
    refine Finset.sum_congr rfl fun y _ => ?_
    congr 1
    rw [dif_neg (by omega), dif_neg (by omega), dif_neg (by omega)]
    congr 2
    exact Fin.ext (by dsimp only; omega)

theorem ocOf_ocAll_apply (pc : Fin 4 → FVec Ideal S128x256 .f32) (vc : Vec Ideal S1x256x128 .bf16) (r : Fin 4) (x l : Fin 128) :
    ocOf r (ocAll pc vc) (ix2 x l) = ∑ j, pc r (ix2 x j) * vc (ix3 0 j l) := by
  match r with
  | 0 => pointwise [ocOf, ocAll]
  | 1 => pointwise [ocOf, ocAll]
  | 2 =>
    pointwise [ocOf, ocAll]
    refine Finset.sum_congr rfl fun y _ => ?_
    congr 1
    rw [dif_neg (by omega), dif_neg (by omega), dif_pos (by omega)]
    congr 2
    exact Fin.ext (by dsimp only; omega)
  | 3 =>
    pointwise [ocOf, ocAll]
    refine Finset.sum_congr rfl fun y _ => ?_
    congr 1
    rw [dif_neg (by omega), dif_neg (by omega), dif_neg (by omega)]
    congr 2
    exact Fin.ext (by dsimp only; omega)

theorem swOf_apply (q : FVec Ideal S128x128 .bf16) (kw : Vec Ideal S1x512x128 .bf16) (b0 b1 : Vec Ideal S1x1x1x64x512 .f32)
    (a : Fin 2) (w : Fin 64) (k : Fin 512) :
    swOf q kw b0 b1 (ix2 (lane a w) k)
      = (∑ x, q (ix2 (lane a w) x) * kw (ix3 0 k x)) + (if a = 0 then b0 else b1) (ix5 0 0 0 w k) := by
  have e : ∀ r : Fin 128, swOf q kw b0 b1 (ix2 r k) = (∑ x, q (ix2 r x) * kw (ix3 0 k x)) +
      if h : r.val < 64 then b0 (ix5 0 0 0 ⟨r.val, h⟩ k) else b1 (ix5 0 0 0 ⟨r.val - 64, by omega⟩ k) := by
    intro r
    pointwise [swOf]
  rw [e]
  congr 1
  match a with
  | 0 => rw [dif_pos (by simp [lane]), if_pos rfl]; congr 2; exact Fin.ext (by simp [lane])
  | 1 => rw [dif_neg (by simp [lane]), if_neg (by decide)]; congr 2; exact Fin.ext (by simp [lane])

/-- −∞, as the maxima begin. -/
theorem neg_inf_word : Ideal.ofBits .f32 0xFF800000#32 = ⊥ := by
  simp [Ideal.ofBits, Ideal.ieee]

theorem fold_max_bot {ι : Type} [Fintype ι] (f : ι → EReal) :
    Finset.univ.fold max ⊥ f = Finset.univ.sup f := rfl

section Row
variable (sw : FVec Ideal S128x512 .f32) (sc : FVec Ideal S128x256 .f32) (x : Fin 128)

theorem mxOf_apply : mxOf sw sc (ix2 x 0) = peak (fun k => sw (ix2 x k)) (fun j => sc (ix2 x j)) := by
  have e : mxOf sw sc (ix2 x 0) = max (Finset.univ.fold max (Ideal.ofBits .f32 0xFF800000#32) fun k => sw (ix2 x k))
      (Finset.univ.fold max (Ideal.ofBits .f32 0xFF800000#32) fun j => sc (ix2 x j)) := by
    pointwise [mxOf]
  rw [e, neg_inf_word, fold_max_bot, fold_max_bot]
  rfl

theorem pwOf_apply (k : Fin 512) :
    pwOf sw sc (ix2 x k) = Ideal.exp (sw (ix2 x k) - peak (fun k => sw (ix2 x k)) (fun j => sc (ix2 x j))) := by
  rw [← mxOf_apply]
  pointwise [pwOf]

theorem pcOf_apply (j : Fin 256) :
    pcOf sw sc (ix2 x j) = Ideal.exp (sc (ix2 x j) - peak (fun k => sw (ix2 x k)) (fun j => sc (ix2 x j))) := by
  rw [← mxOf_apply]
  pointwise [pcOf]

theorem denOf_apply : denOf sw sc (ix2 x 0) = mass (fun k => sw (ix2 x k)) (fun j => sc (ix2 x j)) := by
  unfold mass
  rw [← mxOf_apply]
  pointwise [denOf, pwOf, pcOf]

end Row

theorem o2Of_apply (pw : FVec Ideal S128x512 .f32) (vw : Vec Ideal S1x512x128 .bf16) (oc : FVec Ideal S128x128 .f32)
    (den : FVec Ideal S128x1 .f32) (x l : Fin 128) :
    o2Of pw vw oc den (ix2 x l) = Ideal.div ((∑ k, pw (ix2 x k) * vw (ix3 0 k l)) + oc (ix2 x l)) (den (ix2 x 0)) := by
  pointwise [o2Of]

theorem unstack_apply (o : FVec Ideal S128x128 .f32) (a : Fin 2) (w d : Fin 64) :
    unstack o (ix2 w (lane a d)) = o (ix2 (lane a w) (lane a d)) := by
  have e : ∀ l : Fin 128, unstack o (ix2 w l)
      = Scalar.select (IntOp.cmpi .slt (BitVec.ofNat 32 l.val) 64#32) (o (ix2 ⟨w.val, by omega⟩ l)) (o (ix2 ⟨64 + w.val, by omega⟩ l)) := by
    intro l
    pointwise [unstack, k0_pay1]
  rw [e, slt_lane]
  match a with
  | 0 => rw [if_pos rfl]; congr 2; exact Fin.ext (by simp [lane])
  | 1 => rw [if_neg (by decide)]; congr 2

section B
variable (q : Fin 4 → Vec Ideal S1x64x128 .bf16) (kw vw : Fin 4 → Vec Ideal S1x512x128 .bf16)
  (b0 b1 : Fin 4 → Vec Ideal S1x1x1x64x512 .f32) (kc vc : Vec Ideal S1x256x128 .bf16)

theorem swB_apply (r : Fin 4) (a : Fin 2) (w : Fin 64) (k : Fin 512) :
    swB q kw b0 b1 r (ix2 (lane a w) k) = (∑ d, q r (ix3 0 w (lane a d)) * kw r (ix3 0 k (lane a d)))
      + (if a = 0 then b0 r else b1 r) (ix5 0 0 0 w k) := by
  unfold swB
  rw [swOf_apply, q2_sum]

theorem scB_apply (r : Fin 4) (a : Fin 2) (w : Fin 64) (j : Fin 256) :
    scB q kc r (ix2 (lane a w) j) = ∑ d, q r (ix3 0 w (lane a d)) * kc (ix3 0 j (lane a d)) := by
  unfold scB
  rw [scOf_scAll_apply, q2_sum]

/-- Column `w` of row `r` of the tile. -/
abbrev tok (r : Fin 4) (w : Fin 64) : Fin 256 := ⟨64 * r.val + w.val, by omega⟩

/-- WHAT A PAIR STORES AT A LATENT TILE, at column `w` of row `r`, lane `d` of head `a`. -/
theorem blkB_apply (r : Fin 4) (a : Fin 2) (w d : Fin 64) :
    blkB q kw vw b0 b1 kc vc (ix3 0 (tok r w) (lane a d))
      = lateAvg (fun k : Fin 512 => (∑ d, q r (ix3 0 w (lane a d)) * kw r (ix3 0 k (lane a d))) + (if a = 0 then b0 r else b1 r) (ix5 0 0 0 w k))
          (fun j : Fin 256 => ∑ d, q r (ix3 0 w (lane a d)) * kc (ix3 0 j (lane a d)))
          (fun k => vw r (ix3 0 k (lane a d))) (fun j => vc (ix3 0 j (lane a d))) := by
  have e : ∀ (n : Fin 256) (l : Fin 128), blkB q kw vw b0 b1 kc vc (ix3 0 n l)
      = if h : n.val < 64 then unstack (oB q kw vw b0 b1 kc vc 0) (ix2 ⟨n.val, h⟩ l)
        else if h : n.val - 64 < 64 then unstack (oB q kw vw b0 b1 kc vc 1) (ix2 ⟨n.val - 64, h⟩ l)
        else if h : n.val - 64 - 64 < 64 then unstack (oB q kw vw b0 b1 kc vc 2) (ix2 ⟨n.val - 64 - 64, h⟩ l)
        else unstack (oB q kw vw b0 b1 kc vc 3) (ix2 ⟨n.val - 64 - 64 - 64, by omega⟩ l) := by
    intro n l
    pointwise [blkB]
  have e' : blkB q kw vw b0 b1 kc vc (ix3 0 (tok r w) (lane a d)) = unstack (oB q kw vw b0 b1 kc vc r) (ix2 w (lane a d)) := by
    rw [e]
    match r with
    | 0 => rw [dif_pos (by simp)]; congr 2; exact Fin.ext (by simp)
    | 1 => rw [dif_neg (by simp), dif_pos (by simp)]; congr 2; exact Fin.ext (by simp)
    | 2 => rw [dif_neg (by simp; omega), dif_neg (by simp; omega), dif_pos (by simp; omega)]; congr 2; exact Fin.ext (by simp; omega)
    | 3 => rw [dif_neg (by simp; omega), dif_neg (by simp; omega), dif_neg (by simp; omega)]; congr 2; exact Fin.ext (by simp; omega)
  rw [e', unstack_apply]
  unfold oB
  rw [o2Of_apply, ocOf_ocAll_apply, denOf_apply]
  simp only [pwOf_apply, pcOf_apply, swB_apply, scB_apply]
  rfl

end B

section A
variable (q kc vc : Vec Ideal S1x256x128 .bf16)

/-- Stacked row `n` of head `a`. -/
abbrev srow (a : Fin 2) (n : Fin 256) : Fin 512 := ⟨256 * a.val + n.val, by omega⟩

theorem q2A_apply (a b : Fin 2) (n : Fin 256) (d : Fin 64) :
    q2A q (ix2 (srow a n) (lane b d)) = if b = a then q (ix3 0 n (lane a d)) else 0 := by
  have e : ∀ (r : Fin 512) (l : Fin 128), q2A q (ix2 r l)
      = if h : r.val < 256 then Scalar.select (IntOp.cmpi .slt (BitVec.ofNat 32 l.val) 64#32) (q (ix3 0 ⟨r.val, h⟩ l)) 0
        else Scalar.select (IntOp.cmpi .sge (BitVec.ofNat 32 l.val) 64#32) (q (ix3 0 ⟨r.val - 256, by omega⟩ l)) 0 := by
    intro r l
    pointwise [q2A, k0_pay1, k0_pay2]
  rw [e]
  match a, b with
  | 0, 0 => rw [dif_pos (by simp), slt_lane, if_pos rfl, if_pos rfl]; congr 2; exact Fin.ext (by simp)
  | 0, 1 => rw [dif_pos (by simp), slt_lane, if_neg (by decide), if_neg (by decide)]
  | 1, 0 => rw [dif_neg (by simp), sge_lane, if_pos rfl, if_neg (by decide)]
  | 1, 1 => rw [dif_neg (by simp), sge_lane, if_neg (by decide), if_pos rfl]; congr 2; exact Fin.ext (by simp)

theorem q2A_sum (a : Fin 2) (n : Fin 256) (K : Fin 128 → EReal) :
    ∑ x, q2A q (ix2 (srow a n) x) * K x = ∑ d, q (ix3 0 n (lane a d)) * K (lane a d) := by
  rw [sum_lanes a _ fun b d hb => by rw [q2A_apply, if_neg hb, zero_mul]]
  exact Finset.sum_congr rfl fun d _ => by rw [q2A_apply, if_pos rfl]

theorem scA_apply (a : Fin 2) (n j : Fin 256) :
    scA q kc (ix2 (srow a n) j) = ∑ d, q (ix3 0 n (lane a d)) * kc (ix3 0 j (lane a d)) := by
  rw [← q2A_sum q a n fun x => kc (ix3 0 j x)]
  have e : ∀ r : Fin 512, scA q kc (ix2 r j) = ∑ x, q2A q (ix2 r x) * kc (ix3 0 j x) := by
    intro r
    pointwise [scA]
  exact e _

/-- WHAT A PAIR STORES AT THE CONTEXT TILE, at token `n`, lane `d` of head `a`: the average over the context keys alone. -/
theorem blkA_apply (a : Fin 2) (n : Fin 256) (d : Fin 64) :
    blkA q kc vc (ix3 0 n (lane a d))
      = lateAvg (fun k : Fin 0 => (0 : EReal)) (fun j : Fin 256 => ∑ d, q (ix3 0 n (lane a d)) * kc (ix3 0 j (lane a d)))
          (fun k => 0) (fun j => vc (ix3 0 j (lane a d))) := by
  have e : ∀ l : Fin 128, blkA q kc vc (ix3 0 n l)
      = Scalar.select (IntOp.cmpi .slt (BitVec.ofNat 32 l.val) 64#32) (oA q kc vc (ix2 ⟨n.val, by omega⟩ l))
          (oA q kc vc (ix2 ⟨256 + n.val, by omega⟩ l)) := by
    intro l
    pointwise [blkA, k0_pay1]
  have e' : blkA q kc vc (ix3 0 n (lane a d)) = oA q kc vc (ix2 (srow a n) (lane a d)) := by
    rw [e, slt_lane]
    match a with
    | 0 => rw [if_pos rfl]; congr 2; exact Fin.ext (by simp)
    | 1 => rw [if_neg (by decide)]; congr 2
  have p : ∀ (r : Fin 512) (j : Fin 256), pA q kc (ix2 r j)
      = Ideal.exp (scA q kc (ix2 r j) - Finset.univ.fold max (Ideal.ofBits .f32 0xFF800000#32) fun j => scA q kc (ix2 r j)) := by
    intro r j
    pointwise [pA]
  have o : ∀ (r : Fin 512) (l : Fin 128), oA q kc vc (ix2 r l)
      = Ideal.div (∑ j, pA q kc (ix2 r j) * vc (ix3 0 j l)) (∑ j, pA q kc (ix2 r j)) := by
    intro r l
    pointwise [oA]
  have m : ∀ f : Fin 256 → EReal, peak (fun k : Fin 0 => (0 : EReal)) f = Finset.univ.sup f := by
    intro f
    unfold peak
    rw [Finset.univ_eq_empty, Finset.sup_empty]
    exact max_eq_right bot_le
  rw [e', o]
  simp only [p, neg_inf_word, fold_max_bot, scA_apply]
  unfold lateAvg mass
  rw [m, Finset.univ_eq_empty (α := Fin 0), Finset.sum_empty, Finset.sum_empty, zero_add, zero_add]

end A

end Cert.KernelIdeal.NA

end
-- ==== Proof.NA.Table.lean ====
/- The bias table the host prepares, read at an index.

   Each query column sees a window of 16 key columns; the table holds the relative bias there and minus infinity on the
   other columns of the row. The host builds it by skewing: the 31 biases of a row are padded to a period of 128, the
   period is repeated, and reading the repetition 127 at a time shifts each row by one. -/
module

public import proofs.«01_k».proof.Proof.Gen.KernelIdeal.Value
public import Idealize.ShloMosaic.Lib.Pointwise

@[expose] public section

noncomputable section

namespace Cert.KernelIdeal.NA

open Cert.KernelIdeal Cert.KernelIdeal.Gen Idealize.ShloMosaic Idealize.ShloMosaic.TcCoe Idealize.SL.Sem

section Stages

variable {F : FTy → Type} [FloatOps F]

/-- The biases padded to a period. -/
def padded (x : Vec F S4x8x15x31 .f32) : Vec F S4x8x15x128 .f32 :=
  pad S4x8x15x128 ![0, 0, 0, 48] ![0, 0, 0, 49] ![0, 0, 0, 0] x (sitofp .f32 (constantI S_ 32 0#32))
    pads_S4x8x15x31_S4x8x15x128_000_000_000_48490 h_S_

/-- The period repeated 64 times, as one row. -/
def tiled (x : Vec F S4x8x15x128 .f32) : Vec F S4x8x15x8192 .f32 :=
  shapeCast S4x8x15x8192
    (broadcastInDim S1x4x1x8x1x15x64x128 ![0, 1, 2, 3, 4, 5, 6, 7] bcast_S1x4x1x8x1x15x1x128_S1x4x1x8x1x15x64x128_0_1_2_3_4_5_6_7
      (shapeCast S1x4x1x8x1x15x1x128 x shapeCasts_S4x8x15x128_S1x4x1x8x1x15x1x128))
    shapeCasts_S1x4x1x8x1x15x64x128_S4x8x15x8192

/-- The repetition read 127 at a time, from column 63. -/
def skewed (x : Vec F S4x8x15x8192 .f32) : Vec F S4x8x15x64x64 .f32 :=
  extractStridedSlice S4x8x15x64x64 ![0, 0, 0, 0, 63]
    (shapeCast S4x8x15x64x127 (extractStridedSlice S4x8x15x8128 ![0, 0, 0, 0] x slices_S4x8x15x8192_S4x8x15x8128_0_0_0_0)
      shapeCasts_S4x8x15x8128_S4x8x15x64x127)
    slices_S4x8x15x64x127_S4x8x15x64x64_0_0_0_0_63

/-- Minus infinity outside the window; then the query column before the row offset. -/
def masked (x : Vec F S4x8x15x64x64 .f32) : Vec F S4x8x64x15x64 .f32 :=
  transpose S4x8x64x15x64 [0, 1, 3, 2, 4]
    (select (broadcastInDim S4x8x15x64x64 ![3, 4] bcast_S64x64_S4x8x15x64x64_3_4 (fun i => lit0 (S64x64.rowMajor i))) x
      (broadcastInDim S4x8x15x64x64 ![] bcast_S_S4x8x15x64x64 (constant S_ .f32 0xFF800000#32)))
    transposes_S4x8x15x64x64_S4x8x64x15x64_0_1_3_2_4

/-- The eight row offsets from `c` on. -/
def eightFrom (c : Nat) (h : S4x8x64x15x64.Slices ![0, 0, 0, c, 0] S4x8x64x8x64) (x : Vec F S4x8x64x15x64 .f32) :
    Vec F S4x8x1x64x8x64 .f32 :=
  broadcastInDim S4x8x1x64x8x64 ![0, 1, 3, 4, 5] bcast_S4x8x64x8x64_S4x8x1x64x8x64_0_1_3_4_5
    (extractStridedSlice S4x8x64x8x64 ![0, 0, 0, c, 0] x h)

/-- The eight classes of rows, one after the other. -/
def classes (x : Vec F S4x8x64x15x64 .f32) : Vec F S4x8x8x64x512 .f32 :=
  shapeCast S4x8x8x64x512
    (concatenate S4x8x8x64x8x64 2
      [⟨S4x8x1x64x8x64, eightFrom 0 slices_S4x8x64x15x64_S4x8x64x8x64_0_0_0_0_0 x⟩,
       ⟨S4x8x1x64x8x64, eightFrom 1 slices_S4x8x64x15x64_S4x8x64x8x64_0_0_0_1_0 x⟩,
       ⟨S4x8x1x64x8x64, eightFrom 2 slices_S4x8x64x15x64_S4x8x64x8x64_0_0_0_2_0 x⟩,
       ⟨S4x8x1x64x8x64, eightFrom 3 slices_S4x8x64x15x64_S4x8x64x8x64_0_0_0_3_0 x⟩,
       ⟨S4x8x1x64x8x64, eightFrom 4 slices_S4x8x64x15x64_S4x8x64x8x64_0_0_0_4_0 x⟩,
       ⟨S4x8x1x64x8x64, eightFrom 5 slices_S4x8x64x15x64_S4x8x64x8x64_0_0_0_5_0 x⟩,
       ⟨S4x8x1x64x8x64, eightFrom 6 slices_S4x8x64x15x64_S4x8x64x8x64_0_0_0_6_0 x⟩,
       ⟨S4x8x1x64x8x64, eightFrom 7 slices_S4x8x64x15x64_S4x8x64x8x64_0_0_0_7_0 x⟩]
      concatenates_S4x8x1x64x8x64_S4x8x1x64x8x64_S4x8x1x64x8x64_S4x8x1x64x8x64_S4x8x1x64x8x64_S4x8x1x64x8x64_S4x8x1x64x8x64_S4x8x1x64x8x64_S4x8x8x64x8x64_d2)
    shapeCasts_S4x8x8x64x8x64_S4x8x8x64x512

variable (W : Idealize.ShloMosaic.Valuation τ sig (Elt F))

theorem seg0_lit : StableHlo.after hostOps0 W main_c = (fun i => lit0 (S64x64.rowMajor i)) := by
  after_results_simp
  rfl

theorem seg0_zero : StableHlo.after hostOps0 W main_c_0 = constantI S_ 32 0#32 := by
  after_results_simp

theorem seg0_arg : StableHlo.after hostOps0 W main_arg3 = W main_arg3 := by
  after_results_simp

theorem seg1_pad (h : W main_c_0 = constantI S_ 32 0#32) : StableHlo.after hostOps0_1 W main_v0 = padded (W main_arg3) := by
  after_results_simp
  rw [padded, ← h]
  rfl

theorem seg1_lit : StableHlo.after hostOps0_1 W main_c = W main_c := by
  after_results_simp

theorem seg2_skew : StableHlo.after hostOps0_2 W main_v6 = skewed (tiled (W main_v0)) := by
  after_results_simp
  rfl

theorem seg2_inf : StableHlo.after hostOps0_2 W main_cst = constant S_ .f32 0xFF800000#32 := by
  after_results_simp

theorem seg2_lit : StableHlo.after hostOps0_2 W main_c = W main_c := by
  after_results_simp

theorem seg3_mask : StableHlo.after hostOps0_3 W main_v7
    = select (broadcastInDim S4x8x15x64x64 ![3, 4] bcast_S64x64_S4x8x15x64x64_3_4 (W main_c)) (W main_v6)
      (broadcastInDim S4x8x15x64x64 ![] bcast_S_S4x8x15x64x64 (W main_cst)) := by
  after_results_simp
  rfl

theorem seg4_classes : StableHlo.after hostOps0_4 W main_v26
    = classes (transpose S4x8x64x15x64 [0, 1, 3, 2, 4] (W main_v7) transposes_S4x8x15x64x64_S4x8x64x15x64_0_1_3_2_4) := by
  after_results_simp
  rfl

variable (m : (ℓ : Loc nD τ sig) → Buf (Elt F) ℓ)

/-- What the host leaves in the bias table. -/
theorem table_eq (c : Dev nD) :
    V m c main_v26 = classes (masked (skewed (tiled (padded (m (c, main_arg3)))))) := by
  show StableHlo.after (hostOps0 ++ (hostOps0_1 ++ (hostOps0_2 ++ (hostOps0_3 ++ hostOps0_4)))) _ _ = _
  rw [StableHlo.after_append, StableHlo.after_append, StableHlo.after_append, StableHlo.after_append, seg4_classes, seg3_mask,
    seg2_lit, seg1_lit, seg0_lit, seg2_inf, seg2_skew, seg1_pad _ (seg0_zero _), seg0_arg]
  rfl

end Stages

/-- The window: key column `k` is one of the 16 that query column `w` sees. -/
def inWin (w k : Fin 64) : Prop := min (w.val - 8) 48 ≤ k.val ∧ k.val < min (w.val - 8) 48 + 16

instance (w k : Fin 64) : Decidable (inWin w k) := inferInstanceAs (Decidable (_ ∧ _))

set_option maxRecDepth 100000 in
theorem lit_apply : ∀ w k : Fin 64, lit0 (S64x64.rowMajor (ix2 w k)) = if inWin w k then 1#1 else 0#1 := by
  decide +kernel

/-- A key of the band: row `i` of the eight, column `c`. -/
def key (i : Fin 8) (c : Fin 64) : Fin 512 := ⟨64 * i.val + c.val, by omega⟩

/-- The whole table, from the biases. -/
def table (x : Vec Ideal S4x8x15x31 .f32) : Vec Ideal S4x8x8x64x512 .f32 := classes (masked (skewed (tiled (padded x))))

theorem classes_apply (x : Vec Ideal S4x8x64x15x64 .f32) (l : Fin 4) (h r : Fin 8) (w : Fin 64) (i : Fin 8) (c : Fin 64) :
    classes x (ix5 l h r w (key i c)) = x (ix5 l h w ⟨r.val + i.val, by omega⟩ c) := by
  have h1 : (key i c).val / 64 = i.val := by simp only [key]; omega
  have h2 : (key i c).val % 64 = c.val := by simp only [key]; omega
  pointwise [classes, eightFrom]
  have e : ∀ (a b : Fin 15) (a' b' : Fin 64), a.val = b.val → a'.val = b'.val → x (ix5 l h w a a') = x (ix5 l h w b b') :=
    fun a b a' b' hab hab' => by rw [Fin.ext hab, Fin.ext hab']
  split_ifs <;> exact e _ _ _ _ (by dsimp only; omega) (by dsimp only; omega)

theorem skew_apply (x : Vec Ideal S4x8x15x31 .f32) (l : Fin 4) (h : Fin 8) (r : Fin 15) (w c : Fin 64) (hw : inWin w c) :
    skewed (tiled (padded x)) (ix5 l h r w c) = x (ix4 l h r ⟨c.val + 15 - w.val, by unfold inWin at hw; omega⟩) := by
  pointwise [skewed, tiled, padded]
  unfold inWin at hw
  have e : (w.val * 127 + (63 + c.val)) % 128 = 63 + c.val - w.val := by
    rw [show w.val * 127 + (63 + c.val) = 128 * w.val + (63 + c.val - w.val) by omega, Nat.mul_add_mod]
    exact Nat.mod_eq_of_lt (by omega)
  rw [dif_pos ⟨by omega, by omega⟩]
  congr 2
  exact Fin.ext (by dsimp only; omega)

theorem table_in (x : Vec Ideal S4x8x15x31 .f32) (l : Fin 4) (h r : Fin 8) (w : Fin 64) (i : Fin 8) (c : Fin 64)
    (hw : inWin w c) : table x (ix5 l h r w (key i c))
      = x (ix4 l h ⟨r.val + i.val, by omega⟩ ⟨c.val + 15 - w.val, by unfold inWin at hw; omega⟩) := by
  rw [table, classes_apply]
  pointwise [masked]
  rw [lit_apply, if_pos hw, skew_apply x l h _ w c hw]
  rfl

theorem table_out (x : Vec Ideal S4x8x15x31 .f32) (l : Fin 4) (h r : Fin 8) (w : Fin 64) (i : Fin 8) (c : Fin 64)
    (hw : ¬ inWin w c) : table x (ix5 l h r w (key i c)) = ⊥ := by
  rw [table, classes_apply]
  pointwise [masked]
  rw [lit_apply, if_neg hw]
  show Ideal.ofBits FTy.f32 4286578688#32 = ⊥
  simp [Ideal.ofBits, Ideal.ieee]

end Cert.KernelIdeal.NA
-- ==== Proof.NA.Blocks.lean ====
/- The blocks of a grid point, element by element, and where its loads start.

   A point is a batch element `pb`, four heads `ph` (256 lanes) and a tile of 256 tokens `ps`. Its queries are that tile,
   its keys and values all tokens; row `r` of a latent tile loads a band of eight rows of keys, from row `bandRow` on, and
   the bias of the class that says where in the band the row lies. -/
module

public import proofs.«01_k».proof.Proof.NA.Elements
public import proofs.«01_k».proof.Proof.NA.Table

@[expose] public section

noncomputable section

namespace Cert.KernelIdeal.NA

open Cert.KernelIdeal Cert.KernelIdeal.Gen Idealize.ShloMosaic Idealize.ShloMosaic.TcCoe Idealize.SL.Sem

/-- The batch element, the four heads and the tile of a point. -/
def pb (i : grid0.Coords) : Fin 8 := i 0
def ph (i : grid0.Coords) : Fin 2 := i 1
def ps (i : grid0.Coords) : Fin 17 := i 2

/-- Token `n` of tile `s`; lane `l` of the heads `g`. -/
def tile (s : Fin 17) (n : Fin 256) : Fin 4352 := ⟨256 * s.val + n.val, by omega⟩
def wide (g : Fin 2) (l : Fin 256) : Fin 512 := ⟨256 * g.val + l.val, by omega⟩

/-- The first row of the band of row `R`, and the class of the row. -/
def bandRow (R : Fin 64) : Nat := min (R.val - 4) 56
def cls (R : Fin 64) : Fin 8 := ⟨bandRow R + 7 - R.val, by unfold bandRow; omega⟩

/-- Row `r` of a latent tile. -/
def rowOf (s : Fin 17) (r : Fin 4) : Fin 64 := ⟨((s.val - 1) * 4 + r.val), by omega⟩

section Blocks

variable {F : FTy → Type} [FloatOps F]
variable (m : (ℓ : Loc nD τ sig) → Buf (Elt F) ℓ)

theorem ld_at {Val : EltTy → Type} {S : Shape} {e : EltTy} (X : S.Idx → Val e) (off size : Fin S.rank → Nat)
    (inb : ∀ a, off a + size a ≤ S.size a) (x : (Rect.unit off size inb).shape.Idx) (k : S.Idx)
    (hk : ∀ a, (k a).val = off a + (x a).val) : View.ld X (Rect.unit off size inb) x = X k := by
  rw [View.ld_unit]
  exact extractStridedSlice_apply off X _ x k hk

theorem map0 (i : grid0.Coords) : cc0_transform_0 i = ![(pb i).val, (ps i).val, (ph i).val] := by
  have h0 := (pb i).isLt; have h1 := (ph i).isLt; have h2 := (ps i).isLt
  unfold pb at *; unfold ph at *; unfold ps at *
  simp only [cc0_transform_0, BitVec.toNat_ofNat]
  rw [Nat.mod_eq_of_lt (by omega), Nat.mod_eq_of_lt (by omega), Nat.mod_eq_of_lt (by omega)]

theorem map1 (i : grid0.Coords) : cc0_transform_1 i = ![(pb i).val, 0, (ph i).val] := by
  have h0 := (pb i).isLt; have h1 := (ph i).isLt
  unfold pb at *; unfold ph at *
  simp only [cc0_transform_1, BitVec.toNat_ofNat]
  rw [Nat.mod_eq_of_lt (a := (i 0).val) (by omega), Nat.mod_eq_of_lt (a := (i 1).val) (by omega)]

theorem map3 (i : grid0.Coords) : cc0_transform_3 i = ![0, (ph i).val, 0, 0, 0] := by
  have h1 := (ph i).isLt
  unfold ph at *
  simp only [cc0_transform_3, BitVec.toNat_ofNat]
  rw [Nat.mod_eq_of_lt (a := (i 1).val) (by omega)]

theorem map4 (i : grid0.Coords) : cc0_transform_4 i = ![(pb i).val, (ps i).val, (ph i).val] := map0 i

/-- An element of the output's block, in the array. -/
theorem emb4 (t : Fin cfg0.N) (n l : Fin 256) :
    ((cfg0.win 4).blk t).view.emb (ix3 0 n l : S1x256x256.Idx)
      = ix3 (pb (grid0.coords t)) (tile (ps (grid0.coords t)) n) (wide (ph (grid0.coords t)) l) := by
  funext a
  refine Fin.ext (((cfg0.win 4).rect_emb_val t _ a).trans ?_)
  show cc0_transform_4 (grid0.coords t) a * S1x256x256.size a + _ = _
  rw [map4]
  fin_cases a
  · show (pb (grid0.coords t)).val * 1 + 0 = (pb (grid0.coords t)).val; omega
  · show (ps (grid0.coords t)).val * 256 + n.val = 256 * (ps (grid0.coords t)).val + n.val; omega
  · show (ph (grid0.coords t)).val * 256 + l.val = 256 * (ph (grid0.coords t)).val + l.val; omega

theorem blk0_apply (c : Dev nD) (t : Fin cfg0.N) (n l : Fin 256) :
    iblk m c 0 t (ix3 0 n l : S1x256x256.Idx)
      = m ((c : Thread nD τ).loc main_arg0) (ix3 (pb (grid0.coords t)) (tile (ps (grid0.coords t)) n) (wide (ph (grid0.coords t)) l)) := by
  rw [← V_main_arg0 m c]
  refine congrArg (V m c main_arg0) (funext fun a => ?_)
  refine Fin.ext (((cfg0.win 0).rect_emb_val t _ a).trans ?_)
  show cc0_transform_0 (grid0.coords t) a * S1x256x256.size a + _ = _
  rw [map0]
  fin_cases a
  · show (pb (grid0.coords t)).val * 1 + 0 = (pb (grid0.coords t)).val; omega
  · show (ps (grid0.coords t)).val * 256 + n.val = 256 * (ps (grid0.coords t)).val + n.val; omega
  · show (ph (grid0.coords t)).val * 256 + l.val = 256 * (ph (grid0.coords t)).val + l.val; omega

theorem blk1_apply (c : Dev nD) (t : Fin cfg0.N) (n : Fin 4352) (l : Fin 256) :
    iblk m c 1 t (ix3 0 n l : S1x4352x256.Idx)
      = m ((c : Thread nD τ).loc main_arg1) (ix3 (pb (grid0.coords t)) n (wide (ph (grid0.coords t)) l)) := by
  rw [← V_main_arg1 m c]
  refine congrArg (V m c main_arg1) (funext fun a => ?_)
  refine Fin.ext (((cfg0.win 1).rect_emb_val t _ a).trans ?_)
  show cc0_transform_1 (grid0.coords t) a * S1x4352x256.size a + _ = _
  rw [map1]
  fin_cases a
  · show (pb (grid0.coords t)).val * 1 + 0 = (pb (grid0.coords t)).val; omega
  · show 0 * 4352 + n.val = n.val; omega
  · show (ph (grid0.coords t)).val * 256 + l.val = 256 * (ph (grid0.coords t)).val + l.val; omega

theorem blk2_apply (c : Dev nD) (t : Fin cfg0.N) (n : Fin 4352) (l : Fin 256) :
    iblk m c 2 t (ix3 0 n l : S1x4352x256.Idx)
      = m ((c : Thread nD τ).loc main_arg2) (ix3 (pb (grid0.coords t)) n (wide (ph (grid0.coords t)) l)) := by
  rw [← V_main_arg2 m c]
  refine congrArg (V m c main_arg2) (funext fun a => ?_)
  refine Fin.ext (((cfg0.win 2).rect_emb_val t _ a).trans ?_)
  show cc0_transform_2 (grid0.coords t) a * S1x4352x256.size a + _ = _
  rw [show cc0_transform_2 = cc0_transform_1 from rfl, map1]
  fin_cases a
  · show (pb (grid0.coords t)).val * 1 + 0 = (pb (grid0.coords t)).val; omega
  · show 0 * 4352 + n.val = n.val; omega
  · show (ph (grid0.coords t)).val * 256 + l.val = 256 * (ph (grid0.coords t)).val + l.val; omega

/-- Head `g` of the point's four. -/
def headOf (g : Fin 2) (h : Fin 4) : Fin 8 := ⟨4 * g.val + h.val, by omega⟩

theorem blk3_apply (c : Dev nD) (t : Fin cfg0.N) (h : Fin 4) (k : Fin 8) (w : Fin 64) (e : Fin 512) :
    iblk m c 3 t (ix5 0 h k w e : S1x4x8x64x512.Idx)
      = V m c main_v26 (ix5 0 (headOf (ph (grid0.coords t)) h) k w e) := by
  refine congrArg (V m c main_v26) (funext fun a => ?_)
  refine Fin.ext (((cfg0.win 3).rect_emb_val t _ a).trans ?_)
  show cc0_transform_3 (grid0.coords t) a * S1x4x8x64x512.size a + _ = _
  rw [map3]
  fin_cases a
  · rfl
  · show (ph (grid0.coords t)).val * 4 + h.val = 4 * (ph (grid0.coords t)).val + h.val; omega
  · show 0 * 8 + k.val = k.val; omega
  · show 0 * 64 + w.val = w.val; omega
  · show 0 * 512 + e.val = e.val; omega

end Blocks

/-! ## Where the loads start -/

theorem off1_eq (i : grid0.Coords) (h : 1 ≤ (ps i).val) (r : Fin 4) :
    k0_off1 i (BitVec.ofNat 32 r.val) = ![0, 256 + 64 * bandRow (rowOf (ps i) r), 0] := by
  unfold k0_off1; unfold ps at h ⊢
  generalize (i 2 : Fin 17) = s at h ⊢
  revert r s; decide +kernel

theorem off4_eq (i : grid0.Coords) (h : 1 ≤ (ps i).val) (r : Fin 4) :
    k0_off4 i (BitVec.ofNat 32 r.val) = ![0, 256 + 64 * bandRow (rowOf (ps i) r), 128] := by
  unfold k0_off4; unfold ps at h ⊢
  generalize (i 2 : Fin 17) = s at h ⊢
  revert r s; decide +kernel

theorem off2_eq (i : grid0.Coords) (h : 1 ≤ (ps i).val) (r : Fin 4) :
    k0_off2 i (BitVec.ofNat 32 r.val) = ![0, 0, (cls (rowOf (ps i) r)).val, 0, 0] := by
  unfold k0_off2; unfold ps at h ⊢
  generalize (i 2 : Fin 17) = s at h ⊢
  revert r s; decide +kernel

theorem off3_eq (i : grid0.Coords) (h : 1 ≤ (ps i).val) (r : Fin 4) :
    k0_off3 i (BitVec.ofNat 32 r.val) = ![0, 1, (cls (rowOf (ps i) r)).val, 0, 0] := by
  unfold k0_off3; unfold ps at h ⊢
  generalize (i 2 : Fin 17) = s at h ⊢
  revert r s; decide +kernel

theorem off5_eq (i : grid0.Coords) (h : 1 ≤ (ps i).val) (r : Fin 4) :
    k0_off5 i (BitVec.ofNat 32 r.val) = ![0, 2, (cls (rowOf (ps i) r)).val, 0, 0] := by
  unfold k0_off5; unfold ps at h ⊢
  generalize (i 2 : Fin 17) = s at h ⊢
  revert r s; decide +kernel

theorem off6_eq (i : grid0.Coords) (h : 1 ≤ (ps i).val) (r : Fin 4) :
    k0_off6 i (BitVec.ofNat 32 r.val) = ![0, 3, (cls (rowOf (ps i) r)).val, 0, 0] := by
  unfold k0_off6; unfold ps at h ⊢
  generalize (i 2 : Fin 17) = s at h ⊢
  revert r s; decide +kernel

theorem ps_zero (i : grid0.Coords) (h : k0_cond2 i = 1#1) : 1 ≤ (ps i).val := by
  unfold k0_cond2 at h; unfold ps
  generalize (i 2 : Fin 17) = s at h ⊢
  revert s; decide +kernel

end Cert.KernelIdeal.NA
-- ==== Proof.NA.Array.lean ====
/- The kernel's whole output array, element by element.

   An element is a batch element, a token and a lane of a head. A context token attends to the 256 context tokens; a
   latent token, at row `R` and column `w` of the grid, attends to the band of eight rows and to the context tokens. -/
module

public import proofs.«01_k».proof.Proof.NA.Blocks

@[expose] public section

noncomputable section

namespace Cert.KernelIdeal.NA

open Cert.KernelIdeal Cert.KernelIdeal.Gen Idealize.ShloMosaic Idealize.ShloMosaic.TcCoe Idealize.SL.Sem Cert.NA
open Idealize.ShloMosaic.Pipeline (Dat)

/-- Lane `d` of head `H`; context token `n`; the token at row `R`, column `w`; token `e` of the band of row `R`. -/
def hl (H : Fin 8) (d : Fin 64) : Fin 512 := ⟨64 * H.val + d.val, by omega⟩
def ctxTok (n : Fin 256) : Fin 4352 := ⟨n.val, by omega⟩
def latTok (R w : Fin 64) : Fin 4352 := ⟨256 + 64 * R.val + w.val, by omega⟩
def bandTok (R : Fin 64) (e : Fin 512) : Fin 4352 := ⟨256 + 64 * bandRow R + e.val, by unfold bandRow; omega⟩

/-- Head `a` of pair `p` of the four heads `g`. -/
def hd (g p a : Fin 2) : Fin 8 := ⟨4 * g.val + 2 * p.val + a.val, by omega⟩

/-- Lane `l` of pair `p` among the point's 256. -/
def pairLane (p : Fin 2) (l : Fin 128) : Fin 256 := ⟨128 * p.val + l.val, by omega⟩

theorem wide_pairLane (g p a : Fin 2) (d : Fin 64) : wide g (pairLane p (lane a d)) = hl (hd g p a) d :=
  Fin.ext (by simp only [wide, pairLane, lane, hl, hd]; omega)

theorem tile_tok (s : Fin 17) (h : 1 ≤ s.val) (r : Fin 4) (w : Fin 64) : tile s (tok r w) = latTok (rowOf s r) w :=
  Fin.ext (by simp only [tile, tok, latTok, rowOf]; omega)

theorem tile_zero (s : Fin 17) (h : s.val = 0) (n : Fin 256) : tile s n = ctxTok n :=
  Fin.ext (by simp only [ctxTok, tile]; omega)

/-- The point's coordinates, from its number. -/
theorem coord_b (t : Fin cfg0.N) : (pb (grid0.coords t)).val = t.val / 34 := by
  have ht : t.val < 272 := Nat.lt_of_lt_of_eq t.isLt N_0
  have e : (grid0.coords t 0).val = t.val / 34 % 8 := Pipeline.Grid.coords_val t 0 (by decide) rfl
  show (grid0.coords t 0).val = _
  omega
theorem coord_g (t : Fin cfg0.N) : (ph (grid0.coords t)).val = t.val / 17 % 2 := by
  have e : (grid0.coords t 1).val = t.val / 17 % 2 := Pipeline.Grid.coords_val t 1 (by decide) rfl
  exact e
theorem coord_s (t : Fin cfg0.N) : (ps (grid0.coords t)).val = t.val % 17 := by
  have e : (grid0.coords t 2).val = t.val / 1 % 17 := Pipeline.Grid.coords_val t 2 (by decide) rfl
  show (grid0.coords t 2).val = _
  omega

section Values

variable (q k v : Vec Ideal S8x4352x512 .bf16) (T : Vec Ideal S4x8x8x64x512 .f32)

/-- A context token's average. -/
def ctxAt (b : Fin 8) (n : Fin 256) (H : Fin 8) (d : Fin 64) : EReal :=
  lateAvg (fun _ : Fin 0 => (0 : EReal))
    (fun j : Fin 256 => ∑ x, q (ix3 b (ctxTok n) (hl H x)) * k (ix3 b (ctxTok j) (hl H x)))
    (fun _ => 0) (fun j => v (ix3 b (ctxTok j) (hl H d)))

/-- A latent token's average. -/
def latAt (b : Fin 8) (R w : Fin 64) (H : Fin 8) (d : Fin 64) : EReal :=
  lateAvg (fun e : Fin 512 => (∑ x, q (ix3 b (latTok R w) (hl H x)) * k (ix3 b (bandTok R e) (hl H x))) + T (ix5 0 H (cls R) w e))
    (fun j : Fin 256 => ∑ x, q (ix3 b (latTok R w) (hl H x)) * k (ix3 b (ctxTok j) (hl H x)))
    (fun e => v (ix3 b (bandTok R e) (hl H d))) (fun j => v (ix3 b (ctxTok j) (hl H d)))

/-- An element of the output. -/
def elemAt (b : Fin 8) (n : Fin 4352) (l : Fin 512) : EReal :=
  if h : n.val < 256 then ctxAt q k v b ⟨n.val, h⟩ ⟨l.val / 64, by omega⟩ ⟨l.val % 64, by omega⟩
  else latAt q k v T b ⟨(n.val - 256) / 64, by omega⟩ ⟨(n.val - 256) % 64, by omega⟩ ⟨l.val / 64, by omega⟩ ⟨l.val % 64, by omega⟩

/-- The whole output. -/
def whole : S8x4352x512.Idx → EReal := fun y => elemAt q k v T (y 0) (y 1) (y 2)

theorem whole_ctx (b : Fin 8) (n : Fin 256) (H : Fin 8) (d : Fin 64) :
    whole q k v T (ix3 b (ctxTok n) (hl H d)) = ctxAt q k v b n H d := by
  show elemAt q k v T b (ctxTok n) (hl H d) = _
  have h : (ctxTok n).val < 256 := n.isLt
  rw [elemAt, dif_pos h]
  congr 1 <;> refine Fin.ext ?_ <;> simp only [hl, ctxTok] <;> omega

theorem whole_lat (b : Fin 8) (R w : Fin 64) (H : Fin 8) (d : Fin 64) :
    whole q k v T (ix3 b (latTok R w) (hl H d)) = latAt q k v T b R w H d := by
  show elemAt q k v T b (latTok R w) (hl H d) = _
  have h : ¬ (latTok R w).val < 256 := by simp only [latTok]; omega
  rw [elemAt, dif_neg h]
  congr 1 <;> refine Fin.ext ?_ <;> simp only [hl, latTok] <;> omega

end Values

theorem pair_idx (x : S1x256x128.Idx) : ∃ (r : Fin 4) (w : Fin 64) (a : Fin 2) (d : Fin 64), x = ix3 0 (tok r w) (lane a d) := by
  have h1 : (x 1).val < 256 := (x 1).isLt
  have h2 : (x 2).val < 128 := (x 2).isLt
  have h0 : (x 0).val < 1 := (x 0).isLt
  refine ⟨⟨(x 1).val / 64, by omega⟩, ⟨(x 1).val % 64, by omega⟩, ⟨(x 2).val / 64, by omega⟩, ⟨(x 2).val % 64, by omega⟩, ?_⟩
  funext a
  refine Fin.ext ?_
  fin_cases a
  · show (x 0).val = 0; omega
  · show (x 1).val = 64 * ((x 1).val / 64) + (x 1).val % 64; omega
  · show (x 2).val = 64 * ((x 2).val / 64) + (x 2).val % 64; omega

section Loads

/-- The queries, keys and values as launched. -/
abbrev qOf (m : (ℓ : Loc nD τ sig) → Buf (Elt Ideal) ℓ) (c : Dev nD) : Vec Ideal S8x4352x512 .bf16 := m ((c : Thread nD τ).loc main_arg0)
abbrev kOf (m : (ℓ : Loc nD τ sig) → Buf (Elt Ideal) ℓ) (c : Dev nD) : Vec Ideal S8x4352x512 .bf16 := m ((c : Thread nD τ).loc main_arg1)
abbrev vOf (m : (ℓ : Loc nD τ sig) → Buf (Elt Ideal) ℓ) (c : Dev nD) : Vec Ideal S8x4352x512 .bf16 := m ((c : Thread nD τ).loc main_arg2)

variable (m : (ℓ : Loc nD τ sig) → Buf (Elt Ideal) ℓ) (c : Dev nD) (t : Fin cfg0.N)

theorem load_q (h : 1 ≤ (ps (grid0.coords t)).val) (p : Fin 2) (r : Fin 4) (w : Fin 64) (a : Fin 2) (d : Fin 64) :
    View.ld (iblk m c 0 t) (rq p r) (ix3 0 w (lane a d)) = (qOf m c) (ix3 (pb (grid0.coords t)) (latTok (rowOf (ps (grid0.coords t)) r) w) (hl (hd (ph (grid0.coords t)) p a) d)) := by
  rw [← tile_tok _ h, ← wide_pairLane]
  refine Eq.trans ?_ (blk0_apply m c t _ _)
  exact ld_at _ _ _ _ _ _ fun x => by fin_cases x <;> simp [ix3, tok, pairLane]

theorem load_q0 (p : Fin 2) (n : Fin 256) (a : Fin 2) (d : Fin 64) (inb) (hs : (ps (grid0.coords t)).val = 0) :
    View.ld (iblk m c 0 t) (Rect.unit ![0, 0, 128 * p.val] S1x256x128.size inb) (ix3 0 n (lane a d))
      = (qOf m c) (ix3 (pb (grid0.coords t)) (ctxTok n) (hl (hd (ph (grid0.coords t)) p a) d)) := by
  rw [show ctxTok n = tile (ps (grid0.coords t)) n from Fin.ext (by simp only [ctxTok, tile]; omega), ← wide_pairLane]
  refine Eq.trans ?_ (blk0_apply m c t _ _)
  exact ld_at _ _ _ _ _ _ fun x => by fin_cases x <;> simp [ix3, pairLane]

theorem load_kc (p : Fin 2) (j : Fin 256) (a : Fin 2) (d : Fin 64) (inb) :
    View.ld (iblk m c 1 t) (Rect.unit ![0, 0, 128 * p.val] S1x256x128.size inb) (ix3 0 j (lane a d))
      = (kOf m c) (ix3 (pb (grid0.coords t)) (ctxTok j) (hl (hd (ph (grid0.coords t)) p a) d)) := by
  rw [← wide_pairLane]
  refine Eq.trans ?_ (blk1_apply m c t _ _)
  exact ld_at _ _ _ _ _ _ fun x => by fin_cases x <;> simp [ix3, pairLane, ctxTok]

theorem load_vc (p : Fin 2) (j : Fin 256) (a : Fin 2) (d : Fin 64) (inb) :
    View.ld (iblk m c 2 t) (Rect.unit ![0, 0, 128 * p.val] S1x256x128.size inb) (ix3 0 j (lane a d))
      = (vOf m c) (ix3 (pb (grid0.coords t)) (ctxTok j) (hl (hd (ph (grid0.coords t)) p a) d)) := by
  rw [← wide_pairLane]
  refine Eq.trans ?_ (blk2_apply m c t _ _)
  exact ld_at _ _ _ _ _ _ fun x => by fin_cases x <;> simp [ix3, pairLane, ctxTok]

theorem load_kb (off : Fin 3 → Nat) (inb) (p : Fin 2) (r : Fin 4)
    (ho : off = ![0, 256 + 64 * bandRow (rowOf (ps (grid0.coords t)) r), 128 * p.val]) (e : Fin 512) (a : Fin 2) (d : Fin 64) :
    View.ld (iblk m c 1 t) (Rect.unit (s := S1x4352x256) off S1x512x128.size inb) (ix3 0 e (lane a d))
      = (kOf m c) (ix3 (pb (grid0.coords t)) (bandTok (rowOf (ps (grid0.coords t)) r) e) (hl (hd (ph (grid0.coords t)) p a) d)) := by
  subst ho
  rw [← wide_pairLane]
  refine Eq.trans ?_ (blk1_apply m c t _ _)
  exact ld_at _ _ _ _ _ _ fun x => by fin_cases x <;> simp [ix3, pairLane, bandTok]

theorem load_vb (off : Fin 3 → Nat) (inb) (p : Fin 2) (r : Fin 4)
    (ho : off = ![0, 256 + 64 * bandRow (rowOf (ps (grid0.coords t)) r), 128 * p.val]) (e : Fin 512) (a : Fin 2) (d : Fin 64) :
    View.ld (iblk m c 2 t) (Rect.unit (s := S1x4352x256) off S1x512x128.size inb) (ix3 0 e (lane a d))
      = (vOf m c) (ix3 (pb (grid0.coords t)) (bandTok (rowOf (ps (grid0.coords t)) r) e) (hl (hd (ph (grid0.coords t)) p a) d)) := by
  subst ho
  rw [← wide_pairLane]
  refine Eq.trans ?_ (blk2_apply m c t _ _)
  exact ld_at _ _ _ _ _ _ fun x => by fin_cases x <;> simp [ix3, pairLane, bandTok]

theorem load_t (off : Fin 5 → Nat) (inb) (p a : Fin 2) (r : Fin 4)
    (ho : off = ![0, 2 * p.val + a.val, (cls (rowOf (ps (grid0.coords t)) r)).val, 0, 0]) (w : Fin 64) (e : Fin 512) :
    View.ld (iblk m c 3 t) (Rect.unit (s := S1x4x8x64x512) off S1x1x1x64x512.size inb) (ix5 0 0 0 w e)
      = V m c main_v26 (ix5 0 (hd (ph (grid0.coords t)) p a) (cls (rowOf (ps (grid0.coords t)) r)) w e) := by
  subst ho
  rw [show hd (ph (grid0.coords t)) p a = headOf (ph (grid0.coords t)) ⟨2 * p.val + a.val, by omega⟩ from Fin.ext (by simp only [hd, headOf]; omega), ← blk3_apply]
  exact ld_at _ _ _ _ _ _ fun x => by fin_cases x <;> simp [ix5]

/-- An element of one pair at the context tile. -/
theorem pairA (p : Fin 2) (n : Fin 256) (a : Fin 2) (d : Fin 64) (hs : (ps (grid0.coords t)).val = 0) (i0 i1 i2) :
    blkA (View.ld (iblk m c 0 t) (Rect.unit ![0, 0, 128 * p.val] S1x256x128.size i0))
        (View.ld (iblk m c 1 t) (Rect.unit ![0, 0, 128 * p.val] S1x256x128.size i1))
        (View.ld (iblk m c 2 t) (Rect.unit ![0, 0, 128 * p.val] S1x256x128.size i2)) (ix3 0 n (lane a d))
      = ctxAt (qOf m c) (kOf m c) (vOf m c) (pb (grid0.coords t)) n (hd (ph (grid0.coords t)) p a) d := by
  rw [blkA_apply, ctxAt]
  simp only [load_q0 m c t p _ _ _ _ hs, load_kc m c t p, load_vc m c t p]

/-- An element of one pair at a latent tile. -/
theorem pairB (p : Fin 2) (r : Fin 4) (w : Fin 64) (a : Fin 2) (d : Fin 64) (h : 1 ≤ (ps (grid0.coords t)).val)
    (off : Fin 4 → Fin 3 → Nat) (t0 t1 : Fin 4 → Fin 5 → Nat)
    (inb : ∀ r, ∀ x, off r x + S1x512x128.size x ≤ S1x4352x256.size x)
    (in0 : ∀ r, ∀ x, t0 r x + S1x1x1x64x512.size x ≤ S1x4x8x64x512.size x)
    (in1 : ∀ r, ∀ x, t1 r x + S1x1x1x64x512.size x ≤ S1x4x8x64x512.size x)
    (ho : ∀ r, off r = ![0, 256 + 64 * bandRow (rowOf (ps (grid0.coords t)) r), 128 * p.val])
    (h0 : ∀ r, t0 r = ![0, 2 * p.val, (cls (rowOf (ps (grid0.coords t)) r)).val, 0, 0])
    (h1 : ∀ r, t1 r = ![0, 2 * p.val + 1, (cls (rowOf (ps (grid0.coords t)) r)).val, 0, 0]) :
    blkB (fun r => View.ld (iblk m c 0 t) (rq p r))
        (fun r => View.ld (iblk m c 1 t) (Rect.unit (s := S1x4352x256) (off r) S1x512x128.size (inb r)))
        (fun r => View.ld (iblk m c 2 t) (Rect.unit (s := S1x4352x256) (off r) S1x512x128.size (inb r)))
        (fun r => View.ld (iblk m c 3 t) (Rect.unit (s := S1x4x8x64x512) (t0 r) S1x1x1x64x512.size (in0 r)))
        (fun r => View.ld (iblk m c 3 t) (Rect.unit (s := S1x4x8x64x512) (t1 r) S1x1x1x64x512.size (in1 r)))
        (View.ld (iblk m c 1 t) (rc p)) (View.ld (iblk m c 2 t) (rc p)) (ix3 0 (tok r w) (lane a d))
      = latAt (qOf m c) (kOf m c) (vOf m c) (V m c main_v26) (pb (grid0.coords t)) (rowOf (ps (grid0.coords t)) r) w (hd (ph (grid0.coords t)) p a) d := by
  rw [blkB_apply, latAt]
  have ht : ∀ e : Fin 512, (if a = 0 then View.ld (iblk m c 3 t) (Rect.unit (s := S1x4x8x64x512) (t0 r) S1x1x1x64x512.size (in0 r))
      else View.ld (iblk m c 3 t) (Rect.unit (s := S1x4x8x64x512) (t1 r) S1x1x1x64x512.size (in1 r))) (ix5 0 0 0 w e)
      = V m c main_v26 (ix5 0 (hd (ph (grid0.coords t)) p a) (cls (rowOf (ps (grid0.coords t)) r)) w e) := by
    intro e
    match a with
    | 0 => rw [if_pos rfl]; exact load_t m c t _ _ p 0 r (h0 r) w e
    | 1 => rw [if_neg (by decide)]; exact load_t m c t _ _ p 1 r (h1 r) w e
  simp only [load_q m c t h, load_kc m c t p, load_vc m c t p, load_kb m c t _ _ p r (ho r), load_vb m c t _ _ p r (ho r), ht]

/-- WHAT A POINT LEAVES in the output's buffer is its block of the whole output. -/
theorem point_eq (y : S1x256x256.Idx) :
    outsAt0 m c t.val t.isLt y
      = whole (qOf m c) (kOf m c) (vOf m c) (V m c main_v26) (((cfg0.win 4).blk t).view.emb y) := by
  have e0 : ∀ (n : Fin 256) (a : Fin 2) (d : Fin 64), lane0.emb (ix3 0 n (lane a d)) = ix3 0 n (pairLane 0 (lane a d)) := by
    intro n a d; funext x; refine Fin.ext ?_; rw [Rect.emb_apply]; fin_cases x <;> simp [ix3, pairLane, Rect.unit]
  have e1 : ∀ (n : Fin 256) (a : Fin 2) (d : Fin 64), lane1.emb (ix3 0 n (lane a d)) = ix3 0 n (pairLane 1 (lane a d)) := by
    intro n a d; funext x; refine Fin.ext ?_; rw [Rect.emb_apply]; fin_cases x <;> simp [ix3, pairLane, Rect.unit]
  have hcov : ∀ (x0 x1 : lane0.shape.Idx → EReal), ∃ p ∈ [(⟨lane1, x1⟩ : View.Piece (Elt Ideal) S1x256x256 .bf16), ⟨lane0, x0⟩], y ∈ p.1.set := by
    intro x0 x1
    have h1 : (y 1).val < 256 := (y 1).isLt
    have h2 : (y 2).val < 256 := (y 2).isLt
    have h0 : (y 0).val < 1 := (y 0).isLt
    by_cases hy : (y 2).val < 128
    · refine ⟨_, List.mem_cons_of_mem _ (List.mem_singleton_self _), ?_⟩
      show y ∈ lane0.set
      rw [Rect.mem_set_unit]
      intro a
      fin_cases a <;> simp <;> omega
    · refine ⟨_, List.mem_cons_self, ?_⟩
      show y ∈ lane1.set
      rw [Rect.mem_set_unit]
      intro a
      fin_cases a <;> simp <;> omega
  by_cases h0 : t.val % 17 = 0
  · have hs : (ps (grid0.coords t)).val = 0 := by
      rw [coord_s]; exact h0
    rw [outA_eq m c t h0 (by omega)]
    refine View.canon_apply_of_pieces (fun y => whole (qOf m c) (kOf m c) (vOf m c) (V m c main_v26) (((cfg0.win 4).blk t).view.emb y)) _ ?_ y (hcov _ _)
    intro p hp x
    rcases List.mem_cons.mp hp with rfl | hp
    · obtain ⟨r, w, a, d, rfl⟩ := pair_idx x
      refine (pairA m c t 1 (tok r w) a d hs _ _ _).trans ?_
      dsimp only
      rw [e1, emb4, wide_pairLane, tile_zero _ hs, whole_ctx]
    · obtain rfl := List.mem_singleton.mp hp
      obtain ⟨r, w, a, d, rfl⟩ := pair_idx x
      refine (pairA m c t 0 (tok r w) a d hs _ _ _).trans ?_
      dsimp only
      rw [e0, emb4, wide_pairLane, tile_zero _ hs, whole_ctx]
  · have h1 : 1 ≤ t.val % 17 := by omega
    have h : k0_cond2 (grid0.coords t) = 1#1 := (hcond0_1 t).mpr h1
    have hs := ps_zero _ h
    rw [outB_eq m c t h0 h1 h]
    refine View.canon_apply_of_pieces (fun y => whole (qOf m c) (kOf m c) (vOf m c) (V m c main_v26) (((cfg0.win 4).blk t).view.emb y)) _ ?_ y (hcov _ _)
    intro p hp x
    rcases List.mem_cons.mp hp with rfl | hp
    · obtain ⟨r, w, a, d, rfl⟩ := pair_idx x
      refine (pairB m c t 1 r w a d hs _ _ _ _ _ _ (off4_eq _ hs) (off5_eq _ hs) (off6_eq _ hs)).trans ?_
      dsimp only
      rw [e1, emb4, wide_pairLane, tile_tok _ hs, whole_lat]
    · obtain rfl := List.mem_singleton.mp hp
      obtain ⟨r, w, a, d, rfl⟩ := pair_idx x
      refine (pairB m c t 0 r w a d hs _ _ _ _ _ _ (off1_eq _ hs) (off2_eq _ hs) (off3_eq _ hs)).trans ?_
      dsimp only
      rw [e0, emb4, wide_pairLane, tile_tok _ hs, whole_lat]

/-- Every element of the output is in the block of some point. -/
theorem covered (i : S8x4352x512.Idx) : ∃ t : Fin cfg0.N, (cfg0.win 4).flush t = true ∧ i ∈ ((cfg0.win 4).blk t).view.set := by
  have h0 : (i 0).val < 8 := (i 0).isLt
  have h1 : (i 1).val < 4352 := (i 1).isLt
  have h2 : (i 2).val < 512 := (i 2).isLt
  have hN : 34 * (i 0).val + 17 * ((i 2).val / 256) + (i 1).val / 256 < cfg0.N := by
    show _ < grid0.N
    rw [N_0]; omega
  refine ⟨⟨_, hN⟩, flush0_4 _, Finset.mem_map.mpr ⟨ix3 0 ⟨(i 1).val % 256, by omega⟩ ⟨(i 2).val % 256, by omega⟩, Finset.mem_univ _, ?_⟩⟩
  refine (emb4 _ _ _).trans ?_
  funext a
  refine Fin.ext ?_
  fin_cases a
  · refine (coord_b _).trans ?_
    show (34 * (i 0).val + 17 * ((i 2).val / 256) + (i 1).val / 256) / 34 = (i 0).val
    omega
  · show 256 * (ps _).val + (i 1).val % 256 = (i 1).val
    rw [coord_s]
    show 256 * ((34 * (i 0).val + 17 * ((i 2).val / 256) + (i 1).val / 256) % 17) + (i 1).val % 256 = (i 1).val
    omega
  · show 256 * (ph _).val + (i 2).val % 256 = (i 2).val
    rw [coord_g]
    show 256 * ((34 * (i 0).val + 17 * ((i 2).val / 256) + (i 1).val / 256) / 17 % 2) + (i 2).val % 256 = (i 2).val
    omega

/-- THE KERNEL'S OUTPUT, whole. -/
theorem array_eq : (dats m 0 c).arrAt 4 cfg0.N
    = whole (qOf m c) (kOf m c) (vOf m c) (table (m ((c : Thread nD τ).loc main_arg3))) := by
  have e : V m c main_v26 = table (m ((c : Thread nD τ).loc main_arg3)) := table_eq m c
  rw [← e]
  refine (dats m 0 c).arrAt_eq_of_cover 4 _ (fun t _ => ?_) covered
  rw [Value.flushed4]
  funext y
  exact point_eq m c t y

end Loads

end Cert.KernelIdeal.NA
-- ==== Proof.NA.Final.lean ====
/-
The kernel's attention is the plain program's, for arguments without infinities.
-/
module
public import proofs.«01_k».proof.Defs
public import proofs.«01_k».proof.Proof.NA.Ref
public import proofs.«01_k».proof.Proof.NA.Array
public import proofs.«01_k».proof.Proof.Gen.ReferenceIdeal.Run
@[expose] public section
noncomputable section
namespace Cert.NA
open Idealize.ShloMosaic Idealize.ShloMosaic.TcCoe Idealize.SL.Sem

/-- The precondition's shape facts. -/
theorem preFacts : Cert.Pre_finite_scores.Facts := ⟨by decide, by decide, by decide⟩

theorem inf_word : Ideal.ofBits .f32 0x7F800000#32 = ⊤ := by
  simp only [Ideal.ofBits]; rfl

/-- A number strictly below infinity in absolute value is a real. -/
theorem real_of_abs (x : EReal) (h : BitVec.ofBool (decide (max x (-x) < Ideal.ofBits .f32 0x7F800000#32)) = 1#1) : ∃ r : ℝ, x = (r : EReal) := by
  rw [inf_word] at h
  have h' : max x (-x) < ⊤ := by
    by_contra hn
    rw [decide_eq_false hn] at h
    exact absurd h (by decide)
  induction x using EReal.rec with
  | bot => exact absurd h' (by simp)
  | top => exact absurd h' (by simp)
  | coe r => exact ⟨r, rfl⟩

/-- A product sum of reals is a real. -/
theorem dot_real {n : Nat} (f g : Fin n → EReal) (hf : ∀ i, ∃ r : ℝ, f i = (r : EReal)) (hg : ∀ i, ∃ r : ℝ, g i = (r : EReal)) :
    ∃ r : ℝ, ∑ i, f i * g i = (r : EReal) := by
  refine Finset.sum_induction (fun i => f i * g i) (fun x => ∃ r : ℝ, x = (r : EReal)) ?_ ⟨0, by simp⟩ fun i _ => ?_
  · rintro _ _ ⟨a, rfl⟩ ⟨b, rfl⟩; exact ⟨a + b, (EReal.coe_add a b).symm⟩
  · obtain ⟨a, ha⟩ := hf i
    obtain ⟨b, hb⟩ := hg i
    exact ⟨a * b, by rw [ha, hb, EReal.coe_mul]⟩

section Equal
open Cert.KernelIdeal Cert.KernelIdeal.NA
open Cert.ReferenceIdeal.NA (rowAt colAt dRow dCol row0 col0 scCC scLC scLL)

variable (q k v : Vec Ideal S8x4352x512 .bf16) (x : Vec Ideal S4x8x15x31 .f32)

theorem hl_eq (H : Fin 8) (d : Fin 64) : Cert.ReferenceIdeal.NA.hl H d = hl H d :=
  Fin.ext (by show H.val * 64 + d.val = 64 * H.val + d.val; omega)
theorem latTok_eq (R w : Fin 64) : Cert.ReferenceIdeal.NA.latTok R w = latTok R w :=
  Fin.ext (by show 256 + (R.val * 64 + w.val) = 256 + 64 * R.val + w.val; omega)
theorem ctxTok_eq (n : Fin 256) : Cert.ReferenceIdeal.NA.ctxTok n = ctxTok n := rfl

theorem band_eq (R c : Fin 64) (i : Fin 8) : bandTok R (key i c) = latTok (rowAt R i) c :=
  Fin.ext (by simp only [bandTok, key, latTok, rowAt, row0, bandRow]; omega)

/-- The place in the band of position `(i, j)` of the neighbourhood. -/
def place (w : Fin 64) (p : Fin 8 × Fin 16) : Fin 512 := key p.1 (colAt w p.2)

theorem place_injective (w : Fin 64) : Function.Injective (place w) := by
  rintro ⟨i, j⟩ ⟨i', j'⟩ h
  have h' : 64 * i.val + (col0 w + j.val) = 64 * i'.val + (col0 w + j'.val) := congrArg Fin.val h
  have hc : col0 w ≤ 48 := Nat.min_le_right _ _
  have hj := j.isLt
  have hj' := j'.isLt
  exact Prod.ext (Fin.ext (by show i.val = i'.val; omega)) (Fin.ext (by show j.val = j'.val; omega))

theorem key_surj (e : Fin 512) : key ⟨e.val / 64, by omega⟩ ⟨e.val % 64, by omega⟩ = e :=
  Fin.ext (by simp only [key]; omega)

theorem inWin_col (w : Fin 64) (j : Fin 16) : inWin w (colAt w j) := by
  have hj := j.isLt
  constructor
  · show min (w.val - 8) 48 ≤ col0 w + j.val; unfold col0; omega
  · show col0 w + j.val < min (w.val - 8) 48 + 16; unfold col0; omega

variable (hq : ∀ y, ∃ r : ℝ, q y = (r : EReal)) (hk : ∀ y, ∃ r : ℝ, k y = (r : EReal)) (hx : ∀ y, ∃ r : ℝ, x y = (r : EReal))
include hq hk

theorem ctx_same (b H : Fin 8) (n : Fin 256) (d : Fin 64) :
    ctxAt q k v b n H d = Cert.ReferenceIdeal.Read.val_main_v115 (F := Ideal) q k v x (ix3 b (ctxTok n) (hl H d)) := by
  have h := Cert.ReferenceIdeal.NA.ctx_eq q k v x b H n d
  rw [hl_eq] at h
  refine Eq.trans ?_ h.symm
  have e : (fun j : Fin 256 => ∑ x, q (ix3 b (ctxTok n) (hl H x)) * k (ix3 b (ctxTok j) (hl H x))) = scCC q k b H n := by
    funext j
    exact Finset.sum_congr rfl fun x _ => by rw [hl_eq]; rfl
  have fin : ∀ j, ∃ r : ℝ, scCC q k b H n j = (r : EReal) := fun j => dot_real _ _ (fun _ => hq _) (fun _ => hk _)
  unfold ctxAt
  rw [e]
  exact late_eq_early _ _ _ _ (fun i => i.elim0) (fun j => by obtain ⟨r, hr⟩ := fin j; rw [hr]; exact EReal.coe_ne_top r)
    (fun j => by obtain ⟨r, hr⟩ := fin j; rw [hr]; exact EReal.coe_ne_bot r)

include hx in
theorem lat_same (b H : Fin 8) (R w : Fin 64) (d : Fin 64) :
    latAt q k v (table x) b R w H d = Cert.ReferenceIdeal.Read.val_main_v115 (F := Ideal) q k v x (ix3 b (latTok R w) (hl H d)) := by
  have h := Cert.ReferenceIdeal.NA.lat_eq q k v x b H R w d
  rw [hl_eq, latTok_eq] at h
  refine Eq.trans ?_ h.symm
  have e : (fun j : Fin 256 => ∑ x, q (ix3 b (latTok R w) (hl H x)) * k (ix3 b (ctxTok j) (hl H x))) = scLC q k b H R w := by
    funext j
    exact Finset.sum_congr rfl fun x _ => by rw [hl_eq, latTok_eq]; rfl
  have fin : ∀ j, ∃ r : ℝ, scLC q k b H R w j = (r : EReal) := fun j => dot_real _ _ (fun _ => hq _) (fun _ => hk _)
  unfold latAt
  rw [e]
  refine late_band_eq_early_window (place w) (place_injective w)
    (fun e : Fin 512 => (∑ x, q (ix3 b (latTok R w) (hl H x)) * k (ix3 b (bandTok R e) (hl H x))) + table x (ix5 0 H (cls R) w e))
    (scLL q k x b H R w) (scLC q k b H R w) ?_ ?_ (fun e : Fin 512 => v (ix3 b (bandTok R e) (hl H d)))
    (fun p => v (ix3 b (Cert.ReferenceIdeal.NA.latTok (rowAt R p.1) (colAt w p.2)) (hl H d))) (fun j => v (ix3 b (ctxTok j) (hl H d))) ?_ ?_
    (fun j => by obtain ⟨r, hr⟩ := fin j; rw [hr]; exact EReal.coe_ne_top r)
    (fun j => by obtain ⟨r, hr⟩ := fin j; rw [hr]; exact EReal.coe_ne_bot r)
  · rintro ⟨i, j⟩
    unfold scLL place
    refine congrArg₂ _ (Finset.sum_congr rfl fun y _ => ?_) ?_
    · rw [band_eq, hl_eq, latTok_eq, latTok_eq]
    · refine (table_in x 0 H (cls R) w i (colAt w j) (inWin_col w j)).trans (congrArg x (congrArg₂ (fun a b => ix4 0 H a b) (Fin.ext ?_) (Fin.ext rfl)))
      show (cls R).val + i.val = row0 R + i.val + 7 - R.val
      simp only [cls, bandRow, row0]
      omega
  · intro c hc
    have hn : ¬ inWin w ⟨c.val % 64, by omega⟩ := fun hin => by
      unfold inWin at hin
      refine hc (⟨c.val / 64, by omega⟩, ⟨c.val % 64 - col0 w, by unfold col0; simp only at hin; omega⟩) (Fin.ext ?_)
      show 64 * (c.val / 64) + (col0 w + (c.val % 64 - col0 w)) = c.val
      unfold col0
      simp only at hin
      omega
    have t := table_out x 0 H (cls R) w ⟨c.val / 64, by omega⟩ ⟨c.val % 64, by omega⟩ hn
    rw [key_surj c] at t
    show _ + table x (ix5 0 H (cls R) w c) = ⊥
    rw [t, EReal.add_bot]
  · rintro ⟨i, j⟩
    unfold place
    show v (ix3 b (bandTok R (key i (colAt w j))) (hl H d)) = _
    rw [band_eq]
    exact congrArg (fun t => v (ix3 b t (hl H d))) (latTok_eq _ _).symm
  · intro p
    obtain ⟨r, hr⟩ := dot_real (fun y : Fin 64 => q (ix3 b (Cert.ReferenceIdeal.NA.latTok R w) (Cert.ReferenceIdeal.NA.hl H y)))
      (fun y => k (ix3 b (Cert.ReferenceIdeal.NA.latTok (rowAt R p.1) (colAt w p.2)) (Cert.ReferenceIdeal.NA.hl H y))) (fun _ => hq _) (fun _ => hk _)
    obtain ⟨s, hs⟩ := hx (ix4 0 H (dRow R p.1) (dCol w p.2))
    unfold scLL
    rw [hr, hs, ← EReal.coe_add]
    exact EReal.coe_ne_top _

include hx in
theorem whole_same_at (b : Fin 8) (n : Fin 4352) (l : Fin 512) : whole q k v (table x) (ix3 b n l)
    = Cert.ReferenceIdeal.Read.val_main_v115 (F := Ideal) q k v x (ix3 b n l) := by
  have el : l = hl ⟨l.val / 64, by omega⟩ ⟨l.val % 64, by omega⟩ :=
    Fin.ext (by show l.val = 64 * (l.val / 64) + l.val % 64; omega)
  by_cases h : n.val < 256
  · have en : n = ctxTok ⟨n.val, h⟩ := Fin.ext rfl
    rw [en, el, whole_ctx]
    exact ctx_same q k v x hq hk b _ _ _
  · have en : n = latTok ⟨(n.val - 256) / 64, by omega⟩ ⟨(n.val - 256) % 64, by omega⟩ :=
      Fin.ext (by show n.val = 256 + 64 * ((n.val - 256) / 64) + (n.val - 256) % 64; omega)
    rw [en, el, whole_lat]
    exact lat_same q k v x hq hk hx b _ _ _ _

include hx in
theorem whole_same : whole q k v (table x) = Cert.ReferenceIdeal.Read.val_main_v115 (F := Ideal) q k v x := by
  funext y
  have hy : y = ix3 (y 0) (y 1) (y 2) := by
    funext a
    match a with | ⟨0, _⟩ => rfl | ⟨1, _⟩ => rfl | ⟨2, _⟩ => rfl
  rw [hy]
  exact whole_same_at q k v x hq hk hx (y 0) (y 1) (y 2)

end Equal

theorem algebraic : Cert.algebraic_KernelIdeal_ReferenceIdeal_pre_finite_scores (hKernelIdeal := Cert.KernelIdeal.Gen.facts)
    (hReferenceIdeal := Cert.ReferenceIdeal.Gen.facts) (hPre_finite_scores := preFacts) := by
  intro m g m' g' hp ha
  refine ⟨fun c => (Cert.KernelIdeal.Gen.dats m 0 c).arrAt 4 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨e0, e1, e2, e3⟩ := ha c
  obtain ⟨p0, p1, p2⟩ := hp c
  rw [Cert.ReferenceIdeal.Read.val_main_v115_eq, e0, e1, e2, e3]
  refine Eq.trans ?_ (Cert.KernelIdeal.NA.array_eq m c).symm
  exact (whole_same _ _ _ _ (fun y => real_of_abs _ (congrFun p0 y)) (fun y => real_of_abs _ (congrFun p1 y)) (fun y => real_of_abs _ (congrFun p2 y))).symm

end Cert.NA
-- ==== Proof.FFN.Spec.lean ====
/- The feed-forward's mathematics over the extended reals, from the whole arrays: a row of 1024 numbers normalised and
   modulated, raised to 5632 columns, convolved along the tokens, gated, brought down, normalised and added. -/
module

public import Idealize.ShloMosaic.Lib.Pointwise

@[expose] public section

noncomputable section

namespace Cert.FFN

open Idealize.ShloMosaic

/-- A row divided by the root of its mean square, times a gain. -/
def rmsRow (x g : Fin 1024 → EReal) (j : Fin 1024) : EReal :=
  x j * Ideal.rsqrt (Ideal.div (∑ k, x k * x k) (Ideal.ofBits .f32 0x44800000#32) + Ideal.ofBits .f32 0x358637BD#32) * g j

/-- … scaled and shifted. -/
def hid (x g sc sh : Fin 1024 → EReal) (j : Fin 1024) : EReal :=
  rmsRow x g j * (1 + sc j) + sh j

/-- The gate times its logistic, times the value. -/
def glu (a v : EReal) : EReal := a * Ideal.div 1 (1 + Ideal.exp (-a)) * v

/-- The columns of shift, scale and gate among the 6144 of the modulation. -/
abbrev colSh (j : Fin 1024) : Fin 6144 := ⟨3072 + j.val, by omega⟩
abbrev colSc (j : Fin 1024) : Fin 6144 := ⟨4096 + j.val, by omega⟩
abbrev colGt (j : Fin 1024) : Fin 6144 := ⟨5120 + j.val, by omega⟩

/-- A gate column and its value column. -/
abbrev colA (f : Fin 2816) : Fin 5632 := ⟨f.val, by omega⟩
abbrev colV (f : Fin 2816) : Fin 5632 := ⟨2816 + f.val, by omega⟩

/-- Latent token `n` among all tokens. -/
abbrev latent (n : Fin 4096) : Fin 4352 := ⟨256 + n.val, by omega⟩

section Layer

variable (x : Fin 8 → Fin 4352 → Fin 1024 → EReal) (md : Fin 8 → Fin 6144 → EReal) (g₁ g₂ : Fin 1024 → EReal)
  (W : Fin 1024 → Fin 5632 → EReal) (C : Fin 3 → Fin 5632 → EReal) (D : Fin 2816 → Fin 1024 → EReal)

/-- A latent token, normalised and modulated. -/
def hiddenAt (b : Fin 8) (n : Fin 4096) (j : Fin 1024) : EReal :=
  hid (x b (latent n)) g₁ (fun k => md b (colSc k)) (fun k => md b (colSh k)) j

/-- A token's column; the column of the token before, and of the token after. -/
def up (b : Fin 8) (n : Fin 4096) (f : Fin 5632) : EReal := ∑ j, hiddenAt x md g₁ b n j * W j f
def upBefore (b : Fin 8) (n : Fin 4096) (f : Fin 5632) : EReal :=
  if h : n.val = 0 then 0 else up x md g₁ W b ⟨n.val - 1, by omega⟩ f
def upAfter (b : Fin 8) (n : Fin 4096) (f : Fin 5632) : EReal :=
  if h : n.val = 4095 then 0 else up x md g₁ W b ⟨n.val + 1, by omega⟩ f

/-- The convolution along the tokens. -/
def conved (b : Fin 8) (n : Fin 4096) (f : Fin 5632) : EReal :=
  C 0 f * upBefore x md g₁ W b n f + C 1 f * up x md g₁ W b n f + C 2 f * upAfter x md g₁ W b n f

/-- A gated column. -/
def act (b : Fin 8) (n : Fin 4096) (f : Fin 2816) : EReal :=
  glu (conved x md g₁ W C b n (colA f)) (conved x md g₁ W C b n (colV f))

/-- The product down. -/
def down (b : Fin 8) (n : Fin 4096) (k : Fin 1024) : EReal := ∑ f, act x md g₁ W C b n f * D f k

/-- The layer's result. -/
def result (b : Fin 8) (n : Fin 4096) (j : Fin 1024) : EReal :=
  x b (latent n) j + md b (colGt j) * rmsRow (down x md g₁ W C D b n) g₂ j

end Layer

end Cert.FFN

end
-- ==== Proof.FFN.Ref.lean ====
/- The plain program's last feed-forward, step by step at an index. -/
module

public import proofs.«01_k».proof.Proof.Gen.Reference2Ideal.Read
public import proofs.«01_k».proof.Proof.FFN.Spec
public import Idealize.ShloMosaic.Lib.Pointwise

@[expose] public section

noncomputable section

namespace Cert.Reference2Ideal.FFN

open Cert.Reference2Ideal Cert.Reference2Ideal.Gen Cert.Reference2Ideal.Read Idealize.ShloMosaic Idealize.ShloMosaic.TcCoe Idealize.SL.Sem Cert.FFN

variable (x0 : Vec Ideal S8x4352x1024 .f32) (x1 : Vec Ideal S4x16x1x6144 .f32) (x2 x3 : Vec Ideal S4x1024 .f32)
  (x4 : Vec Ideal S4x1024x5632 .f32) (x5 : Vec Ideal S4x3x5632 .f32) (x6 : Vec Ideal S4x2816x1024 .f32)

/-- The arguments as functions: the stream; layer 3 of the modulation, of the gains and of the weights. -/
abbrev sX (b : Fin 8) (n : Fin 4352) (j : Fin 1024) : EReal := x0 (ix3 b n j)
abbrev sM (b : Fin 8) (k : Fin 6144) : EReal := x1 (ix4 3 ⟨b.val, by omega⟩ 0 k)
abbrev sG (j : Fin 1024) : EReal := x2 (ix2 3 j)
abbrev sW (j : Fin 1024) (f : Fin 5632) : EReal := x4 (ix3 3 j f)
abbrev sC (k : Fin 3) (f : Fin 5632) : EReal := x5 (ix3 3 k f)
abbrev sD (f : Fin 2816) (j : Fin 1024) : EReal := x6 (ix3 3 f j)

theorem v0_at (b : Fin 8) (n : Fin 4096) (j : Fin 1024) : val_main_v0 (F := Ideal) x0 (ix3 b n j) = x0 (ix3 b (latent n) j) := by
  pointwise [val_main_v0]

theorem v2_at (b : Fin 8) (k : Fin 6144) : val_main_v2 (F := Ideal) x1 (ix3 b 0 k) = sM x1 b k := by
  pointwise [val_main_v2, val_main_v1]

theorem v6_at (b : Fin 8) (j : Fin 1024) : val_main_v6 (F := Ideal) x1 (ix3 b 0 j) = sM x1 b (colSh j) := by
  refine Eq.trans ?_ (v2_at x1 b (colSh j))
  unfold val_main_v6
  generalize val_main_v2 (F := Ideal) x1 = y
  pointwise []

theorem v7_at (b : Fin 8) (j : Fin 1024) : val_main_v7 (F := Ideal) x1 (ix3 b 0 j) = sM x1 b (colSc j) := by
  refine Eq.trans ?_ (v2_at x1 b (colSc j))
  unfold val_main_v7
  generalize val_main_v2 (F := Ideal) x1 = y
  pointwise []

theorem v8_at (b : Fin 8) (j : Fin 1024) : val_main_v8 (F := Ideal) x1 (ix3 b 0 j) = sM x1 b (colGt j) := by
  refine Eq.trans ?_ (v2_at x1 b (colGt j))
  unfold val_main_v8
  generalize val_main_v2 (F := Ideal) x1 = y
  pointwise []

theorem v10_at (j : Fin 1024) : val_main_v10 (F := Ideal) x2 (ix1 j) = sG x2 j := by
  pointwise [val_main_v10, val_main_v9]

theorem v68_at (j : Fin 1024) : val_main_v68 (F := Ideal) x3 (ix1 j) = sG x3 j := by
  pointwise [val_main_v68, val_main_v67]

/-- The normalised tokens. -/
theorem v23_at (b : Fin 8) (n : Fin 4096) (j : Fin 1024) : val_main_v23 (F := Ideal) x0 x2 (ix3 b n j)
    = rmsRow (fun k => x0 (ix3 b (latent n) k)) (sG x2) j := by
  simp only [← v0_at x0]
  unfold rmsRow
  rw [← v10_at x2 j]
  unfold val_main_v23 val_main_v22 val_main_v21 val_main_v20 val_main_v19 val_main_v18 val_main_v17 val_main_v15 val_main_v13 val_main_v12 val_main_v11
  generalize val_main_v0 (F := Ideal) x0 = y
  generalize val_main_v10 (F := Ideal) x2 = z
  pointwise [val_main_v16, val_main_v14, val_main_cst, val_main_cst_0, val_main_cst_1]

/-- … modulated. -/
theorem v29_at (b : Fin 8) (n : Fin 4096) (j : Fin 1024) : val_main_v29 (F := Ideal) x0 x1 x2 (ix3 b n j)
    = hiddenAt (sX x0) (sM x1) (sG x2) b n j := by
  unfold hiddenAt hid
  dsimp only
  rw [← v23_at x0 x2 b n j, ← v6_at x1 b j, ← v7_at x1 b j]
  unfold val_main_v29 val_main_v28 val_main_v27 val_main_v26 val_main_v25
  generalize val_main_v23 (F := Ideal) x0 x2 = y
  generalize val_main_v6 (F := Ideal) x1 = z
  generalize val_main_v7 (F := Ideal) x1 = w
  pointwise [val_main_v24, val_main_cst_2]

theorem v31_at (j : Fin 1024) (f : Fin 5632) : val_main_v31 (F := Ideal) x4 (ix2 j f) = sW x4 j f := by
  pointwise [val_main_v31, val_main_v30]

/-- The product up. -/
theorem v32_at (b : Fin 8) (n : Fin 4096) (f : Fin 5632) : val_main_v32 (F := Ideal) x0 x1 x2 x4 (ix3 b n f)
    = up (sX x0) (sM x1) (sG x2) (sW x4) b n f := by
  unfold up
  simp only [← v29_at x0 x1 x2, ← v31_at x4]
  unfold val_main_v32
  generalize val_main_v29 (F := Ideal) x0 x1 x2 = y
  generalize val_main_v31 (F := Ideal) x4 = z
  pointwise []

theorem zero_int : (FloatOps.sitofp FTy.f32 0#32 : Ideal .f32) = 0 := by
  show (((0#32 : BitVec 32).toInt : ℝ) : EReal) = 0
  rw [show (0#32 : BitVec 32).toInt = 0 by decide]; simp

/-- The token before, and the token after. -/
theorem v34_at (b : Fin 8) (n : Fin 4096) (f : Fin 5632) : val_main_v34 (F := Ideal) x0 x1 x2 x4 (ix3 b n f)
    = upBefore (sX x0) (sM x1) (sG x2) (sW x4) b n f := by
  unfold upBefore
  simp only [← v32_at x0 x1 x2 x4]
  unfold val_main_v34 val_main_v33
  generalize val_main_v32 (F := Ideal) x0 x1 x2 x4 = y
  pointwise [val_main_call0_v0, val_main_c]
  rw [zero_int]
  by_cases h : n.val = 0
  · rw [dif_neg (by omega), dif_pos h]
  · rw [dif_pos ⟨by omega, by omega⟩, dif_neg h]

theorem v36_at (b : Fin 8) (n : Fin 4096) (f : Fin 5632) : val_main_v36 (F := Ideal) x0 x1 x2 x4 (ix3 b n f)
    = upAfter (sX x0) (sM x1) (sG x2) (sW x4) b n f := by
  unfold upAfter
  simp only [← v32_at x0 x1 x2 x4]
  unfold val_main_v36 val_main_v35
  generalize val_main_v32 (F := Ideal) x0 x1 x2 x4 = y
  pointwise [val_main_call1_v0, val_main_c_3]
  rw [zero_int]
  by_cases h : n.val = 4095
  · rw [dif_neg (by omega), dif_pos h]
  · rw [dif_pos (by omega), dif_neg h]
    exact congrArg y (congrArg (fun a => ix3 b a f) (Fin.ext (by dsimp only; omega)))

theorem v40_at (b : Fin 8) (n : Fin 4096) (f : Fin 5632) : val_main_v40 (F := Ideal) x5 (ix3 b n f) = sC x5 0 f := by
  pointwise [val_main_v40, val_main_v39, val_main_v38, val_main_v37]
theorem v45_at (b : Fin 8) (n : Fin 4096) (f : Fin 5632) : val_main_v45 (F := Ideal) x5 (ix3 b n f) = sC x5 1 f := by
  pointwise [val_main_v45, val_main_v44, val_main_v43, val_main_v42]
theorem v51_at (b : Fin 8) (n : Fin 4096) (f : Fin 5632) : val_main_v51 (F := Ideal) x5 (ix3 b n f) = sC x5 2 f := by
  pointwise [val_main_v51, val_main_v50, val_main_v49, val_main_v48]

/-- The convolution. -/
theorem v53_at (b : Fin 8) (n : Fin 4096) (f : Fin 5632) : val_main_v53 (F := Ideal) x0 x1 x2 x4 x5 (ix3 b n f)
    = conved (sX x0) (sM x1) (sG x2) (sW x4) (sC x5) b n f := by
  unfold conved
  rw [← v40_at x5 b n f, ← v45_at x5 b n f, ← v51_at x5 b n f, ← v32_at x0 x1 x2 x4, ← v34_at x0 x1 x2 x4, ← v36_at x0 x1 x2 x4]
  rfl

/-- The gated columns. -/
theorem v63_at (b : Fin 8) (n : Fin 4096) (f : Fin 2816) : val_main_v63 (F := Ideal) x0 x1 x2 x4 x5 (ix3 b n f)
    = act (sX x0) (sM x1) (sG x2) (sW x4) (sC x5) b n f := by
  unfold act glu
  rw [← v53_at x0 x1 x2 x4 x5, ← v53_at x0 x1 x2 x4 x5]
  unfold val_main_v63 val_main_v62 val_main_v61 val_main_v59 val_main_v57 val_main_v56 val_main_v55 val_main_v54
  generalize val_main_v53 (F := Ideal) x0 x1 x2 x4 x5 = y
  pointwise [val_main_v60, val_main_v58, val_main_cst_4, val_main_cst_5]

theorem v65_at (f : Fin 2816) (j : Fin 1024) : val_main_v65 (F := Ideal) x6 (ix2 f j) = sD x6 f j := by
  pointwise [val_main_v65, val_main_v64]

/-- The product down. -/
theorem v66_at (b : Fin 8) (n : Fin 4096) (j : Fin 1024) : val_main_v66 (F := Ideal) x0 x1 x2 x4 x5 x6 (ix3 b n j)
    = down (sX x0) (sM x1) (sG x2) (sW x4) (sC x5) (sD x6) b n j := by
  unfold down
  simp only [← v63_at x0 x1 x2 x4 x5, ← v65_at x6]
  unfold val_main_v66
  generalize val_main_v63 (F := Ideal) x0 x1 x2 x4 x5 = y
  generalize val_main_v65 (F := Ideal) x6 = z
  pointwise []

theorem v81_at (b : Fin 8) (n : Fin 4096) (j : Fin 1024) : val_main_v81 (F := Ideal) x0 x1 x2 x3 x4 x5 x6 (ix3 b n j)
    = rmsRow (down (sX x0) (sM x1) (sG x2) (sW x4) (sC x5) (sD x6) b n) (sG x3) j := by
  rw [show down (sX x0) (sM x1) (sG x2) (sW x4) (sC x5) (sD x6) b n = fun k => val_main_v66 (F := Ideal) x0 x1 x2 x4 x5 x6 (ix3 b n k)
    from funext fun k => (v66_at x0 x1 x2 x4 x5 x6 b n k).symm]
  unfold rmsRow
  rw [← v68_at x3 j]
  unfold val_main_v81 val_main_v80 val_main_v79 val_main_v78 val_main_v77 val_main_v76 val_main_v75 val_main_v73 val_main_v71 val_main_v70 val_main_v69
  generalize val_main_v66 (F := Ideal) x0 x1 x2 x4 x5 x6 = y
  generalize val_main_v68 (F := Ideal) x3 = z
  pointwise [val_main_v74, val_main_v72, val_main_cst_6, val_main_cst_7, val_main_cst_8]

/-- THE PLAIN RESULT at an index. -/
theorem v84_at (b : Fin 8) (n : Fin 4096) (j : Fin 1024) : val_main_v84 (F := Ideal) x0 x1 x2 x3 x4 x5 x6 (ix3 b n j)
    = result (sX x0) (sM x1) (sG x2) (sG x3) (sW x4) (sC x5) (sD x6) b n j := by
  unfold result
  rw [← v81_at x0 x1 x2 x3 x4 x5 x6 b n j, ← v8_at x1 b j]
  show _ = x0 (ix3 b (latent n) j) + _
  rw [← v0_at x0 b n j]
  unfold val_main_v84 val_main_v83 val_main_v82
  generalize val_main_v81 (F := Ideal) x0 x1 x2 x3 x4 x5 x6 = y
  generalize val_main_v8 (F := Ideal) x1 = z
  generalize val_main_v0 (F := Ideal) x0 = w
  pointwise []

end Cert.Reference2Ideal.FFN
-- ==== Proof.FFN.Stages.lean ====
/- The feed-forward kernel's arithmetic at one grid point, as named stages.

   A point normalises its tile of 256 tokens and a halo of eight tokens on either side, raises them to 5632 columns in
   slices of 256, convolves each column along the tokens, gates one half of the columns by the other, and stores the
   eleven slices of gated columns in a scratch buffer, which it then multiplies down. `out_eq` says that what the point
   stores is these stages of what it loads. -/
module

public import proofs.«01_k».proof.Proof.Gen.Kernel2Ideal.Value

@[expose] public section

noncomputable section

namespace Cert.Kernel2Ideal.FFN

open Cert.Kernel2Ideal Cert.Kernel2Ideal.Gen Idealize.ShloMosaic Idealize.ShloMosaic.TcCoe Idealize.SL.Sem

variable {F : FTy → Type} [FloatOps F]

/-- The tile and its halo, normalised and modulated; the halo outside the latent tokens is made zero. -/
def hAll (i : grid0.Coords) (x : Vec F S1x256x1024 .f32) (xp xn : Vec F S1x8x1024 .f32) (md : Vec F S1x1x1x6144 .f32)
    (g : Vec F S1x1024 .f32) : FVec F S272x1024 .bf16 :=
  k0_pay14 (k0_pay10 (k0_pay7 i) (k0_pay9 md xp g)) (k0_pay11 (k0_pay3 md) (k0_pay4 md) (k0_pay6 x) g)
    (k0_pay12 (k0_pay3 md) (k0_pay4 md) xn g) (k0_pay13 (k0_pay8 i))

/-- Three weights along the tokens: the token before, the token itself, the token after. -/
def conv (u : FVec F S272x256 .f32) (w0 w1 w2 : Vec F S1x256 .f32) : FVec F S256x256 .f32 :=
  addf (addf
    (mulf (broadcastTo S256x256 (shapeCast S1x256 w0 shapeCasts_S1x256_S1x256) broadcasts_S1x256_S256x256)
      (extractStridedSlice S256x256 ![8, 0] (dynamicRotate 0 1#32 none u rotates_S272x256_d0) slices_S272x256_o8_0_S256x256))
    (mulf (broadcastTo S256x256 (shapeCast S1x256 w1 shapeCasts_S1x256_S1x256) broadcasts_S1x256_S256x256)
      (extractStridedSlice S256x256 ![8, 0] u slices_S272x256_o8_0_S256x256)))
    (mulf (broadcastTo S256x256 (shapeCast S1x256 w2 shapeCasts_S1x256_S1x256) broadcasts_S1x256_S256x256)
      (extractStridedSlice S256x256 ![8, 0] (dynamicRotate 0 271#32 none u rotates_S272x256_d0) slices_S272x256_o8_0_S256x256))

/-- The gate times its logistic, times the value. -/
def gated (a v : FVec F S256x256 .f32) : FVec F S256x256 .bf16 :=
  shapeCast S256x256 (truncf .bf16
    (mulf (mulf a (divf (broadcast S256x256 (Scalar.ofBits .f32 0x3F800000#32))
      (addf (broadcast S256x256 (Scalar.ofBits .f32 0x3F800000#32))
        (exp (subf (broadcast S256x256 (Scalar.ofBits .f32 0x00000000#32)) a))))) v) bitsLt_bf16_f32)
    shapeCasts_S256x256_S256x256

/-- One slice of gated columns. -/
def slice (h : FVec F S272x1024 .bf16) (wa wv : Vec F S1x1024x256 .bf16) (a0 a1 a2 v0 v1 v2 : Vec F S1x256 .f32) :
    FVec F S256x256 .bf16 :=
  gated (conv (k0_pay21 h wa) a0 a1 a2) (conv (k0_pay21 h wv) v0 v1 v2)

/-- Where slice `n` of the columns lies: among the gates, among the values, in the scratch buffer. -/
theorem inbA (n : Fin 11) : ∀ a, (![0, 0, 256 * n.val] : Fin 3 → Nat) a + S1x1024x256.size a ≤ S1x1024x5632.size a := by
  revert n; decide +kernel
theorem inbV (n : Fin 11) : ∀ a, (![0, 0, 2816 + 256 * n.val] : Fin 3 → Nat) a + S1x1024x256.size a ≤ S1x1024x5632.size a := by
  revert n; decide +kernel
theorem inbCA (k : Fin 3) (n : Fin 11) : ∀ a, (![k.val, 256 * n.val] : Fin 2 → Nat) a + S1x256.size a ≤ S3x5632.size a := by
  revert k n; decide +kernel
theorem inbCV (k : Fin 3) (n : Fin 11) : ∀ a, (![k.val, 2816 + 256 * n.val] : Fin 2 → Nat) a + S1x256.size a ≤ S3x5632.size a := by
  revert k n; decide +kernel
theorem inbS (n : Fin 11) : ∀ a, (![0, 256 * n.val] : Fin 2 → Nat) a + S256x256.size a ≤ S256x2816.size a := by
  revert n; decide +kernel

/-- Slice `n`, from the whole blocks of the weights. -/
def sliceAt (h : FVec F S272x1024 .bf16) (W : Vec F S1x1024x5632 .bf16) (C : Vec F S3x5632 .f32) (n : Fin 11) :
    FVec F S256x256 .bf16 :=
  slice h (View.ld W (Rect.unit ![0, 0, 256 * n.val] S1x1024x256.size (inbA n)))
    (View.ld W (Rect.unit ![0, 0, 2816 + 256 * n.val] S1x1024x256.size (inbV n)))
    (View.ld C (Rect.unit ![(0 : Fin 3).val, 256 * n.val] S1x256.size (inbCA 0 n)))
    (View.ld C (Rect.unit ![(1 : Fin 3).val, 256 * n.val] S1x256.size (inbCA 1 n)))
    (View.ld C (Rect.unit ![(2 : Fin 3).val, 256 * n.val] S1x256.size (inbCA 2 n)))
    (View.ld C (Rect.unit ![(0 : Fin 3).val, 2816 + 256 * n.val] S1x256.size (inbCV 0 n)))
    (View.ld C (Rect.unit ![(1 : Fin 3).val, 2816 + 256 * n.val] S1x256.size (inbCV 1 n)))
    (View.ld C (Rect.unit ![(2 : Fin 3).val, 2816 + 256 * n.val] S1x256.size (inbCV 2 n)))

/-- The rectangle of slice `n` in the scratch buffer. -/
abbrev rS (n : Fin 11) : Rect S256x2816 := Rect.unit ![0, 256 * n.val] S256x256.size (inbS n)

/-- The eleven stores of the scratch buffer, the last first. -/
def pieces (h : FVec F S272x1024 .bf16) (W : Vec F S1x1024x5632 .bf16) (C : Vec F S3x5632 .f32) :
    List (View.Piece (Elt F) S256x2816 .bf16) :=
  [⟨rS 10, sliceAt h W C 10⟩,
    ⟨rS 9, sliceAt h W C 9⟩,
    ⟨rS 8, sliceAt h W C 8⟩,
    ⟨rS 7, sliceAt h W C 7⟩,
    ⟨rS 6, sliceAt h W C 6⟩,
    ⟨rS 5, sliceAt h W C 5⟩,
    ⟨rS 4, sliceAt h W C 4⟩,
    ⟨rS 3, sliceAt h W C 3⟩,
    ⟨rS 2, sliceAt h W C 2⟩,
    ⟨rS 1, sliceAt h W C 1⟩,
    ⟨rS 0, sliceAt h W C 0⟩]

variable (m : (ℓ : Loc nD τ sig) → Buf (Elt F) ℓ) (ρ : Dev nD → PrngReg)

abbrev rOut : Rect S1x256x1024 := Rect.unit ![0, 0, 0] S1x256x1024.size inb_S1x256x1024_S1x256x1024_0_0_0
abbrev rHalo : Rect S1x8x1024 := Rect.unit ![0, 0, 0] S1x8x1024.size inb_S1x8x1024_S1x8x1024_0_0_0
abbrev rMod : Rect S1x1x1x6144 := Rect.unit ![0, 0, 0, 0] S1x1x1x6144.size inb_S1x1x1x6144_S1x1x1x6144_0_0_0_0
abbrev rGain : Rect S1x1024 := Rect.unit ![0, 0] S1x1024.size inb_S1x1024_S1x1024_0_0
abbrev rDown : Rect S1x2816x1024 := Rect.unit ![0, 0, 0] S1x2816x1024.size inb_S1x2816x1024_S1x2816x1024_0_0_0
abbrev rScr : Rect S256x2816 := Rect.unit ![0, 0] S256x2816.size inb_S256x2816_S256x2816_0_0

/-- The normalised tile of a point. -/
def hAt (c : Dev nD) (t : Fin cfg0.N) : FVec F S272x1024 .bf16 :=
  hAll (grid0.coords t) (View.ld (iblk m c 0 t) rOut) (View.ld (iblk m c 1 t) rHalo) (View.ld (iblk m c 2 t) rHalo)
    (View.ld (iblk m c 3 t) rMod) (View.ld (iblk m c 4 t) rGain)

set_option maxHeartbeats 4000000 in
/-- What a point leaves in the output's buffer. -/
theorem out_eq (c : Dev nD) (t : Fin cfg0.N) :
    outsAt0 m c t = View.canon [⟨rOut, k0_pay1 (k0_pay5 (View.ld (iblk m c 3 t) rMod)) (k0_pay6 (View.ld (iblk m c 0 t) rOut))
      ((View.whole cc0_scratch0).readCov (pieces (hAt m c t) (iblk m c 6 t) (iblk m c 7 t)) rScr.toLoadRect)
      (View.ld (iblk m c 8 t) rDown) (View.ld (iblk m c 5 t) rGain)⟩] := by
  unfold outsAt0
  unfold out0_A_9
  rw [View.read_writes_eq_canon _ _ _ (fun y => cover0_A_9 c _ _ _ _ _ _ _ _ _ _ _ _ _ _ _ _ _ _ _ _ _ _ _ _ _ _ _ _ _ _ _ _ y)]
  unfold kernelRun0_A
  dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  rfl

end Cert.Kernel2Ideal.FFN

end
-- ==== Proof.FFN.Elements.lean ====
/- The feed-forward kernel's stages read at one element over the extended reals. -/
module

public import proofs.«01_k».proof.Proof.FFN.Stages
public import proofs.«01_k».proof.Proof.FFN.Spec

@[expose] public section

noncomputable section

namespace Cert.Kernel2Ideal.FFN

open Cert.Kernel2Ideal Cert.Kernel2Ideal.Gen Idealize.ShloMosaic Idealize.ShloMosaic.TcCoe Cert.FFN

theorem pay3_apply (md : Vec Ideal S1x1x1x6144 .f32) (j : Fin 1024) : k0_pay3 md (ix2 0 j) = md (ix4 0 0 0 (colSh j)) := by
  pointwise [k0_pay3, k0_pay2]
theorem pay4_apply (md : Vec Ideal S1x1x1x6144 .f32) (j : Fin 1024) : k0_pay4 md (ix2 0 j) = md (ix4 0 0 0 (colSc j)) := by
  pointwise [k0_pay4, k0_pay2]
theorem pay5_apply (md : Vec Ideal S1x1x1x6144 .f32) (j : Fin 1024) : k0_pay5 md (ix2 0 j) = md (ix4 0 0 0 (colGt j)) := by
  pointwise [k0_pay5, k0_pay2]

theorem before_apply (md : Vec Ideal S1x1x1x6144 .f32) (x : Vec Ideal S1x8x1024 .f32) (g : Vec Ideal S1x1024 .f32) (i : Fin 8) (j : Fin 1024) :
    k0_pay9 md x g (ix2 i j) = hid (fun k => x (ix3 0 i k)) (fun k => g (ix2 0 k)) (fun k => md (ix4 0 0 0 (colSc k)))
      (fun k => md (ix4 0 0 0 (colSh k))) j := by
  show _ = hid _ _ (fun k => md (ix4 0 0 0 (colSc k))) (fun k => md (ix4 0 0 0 (colSh k))) j
  simp only [← pay3_apply, ← pay4_apply]
  unfold k0_pay9
  generalize k0_pay3 md = sh
  generalize k0_pay4 md = sc
  pointwise [hid, rmsRow]

theorem after_apply (sh sc : FVec Ideal S1x1024 .f32) (x : Vec Ideal S1x8x1024 .f32) (g : Vec Ideal S1x1024 .f32) (i : Fin 8) (j : Fin 1024) :
    k0_pay12 sh sc x g (ix2 i j) = hid (fun k => x (ix3 0 i k)) (fun k => g (ix2 0 k)) (fun k => sc (ix2 0 k)) (fun k => sh (ix2 0 k)) j := by
  pointwise [k0_pay12, hid, rmsRow]

theorem tile_apply (sh sc : FVec Ideal S1x1024 .f32) (x : FVec Ideal S256x1024 .f32) (g : Vec Ideal S1x1024 .f32) (i : Fin 256) (j : Fin 1024) :
    k0_pay11 sh sc x g (ix2 i j) = hid (fun k => x (ix2 i k)) (fun k => g (ix2 0 k)) (fun k => sc (ix2 0 k)) (fun k => sh (ix2 0 k)) j := by
  pointwise [k0_pay11, hid, rmsRow]

theorem pay6_apply (x : Vec Ideal S1x256x1024 .f32) (i : Fin 256) (j : Fin 1024) : k0_pay6 x (ix2 i j) = x (ix3 0 i j) := by
  pointwise [k0_pay6]

theorem up_apply (h : FVec Ideal S272x1024 .bf16) (w : Vec Ideal S1x1024x256 .bf16) (i : Fin 272) (f : Fin 256) :
    k0_pay21 h w (ix2 i f) = ∑ j, h (ix2 i j) * w (ix3 0 j f) := by
  pointwise [k0_pay21]

theorem gated_apply (a v : FVec Ideal S256x256 .f32) (r f : Fin 256) : gated a v (ix2 r f) = glu (a (ix2 r f)) (v (ix2 r f)) := by
  have e : gated a v (ix2 r f) = a (ix2 r f) * Ideal.div 1
      (1 + Ideal.exp (0 - a (ix2 r f))) * v (ix2 r f) := by
    pointwise [gated]
  rw [e, zero_sub]; rfl

theorem cat_apply (a b : FVec Ideal S8x1024 .f32) (d : FVec Ideal S256x1024 .f32) (e : FVec Ideal S8x1024 .f32) (i : Fin 272) (j : Fin 1024) :
    k0_pay14 a d b e (ix2 i j) = if h : i.val < 8 then a (ix2 ⟨i.val, h⟩ j)
      else if h' : i.val - 8 < 256 then d (ix2 ⟨i.val - 8, h'⟩ j)
      else b (ix2 ⟨i.val - 8 - 256, by omega⟩ j) * e (ix2 ⟨i.val - 8 - 256, by omega⟩ j) := by
  pointwise [k0_pay14]

theorem conv_apply (u : FVec Ideal S272x256 .f32) (w0 w1 w2 : Vec Ideal S1x256 .f32) (r f : Fin 256) :
    conv u w0 w1 w2 (ix2 r f) = w0 (ix2 0 f) * u (ix2 ⟨7 + r.val, by omega⟩ f) + w1 (ix2 0 f) * u (ix2 ⟨8 + r.val, by omega⟩ f)
      + w2 (ix2 0 f) * u (ix2 ⟨9 + r.val, by omega⟩ f) := by
  have e : conv u w0 w1 w2 (ix2 r f) = w0 (ix2 0 f) * u (ix2 ⟨(8 + r.val + 272 - 1) % 272, by omega⟩ f)
      + w1 (ix2 0 f) * u (ix2 ⟨8 + r.val, by omega⟩ f) + w2 (ix2 0 f) * u (ix2 ⟨(8 + r.val + 272 - 271) % 272, by omega⟩ f) := by
    pointwise [conv]
  rw [e, show (⟨(8 + r.val + 272 - 1) % 272, by omega⟩ : Fin 272) = ⟨7 + r.val, by omega⟩ from Fin.ext (by dsimp only; omega),
    show (⟨(8 + r.val + 272 - 271) % 272, by omega⟩ : Fin 272) = ⟨9 + r.val, by omega⟩ from Fin.ext (by dsimp only; omega)]

/-- What a point stores, from its product down. -/
theorem last_apply (gt : FVec Ideal S1x1024 .f32) (x : FVec Ideal S256x1024 .f32) (a : Vec Ideal S256x2816 .bf16)
    (D : Vec Ideal S1x2816x1024 .bf16) (g : Vec Ideal S1x1024 .f32) (r : Fin 256) (j : Fin 1024) :
    k0_pay1 gt x a D g (ix3 0 r j) = x (ix2 r j)
      + gt (ix2 0 j) * rmsRow (fun k => ∑ f, a (ix2 r f) * D (ix3 0 f k)) (fun k => g (ix2 0 k)) j := by
  pointwise [k0_pay1, rmsRow]

/-- The words of the two halo tests. -/
theorem before_word (i : grid0.Coords) : k0_pay7 (F := Ideal) i = if (i 1).val = 0 then 0 else 1 := by
  have e : Scalar.extui (Scalar.cmpi .sge (Scalar.addi (BitVec.ofNat 32 (i 1).val) 1#32) 2#32) = if (i 1).val = 0 then 0#32 else 1#32 := by
    generalize (i 1 : Fin 16) = s
    revert s; decide +kernel
  unfold k0_pay7
  dsimp only
  rw [e]
  split
  · show (((0#32 : BitVec 32).toInt : ℝ) : EReal) = 0
    rw [show (0#32 : BitVec 32).toInt = 0 by decide]; simp
  · show (((1#32 : BitVec 32).toInt : ℝ) : EReal) = 1
    rw [show (1#32 : BitVec 32).toInt = 1 by decide]; simp

theorem after_word (i : grid0.Coords) : k0_pay8 (F := Ideal) i = if (i 1).val = 15 then 0 else 1 := by
  have e : Scalar.extui (Scalar.andi (Scalar.cmpi .sge (Scalar.addi (BitVec.ofNat 32 (i 1).val) 1#32) 1#32)
      (Scalar.cmpi .slt (Scalar.addi (BitVec.ofNat 32 (i 1).val) 1#32) 16#32)) = if (i 1).val = 15 then 0#32 else 1#32 := by
    generalize (i 1 : Fin 16) = s
    revert s; decide +kernel
  unfold k0_pay8
  dsimp only
  rw [e]
  split
  · show (((0#32 : BitVec 32).toInt : ℝ) : EReal) = 0
    rw [show (0#32 : BitVec 32).toInt = 0 by decide]; simp
  · show (((1#32 : BitVec 32).toInt : ℝ) : EReal) = 1
    rw [show (1#32 : BitVec 32).toInt = 1 by decide]; simp

section Rows

variable (i : grid0.Coords) (x : Vec Ideal S1x256x1024 .f32) (xp xn : Vec Ideal S1x8x1024 .f32) (md : Vec Ideal S1x1x1x6144 .f32)
  (g : Vec Ideal S1x1024 .f32)

/-- A row of the block, normalised and modulated. -/
def hidOf (y : Fin 1024 → EReal) (j : Fin 1024) : EReal :=
  hid y (fun k => g (ix2 0 k)) (fun k => md (ix4 0 0 0 (colSc k))) (fun k => md (ix4 0 0 0 (colSh k))) j

theorem row_tile (r : Fin 256) (j : Fin 1024) :
    hAll i x xp xn md g (ix2 ⟨8 + r.val, by omega⟩ j) = hidOf md g (fun k => x (ix3 0 r k)) j := by
  unfold hAll
  rw [cat_apply, dif_neg (by dsimp only; omega), dif_pos (by dsimp only; omega),
    show (⟨8 + r.val - 8, by omega⟩ : Fin 256) = r from Fin.ext (by dsimp only; omega), tile_apply]
  simp only [pay3_apply, pay4_apply, pay6_apply]
  rfl

theorem row_before (j : Fin 1024) :
    hAll i x xp xn md g (ix2 7 j) = if (i 1).val = 0 then 0 else hidOf md g (fun k => xp (ix3 0 7 k)) j := by
  unfold hAll
  rw [cat_apply, dif_pos (by decide)]
  have e : ∀ (w : Ideal .f32) (v : FVec Ideal S8x1024 .f32), k0_pay10 w v (ix2 7 j) = v (ix2 7 j) * w := by
    intro w v
    pointwise [k0_pay10]
  refine (e _ _).trans ?_
  rw [before_word, before_apply]
  split
  · exact mul_zero _
  · exact mul_one _

theorem row_after (j : Fin 1024) :
    hAll i x xp xn md g (ix2 264 j) = if (i 1).val = 15 then 0 else hidOf md g (fun k => xn (ix3 0 0 k)) j := by
  unfold hAll
  rw [cat_apply, dif_neg (by decide), dif_neg (by decide)]
  have e : ∀ (w : Ideal .f32) (a : Fin 8), k0_pay13 w (ix2 a j) = w := by
    intro w a
    pointwise [k0_pay13]
  rw [e, after_word, after_apply]
  simp only [pay3_apply, pay4_apply]
  split
  · exact mul_zero _
  · exact mul_one _

end Rows

end Cert.Kernel2Ideal.FFN

end
-- ==== Proof.FFN.Blocks.lean ====
/- The blocks of a grid point of the feed-forward kernel, element by element.

   A point is a batch element `pb` and a tile `ps` of 256 latent tokens. It takes that tile, the eight tokens before it and
   the eight after it (both kept within the array), its batch element's modulation, and the last layer's weights. -/
module

public import proofs.«01_k».proof.Proof.FFN.Elements

@[expose] public section

noncomputable section

namespace Cert.Kernel2Ideal.FFN

open Cert.Kernel2Ideal Cert.Kernel2Ideal.Gen Idealize.ShloMosaic Idealize.ShloMosaic.TcCoe Idealize.SL.Sem Cert.FFN

/-- The batch element and the tile of a point. -/
def pb (i : grid0.Coords) : Fin 8 := i 0
def ps (i : grid0.Coords) : Fin 16 := i 1

/-- Latent token `r` of tile `s`. -/
def tok (s : Fin 16) (r : Fin 256) : Fin 4096 := ⟨256 * s.val + r.val, by omega⟩

theorem ld_at {Val : EltTy → Type} {S : Shape} {e : EltTy} (X : S.Idx → Val e) (off size : Fin S.rank → Nat)
    (inb : ∀ a, off a + size a ≤ S.size a) (x : (Rect.unit off size inb).shape.Idx) (k : S.Idx)
    (hk : ∀ a, (k a).val = off a + (x a).val) : View.ld X (Rect.unit off size inb) x = X k := by
  rw [View.ld_unit]
  exact extractStridedSlice_apply off X _ x k hk

theorem map0 (i : grid0.Coords) : cc0_transform_0 i = ![(pb i).val, (ps i).val + 1, 0] := by
  unfold cc0_transform_0 pb ps
  generalize (i 0 : Fin 8) = b
  generalize (i 1 : Fin 16) = s
  revert b s; decide +kernel

theorem map1 (i : grid0.Coords) : cc0_transform_1 i = ![(pb i).val, 32 * (ps i).val + 31, 0] := by
  unfold cc0_transform_1 pb ps
  generalize (i 0 : Fin 8) = b
  generalize (i 1 : Fin 16) = s
  revert b s; decide +kernel

theorem map2 (i : grid0.Coords) : cc0_transform_2 i = ![(pb i).val, min (32 * (ps i).val + 64) 543, 0] := by
  unfold cc0_transform_2 pb ps
  generalize (i 0 : Fin 8) = b
  generalize (i 1 : Fin 16) = s
  revert b s; decide +kernel

theorem map3 (i : grid0.Coords) : cc0_transform_3 i = ![3, (pb i).val, 0, 0] := by
  unfold cc0_transform_3 pb
  generalize (i 0 : Fin 8) = b
  generalize (i 1 : Fin 16) = s
  revert b s; decide +kernel

theorem map9 (i : grid0.Coords) : cc0_transform_9 i = ![(pb i).val, (ps i).val, 0] := by
  unfold cc0_transform_9 pb ps
  generalize (i 0 : Fin 8) = b
  generalize (i 1 : Fin 16) = s
  revert b s; decide +kernel

section Blocks

variable {F : FTy → Type} [FloatOps F]
variable (m : (ℓ : Loc nD τ sig) → Buf (Elt F) ℓ)

/-- An element of the output's block, in the array. -/
theorem emb9 (t : Fin cfg0.N) (r : Fin 256) (j : Fin 1024) :
    ((cfg0.win 9).blk t).view.emb (ix3 0 r j : S1x256x1024.Idx)
      = ix3 (pb (grid0.coords t)) (tok (ps (grid0.coords t)) r) j := by
  funext a
  refine Fin.ext (((cfg0.win 9).rect_emb_val t _ a).trans ?_)
  show cc0_transform_9 (grid0.coords t) a * S1x256x1024.size a + _ = _
  rw [map9]
  fin_cases a
  · show (pb (grid0.coords t)).val * 1 + 0 = (pb (grid0.coords t)).val; omega
  · show (ps (grid0.coords t)).val * 256 + r.val = 256 * (ps (grid0.coords t)).val + r.val; omega
  · show 0 * 1024 + j.val = j.val; omega

theorem blk0_apply (c : Dev nD) (t : Fin cfg0.N) (r : Fin 256) (j : Fin 1024) :
    iblk m c 0 t (ix3 0 r j : S1x256x1024.Idx)
      = m ((c : Thread nD τ).loc main_arg0) (ix3 (pb (grid0.coords t)) (latent (tok (ps (grid0.coords t)) r)) j) := by
  rw [← V_main_arg0 m c]
  refine congrArg (V m c main_arg0) (funext fun a => ?_)
  refine Fin.ext (((cfg0.win 0).rect_emb_val t _ a).trans ?_)
  show cc0_transform_0 (grid0.coords t) a * S1x256x1024.size a + _ = _
  rw [map0]
  fin_cases a
  · show (pb (grid0.coords t)).val * 1 + 0 = (pb (grid0.coords t)).val; omega
  · show ((ps (grid0.coords t)).val + 1) * 256 + r.val = 256 + (256 * (ps (grid0.coords t)).val + r.val); omega
  · show 0 * 1024 + j.val = j.val; omega

/-- The token before the tile, when there is one. -/
theorem blk1_apply (c : Dev nD) (t : Fin cfg0.N) (n : Fin 4096) (j : Fin 1024)
    (hn : n.val + 1 = 256 * (ps (grid0.coords t)).val) :
    iblk m c 1 t (ix3 0 7 j : S1x8x1024.Idx)
      = m ((c : Thread nD τ).loc main_arg0) (ix3 (pb (grid0.coords t)) (latent n) j) := by
  rw [← V_main_arg0 m c]
  refine congrArg (V m c main_arg0) (funext fun a => ?_)
  refine Fin.ext (((cfg0.win 1).rect_emb_val t _ a).trans ?_)
  show cc0_transform_1 (grid0.coords t) a * S1x8x1024.size a + _ = _
  rw [map1]
  fin_cases a
  · show (pb (grid0.coords t)).val * 1 + 0 = (pb (grid0.coords t)).val; omega
  · show (32 * (ps (grid0.coords t)).val + 31) * 8 + 7 = 256 + n.val; omega
  · show 0 * 1024 + j.val = j.val; omega

/-- The token after the tile, when there is one. -/
theorem blk2_apply (c : Dev nD) (t : Fin cfg0.N) (n : Fin 4096) (j : Fin 1024)
    (hn : n.val = 256 * (ps (grid0.coords t)).val + 256) :
    iblk m c 2 t (ix3 0 0 j : S1x8x1024.Idx)
      = m ((c : Thread nD τ).loc main_arg0) (ix3 (pb (grid0.coords t)) (latent n) j) := by
  rw [← V_main_arg0 m c]
  refine congrArg (V m c main_arg0) (funext fun a => ?_)
  refine Fin.ext (((cfg0.win 2).rect_emb_val t _ a).trans ?_)
  show cc0_transform_2 (grid0.coords t) a * S1x8x1024.size a + _ = _
  rw [map2]
  have := n.isLt
  fin_cases a
  · show (pb (grid0.coords t)).val * 1 + 0 = (pb (grid0.coords t)).val; omega
  · show (min (32 * (ps (grid0.coords t)).val + 64) 543) * 8 + 0 = 256 + n.val; omega
  · show 0 * 1024 + j.val = j.val; omega

theorem blk3_apply (c : Dev nD) (t : Fin cfg0.N) (j : Fin 6144) :
    iblk m c 3 t (ix4 0 0 0 j : S1x1x1x6144.Idx)
      = m ((c : Thread nD τ).loc main_arg1) (ix4 3 ⟨(pb (grid0.coords t)).val, by omega⟩ 0 j) := by
  rw [← V_main_arg1 m c]
  refine congrArg (V m c main_arg1) (funext fun a => ?_)
  refine Fin.ext (((cfg0.win 3).rect_emb_val t _ a).trans ?_)
  show cc0_transform_3 (grid0.coords t) a * S1x1x1x6144.size a + _ = _
  rw [map3]
  fin_cases a
  · rfl
  · show (pb (grid0.coords t)).val * 1 + 0 = (pb (grid0.coords t)).val; omega
  · rfl
  · show 0 * 6144 + j.val = j.val; omega

theorem blk4_apply (c : Dev nD) (t : Fin cfg0.N) (j : Fin 1024) :
    iblk m c 4 t (ix2 0 j : S1x1024.Idx) = V m c main_v2 (ix2 0 j) := by
  refine congrArg (V m c main_v2) (funext fun a => ?_)
  refine Fin.ext (((cfg0.win 4).rect_emb_val t _ a).trans ?_)
  fin_cases a
  · rfl
  · show 0 * 1024 + j.val = j.val; omega

theorem blk5_apply (c : Dev nD) (t : Fin cfg0.N) (j : Fin 1024) :
    iblk m c 5 t (ix2 0 j : S1x1024.Idx) = V m c main_v5 (ix2 0 j) := by
  refine congrArg (V m c main_v5) (funext fun a => ?_)
  refine Fin.ext (((cfg0.win 5).rect_emb_val t _ a).trans ?_)
  fin_cases a
  · rfl
  · show 0 * 1024 + j.val = j.val; omega

theorem blk6_apply (c : Dev nD) (t : Fin cfg0.N) (j : Fin 1024) (f : Fin 5632) :
    iblk m c 6 t (ix3 0 j f : S1x1024x5632.Idx) = V m c main_v6 (ix3 3 j f) := by
  refine congrArg (V m c main_v6) (funext fun a => ?_)
  refine Fin.ext (((cfg0.win 6).rect_emb_val t _ a).trans ?_)
  fin_cases a
  · rfl
  · show 0 * 1024 + j.val = j.val; omega
  · show 0 * 5632 + f.val = f.val; omega

theorem blk7_apply (c : Dev nD) (t : Fin cfg0.N) (k : Fin 3) (f : Fin 5632) :
    iblk m c 7 t (ix2 k f : S3x5632.Idx) = V m c main_v8 (ix2 k f) := by
  refine congrArg (V m c main_v8) (funext fun a => ?_)
  refine Fin.ext (((cfg0.win 7).rect_emb_val t _ a).trans ?_)
  fin_cases a
  · show 0 * 3 + k.val = k.val; omega
  · show 0 * 5632 + f.val = f.val; omega

theorem blk8_apply (c : Dev nD) (t : Fin cfg0.N) (f : Fin 2816) (j : Fin 1024) :
    iblk m c 8 t (ix3 0 f j : S1x2816x1024.Idx) = V m c main_v9 (ix3 3 f j) := by
  refine congrArg (V m c main_v9) (funext fun a => ?_)
  refine Fin.ext (((cfg0.win 8).rect_emb_val t _ a).trans ?_)
  fin_cases a
  · rfl
  · show 0 * 2816 + f.val = f.val; omega
  · show 0 * 1024 + j.val = j.val; omega

end Blocks

section Host

variable (m : (ℓ : Loc nD τ sig) → Buf (Elt Ideal) ℓ)

/-- The host's weights: layer 3 of each. -/
theorem gain1_apply (c : Dev nD) (j : Fin 1024) : V m c main_v2 (ix2 0 j) = m ((c : Thread nD τ).loc main_arg2) (ix2 3 j) := by
  have e : ∀ W : Idealize.ShloMosaic.Valuation τ sig (Elt Ideal), StableHlo.after hostOps0 W main_v2 (ix2 0 j) = W main_arg2 (ix2 3 j) := by
    intro W
    after_results_simp
    generalize (W main_arg2 : Vec Ideal S4x1024 .f32) = y
    pointwise []
  exact e _

theorem gain2_apply (c : Dev nD) (j : Fin 1024) : V m c main_v5 (ix2 0 j) = m ((c : Thread nD τ).loc main_arg3) (ix2 3 j) := by
  have e : ∀ W : Idealize.ShloMosaic.Valuation τ sig (Elt Ideal), StableHlo.after hostOps0 W main_v5 (ix2 0 j) = W main_arg3 (ix2 3 j) := by
    intro W
    after_results_simp
    generalize (W main_arg3 : Vec Ideal S4x1024 .f32) = y
    pointwise []
  exact e _

theorem wUp_apply (c : Dev nD) (l : Fin 4) (j : Fin 1024) (f : Fin 5632) :
    V m c main_v6 (ix3 l j f) = m ((c : Thread nD τ).loc main_arg4) (ix3 l j f) := by
  have e : ∀ W : Idealize.ShloMosaic.Valuation τ sig (Elt Ideal), StableHlo.after hostOps0 W main_v6 (ix3 l j f) = W main_arg4 (ix3 l j f) := by
    intro W
    after_results_simp
    generalize (W main_arg4 : Vec Ideal S4x1024x5632 .f32) = y
    pointwise []
  exact e _

theorem wConv_apply (c : Dev nD) (k : Fin 3) (f : Fin 5632) :
    V m c main_v8 (ix2 k f) = m ((c : Thread nD τ).loc main_arg5) (ix3 3 k f) := by
  have e : ∀ W : Idealize.ShloMosaic.Valuation τ sig (Elt Ideal), StableHlo.after hostOps0 W main_v8 (ix2 k f) = W main_arg5 (ix3 3 k f) := by
    intro W
    after_results_simp
    generalize (W main_arg5 : Vec Ideal S4x3x5632 .f32) = y
    pointwise []
  exact e _

theorem wDown_apply (c : Dev nD) (l : Fin 4) (f : Fin 2816) (j : Fin 1024) :
    V m c main_v9 (ix3 l f j) = m ((c : Thread nD τ).loc main_arg6) (ix3 l f j) := by
  have e : ∀ W : Idealize.ShloMosaic.Valuation τ sig (Elt Ideal), StableHlo.after hostOps0 W main_v9 (ix3 l f j) = W main_arg6 (ix3 l f j) := by
    intro W
    after_results_simp
    generalize (W main_arg6 : Vec Ideal S4x2816x1024 .f32) = y
    pointwise []
  exact e _

end Host

end Cert.Kernel2Ideal.FFN
-- ==== Proof.FFN.Array.lean ====
/- The feed-forward kernel's whole output array, element by element. -/
module

public import proofs.«01_k».proof.Proof.FFN.Blocks

@[expose] public section

noncomputable section

namespace Cert.Kernel2Ideal.FFN

open Cert.Kernel2Ideal Cert.Kernel2Ideal.Gen Idealize.ShloMosaic Idealize.ShloMosaic.TcCoe Idealize.SL.Sem Cert.FFN
open Idealize.ShloMosaic.Pipeline (Dat)

/-- The point's coordinates, from its number. -/
theorem coord_b (t : Fin cfg0.N) : (pb (grid0.coords t)).val = t.val / 16 := by
  have ht : t.val < 128 := Nat.lt_of_lt_of_eq t.isLt N_0
  have e : (grid0.coords t 0).val = t.val / 16 % 8 := Pipeline.Grid.coords_val t 0 (by decide) rfl
  show (grid0.coords t 0).val = _
  omega
theorem coord_s (t : Fin cfg0.N) : (ps (grid0.coords t)).val = t.val % 16 := by
  have e : (grid0.coords t 1).val = t.val / 1 % 16 := Pipeline.Grid.coords_val t 1 (by decide) rfl
  show (grid0.coords t 1).val = _
  omega

section Launch

variable (m : (ℓ : Loc nD τ sig) → Buf (Elt Ideal) ℓ) (c : Dev nD)

/-- The arguments as launched, as functions: the stream; layer 3 of the modulation, of the gains and of the weights. -/
abbrev aX (b : Fin 8) (n : Fin 4352) (j : Fin 1024) : EReal := (m ((c : Thread nD τ).loc main_arg0) : Vec Ideal S8x4352x1024 .f32) (ix3 b n j)
abbrev aM (b : Fin 8) (k : Fin 6144) : EReal := (m ((c : Thread nD τ).loc main_arg1) : Vec Ideal S4x16x1x6144 .f32) (ix4 3 ⟨b.val, by omega⟩ 0 k)
abbrev aG (j : Fin 1024) : EReal := (m ((c : Thread nD τ).loc main_arg2) : Vec Ideal S4x1024 .f32) (ix2 3 j)
abbrev aH (j : Fin 1024) : EReal := (m ((c : Thread nD τ).loc main_arg3) : Vec Ideal S4x1024 .f32) (ix2 3 j)
abbrev aW (j : Fin 1024) (f : Fin 5632) : EReal := (m ((c : Thread nD τ).loc main_arg4) : Vec Ideal S4x1024x5632 .f32) (ix3 3 j f)
abbrev aC (k : Fin 3) (f : Fin 5632) : EReal := (m ((c : Thread nD τ).loc main_arg5) : Vec Ideal S4x3x5632 .f32) (ix3 3 k f)
abbrev aD (f : Fin 2816) (j : Fin 1024) : EReal := (m ((c : Thread nD τ).loc main_arg6) : Vec Ideal S4x2816x1024 .f32) (ix3 3 f j)

/-- The whole output. -/
def whole : S8x4096x1024.Idx → EReal := fun y => result (aX m c) (aM m c) (aG m c) (aH m c) (aW m c) (aC m c) (aD m c) (y 0) (y 1) (y 2)

variable (t : Fin cfg0.N)

theorem load_tile (r : Fin 256) (j : Fin 1024) :
    View.ld (iblk m c 0 t) rOut (ix3 0 r j) = aX m c (pb (grid0.coords t)) (latent (tok (ps (grid0.coords t)) r)) j := by
  refine Eq.trans ?_ (blk0_apply m c t r j)
  exact ld_at _ _ _ _ _ _ fun x => by fin_cases x <;> simp [ix3]

theorem load_before (n : Fin 4096) (j : Fin 1024) (hn : n.val + 1 = 256 * (ps (grid0.coords t)).val) :
    View.ld (iblk m c 1 t) rHalo (ix3 0 7 j) = aX m c (pb (grid0.coords t)) (latent n) j := by
  refine Eq.trans ?_ (blk1_apply m c t n j hn)
  exact ld_at _ _ _ _ _ _ fun x => by fin_cases x <;> simp [ix3]

theorem load_after (n : Fin 4096) (j : Fin 1024) (hn : n.val = 256 * (ps (grid0.coords t)).val + 256) :
    View.ld (iblk m c 2 t) rHalo (ix3 0 0 j) = aX m c (pb (grid0.coords t)) (latent n) j := by
  refine Eq.trans ?_ (blk2_apply m c t n j hn)
  exact ld_at _ _ _ _ _ _ fun x => by fin_cases x <;> simp [ix3]

theorem load_mod (k : Fin 6144) : View.ld (iblk m c 3 t) rMod (ix4 0 0 0 k) = aM m c (pb (grid0.coords t)) k := by
  refine Eq.trans ?_ (blk3_apply m c t k)
  exact ld_at _ _ _ _ _ _ fun x => by fin_cases x <;> simp [ix4]

theorem load_gain1 (j : Fin 1024) : View.ld (iblk m c 4 t) rGain (ix2 0 j) = aG m c j := by
  refine Eq.trans ?_ ((blk4_apply m c t j).trans (gain1_apply m c j))
  exact ld_at _ _ _ _ _ _ fun x => by fin_cases x <;> simp [ix2]

theorem load_gain2 (j : Fin 1024) : View.ld (iblk m c 5 t) rGain (ix2 0 j) = aH m c j := by
  refine Eq.trans ?_ ((blk5_apply m c t j).trans (gain2_apply m c j))
  exact ld_at _ _ _ _ _ _ fun x => by fin_cases x <;> simp [ix2]

theorem load_down (f : Fin 2816) (j : Fin 1024) : View.ld (iblk m c 8 t) rDown (ix3 0 f j) = aD m c f j := by
  refine Eq.trans ?_ ((blk8_apply m c t f j).trans (wDown_apply m c 3 f j))
  exact ld_at _ _ _ _ _ _ fun x => by fin_cases x <;> simp [ix3]

theorem load_up (off : Nat) (inb) (j : Fin 1024) (f : Fin 256) (k : Fin 5632) (hk : k.val = off + f.val) :
    View.ld (iblk m c 6 t) (Rect.unit (s := S1x1024x5632) ![0, 0, off] S1x1024x256.size inb) (ix3 0 j f) = aW m c j k := by
  refine Eq.trans ?_ ((blk6_apply m c t j k).trans (wUp_apply m c 3 j k))
  exact ld_at _ _ _ _ _ _ fun x => by fin_cases x <;> simp [ix3, hk]

theorem load_conv (p : Fin 3) (off : Nat) (inb) (f : Fin 256) (k : Fin 5632) (hk : k.val = off + f.val) :
    View.ld (iblk m c 7 t) (Rect.unit (s := S3x5632) ![p.val, off] S1x256.size inb) (ix2 0 f) = aC m c p k := by
  refine Eq.trans ?_ ((blk7_apply m c t p k).trans (wConv_apply m c p k))
  exact ld_at _ _ _ _ _ _ fun x => by fin_cases x <;> simp [ix2, hk]

/-- The rows of the normalised tile: the tokens of the tile, the one before and the one after. -/
theorem row_tok (r : Fin 256) (j : Fin 1024) : hAt m c t (ix2 ⟨8 + r.val, by omega⟩ j)
    = hiddenAt (aX m c) (aM m c) (aG m c) (pb (grid0.coords t)) (tok (ps (grid0.coords t)) r) j := by
  unfold hAt
  rw [row_tile]
  unfold hidOf hiddenAt
  simp only [load_tile, load_mod, load_gain1]

theorem row_prev (j : Fin 1024) : hAt m c t (ix2 7 j)
    = if h : (ps (grid0.coords t)).val = 0 then 0
      else hiddenAt (aX m c) (aM m c) (aG m c) (pb (grid0.coords t)) ⟨256 * (ps (grid0.coords t)).val - 1, by omega⟩ j := by
  unfold hAt
  rw [row_before]
  show (if (ps (grid0.coords t)).val = 0 then (0 : EReal) else _) = _
  by_cases h : (ps (grid0.coords t)).val = 0
  · rw [if_pos h, dif_pos h]
  · rw [if_neg h, dif_neg h]
    unfold hidOf hiddenAt
    simp only [load_before m c t ⟨256 * (ps (grid0.coords t)).val - 1, by omega⟩ _ (by dsimp only; omega), load_mod, load_gain1]

theorem row_next (j : Fin 1024) : hAt m c t (ix2 264 j)
    = if h : (ps (grid0.coords t)).val = 15 then 0
      else hiddenAt (aX m c) (aM m c) (aG m c) (pb (grid0.coords t)) ⟨256 * (ps (grid0.coords t)).val + 256, by omega⟩ j := by
  unfold hAt
  rw [row_after]
  show (if (ps (grid0.coords t)).val = 15 then (0 : EReal) else _) = _
  by_cases h : (ps (grid0.coords t)).val = 15
  · rw [if_pos h, dif_pos h]
  · rw [if_neg h, dif_neg h]
    unfold hidOf hiddenAt
    simp only [load_after m c t ⟨256 * (ps (grid0.coords t)).val + 256, by omega⟩ _ rfl, load_mod, load_gain1]

/-- A column of the tile: of a token, of the token before, of the token after. -/
theorem col_tok (w : Vec Ideal S1x1024x256 .bf16) (f : Fin 256) (k : Fin 5632) (hw : ∀ j, w (ix3 0 j f) = aW m c j k) (r : Fin 256) :
    k0_pay21 (hAt m c t) w (ix2 ⟨8 + r.val, by omega⟩ f)
      = up (aX m c) (aM m c) (aG m c) (aW m c) (pb (grid0.coords t)) (tok (ps (grid0.coords t)) r) k := by
  rw [up_apply]
  exact Finset.sum_congr rfl fun j _ => by rw [hw, row_tok]

theorem col_before (w : Vec Ideal S1x1024x256 .bf16) (f : Fin 256) (k : Fin 5632) (hw : ∀ j, w (ix3 0 j f) = aW m c j k) (r : Fin 256) :
    k0_pay21 (hAt m c t) w (ix2 ⟨7 + r.val, by omega⟩ f)
      = upBefore (aX m c) (aM m c) (aG m c) (aW m c) (pb (grid0.coords t)) (tok (ps (grid0.coords t)) r) k := by
  unfold upBefore
  by_cases hr : r.val = 0
  · rw [show (⟨7 + r.val, by omega⟩ : Fin 272) = 7 from Fin.ext (by show 7 + r.val = 7; omega), up_apply]
    by_cases h : (ps (grid0.coords t)).val = 0
    · rw [dif_pos (by show 256 * (ps (grid0.coords t)).val + r.val = 0; omega)]
      exact Finset.sum_eq_zero fun j _ => by rw [row_prev, dif_pos h]; exact zero_mul _
    · rw [dif_neg (by show ¬ 256 * (ps (grid0.coords t)).val + r.val = 0; omega)]
      refine Finset.sum_congr rfl fun j _ => ?_
      rw [hw, row_prev, dif_neg h]
      exact congrArg (fun a => hiddenAt (aX m c) (aM m c) (aG m c) (pb (grid0.coords t)) a j * aW m c j k)
        (Fin.ext (by show 256 * (ps (grid0.coords t)).val - 1 = 256 * (ps (grid0.coords t)).val + r.val - 1; omega))
  · rw [dif_neg (by show ¬ 256 * (ps (grid0.coords t)).val + r.val = 0; omega)]
    refine Eq.trans ?_ ((col_tok m c t w f k hw ⟨r.val - 1, by omega⟩).trans ?_)
    · exact congrArg (fun a => k0_pay21 (hAt m c t) w (ix2 a f)) (Fin.ext (by show 7 + r.val = 8 + (r.val - 1); omega))
    · exact congrArg (fun a => up (aX m c) (aM m c) (aG m c) (aW m c) (pb (grid0.coords t)) a k)
        (Fin.ext (by show 256 * (ps (grid0.coords t)).val + (r.val - 1) = 256 * (ps (grid0.coords t)).val + r.val - 1; omega))

theorem col_after (w : Vec Ideal S1x1024x256 .bf16) (f : Fin 256) (k : Fin 5632) (hw : ∀ j, w (ix3 0 j f) = aW m c j k) (r : Fin 256) :
    k0_pay21 (hAt m c t) w (ix2 ⟨9 + r.val, by omega⟩ f)
      = upAfter (aX m c) (aM m c) (aG m c) (aW m c) (pb (grid0.coords t)) (tok (ps (grid0.coords t)) r) k := by
  unfold upAfter
  by_cases hr : r.val = 255
  · rw [show (⟨9 + r.val, by omega⟩ : Fin 272) = 264 from Fin.ext (by show 9 + r.val = 264; omega), up_apply]
    by_cases h : (ps (grid0.coords t)).val = 15
    · rw [dif_pos (by show 256 * (ps (grid0.coords t)).val + r.val = 4095; omega)]
      exact Finset.sum_eq_zero fun j _ => by rw [row_next, dif_pos h]; exact zero_mul _
    · rw [dif_neg (by show ¬ 256 * (ps (grid0.coords t)).val + r.val = 4095; omega)]
      refine Finset.sum_congr rfl fun j _ => ?_
      rw [hw, row_next, dif_neg h]
      exact congrArg (fun a => hiddenAt (aX m c) (aM m c) (aG m c) (pb (grid0.coords t)) a j * aW m c j k)
        (Fin.ext (by show 256 * (ps (grid0.coords t)).val + 256 = 256 * (ps (grid0.coords t)).val + r.val + 1; omega))
  · have hs := (ps (grid0.coords t)).isLt
    rw [dif_neg (by show ¬ 256 * (ps (grid0.coords t)).val + r.val = 4095; omega)]
    refine Eq.trans ?_ ((col_tok m c t w f k hw ⟨r.val + 1, by omega⟩).trans ?_)
    · exact congrArg (fun a => k0_pay21 (hAt m c t) w (ix2 a f)) (Fin.ext (by show 9 + r.val = 8 + (r.val + 1); omega))
    · exact congrArg (fun a => up (aX m c) (aM m c) (aG m c) (aW m c) (pb (grid0.coords t)) a k)
        (Fin.ext (by show 256 * (ps (grid0.coords t)).val + (r.val + 1) = 256 * (ps (grid0.coords t)).val + r.val + 1; omega))

/-- A convolved column. -/
theorem col_conv (w : Vec Ideal S1x1024x256 .bf16) (w0 w1 w2 : Vec Ideal S1x256 .f32) (f : Fin 256) (k : Fin 5632)
    (hw : ∀ j, w (ix3 0 j f) = aW m c j k) (h0 : w0 (ix2 0 f) = aC m c 0 k) (h1 : w1 (ix2 0 f) = aC m c 1 k)
    (h2 : w2 (ix2 0 f) = aC m c 2 k) (r : Fin 256) :
    conv (k0_pay21 (hAt m c t) w) w0 w1 w2 (ix2 r f)
      = conved (aX m c) (aM m c) (aG m c) (aW m c) (aC m c) (pb (grid0.coords t)) (tok (ps (grid0.coords t)) r) k := by
  rw [conv_apply, col_tok m c t w f k hw, col_before m c t w f k hw, col_after m c t w f k hw, h0, h1, h2]
  rfl

/-- Column `f` of slice `n`. -/
def colOf (n : Fin 11) (f : Fin 256) : Fin 2816 := ⟨256 * n.val + f.val, by omega⟩

/-- An element of a slice of gated columns. -/
theorem slice_elem (n : Fin 11) (r f : Fin 256) : sliceAt (hAt m c t) (iblk m c 6 t) (iblk m c 7 t) n (ix2 r f)
    = act (aX m c) (aM m c) (aG m c) (aW m c) (aC m c) (pb (grid0.coords t)) (tok (ps (grid0.coords t)) r) (colOf n f) := by
  unfold sliceAt slice
  have ha : (colA (colOf n f)).val = 256 * n.val + f.val := rfl
  have hv : (colV (colOf n f)).val = 2816 + 256 * n.val + f.val := by show 2816 + (256 * n.val + f.val) = _; omega
  rw [gated_apply,
    col_conv m c t _ _ _ _ f (colA (colOf n f)) (fun j => load_up m c t _ _ j f _ ha) (load_conv m c t 0 _ _ f _ ha)
      (load_conv m c t 1 _ _ f _ ha) (load_conv m c t 2 _ _ f _ ha) r,
    col_conv m c t _ _ _ _ f (colV (colOf n f)) (fun j => load_up m c t _ _ j f _ hv) (load_conv m c t 0 _ _ f _ hv)
      (load_conv m c t 1 _ _ f _ hv) (load_conv m c t 2 _ _ f _ hv) r]
  rfl

/-- The scratch buffer, whole. -/
def scratch : S256x2816.Idx → EReal := fun y =>
  act (aX m c) (aM m c) (aG m c) (aW m c) (aC m c) (pb (grid0.coords t)) (tok (ps (grid0.coords t)) (y 0)) (y 1)

theorem mem_pieces (p : View.Piece (Elt Ideal) S256x2816 .bf16) (h : FVec Ideal S272x1024 .bf16) (W : Vec Ideal S1x1024x5632 .bf16)
    (C : Vec Ideal S3x5632 .f32) (hp : p ∈ pieces h W C) : ∃ n : Fin 11, p = ⟨rS n, sliceAt h W C n⟩ := by
  unfold pieces at hp
  simp only [List.mem_cons, List.not_mem_nil, or_false] at hp
  rcases hp with hp | hp | hp | hp | hp | hp | hp | hp | hp | hp | hp
  · exact ⟨10, hp⟩
  · exact ⟨9, hp⟩
  · exact ⟨8, hp⟩
  · exact ⟨7, hp⟩
  · exact ⟨6, hp⟩
  · exact ⟨5, hp⟩
  · exact ⟨4, hp⟩
  · exact ⟨3, hp⟩
  · exact ⟨2, hp⟩
  · exact ⟨1, hp⟩
  · exact ⟨0, hp⟩

theorem piece_mem (h : FVec Ideal S272x1024 .bf16) (W : Vec Ideal S1x1024x5632 .bf16) (C : Vec Ideal S3x5632 .f32) (n : Fin 11) :
    (⟨rS n, sliceAt h W C n⟩ : View.Piece (Elt Ideal) S256x2816 .bf16) ∈ pieces h W C := by
  unfold pieces
  fin_cases n <;> simp [List.mem_cons]

theorem pieces_cover (h : FVec Ideal S272x1024 .bf16) (W : Vec Ideal S1x1024x5632 .bf16) (C : Vec Ideal S3x5632 .f32) (y : S256x2816.Idx) :
    ∃ p ∈ pieces h W C, y ∈ p.1.set := by
  have h0 : (y 0).val < 256 := (y 0).isLt
  have h1 : (y 1).val < 2816 := (y 1).isLt
  refine ⟨_, piece_mem h W C ⟨(y 1).val / 256, by omega⟩, ?_⟩
  show y ∈ (rS _).set
  rw [Rect.mem_set_unit]
  intro a
  fin_cases a <;> simp <;> omega

theorem scratch_eq (y : S256x2816.Idx) :
    View.canon (pieces (hAt m c t) (iblk m c 6 t) (iblk m c 7 t)) y = scratch m c t y := by
  refine View.canon_apply_of_pieces (scratch m c t) _ ?_ y (pieces_cover _ _ _ y)
  intro p hp x
  obtain ⟨n, rfl⟩ := mem_pieces p _ _ _ hp
  have hx : x = (ix2 (x 0) (x 1) : S256x256.Idx) := by
    funext a
    match a with | ⟨0, _⟩ => rfl | ⟨1, _⟩ => rfl
  rw [hx]
  refine (slice_elem m c t n (x 0) (x 1)).trans ?_
  have e : (rS n).emb (ix2 (x 0) (x 1) : S256x256.Idx) = ix2 (x 0) (colOf n (x 1)) := by
    funext a
    refine Fin.ext ?_
    rw [Rect.emb_apply]
    fin_cases a <;> simp [ix2, colOf, Rect.unit]
  show _ = scratch m c t ((rS n).emb (ix2 (x 0) (x 1) : S256x256.Idx))
  rw [e]
  rfl

theorem scratch_read (r : Fin 256) (f : Fin 2816) :
    (View.whole cc0_scratch0).readCov (pieces (hAt m c t) (iblk m c 6 t) (iblk m c 7 t)) rScr.toLoadRect (ix2 r f)
      = act (aX m c) (aM m c) (aG m c) (aW m c) (aC m c) (pb (grid0.coords t)) (tok (ps (grid0.coords t)) r) f := by
  rw [View.readCov_eq_canon_ld _ _ _ (pieces_cover _ _ _)]
  refine Eq.trans ?_ (scratch_eq m c t (ix2 r f))
  exact ld_at _ _ _ _ _ _ fun x => by fin_cases x <;> simp [ix2]

theorem tile_idx (x : S1x256x1024.Idx) : ∃ (r : Fin 256) (j : Fin 1024), x = ix3 0 r j := by
  have h0 : (x 0).val < 1 := (x 0).isLt
  refine ⟨x 1, x 2, ?_⟩
  funext a
  match a with
  | ⟨0, _⟩ => exact Fin.ext (by show (x 0).val = 0; omega)
  | ⟨1, _⟩ => rfl
  | ⟨2, _⟩ => rfl

/-- WHAT A POINT LEAVES in the output's buffer is its block of the whole output. -/
theorem point_eq (y : S1x256x1024.Idx) : outsAt0 m c t y = whole m c (((cfg0.win 9).blk t).view.emb y) := by
  rw [out_eq m c t]
  refine View.canon_apply_of_pieces (Val := Elt Ideal) (e := .f32) (fun y : S1x256x1024.Idx => whole m c (((cfg0.win 9).blk t).view.emb y)) _ ?_ y ⟨_, List.mem_singleton_self _, ?_⟩
  · intro p hp x
    obtain rfl := List.mem_singleton.mp hp
    obtain ⟨r, j, rfl⟩ := tile_idx x
    have e : rOut.emb (ix3 0 r j : S1x256x1024.Idx) = ix3 0 r j := by
      funext a
      refine Fin.ext ?_
      rw [Rect.emb_apply]
      fin_cases a <;> simp [ix3, Rect.unit]
    refine Eq.trans ?_ (congrArg (fun z => whole m c (((cfg0.win 9).blk t).view.emb z)) e.symm)
    refine Eq.trans ?_ (congrArg (whole m c) (emb9 t r j).symm)
    refine (last_apply _ _ _ _ _ _ _).trans ?_
    simp only [pay5_apply, pay6_apply, load_tile, load_mod, load_gain2, load_down, scratch_read]
    rfl
  · show y ∈ rOut.set
    have h0 : (y 0).val < 1 := (y 0).isLt
    have h1 : (y 1).val < 256 := (y 1).isLt
    have h2 : (y 2).val < 1024 := (y 2).isLt
    rw [Rect.mem_set_unit]
    intro a
    fin_cases a <;> simp <;> omega

/-- Every element of the output is in the block of some point. -/
theorem covered (i : S8x4096x1024.Idx) : ∃ t : Fin cfg0.N, (cfg0.win 9).flush t = true ∧ i ∈ ((cfg0.win 9).blk t).view.set := by
  have h0 : (i 0).val < 8 := (i 0).isLt
  have h1 : (i 1).val < 4096 := (i 1).isLt
  have h2 : (i 2).val < 1024 := (i 2).isLt
  have hN : 16 * (i 0).val + (i 1).val / 256 < cfg0.N := by
    show _ < grid0.N
    rw [N_0]; omega
  refine ⟨⟨_, hN⟩, flush0_9 _, Finset.mem_map.mpr ⟨ix3 0 ⟨(i 1).val % 256, by omega⟩ ⟨(i 2).val, h2⟩, Finset.mem_univ _, ?_⟩⟩
  refine (emb9 _ _ _).trans ?_
  funext a
  refine Fin.ext ?_
  fin_cases a
  · refine (coord_b _).trans ?_
    show (16 * (i 0).val + (i 1).val / 256) / 16 = (i 0).val
    omega
  · show 256 * (ps _).val + (i 1).val % 256 = (i 1).val
    rw [coord_s]
    show 256 * ((16 * (i 0).val + (i 1).val / 256) % 16) + (i 1).val % 256 = (i 1).val
    omega
  · rfl

/-- THE KERNEL'S OUTPUT, whole. -/
theorem array_eq : (dats m 0 c).arrAt 9 cfg0.N = whole m c := by
  refine (dats m 0 c).arrAt_eq_of_cover 9 _ (fun t _ => ?_) covered
  rw [Value.flushed9]
  funext y
  exact point_eq m c t y

end Launch

end Cert.Kernel2Ideal.FFN
-- ==== Proof.FFN.Final.lean ====
/- The feed-forward kernel's output is the plain program's, for all arguments. -/
module

public import proofs.«01_k».proof.Defs
public import proofs.«01_k».proof.Proof.FFN.Ref
public import proofs.«01_k».proof.Proof.FFN.Array
public import proofs.«01_k».proof.Proof.Gen.Reference2Ideal.Run

@[expose] public section

noncomputable section

namespace Cert.FFN

open Idealize.ShloMosaic Idealize.ShloMosaic.TcCoe Idealize.SL.Sem

theorem same (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v84 (F := Ideal) (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
        (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
        (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))
      = Cert.Kernel2Ideal.FFN.whole m c := by
  funext y
  have hy : y = ix3 (y 0) (y 1) (y 2) := by
    funext a
    match a with | ⟨0, _⟩ => rfl | ⟨1, _⟩ => rfl | ⟨2, _⟩ => rfl
  rw [hy]
  exact Cert.Reference2Ideal.FFN.v84_at _ _ _ _ _ _ _ (y 0) (y 1) (y 2)

theorem algebraic : Cert.algebraic_Kernel2Ideal_Reference2Ideal (hKernel2Ideal := Cert.Kernel2Ideal.Gen.facts)
    (hReference2Ideal := Cert.Reference2Ideal.Gen.facts) := by
  intro m g m' g' _ ha
  refine ⟨fun c => (Cert.Kernel2Ideal.Gen.dats m 0 c).arrAt 9 Cert.Kernel2Ideal.cfg0.N, Cert.Kernel2Ideal.Value.run_blocks m g, ?_⟩
  refine (θ_run Cert.Reference2Ideal.defs _ _).mono (fun r h c => ⟨(h c).1.trans ?_, (h c).2⟩) (Cert.Reference2Ideal.Value.run (F := Ideal) m' g')
  obtain ⟨e0, e1, e2, e3, e4, e5, e6⟩ := ha c
  rw [Cert.Reference2Ideal.Read.val_main_v84_eq, e0, e1, e2, e3, e4, e5, e6]
  exact (same m c).trans (Cert.Kernel2Ideal.FFN.array_eq m c).symm

end Cert.FFN
-- ==== Proof.Pre.Spec.lean ====
/- The projections before the mixer, over the extended reals, from the whole arrays: a token of 1024 numbers normalised
   and modulated, then raised to 3616 columns, which are queries, keys, values, two kinds of gates and a mixer's inputs.

   The first 256 tokens of a batch element are context: they take row 8 of the modulation. The others are latent: they
   take their batch element's row. -/
module

public import proofs.«01_k».proof.Proof.FFN.Spec

@[expose] public section

noncomputable section

namespace Cert.Pre

open Idealize.ShloMosaic Cert.FFN

/-- The columns of shift and scale among the 6144 of the modulation. -/
abbrev colShift (j : Fin 1024) : Fin 6144 := ⟨j.val, by omega⟩
abbrev colScale (j : Fin 1024) : Fin 6144 := ⟨1024 + j.val, by omega⟩

/-- The row of the modulation that token `n` of batch element `b` takes. -/
def rowOf (b : Fin 8) (n : Fin 4352) : Fin 16 := if n.val < 256 then 8 else ⟨b.val, by omega⟩

section Layer

variable (x : Fin 8 → Fin 4352 → Fin 1024 → EReal) (md : Fin 16 → Fin 6144 → EReal) (g : Fin 1024 → EReal)
  (W : Fin 1024 → Fin 3616 → EReal)

/-- A token, normalised and modulated. -/
def token (b : Fin 8) (n : Fin 4352) (j : Fin 1024) : EReal :=
  hid (x b n) g (fun k => md (rowOf b n) (colScale k)) (fun k => md (rowOf b n) (colShift k)) j

/-- A token's column. -/
def proj (b : Fin 8) (n : Fin 4352) (f : Fin 3616) : EReal := ∑ j, token x md g b n j * W j f

/-- The six results: columns 0 on, scaled by an eighth; columns 512, 1024, 1536 and 3072 on; and the 32 columns from
    3584, made up to 128 by zeros. -/
def res0 (b : Fin 8) (n : Fin 4352) (f : Fin 512) : EReal :=
  proj x md g W b n ⟨f.val, by omega⟩ * Ideal.ofBits .f32 0x3E000000#32
def res1 (b : Fin 8) (n : Fin 4352) (f : Fin 512) : EReal := proj x md g W b n ⟨512 + f.val, by omega⟩
def res2 (b : Fin 8) (n : Fin 4352) (f : Fin 512) : EReal := proj x md g W b n ⟨1024 + f.val, by omega⟩
def res3 (b : Fin 8) (n : Fin 4352) (f : Fin 1536) : EReal := proj x md g W b n ⟨1536 + f.val, by omega⟩
def res4 (b : Fin 8) (n : Fin 4352) (f : Fin 512) : EReal := proj x md g W b n ⟨3072 + f.val, by omega⟩
def res5 (b : Fin 8) (n : Fin 4352) (f : Fin 128) : EReal :=
  if h : f.val < 32 then proj x md g W b n ⟨3584 + f.val, by omega⟩ else 0

end Layer

end Cert.Pre

end
-- ==== Proof.Pre.Ref.lean ====
/- The plain program's projections, step by step at an index. -/
module

public import proofs.«01_k».proof.Proof.Gen.Reference3Ideal.Read
public import proofs.«01_k».proof.Proof.Pre.Spec
public import Idealize.ShloMosaic.Lib.Pointwise

@[expose] public section

noncomputable section

namespace Cert.Reference3Ideal.Pre

open Cert.Reference3Ideal Cert.Reference3Ideal.Gen Cert.Reference3Ideal.Read Idealize.ShloMosaic Idealize.ShloMosaic.TcCoe Idealize.SL.Sem Cert.FFN Cert.Pre

variable (x0 : Vec Ideal S8x4352x1024 .f32) (x1 : Vec Ideal S4x16x1x6144 .f32) (x2 : Vec Ideal S4x1024 .f32)
  (x3 : Vec Ideal S4x1024x3616 .f32)

/-- The arguments as functions: the stream; layer 1 of the modulation, of the gain and of the weights. -/
abbrev sX (b : Fin 8) (n : Fin 4352) (j : Fin 1024) : EReal := x0 (ix3 b n j)
abbrev sM (b : Fin 16) (k : Fin 6144) : EReal := x1 (ix4 1 b 0 k)
abbrev sG (j : Fin 1024) : EReal := x2 (ix2 1 j)
abbrev sW (j : Fin 1024) (f : Fin 3616) : EReal := x3 (ix3 1 j f)

/-- A context token among all tokens. -/
abbrev context (n : Fin 256) : Fin 4352 := ⟨n.val, by omega⟩

theorem row_latent (b : Fin 8) (n : Fin 4096) : rowOf b (latent n) = ⟨b.val, by omega⟩ := by
  unfold rowOf
  rw [if_neg (by show ¬ 256 + n.val < 256; omega)]
theorem row_context (b : Fin 8) (n : Fin 256) : rowOf b (context n) = 8 := by
  unfold rowOf
  rw [if_pos (by show n.val < 256; omega)]

theorem v16_at (b : Fin 8) (n : Fin 4096) (j : Fin 1024) : val_main_v16 (F := Ideal) x0 (ix3 b n j) = x0 (ix3 b (latent n) j) := by
  pointwise [val_main_v16]
theorem v38_at (b : Fin 8) (n : Fin 256) (j : Fin 1024) : val_main_v38 (F := Ideal) x0 (ix3 b n j) = x0 (ix3 b (context n) j) := by
  pointwise [val_main_v38]

theorem v1_at (b : Fin 8) (k : Fin 6144) : val_main_v1 (F := Ideal) x1 (ix3 b 0 k) = sM x1 ⟨b.val, by omega⟩ k := by
  pointwise [val_main_v1, val_main_v0]
theorem v2_at (b : Fin 8) (j : Fin 1024) : val_main_v2 (F := Ideal) x1 (ix3 b 0 j) = sM x1 ⟨b.val, by omega⟩ (colShift j) := by
  refine Eq.trans ?_ (v1_at x1 b (colShift j))
  unfold val_main_v2
  generalize val_main_v1 (F := Ideal) x1 = y
  pointwise []
theorem v3_at (b : Fin 8) (j : Fin 1024) : val_main_v3 (F := Ideal) x1 (ix3 b 0 j) = sM x1 ⟨b.val, by omega⟩ (colScale j) := by
  refine Eq.trans ?_ (v1_at x1 b (colScale j))
  unfold val_main_v3
  generalize val_main_v1 (F := Ideal) x1 = y
  pointwise []

theorem v9_at (k : Fin 6144) : val_main_v9 (F := Ideal) x1 (ix2 0 k) = sM x1 8 k := by
  pointwise [val_main_v9, val_main_v8]
theorem v10_at (j : Fin 1024) : val_main_v10 (F := Ideal) x1 (ix2 0 j) = sM x1 8 (colShift j) := by
  refine Eq.trans ?_ (v9_at x1 (colShift j))
  unfold val_main_v10
  generalize val_main_v9 (F := Ideal) x1 = y
  pointwise []
theorem v11_at (j : Fin 1024) : val_main_v11 (F := Ideal) x1 (ix2 0 j) = sM x1 8 (colScale j) := by
  refine Eq.trans ?_ (v9_at x1 (colScale j))
  unfold val_main_v11
  generalize val_main_v9 (F := Ideal) x1 = y
  pointwise []

theorem v18_at (j : Fin 1024) : val_main_v18 (F := Ideal) x2 (ix1 j) = sG x2 j := by
  pointwise [val_main_v18, val_main_v17]
theorem v40_at (j : Fin 1024) : val_main_v40 (F := Ideal) x2 (ix1 j) = sG x2 j := by
  pointwise [val_main_v40, val_main_v39]

/-- The latent tokens, normalised. -/
theorem v31_at (b : Fin 8) (n : Fin 4096) (j : Fin 1024) : val_main_v31 (F := Ideal) x0 x2 (ix3 b n j)
    = rmsRow (sX x0 b (latent n)) (sG x2) j := by
  show _ = rmsRow (fun k => x0 (ix3 b (latent n) k)) (sG x2) j
  simp only [← v16_at x0]
  unfold rmsRow
  rw [← v18_at x2 j]
  unfold val_main_v31 val_main_v30 val_main_v29 val_main_v28 val_main_v27 val_main_v26 val_main_v25 val_main_v23 val_main_v21 val_main_v20 val_main_v19
  generalize val_main_v16 (F := Ideal) x0 = y
  generalize val_main_v18 (F := Ideal) x2 = z
  pointwise [val_main_v24, val_main_v22, val_main_cst, val_main_cst_0, val_main_cst_1]

/-- … and modulated. -/
theorem v37_at (b : Fin 8) (n : Fin 4096) (j : Fin 1024) : val_main_v37 (F := Ideal) x0 x1 x2 (ix3 b n j)
    = token (sX x0) (sM x1) (sG x2) b (latent n) j := by
  unfold token hid
  rw [row_latent]
  dsimp only
  rw [← v31_at x0 x2 b n j, ← v2_at x1 b j, ← v3_at x1 b j]
  unfold val_main_v37 val_main_v36 val_main_v35 val_main_v34 val_main_v33
  generalize val_main_v31 (F := Ideal) x0 x2 = y
  generalize val_main_v2 (F := Ideal) x1 = z
  generalize val_main_v3 (F := Ideal) x1 = w
  pointwise [val_main_v32, val_main_cst_2]

/-- The context tokens, normalised. -/
theorem v53_at (b : Fin 8) (n : Fin 256) (j : Fin 1024) : val_main_v53 (F := Ideal) x0 x2 (ix3 b n j)
    = rmsRow (sX x0 b (context n)) (sG x2) j := by
  show _ = rmsRow (fun k => x0 (ix3 b (context n) k)) (sG x2) j
  simp only [← v38_at x0]
  unfold rmsRow
  rw [← v40_at x2 j]
  unfold val_main_v53 val_main_v52 val_main_v51 val_main_v50 val_main_v49 val_main_v48 val_main_v47 val_main_v45 val_main_v43 val_main_v42 val_main_v41
  generalize val_main_v38 (F := Ideal) x0 = y
  generalize val_main_v40 (F := Ideal) x2 = z
  pointwise [val_main_v46, val_main_v44, val_main_cst_3, val_main_cst_4, val_main_cst_5]

/-- … and modulated. -/
theorem v61_at (b : Fin 8) (n : Fin 256) (j : Fin 1024) : val_main_v61 (F := Ideal) x0 x1 x2 (ix3 b n j)
    = token (sX x0) (sM x1) (sG x2) b (context n) j := by
  unfold token hid
  rw [row_context]
  dsimp only
  rw [← v53_at x0 x2 b n j, ← v10_at x1 j, ← v11_at x1 j]
  unfold val_main_v61 val_main_v60 val_main_v59 val_main_v58 val_main_v57 val_main_v56 val_main_v55
  generalize val_main_v53 (F := Ideal) x0 x2 = y
  generalize val_main_v10 (F := Ideal) x1 = z
  generalize val_main_v11 (F := Ideal) x1 = w
  pointwise [val_main_v54, val_main_cst_6]

theorem v63_at (j : Fin 1024) (f : Fin 3616) : val_main_v63 (F := Ideal) x3 (ix2 j f) = sW x3 j f := by
  pointwise [val_main_v63, val_main_v62]
theorem v66_at (j : Fin 1024) (f : Fin 3616) : val_main_v66 (F := Ideal) x3 (ix2 j f) = sW x3 j f := by
  pointwise [val_main_v66, val_main_v65]

/-- The products. -/
theorem v64_at (b : Fin 8) (n : Fin 256) (f : Fin 3616) : val_main_v64 (F := Ideal) x0 x1 x2 x3 (ix3 b n f)
    = proj (sX x0) (sM x1) (sG x2) (sW x3) b (context n) f := by
  unfold proj
  simp only [← v61_at x0 x1 x2, ← v63_at x3]
  unfold val_main_v64
  generalize val_main_v61 (F := Ideal) x0 x1 x2 = y
  generalize val_main_v63 (F := Ideal) x3 = z
  pointwise []
theorem v67_at (b : Fin 8) (n : Fin 4096) (f : Fin 3616) : val_main_v67 (F := Ideal) x0 x1 x2 x3 (ix3 b n f)
    = proj (sX x0) (sM x1) (sG x2) (sW x3) b (latent n) f := by
  unfold proj
  simp only [← v37_at x0 x1 x2, ← v66_at x3]
  unfold val_main_v67
  generalize val_main_v37 (F := Ideal) x0 x1 x2 = y
  generalize val_main_v66 (F := Ideal) x3 = z
  pointwise []

theorem v68_at (b : Fin 8) (n : Fin 4352) (f : Fin 3616) : val_main_v68 (F := Ideal) x0 x1 x2 x3 (ix3 b n f)
    = proj (sX x0) (sM x1) (sG x2) (sW x3) b n f := by
  have e : val_main_v68 (F := Ideal) x0 x1 x2 x3 (ix3 b n f)
      = if h : n.val < 256 then val_main_v64 (F := Ideal) x0 x1 x2 x3 (ix3 b ⟨n.val, h⟩ f)
        else val_main_v67 (F := Ideal) x0 x1 x2 x3 (ix3 b ⟨n.val - 256, by omega⟩ f) := by
    unfold val_main_v68
    generalize val_main_v64 (F := Ideal) x0 x1 x2 x3 = y
    generalize val_main_v67 (F := Ideal) x0 x1 x2 x3 = z
    pointwise []
  rw [e]
  by_cases h : n.val < 256
  · rw [dif_pos h, v64_at]
  · rw [dif_neg h, v67_at]
    exact congrArg (fun a => proj (sX x0) (sM x1) (sG x2) (sW x3) b a f) (Fin.ext (by show 256 + (n.val - 256) = n.val; omega))

theorem zero_int : (FloatOps.sitofp FTy.f32 0#32 : Ideal .f32) = 0 := by
  show (((0#32 : BitVec 32).toInt : ℝ) : EReal) = 0
  rw [show (0#32 : BitVec 32).toInt = 0 by decide]; simp

/-- THE PLAIN RESULTS at an index. -/
theorem v77_at (b : Fin 8) (n : Fin 4352) (f : Fin 512) : val_main_v77 (F := Ideal) x0 x1 x2 x3 (ix3 b n f)
    = res0 (sX x0) (sM x1) (sG x2) (sW x3) b n f := by
  unfold res0
  rw [← v68_at x0 x1 x2 x3]
  unfold val_main_v77 val_main_v71 val_main_v69
  generalize val_main_v68 (F := Ideal) x0 x1 x2 x3 = y
  pointwise [val_main_v70, val_main_cst_7]

theorem v78_at (b : Fin 8) (n : Fin 4352) (f : Fin 512) : val_main_v78 (F := Ideal) x0 x1 x2 x3 (ix3 b n f)
    = res1 (sX x0) (sM x1) (sG x2) (sW x3) b n f := by
  unfold res1
  rw [← v68_at x0 x1 x2 x3]
  unfold val_main_v78 val_main_v72
  generalize val_main_v68 (F := Ideal) x0 x1 x2 x3 = y
  pointwise []

theorem v79_at (b : Fin 8) (n : Fin 4352) (f : Fin 512) : val_main_v79 (F := Ideal) x0 x1 x2 x3 (ix3 b n f)
    = res2 (sX x0) (sM x1) (sG x2) (sW x3) b n f := by
  unfold res2
  rw [← v68_at x0 x1 x2 x3]
  unfold val_main_v79 val_main_v73
  generalize val_main_v68 (F := Ideal) x0 x1 x2 x3 = y
  pointwise []

theorem v80_at (b : Fin 8) (n : Fin 4352) (f : Fin 1536) : val_main_v80 (F := Ideal) x0 x1 x2 x3 (ix3 b n f)
    = res3 (sX x0) (sM x1) (sG x2) (sW x3) b n f := by
  unfold res3
  rw [← v68_at x0 x1 x2 x3]
  unfold val_main_v80 val_main_v74
  generalize val_main_v68 (F := Ideal) x0 x1 x2 x3 = y
  pointwise []

theorem v81_at (b : Fin 8) (n : Fin 4352) (f : Fin 512) : val_main_v81 (F := Ideal) x0 x1 x2 x3 (ix3 b n f)
    = res4 (sX x0) (sM x1) (sG x2) (sW x3) b n f := by
  unfold res4
  rw [← v68_at x0 x1 x2 x3]
  unfold val_main_v81 val_main_v75
  generalize val_main_v68 (F := Ideal) x0 x1 x2 x3 = y
  pointwise []

theorem v82_at (b : Fin 8) (n : Fin 4352) (f : Fin 128) : val_main_v82 (F := Ideal) x0 x1 x2 x3 (ix3 b n f)
    = res5 (sX x0) (sM x1) (sG x2) (sW x3) b n f := by
  unfold res5
  simp only [← v68_at x0 x1 x2 x3]
  unfold val_main_v82 val_main_v76
  generalize val_main_v68 (F := Ideal) x0 x1 x2 x3 = y
  pointwise [val_main_call0_v0, val_main_c]
  rw [zero_int]

end Cert.Reference3Ideal.Pre

end
-- ==== Proof.Pre.Elements.lean ====
/- The projection kernel's stages read at one element over the extended reals. -/
module

public import proofs.«01_k».proof.Proof.Gen.Kernel3Ideal.Value
public import proofs.«01_k».proof.Proof.Pre.Spec

@[expose] public section

noncomputable section

namespace Cert.Kernel3Ideal.Pre

open Cert.Kernel3Ideal Cert.Kernel3Ideal.Gen Idealize.ShloMosaic Idealize.ShloMosaic.TcCoe Cert.FFN Cert.Pre

/-- The tile, normalised and modulated. -/
theorem tile_apply (x : Vec Ideal S1x256x1024 .f32) (md : Vec Ideal S1x1x1x6144 .f32) (g : Vec Ideal S1x1024 .f32)
    (r : Fin 256) (j : Fin 1024) :
    k0_pay2 x md g (ix2 r j) = hid (fun k => x (ix3 0 r k)) (fun k => g (ix2 0 k)) (fun k => md (ix4 0 0 0 (colScale k)))
      (fun k => md (ix4 0 0 0 (colShift k))) j := by
  pointwise [k0_pay2, hid, rmsRow]

/-- The six products. -/
theorem pay3_apply (x : Vec Ideal S1x256x1024 .f32) (md : Vec Ideal S1x1x1x6144 .f32) (g : Vec Ideal S1x1024 .f32)
    (w : Vec Ideal S1x1024x512 .bf16) (r : Fin 256) (f : Fin 512) :
    k0_pay3 x md g w (ix3 0 r f) = (∑ j, k0_pay2 x md g (ix2 r j) * w (ix3 0 j f)) * Ideal.ofBits .f32 0x3E000000#32 := by
  unfold k0_pay3
  generalize k0_pay2 x md g = h
  pointwise []

theorem pay4_apply (h : FVec Ideal S256x1024 .bf16) (w : Vec Ideal S1x1024x512 .bf16) (r : Fin 256) (f : Fin 512) :
    k0_pay4 h w (ix3 0 r f) = ∑ j, h (ix2 r j) * w (ix3 0 j f) := by
  pointwise [k0_pay4]
theorem pay5_apply (h : FVec Ideal S256x1024 .bf16) (w : Vec Ideal S1x1024x512 .bf16) (r : Fin 256) (f : Fin 512) :
    k0_pay5 h w (ix3 0 r f) = ∑ j, h (ix2 r j) * w (ix3 0 j f) := by
  pointwise [k0_pay5]
theorem pay6_apply (h : FVec Ideal S256x1024 .bf16) (w : Vec Ideal S1x1024x1536 .bf16) (r : Fin 256) (f : Fin 1536) :
    k0_pay6 h w (ix3 0 r f) = ∑ j, h (ix2 r j) * w (ix3 0 j f) := by
  pointwise [k0_pay6]
theorem pay7_apply (h : FVec Ideal S256x1024 .bf16) (w : Vec Ideal S1x1024x512 .bf16) (r : Fin 256) (f : Fin 512) :
    k0_pay7 h w (ix3 0 r f) = ∑ j, h (ix2 r j) * w (ix3 0 j f) := by
  pointwise [k0_pay7]
theorem pay1_apply (h : FVec Ideal S256x1024 .bf16) (w : Vec Ideal S1x1024x128 .bf16) (r : Fin 256) (f : Fin 128) :
    k0_pay1 h w (ix3 0 r f) = ∑ j, h (ix2 r j) * w (ix3 0 j f) := by
  pointwise [k0_pay1]

end Cert.Kernel3Ideal.Pre

end
-- ==== Proof.Pre.Blocks.lean ====
/- The blocks of a grid point of the projection kernel, element by element.

   A point is a batch element `pb` and a tile `ps` of 256 tokens, the first of them context. It takes that tile, one row
   of the modulation, layer 1's gain and layer 1's weights, whose columns the host has made up to 3712 by zeros. -/
module

public import proofs.«01_k».proof.Proof.Pre.Elements

@[expose] public section

noncomputable section

namespace Cert.Kernel3Ideal.Pre

open Cert.Kernel3Ideal Cert.Kernel3Ideal.Gen Idealize.ShloMosaic Idealize.ShloMosaic.TcCoe Idealize.SL.Sem Cert.FFN Cert.Pre

/-- The batch element and the tile of a point. -/
def pb (i : grid0.Coords) : Fin 8 := i 0
def ps (i : grid0.Coords) : Fin 17 := i 1

/-- Token `r` of tile `s`. -/
def tok (s : Fin 17) (r : Fin 256) : Fin 4352 := ⟨256 * s.val + r.val, by omega⟩

theorem ld_at {Val : EltTy → Type} {S : Shape} {e : EltTy} (X : S.Idx → Val e) (off size : Fin S.rank → Nat)
    (inb : ∀ a, off a + size a ≤ S.size a) (x : (Rect.unit off size inb).shape.Idx) (k : S.Idx)
    (hk : ∀ a, (k a).val = off a + (x a).val) : View.ld X (Rect.unit off size inb) x = X k := by
  rw [View.ld_unit]
  exact extractStridedSlice_apply off X _ x k hk

theorem row_tok (b : Fin 8) (s : Fin 17) (r : Fin 256) :
    (rowOf b (tok s r)).val = if s.val = 0 then 8 else b.val := by
  unfold rowOf tok
  by_cases h : s.val = 0
  · rw [if_pos (by show 256 * s.val + r.val < 256; omega), if_pos h]; rfl
  · rw [if_neg (by show ¬ 256 * s.val + r.val < 256; omega), if_neg h]

theorem map1 (i : grid0.Coords) : cc0_transform_1 i = ![1, if (ps i).val = 0 then 8 else (pb i).val, 0, 0] := by
  unfold cc0_transform_1 pb ps
  generalize (i 0 : Fin 8) = b
  generalize (i 1 : Fin 17) = s
  revert b s; decide +kernel

theorem map0 (i : grid0.Coords) : cc0_transform_0 i = ![(pb i).val, (ps i).val, 0] := by
  unfold cc0_transform_0 pb ps
  generalize (i 0 : Fin 8) = b
  generalize (i 1 : Fin 17) = s
  revert b s; decide +kernel

theorem map4 (i : grid0.Coords) : cc0_transform_4 i = ![(pb i).val, (ps i).val, 0] := by
  unfold cc0_transform_4 pb ps
  generalize (i 0 : Fin 8) = b
  generalize (i 1 : Fin 17) = s
  revert b s; decide +kernel

theorem map5 (i : grid0.Coords) : cc0_transform_5 i = ![(pb i).val, (ps i).val, 0] := by
  unfold cc0_transform_5 pb ps
  generalize (i 0 : Fin 8) = b
  generalize (i 1 : Fin 17) = s
  revert b s; decide +kernel

theorem map6 (i : grid0.Coords) : cc0_transform_6 i = ![(pb i).val, (ps i).val, 0] := by
  unfold cc0_transform_6 pb ps
  generalize (i 0 : Fin 8) = b
  generalize (i 1 : Fin 17) = s
  revert b s; decide +kernel

theorem map7 (i : grid0.Coords) : cc0_transform_7 i = ![(pb i).val, (ps i).val, 0] := by
  unfold cc0_transform_7 pb ps
  generalize (i 0 : Fin 8) = b
  generalize (i 1 : Fin 17) = s
  revert b s; decide +kernel

theorem map8 (i : grid0.Coords) : cc0_transform_8 i = ![(pb i).val, (ps i).val, 0] := by
  unfold cc0_transform_8 pb ps
  generalize (i 0 : Fin 8) = b
  generalize (i 1 : Fin 17) = s
  revert b s; decide +kernel

theorem map9 (i : grid0.Coords) : cc0_transform_9 i = ![(pb i).val, (ps i).val, 0] := by
  unfold cc0_transform_9 pb ps
  generalize (i 0 : Fin 8) = b
  generalize (i 1 : Fin 17) = s
  revert b s; decide +kernel

section Blocks

variable {F : FTy → Type} [FloatOps F]
variable (m : (ℓ : Loc nD τ sig) → Buf (Elt F) ℓ)

/-- An element of an output's block, in the array. -/
theorem emb4 (t : Fin cfg0.N) (r : Fin 256) (f : Fin 512) :
    ((cfg0.win 4).blk t).view.emb (ix3 0 r f : S1x256x512.Idx) = ix3 (pb (grid0.coords t)) (tok (ps (grid0.coords t)) r) f := by
  funext a
  refine Fin.ext (((cfg0.win 4).rect_emb_val t _ a).trans ?_)
  show cc0_transform_4 (grid0.coords t) a * S1x256x512.size a + _ = _
  rw [map4]
  fin_cases a
  · show (pb (grid0.coords t)).val * 1 + 0 = (pb (grid0.coords t)).val; omega
  · show (ps (grid0.coords t)).val * 256 + r.val = 256 * (ps (grid0.coords t)).val + r.val; omega
  · show 0 * 512 + f.val = f.val; omega

theorem emb5 (t : Fin cfg0.N) (r : Fin 256) (f : Fin 512) :
    ((cfg0.win 5).blk t).view.emb (ix3 0 r f : S1x256x512.Idx) = ix3 (pb (grid0.coords t)) (tok (ps (grid0.coords t)) r) f := by
  funext a
  refine Fin.ext (((cfg0.win 5).rect_emb_val t _ a).trans ?_)
  show cc0_transform_5 (grid0.coords t) a * S1x256x512.size a + _ = _
  rw [map5]
  fin_cases a
  · show (pb (grid0.coords t)).val * 1 + 0 = (pb (grid0.coords t)).val; omega
  · show (ps (grid0.coords t)).val * 256 + r.val = 256 * (ps (grid0.coords t)).val + r.val; omega
  · show 0 * 512 + f.val = f.val; omega

theorem emb6 (t : Fin cfg0.N) (r : Fin 256) (f : Fin 512) :
    ((cfg0.win 6).blk t).view.emb (ix3 0 r f : S1x256x512.Idx) = ix3 (pb (grid0.coords t)) (tok (ps (grid0.coords t)) r) f := by
  funext a
  refine Fin.ext (((cfg0.win 6).rect_emb_val t _ a).trans ?_)
  show cc0_transform_6 (grid0.coords t) a * S1x256x512.size a + _ = _
  rw [map6]
  fin_cases a
  · show (pb (grid0.coords t)).val * 1 + 0 = (pb (grid0.coords t)).val; omega
  · show (ps (grid0.coords t)).val * 256 + r.val = 256 * (ps (grid0.coords t)).val + r.val; omega
  · show 0 * 512 + f.val = f.val; omega

theorem emb7 (t : Fin cfg0.N) (r : Fin 256) (f : Fin 1536) :
    ((cfg0.win 7).blk t).view.emb (ix3 0 r f : S1x256x1536.Idx) = ix3 (pb (grid0.coords t)) (tok (ps (grid0.coords t)) r) f := by
  funext a
  refine Fin.ext (((cfg0.win 7).rect_emb_val t _ a).trans ?_)
  show cc0_transform_7 (grid0.coords t) a * S1x256x1536.size a + _ = _
  rw [map7]
  fin_cases a
  · show (pb (grid0.coords t)).val * 1 + 0 = (pb (grid0.coords t)).val; omega
  · show (ps (grid0.coords t)).val * 256 + r.val = 256 * (ps (grid0.coords t)).val + r.val; omega
  · show 0 * 1536 + f.val = f.val; omega

theorem emb8 (t : Fin cfg0.N) (r : Fin 256) (f : Fin 512) :
    ((cfg0.win 8).blk t).view.emb (ix3 0 r f : S1x256x512.Idx) = ix3 (pb (grid0.coords t)) (tok (ps (grid0.coords t)) r) f := by
  funext a
  refine Fin.ext (((cfg0.win 8).rect_emb_val t _ a).trans ?_)
  show cc0_transform_8 (grid0.coords t) a * S1x256x512.size a + _ = _
  rw [map8]
  fin_cases a
  · show (pb (grid0.coords t)).val * 1 + 0 = (pb (grid0.coords t)).val; omega
  · show (ps (grid0.coords t)).val * 256 + r.val = 256 * (ps (grid0.coords t)).val + r.val; omega
  · show 0 * 512 + f.val = f.val; omega

theorem emb9 (t : Fin cfg0.N) (r : Fin 256) (f : Fin 128) :
    ((cfg0.win 9).blk t).view.emb (ix3 0 r f : S1x256x128.Idx) = ix3 (pb (grid0.coords t)) (tok (ps (grid0.coords t)) r) f := by
  funext a
  refine Fin.ext (((cfg0.win 9).rect_emb_val t _ a).trans ?_)
  show cc0_transform_9 (grid0.coords t) a * S1x256x128.size a + _ = _
  rw [map9]
  fin_cases a
  · show (pb (grid0.coords t)).val * 1 + 0 = (pb (grid0.coords t)).val; omega
  · show (ps (grid0.coords t)).val * 256 + r.val = 256 * (ps (grid0.coords t)).val + r.val; omega
  · show 0 * 128 + f.val = f.val; omega

theorem blk0_apply (c : Dev nD) (t : Fin cfg0.N) (r : Fin 256) (j : Fin 1024) :
    iblk m c 0 t (ix3 0 r j : S1x256x1024.Idx)
      = m ((c : Thread nD τ).loc main_arg0) (ix3 (pb (grid0.coords t)) (tok (ps (grid0.coords t)) r) j) := by
  rw [← V_main_arg0 m c]
  refine congrArg (V m c main_arg0) (funext fun a => ?_)
  refine Fin.ext (((cfg0.win 0).rect_emb_val t _ a).trans ?_)
  show cc0_transform_0 (grid0.coords t) a * S1x256x1024.size a + _ = _
  rw [map0]
  fin_cases a
  · show (pb (grid0.coords t)).val * 1 + 0 = (pb (grid0.coords t)).val; omega
  · show (ps (grid0.coords t)).val * 256 + r.val = 256 * (ps (grid0.coords t)).val + r.val; omega
  · show 0 * 1024 + j.val = j.val; omega

/-- The point's row of the modulation is the row of each of its tokens. -/
theorem blk1_apply (c : Dev nD) (t : Fin cfg0.N) (r : Fin 256) (j : Fin 6144) :
    iblk m c 1 t (ix4 0 0 0 j : S1x1x1x6144.Idx)
      = m ((c : Thread nD τ).loc main_arg1) (ix4 1 (rowOf (pb (grid0.coords t)) (tok (ps (grid0.coords t)) r)) 0 j) := by
  rw [← V_main_arg1 m c]
  refine congrArg (V m c main_arg1) (funext fun a => ?_)
  refine Fin.ext (((cfg0.win 1).rect_emb_val t _ a).trans ?_)
  show cc0_transform_1 (grid0.coords t) a * S1x1x1x6144.size a + _ = _
  rw [map1]
  fin_cases a
  · rfl
  · refine Eq.trans ?_ (row_tok _ _ r).symm
    show (if (ps (grid0.coords t)).val = 0 then 8 else (pb (grid0.coords t)).val) * 1 + 0 = _
    omega
  · rfl
  · show 0 * 6144 + j.val = j.val; omega

theorem blk2_apply (c : Dev nD) (t : Fin cfg0.N) (j : Fin 1024) :
    iblk m c 2 t (ix2 0 j : S1x1024.Idx) = V m c main_v4 (ix2 0 j) := by
  refine congrArg (V m c main_v4) (funext fun a => ?_)
  refine Fin.ext (((cfg0.win 2).rect_emb_val t _ a).trans ?_)
  fin_cases a
  · rfl
  · show 0 * 1024 + j.val = j.val; omega

theorem blk3_apply (c : Dev nD) (t : Fin cfg0.N) (j : Fin 1024) (f : Fin 3712) :
    iblk m c 3 t (ix3 0 j f : S1x1024x3712.Idx) = V m c main_v1 (ix3 1 j f) := by
  refine congrArg (V m c main_v1) (funext fun a => ?_)
  refine Fin.ext (((cfg0.win 3).rect_emb_val t _ a).trans ?_)
  fin_cases a
  · rfl
  · show 0 * 1024 + j.val = j.val; omega
  · show 0 * 3712 + f.val = f.val; omega

end Blocks

section Host

variable (m : (ℓ : Loc nD τ sig) → Buf (Elt Ideal) ℓ)

theorem zero_int : (FloatOps.sitofp FTy.f32 0#32 : Ideal .f32) = 0 := by
  show (((0#32 : BitVec 32).toInt : ℝ) : EReal) = 0
  rw [show (0#32 : BitVec 32).toInt = 0 by decide]; simp

section Segments

variable (W : Idealize.ShloMosaic.Valuation τ sig (Elt Ideal))

theorem seg0_zero : StableHlo.after hostOps0 W main_c = constantI S_ 32 0#32 := by
  after_results_simp
theorem seg0_gain : StableHlo.after hostOps0 W main_arg2 = W main_arg2 := by
  after_results_simp
theorem seg0_weights : StableHlo.after hostOps0 W main_arg3 = W main_arg3 := by
  after_results_simp
theorem seg1_gain : StableHlo.after hostOps0_1 W main_arg2 = W main_arg2 := by
  after_results_simp

/-- The weights made up to 3712 columns. -/
def padded (w : Vec Ideal S4x1024x3616 .f32) : Vec Ideal S4x1024x3712 .f32 :=
  pad S4x1024x3712 ![0, 0, 0] ![0, 0, 96] ![0, 0, 0] w (sitofp (F := Ideal) .f32 (constantI S_ 32 0#32)) pads_S4x1024x3616_S4x1024x3712_000_000_0960 h_S_

theorem seg1_pad (h : W main_c = constantI S_ 32 0#32) : StableHlo.after hostOps0_1 W main_v0 = padded (W main_arg3) := by
  after_results_simp
  rw [padded, ← h]
  rfl

theorem seg2_weights (l : Fin 4) (j : Fin 1024) (f : Fin 3712) :
    StableHlo.after hostOps0_2 W main_v1 (ix3 l j f) = W main_v0 (ix3 l j f) := by
  after_results_simp
  generalize (W main_v0 : Vec Ideal S4x1024x3712 .f32) = y
  pointwise []

theorem seg2_gain (j : Fin 1024) : StableHlo.after hostOps0_2 W main_v4 (ix2 0 j) = W main_arg2 (ix2 1 j) := by
  after_results_simp
  generalize (W main_arg2 : Vec Ideal S4x1024 .f32) = y
  pointwise []

end Segments

theorem padded_apply (w : Vec Ideal S4x1024x3616 .f32) (l : Fin 4) (j : Fin 1024) (f : Fin 3712) :
    padded w (ix3 l j f) = if h : f.val < 3616 then w (ix3 l j ⟨f.val, h⟩) else 0 := by
  pointwise [padded]
  rw [zero_int]

theorem gain_apply (c : Dev nD) (j : Fin 1024) : V m c main_v4 (ix2 0 j) = m ((c : Thread nD τ).loc main_arg2) (ix2 1 j) := by
  show StableHlo.after (hostOps0 ++ (hostOps0_1 ++ hostOps0_2)) _ _ _ = _
  rw [StableHlo.after_append, StableHlo.after_append, seg2_gain, seg1_gain, seg0_gain]

theorem weights_apply (c : Dev nD) (l : Fin 4) (j : Fin 1024) (f : Fin 3712) :
    V m c main_v1 (ix3 l j f)
      = if h : f.val < 3616 then (m ((c : Thread nD τ).loc main_arg3) : Vec Ideal S4x1024x3616 .f32) (ix3 l j ⟨f.val, h⟩) else (0 : EReal) := by
  show StableHlo.after (hostOps0 ++ (hostOps0_1 ++ hostOps0_2)) _ _ _ = _
  rw [StableHlo.after_append, StableHlo.after_append, seg2_weights, seg1_pad _ (seg0_zero _), seg0_weights, padded_apply]

end Host

end Cert.Kernel3Ideal.Pre

end
-- ==== Proof.Pre.Array.lean ====
/- The projection kernel's six output arrays, element by element. -/
module

public import proofs.«01_k».proof.Proof.Pre.Blocks

@[expose] public section

noncomputable section

namespace Cert.Kernel3Ideal.Pre

open Cert.Kernel3Ideal Cert.Kernel3Ideal.Gen Idealize.ShloMosaic Idealize.ShloMosaic.TcCoe Idealize.SL.Sem Cert.FFN Cert.Pre
open Idealize.ShloMosaic.Pipeline (Dat)

/-- The point's coordinates, from its number. -/
theorem coord_b (t : Fin cfg0.N) : (pb (grid0.coords t)).val = t.val / 17 := by
  have ht : t.val < 136 := Nat.lt_of_lt_of_eq t.isLt N_0
  have e : (grid0.coords t 0).val = t.val / 17 % 8 := Pipeline.Grid.coords_val t 0 (by decide) rfl
  show (grid0.coords t 0).val = _
  omega
theorem coord_s (t : Fin cfg0.N) : (ps (grid0.coords t)).val = t.val % 17 := by
  have e : (grid0.coords t 1).val = t.val / 1 % 17 := Pipeline.Grid.coords_val t 1 (by decide) rfl
  show (grid0.coords t 1).val = _
  omega

section Launch

variable (m : (ℓ : Loc nD τ sig) → Buf (Elt Ideal) ℓ) (c : Dev nD)

/-- The arguments as launched, as functions: the stream; layer 1 of the modulation, of the gain and of the weights. -/
abbrev aX (b : Fin 8) (n : Fin 4352) (j : Fin 1024) : EReal := (m ((c : Thread nD τ).loc main_arg0) : Vec Ideal S8x4352x1024 .f32) (ix3 b n j)
abbrev aM (b : Fin 16) (k : Fin 6144) : EReal := (m ((c : Thread nD τ).loc main_arg1) : Vec Ideal S4x16x1x6144 .f32) (ix4 1 b 0 k)
abbrev aG (j : Fin 1024) : EReal := (m ((c : Thread nD τ).loc main_arg2) : Vec Ideal S4x1024 .f32) (ix2 1 j)
abbrev aW (j : Fin 1024) (f : Fin 3616) : EReal := (m ((c : Thread nD τ).loc main_arg3) : Vec Ideal S4x1024x3616 .f32) (ix3 1 j f)

/-- The whole outputs. -/
def whole4 : S8x4352x512.Idx → EReal := fun y => res0 (aX m c) (aM m c) (aG m c) (aW m c) (y 0) (y 1) (y 2)
def whole5 : S8x4352x512.Idx → EReal := fun y => res1 (aX m c) (aM m c) (aG m c) (aW m c) (y 0) (y 1) (y 2)
def whole6 : S8x4352x512.Idx → EReal := fun y => res2 (aX m c) (aM m c) (aG m c) (aW m c) (y 0) (y 1) (y 2)
def whole7 : S8x4352x1536.Idx → EReal := fun y => res3 (aX m c) (aM m c) (aG m c) (aW m c) (y 0) (y 1) (y 2)
def whole8 : S8x4352x512.Idx → EReal := fun y => res4 (aX m c) (aM m c) (aG m c) (aW m c) (y 0) (y 1) (y 2)
def whole9 : S8x4352x128.Idx → EReal := fun y => res5 (aX m c) (aM m c) (aG m c) (aW m c) (y 0) (y 1) (y 2)

variable (t : Fin cfg0.N)

theorem load_tile (r : Fin 256) (j : Fin 1024) :
    View.ld (iblk m c 0 t) r0_0 (ix3 0 r j) = aX m c (pb (grid0.coords t)) (tok (ps (grid0.coords t)) r) j := by
  refine Eq.trans ?_ (blk0_apply m c t r j)
  exact ld_at _ _ _ _ _ _ fun x => by fin_cases x <;> simp [ix3]

theorem load_mod (r : Fin 256) (k : Fin 6144) : View.ld (iblk m c 1 t) r0_1 (ix4 0 0 0 k)
    = aM m c (rowOf (pb (grid0.coords t)) (tok (ps (grid0.coords t)) r)) k := by
  refine Eq.trans ?_ (blk1_apply m c t r k)
  exact ld_at _ _ _ _ _ _ fun x => by fin_cases x <;> simp [ix4]

theorem load_gain (j : Fin 1024) : View.ld (iblk m c 2 t) r0_2 (ix2 0 j) = aG m c j := by
  refine Eq.trans ?_ ((blk2_apply m c t j).trans (gain_apply m c j))
  exact ld_at _ _ _ _ _ _ fun x => by fin_cases x <;> simp [ix2]

/-- A column of the weights that is there, and one that the host has made up. -/
theorem wide_in (j : Fin 1024) (k : Fin 3616) : iblk m c 3 t (ix3 0 j ⟨k.val, by omega⟩ : S1x1024x3712.Idx) = aW m c j k := by
  refine (blk3_apply m c t j _).trans ((weights_apply m c 1 j _).trans ?_)
  rw [dif_pos k.isLt]

theorem wide_out (j : Fin 1024) (k : Fin 3712) (hk : ¬ k.val < 3616) : iblk m c 3 t (ix3 0 j k : S1x1024x3712.Idx) = (0 : EReal) := by
  refine (blk3_apply m c t j _).trans ((weights_apply m c 1 j _).trans ?_)
  rw [dif_neg hk]

theorem load_w4 (j : Fin 1024) (f : Fin 512) : View.ld (iblk m c 3 t) r0_3 (ix3 0 j f) = aW m c j ⟨f.val, by omega⟩ := by
  refine Eq.trans ?_ (wide_in m c t j _)
  exact ld_at _ _ _ _ _ _ fun x => by fin_cases x <;> simp [ix3]

theorem load_w5 (j : Fin 1024) (f : Fin 512) : View.ld (iblk m c 3 t) r0_5 (ix3 0 j f) = aW m c j ⟨512 + f.val, by omega⟩ := by
  refine Eq.trans ?_ (wide_in m c t j _)
  exact ld_at _ _ _ _ _ _ fun x => by fin_cases x <;> simp [ix3]

theorem load_w6 (j : Fin 1024) (f : Fin 512) : View.ld (iblk m c 3 t) r0_6 (ix3 0 j f) = aW m c j ⟨1024 + f.val, by omega⟩ := by
  refine Eq.trans ?_ (wide_in m c t j _)
  exact ld_at _ _ _ _ _ _ fun x => by fin_cases x <;> simp [ix3]

theorem load_w7 (j : Fin 1024) (f : Fin 1536) : View.ld (iblk m c 3 t) r0_7 (ix3 0 j f) = aW m c j ⟨1536 + f.val, by omega⟩ := by
  refine Eq.trans ?_ (wide_in m c t j _)
  exact ld_at _ _ _ _ _ _ fun x => by fin_cases x <;> simp [ix3]

theorem load_w8 (j : Fin 1024) (f : Fin 512) : View.ld (iblk m c 3 t) r0_9 (ix3 0 j f) = aW m c j ⟨3072 + f.val, by omega⟩ := by
  refine Eq.trans ?_ (wide_in m c t j _)
  exact ld_at _ _ _ _ _ _ fun x => by fin_cases x <;> simp [ix3]

theorem load_w9 (j : Fin 1024) (f : Fin 128) (h : f.val < 32) : View.ld (iblk m c 3 t) r0_10 (ix3 0 j f) = aW m c j ⟨3584 + f.val, by omega⟩ := by
  refine Eq.trans ?_ (wide_in m c t j _)
  exact ld_at _ _ _ _ _ _ fun x => by fin_cases x <;> simp [ix3]

theorem load_w9_out (j : Fin 1024) (f : Fin 128) (h : ¬ f.val < 32) : View.ld (iblk m c 3 t) r0_10 (ix3 0 j f) = (0 : EReal) := by
  refine Eq.trans ?_ (wide_out m c t j ⟨3584 + f.val, by omega⟩ (by show ¬ 3584 + f.val < 3616; omega))
  exact ld_at _ _ _ _ _ _ fun x => by fin_cases x <;> simp [ix3]

/-- A row of the point's tile is its token, normalised and modulated. -/
theorem row (r : Fin 256) (j : Fin 1024) :
    k0_pay2 (View.ld (iblk m c 0 t) r0_0) (View.ld (iblk m c 1 t) r0_1) (View.ld (iblk m c 2 t) r0_2) (ix2 r j)
      = token (aX m c) (aM m c) (aG m c) (pb (grid0.coords t)) (tok (ps (grid0.coords t)) r) j := by
  rw [tile_apply]
  unfold token
  simp only [load_tile, load_mod m c t r, load_gain]

theorem row' (r : Fin 256) (j : Fin 1024) : k0_pay8 (iblk m c 0 t) (iblk m c 1 t) (iblk m c 2 t) (iblk m c 3 t) (ix2 r j)
      = token (aX m c) (aM m c) (aG m c) (pb (grid0.coords t)) (tok (ps (grid0.coords t)) r) j :=
  row m c t r j

theorem idx_512 (x : S1x256x512.Idx) : ∃ (r : Fin 256) (f : Fin 512), x = ix3 0 r f := by
  have h0 : (x 0).val < 1 := (x 0).isLt
  refine ⟨x 1, x 2, ?_⟩
  funext a
  match a with
  | ⟨0, _⟩ => exact Fin.ext (by show (x 0).val = 0; omega)
  | ⟨1, _⟩ => rfl
  | ⟨2, _⟩ => rfl

theorem idx_1536 (x : S1x256x1536.Idx) : ∃ (r : Fin 256) (f : Fin 1536), x = ix3 0 r f := by
  have h0 : (x 0).val < 1 := (x 0).isLt
  refine ⟨x 1, x 2, ?_⟩
  funext a
  match a with
  | ⟨0, _⟩ => exact Fin.ext (by show (x 0).val = 0; omega)
  | ⟨1, _⟩ => rfl
  | ⟨2, _⟩ => rfl

theorem idx_128 (x : S1x256x128.Idx) : ∃ (r : Fin 256) (f : Fin 128), x = ix3 0 r f := by
  have h0 : (x 0).val < 1 := (x 0).isLt
  refine ⟨x 1, x 2, ?_⟩
  funext a
  match a with
  | ⟨0, _⟩ => exact Fin.ext (by show (x 0).val = 0; omega)
  | ⟨1, _⟩ => rfl
  | ⟨2, _⟩ => rfl

/-- What a point leaves in output 0's buffer is its block of the whole output. -/
theorem point_eq4 (y : S1x256x512.Idx) : out0_4 (iblk m c 0 t) (iblk m c 1 t) (iblk m c 2 t) (iblk m c 3 t) y
    = whole4 m c (((cfg0.win 4).blk t).view.emb y) := by
  unfold out0_4
  refine View.canon_apply_of_pieces (Val := Elt Ideal) (e := .bf16) (fun y : S1x256x512.Idx => whole4 m c (((cfg0.win 4).blk t).view.emb y)) _ ?_ y ⟨_, List.mem_singleton_self _, ?_⟩
  · intro p hp x
    obtain rfl := List.mem_singleton.mp hp
    obtain ⟨r, f, rfl⟩ := idx_512 x
    have e : r0_4.emb (ix3 0 r f : S1x256x512.Idx) = ix3 0 r f := by
      funext a
      refine Fin.ext ?_
      rw [Rect.emb_apply]
      fin_cases a <;> simp [ix3, Rect.unit]
    refine Eq.trans ?_ (congrArg (fun z => whole4 m c (((cfg0.win 4).blk t).view.emb z)) e.symm)
    refine Eq.trans ?_ (congrArg (whole4 m c) (emb4 t r f).symm)
    refine (pay3_apply _ _ _ _ _ _).trans ?_
    show _ = proj (aX m c) (aM m c) (aG m c) (aW m c) (pb (grid0.coords t)) (tok (ps (grid0.coords t)) r) ⟨f.val, by omega⟩
      * Ideal.ofBits .f32 0x3E000000#32
    refine congrArg (fun z : EReal => z * Ideal.ofBits .f32 0x3E000000#32) ?_
    exact Finset.sum_congr rfl fun j _ => congrArg₂ (fun a b : EReal => a * b) (row m c t r j) (load_w4 m c t j f)
  · show y ∈ r0_4.set
    have h0 : (y 0).val < 1 := (y 0).isLt
    have h1 : (y 1).val < 256 := (y 1).isLt
    have h2 : (y 2).val < 512 := (y 2).isLt
    rw [Rect.mem_set_unit]
    intro a
    fin_cases a <;> simp <;> omega

/-- Every element of output 0 is in the block of some point. -/
theorem covered4 (i : S8x4352x512.Idx) : ∃ t : Fin cfg0.N, (cfg0.win 4).flush t = true ∧ i ∈ ((cfg0.win 4).blk t).view.set := by
  have h0 : (i 0).val < 8 := (i 0).isLt
  have h1 : (i 1).val < 4352 := (i 1).isLt
  have h2 : (i 2).val < 512 := (i 2).isLt
  have hN : 17 * (i 0).val + (i 1).val / 256 < cfg0.N := by
    show _ < grid0.N
    rw [N_0]; omega
  refine ⟨⟨_, hN⟩, flush0_4 _, Finset.mem_map.mpr ⟨ix3 0 ⟨(i 1).val % 256, by omega⟩ ⟨(i 2).val, h2⟩, Finset.mem_univ _, ?_⟩⟩
  refine (emb4 _ _ _).trans ?_
  funext a
  refine Fin.ext ?_
  fin_cases a
  · refine (coord_b _).trans ?_
    show (17 * (i 0).val + (i 1).val / 256) / 17 = (i 0).val
    omega
  · show 256 * (ps _).val + (i 1).val % 256 = (i 1).val
    rw [coord_s]
    show 256 * ((17 * (i 0).val + (i 1).val / 256) % 17) + (i 1).val % 256 = (i 1).val
    omega
  · rfl

/-- OUTPUT 0, whole. -/
theorem array_eq4 : (dats m 0 c).arrAt 4 cfg0.N = whole4 m c := by
  refine (dats m 0 c).arrAt_eq_of_cover 4 _ (fun t _ => ?_) covered4
  rw [Value.flushed4]
  funext y
  exact point_eq4 m c t y

/-- What a point leaves in output 1's buffer is its block of the whole output. -/
theorem point_eq5 (y : S1x256x512.Idx) : out0_5 (iblk m c 0 t) (iblk m c 1 t) (iblk m c 2 t) (iblk m c 3 t) y
    = whole5 m c (((cfg0.win 5).blk t).view.emb y) := by
  unfold out0_5
  refine View.canon_apply_of_pieces (Val := Elt Ideal) (e := .bf16) (fun y : S1x256x512.Idx => whole5 m c (((cfg0.win 5).blk t).view.emb y)) _ ?_ y ⟨_, List.mem_singleton_self _, ?_⟩
  · intro p hp x
    obtain rfl := List.mem_singleton.mp hp
    obtain ⟨r, f, rfl⟩ := idx_512 x
    have e : r0_4.emb (ix3 0 r f : S1x256x512.Idx) = ix3 0 r f := by
      funext a
      refine Fin.ext ?_
      rw [Rect.emb_apply]
      fin_cases a <;> simp [ix3, Rect.unit]
    refine Eq.trans ?_ (congrArg (fun z => whole5 m c (((cfg0.win 5).blk t).view.emb z)) e.symm)
    refine Eq.trans ?_ (congrArg (whole5 m c) (emb5 t r f).symm)
    refine (pay4_apply _ _ _ _).trans ?_
    simp only [row', load_w5]
    rfl
  · show y ∈ r0_4.set
    have h0 : (y 0).val < 1 := (y 0).isLt
    have h1 : (y 1).val < 256 := (y 1).isLt
    have h2 : (y 2).val < 512 := (y 2).isLt
    rw [Rect.mem_set_unit]
    intro a
    fin_cases a <;> simp <;> omega

/-- Every element of output 1 is in the block of some point. -/
theorem covered5 (i : S8x4352x512.Idx) : ∃ t : Fin cfg0.N, (cfg0.win 5).flush t = true ∧ i ∈ ((cfg0.win 5).blk t).view.set := by
  have h0 : (i 0).val < 8 := (i 0).isLt
  have h1 : (i 1).val < 4352 := (i 1).isLt
  have h2 : (i 2).val < 512 := (i 2).isLt
  have hN : 17 * (i 0).val + (i 1).val / 256 < cfg0.N := by
    show _ < grid0.N
    rw [N_0]; omega
  refine ⟨⟨_, hN⟩, flush0_5 _, Finset.mem_map.mpr ⟨ix3 0 ⟨(i 1).val % 256, by omega⟩ ⟨(i 2).val, h2⟩, Finset.mem_univ _, ?_⟩⟩
  refine (emb5 _ _ _).trans ?_
  funext a
  refine Fin.ext ?_
  fin_cases a
  · refine (coord_b _).trans ?_
    show (17 * (i 0).val + (i 1).val / 256) / 17 = (i 0).val
    omega
  · show 256 * (ps _).val + (i 1).val % 256 = (i 1).val
    rw [coord_s]
    show 256 * ((17 * (i 0).val + (i 1).val / 256) % 17) + (i 1).val % 256 = (i 1).val
    omega
  · rfl

/-- OUTPUT 1, whole. -/
theorem array_eq5 : (dats m 0 c).arrAt 5 cfg0.N = whole5 m c := by
  refine (dats m 0 c).arrAt_eq_of_cover 5 _ (fun t _ => ?_) covered5
  rw [Value.flushed5]
  funext y
  exact point_eq5 m c t y

/-- What a point leaves in output 2's buffer is its block of the whole output. -/
theorem point_eq6 (y : S1x256x512.Idx) : out0_6 (iblk m c 0 t) (iblk m c 1 t) (iblk m c 2 t) (iblk m c 3 t) y
    = whole6 m c (((cfg0.win 6).blk t).view.emb y) := by
  unfold out0_6
  refine View.canon_apply_of_pieces (Val := Elt Ideal) (e := .bf16) (fun y : S1x256x512.Idx => whole6 m c (((cfg0.win 6).blk t).view.emb y)) _ ?_ y ⟨_, List.mem_singleton_self _, ?_⟩
  · intro p hp x
    obtain rfl := List.mem_singleton.mp hp
    obtain ⟨r, f, rfl⟩ := idx_512 x
    have e : r0_4.emb (ix3 0 r f : S1x256x512.Idx) = ix3 0 r f := by
      funext a
      refine Fin.ext ?_
      rw [Rect.emb_apply]
      fin_cases a <;> simp [ix3, Rect.unit]
    refine Eq.trans ?_ (congrArg (fun z => whole6 m c (((cfg0.win 6).blk t).view.emb z)) e.symm)
    refine Eq.trans ?_ (congrArg (whole6 m c) (emb6 t r f).symm)
    refine (pay5_apply _ _ _ _).trans ?_
    simp only [row', load_w6]
    rfl
  · show y ∈ r0_4.set
    have h0 : (y 0).val < 1 := (y 0).isLt
    have h1 : (y 1).val < 256 := (y 1).isLt
    have h2 : (y 2).val < 512 := (y 2).isLt
    rw [Rect.mem_set_unit]
    intro a
    fin_cases a <;> simp <;> omega

/-- Every element of output 2 is in the block of some point. -/
theorem covered6 (i : S8x4352x512.Idx) : ∃ t : Fin cfg0.N, (cfg0.win 6).flush t = true ∧ i ∈ ((cfg0.win 6).blk t).view.set := by
  have h0 : (i 0).val < 8 := (i 0).isLt
  have h1 : (i 1).val < 4352 := (i 1).isLt
  have h2 : (i 2).val < 512 := (i 2).isLt
  have hN : 17 * (i 0).val + (i 1).val / 256 < cfg0.N := by
    show _ < grid0.N
    rw [N_0]; omega
  refine ⟨⟨_, hN⟩, flush0_6 _, Finset.mem_map.mpr ⟨ix3 0 ⟨(i 1).val % 256, by omega⟩ ⟨(i 2).val, h2⟩, Finset.mem_univ _, ?_⟩⟩
  refine (emb6 _ _ _).trans ?_
  funext a
  refine Fin.ext ?_
  fin_cases a
  · refine (coord_b _).trans ?_
    show (17 * (i 0).val + (i 1).val / 256) / 17 = (i 0).val
    omega
  · show 256 * (ps _).val + (i 1).val % 256 = (i 1).val
    rw [coord_s]
    show 256 * ((17 * (i 0).val + (i 1).val / 256) % 17) + (i 1).val % 256 = (i 1).val
    omega
  · rfl

/-- OUTPUT 2, whole. -/
theorem array_eq6 : (dats m 0 c).arrAt 6 cfg0.N = whole6 m c := by
  refine (dats m 0 c).arrAt_eq_of_cover 6 _ (fun t _ => ?_) covered6
  rw [Value.flushed6]
  funext y
  exact point_eq6 m c t y

/-- What a point leaves in output 3's buffer is its block of the whole output. -/
theorem point_eq7 (y : S1x256x1536.Idx) : out0_7 (iblk m c 0 t) (iblk m c 1 t) (iblk m c 2 t) (iblk m c 3 t) y
    = whole7 m c (((cfg0.win 7).blk t).view.emb y) := by
  unfold out0_7
  refine View.canon_apply_of_pieces (Val := Elt Ideal) (e := .bf16) (fun y : S1x256x1536.Idx => whole7 m c (((cfg0.win 7).blk t).view.emb y)) _ ?_ y ⟨_, List.mem_singleton_self _, ?_⟩
  · intro p hp x
    obtain rfl := List.mem_singleton.mp hp
    obtain ⟨r, f, rfl⟩ := idx_1536 x
    have e : r0_8.emb (ix3 0 r f : S1x256x1536.Idx) = ix3 0 r f := by
      funext a
      refine Fin.ext ?_
      rw [Rect.emb_apply]
      fin_cases a <;> simp [ix3, Rect.unit]
    refine Eq.trans ?_ (congrArg (fun z => whole7 m c (((cfg0.win 7).blk t).view.emb z)) e.symm)
    refine Eq.trans ?_ (congrArg (whole7 m c) (emb7 t r f).symm)
    refine (pay6_apply _ _ _ _).trans ?_
    simp only [row', load_w7]
    rfl
  · show y ∈ r0_8.set
    have h0 : (y 0).val < 1 := (y 0).isLt
    have h1 : (y 1).val < 256 := (y 1).isLt
    have h2 : (y 2).val < 1536 := (y 2).isLt
    rw [Rect.mem_set_unit]
    intro a
    fin_cases a <;> simp <;> omega

/-- Every element of output 3 is in the block of some point. -/
theorem covered7 (i : S8x4352x1536.Idx) : ∃ t : Fin cfg0.N, (cfg0.win 7).flush t = true ∧ i ∈ ((cfg0.win 7).blk t).view.set := by
  have h0 : (i 0).val < 8 := (i 0).isLt
  have h1 : (i 1).val < 4352 := (i 1).isLt
  have h2 : (i 2).val < 1536 := (i 2).isLt
  have hN : 17 * (i 0).val + (i 1).val / 256 < cfg0.N := by
    show _ < grid0.N
    rw [N_0]; omega
  refine ⟨⟨_, hN⟩, flush0_7 _, Finset.mem_map.mpr ⟨ix3 0 ⟨(i 1).val % 256, by omega⟩ ⟨(i 2).val, h2⟩, Finset.mem_univ _, ?_⟩⟩
  refine (emb7 _ _ _).trans ?_
  funext a
  refine Fin.ext ?_
  fin_cases a
  · refine (coord_b _).trans ?_
    show (17 * (i 0).val + (i 1).val / 256) / 17 = (i 0).val
    omega
  · show 256 * (ps _).val + (i 1).val % 256 = (i 1).val
    rw [coord_s]
    show 256 * ((17 * (i 0).val + (i 1).val / 256) % 17) + (i 1).val % 256 = (i 1).val
    omega
  · rfl

/-- OUTPUT 3, whole. -/
theorem array_eq7 : (dats m 0 c).arrAt 7 cfg0.N = whole7 m c := by
  refine (dats m 0 c).arrAt_eq_of_cover 7 _ (fun t _ => ?_) covered7
  rw [Value.flushed7]
  funext y
  exact point_eq7 m c t y

/-- What a point leaves in output 4's buffer is its block of the whole output. -/
theorem point_eq8 (y : S1x256x512.Idx) : out0_8 (iblk m c 0 t) (iblk m c 1 t) (iblk m c 2 t) (iblk m c 3 t) y
    = whole8 m c (((cfg0.win 8).blk t).view.emb y) := by
  unfold out0_8
  refine View.canon_apply_of_pieces (Val := Elt Ideal) (e := .bf16) (fun y : S1x256x512.Idx => whole8 m c (((cfg0.win 8).blk t).view.emb y)) _ ?_ y ⟨_, List.mem_singleton_self _, ?_⟩
  · intro p hp x
    obtain rfl := List.mem_singleton.mp hp
    obtain ⟨r, f, rfl⟩ := idx_512 x
    have e : r0_4.emb (ix3 0 r f : S1x256x512.Idx) = ix3 0 r f := by
      funext a
      refine Fin.ext ?_
      rw [Rect.emb_apply]
      fin_cases a <;> simp [ix3, Rect.unit]
    refine Eq.trans ?_ (congrArg (fun z => whole8 m c (((cfg0.win 8).blk t).view.emb z)) e.symm)
    refine Eq.trans ?_ (congrArg (whole8 m c) (emb8 t r f).symm)
    refine (pay7_apply _ _ _ _).trans ?_
    simp only [row', load_w8]
    rfl
  · show y ∈ r0_4.set
    have h0 : (y 0).val < 1 := (y 0).isLt
    have h1 : (y 1).val < 256 := (y 1).isLt
    have h2 : (y 2).val < 512 := (y 2).isLt
    rw [Rect.mem_set_unit]
    intro a
    fin_cases a <;> simp <;> omega

/-- Every element of output 4 is in the block of some point. -/
theorem covered8 (i : S8x4352x512.Idx) : ∃ t : Fin cfg0.N, (cfg0.win 8).flush t = true ∧ i ∈ ((cfg0.win 8).blk t).view.set := by
  have h0 : (i 0).val < 8 := (i 0).isLt
  have h1 : (i 1).val < 4352 := (i 1).isLt
  have h2 : (i 2).val < 512 := (i 2).isLt
  have hN : 17 * (i 0).val + (i 1).val / 256 < cfg0.N := by
    show _ < grid0.N
    rw [N_0]; omega
  refine ⟨⟨_, hN⟩, flush0_8 _, Finset.mem_map.mpr ⟨ix3 0 ⟨(i 1).val % 256, by omega⟩ ⟨(i 2).val, h2⟩, Finset.mem_univ _, ?_⟩⟩
  refine (emb8 _ _ _).trans ?_
  funext a
  refine Fin.ext ?_
  fin_cases a
  · refine (coord_b _).trans ?_
    show (17 * (i 0).val + (i 1).val / 256) / 17 = (i 0).val
    omega
  · show 256 * (ps _).val + (i 1).val % 256 = (i 1).val
    rw [coord_s]
    show 256 * ((17 * (i 0).val + (i 1).val / 256) % 17) + (i 1).val % 256 = (i 1).val
    omega
  · rfl

/-- OUTPUT 4, whole. -/
theorem array_eq8 : (dats m 0 c).arrAt 8 cfg0.N = whole8 m c := by
  refine (dats m 0 c).arrAt_eq_of_cover 8 _ (fun t _ => ?_) covered8
  rw [Value.flushed8]
  funext y
  exact point_eq8 m c t y

/-- What a point leaves in output 5's buffer is its block of the whole output. -/
theorem point_eq9 (y : S1x256x128.Idx) : out0_9 (iblk m c 0 t) (iblk m c 1 t) (iblk m c 2 t) (iblk m c 3 t) y
    = whole9 m c (((cfg0.win 9).blk t).view.emb y) := by
  unfold out0_9
  refine View.canon_apply_of_pieces (Val := Elt Ideal) (e := .f32) (fun y : S1x256x128.Idx => whole9 m c (((cfg0.win 9).blk t).view.emb y)) _ ?_ y ⟨_, List.mem_singleton_self _, ?_⟩
  · intro p hp x
    obtain rfl := List.mem_singleton.mp hp
    obtain ⟨r, f, rfl⟩ := idx_128 x
    have e : r0_11.emb (ix3 0 r f : S1x256x128.Idx) = ix3 0 r f := by
      funext a
      refine Fin.ext ?_
      rw [Rect.emb_apply]
      fin_cases a <;> simp [ix3, Rect.unit]
    refine Eq.trans ?_ (congrArg (fun z => whole9 m c (((cfg0.win 9).blk t).view.emb z)) e.symm)
    refine Eq.trans ?_ (congrArg (whole9 m c) (emb9 t r f).symm)
    refine (pay1_apply _ _ _ _).trans ?_
    show _ = res5 (aX m c) (aM m c) (aG m c) (aW m c) (pb (grid0.coords t)) (tok (ps (grid0.coords t)) r) f
    unfold res5
    by_cases h : f.val < 32
    · rw [dif_pos h]
      exact Finset.sum_congr rfl fun j _ => by rw [row', load_w9 m c t j f h]
    · rw [dif_neg h]
      exact Finset.sum_eq_zero fun j _ => by rw [load_w9_out m c t j f h]; exact mul_zero _
  · show y ∈ r0_11.set
    have h0 : (y 0).val < 1 := (y 0).isLt
    have h1 : (y 1).val < 256 := (y 1).isLt
    have h2 : (y 2).val < 128 := (y 2).isLt
    rw [Rect.mem_set_unit]
    intro a
    fin_cases a <;> simp <;> omega

/-- Every element of output 5 is in the block of some point. -/
theorem covered9 (i : S8x4352x128.Idx) : ∃ t : Fin cfg0.N, (cfg0.win 9).flush t = true ∧ i ∈ ((cfg0.win 9).blk t).view.set := by
  have h0 : (i 0).val < 8 := (i 0).isLt
  have h1 : (i 1).val < 4352 := (i 1).isLt
  have h2 : (i 2).val < 128 := (i 2).isLt
  have hN : 17 * (i 0).val + (i 1).val / 256 < cfg0.N := by
    show _ < grid0.N
    rw [N_0]; omega
  refine ⟨⟨_, hN⟩, flush0_9 _, Finset.mem_map.mpr ⟨ix3 0 ⟨(i 1).val % 256, by omega⟩ ⟨(i 2).val, h2⟩, Finset.mem_univ _, ?_⟩⟩
  refine (emb9 _ _ _).trans ?_
  funext a
  refine Fin.ext ?_
  fin_cases a
  · refine (coord_b _).trans ?_
    show (17 * (i 0).val + (i 1).val / 256) / 17 = (i 0).val
    omega
  · show 256 * (ps _).val + (i 1).val % 256 = (i 1).val
    rw [coord_s]
    show 256 * ((17 * (i 0).val + (i 1).val / 256) % 17) + (i 1).val % 256 = (i 1).val
    omega
  · rfl

/-- OUTPUT 5, whole. -/
theorem array_eq9 : (dats m 0 c).arrAt 9 cfg0.N = whole9 m c := by
  refine (dats m 0 c).arrAt_eq_of_cover 9 _ (fun t _ => ?_) covered9
  rw [Value.flushed9]
  funext y
  exact point_eq9 m c t y

end Launch

end Cert.Kernel3Ideal.Pre

end
-- ==== Proof.Pre.Final.lean ====
/- The projection kernel's six outputs are the plain program's, for all arguments. -/
module

public import proofs.«01_k».proof.Defs
public import proofs.«01_k».proof.Proof.Pre.Ref
public import proofs.«01_k».proof.Proof.Pre.Array
public import proofs.«01_k».proof.Proof.Gen.Reference3Ideal.Run

@[expose] public section

noncomputable section

namespace Cert.Pre

open Idealize.ShloMosaic Idealize.ShloMosaic.TcCoe Idealize.SL.Sem

variable (m : (ℓ : Loc Cert.Kernel3Ideal.nD Cert.Kernel3Ideal.τ Cert.Kernel3Ideal.sig) → Buf (Elt Ideal) ℓ) (c : Dev Cert.Kernel3Ideal.nD)

theorem same4 : Cert.Reference3Ideal.Read.val_main_v77 (F := Ideal) (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg3))
      = Cert.Kernel3Ideal.Pre.whole4 m c := by
  funext y
  have hy : y = ix3 (y 0) (y 1) (y 2) := by
    funext a
    match a with | ⟨0, _⟩ => rfl | ⟨1, _⟩ => rfl | ⟨2, _⟩ => rfl
  rw [hy]
  exact Cert.Reference3Ideal.Pre.v77_at _ _ _ _ (y 0) (y 1) (y 2)

theorem same5 : Cert.Reference3Ideal.Read.val_main_v78 (F := Ideal) (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg3))
      = Cert.Kernel3Ideal.Pre.whole5 m c := by
  funext y
  have hy : y = ix3 (y 0) (y 1) (y 2) := by
    funext a
    match a with | ⟨0, _⟩ => rfl | ⟨1, _⟩ => rfl | ⟨2, _⟩ => rfl
  rw [hy]
  exact Cert.Reference3Ideal.Pre.v78_at _ _ _ _ (y 0) (y 1) (y 2)

theorem same6 : Cert.Reference3Ideal.Read.val_main_v79 (F := Ideal) (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg3))
      = Cert.Kernel3Ideal.Pre.whole6 m c := by
  funext y
  have hy : y = ix3 (y 0) (y 1) (y 2) := by
    funext a
    match a with | ⟨0, _⟩ => rfl | ⟨1, _⟩ => rfl | ⟨2, _⟩ => rfl
  rw [hy]
  exact Cert.Reference3Ideal.Pre.v79_at _ _ _ _ (y 0) (y 1) (y 2)

theorem same7 : Cert.Reference3Ideal.Read.val_main_v80 (F := Ideal) (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg3))
      = Cert.Kernel3Ideal.Pre.whole7 m c := by
  funext y
  have hy : y = ix3 (y 0) (y 1) (y 2) := by
    funext a
    match a with | ⟨0, _⟩ => rfl | ⟨1, _⟩ => rfl | ⟨2, _⟩ => rfl
  rw [hy]
  exact Cert.Reference3Ideal.Pre.v80_at _ _ _ _ (y 0) (y 1) (y 2)

theorem same8 : Cert.Reference3Ideal.Read.val_main_v81 (F := Ideal) (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg3))
      = Cert.Kernel3Ideal.Pre.whole8 m c := by
  funext y
  have hy : y = ix3 (y 0) (y 1) (y 2) := by
    funext a
    match a with | ⟨0, _⟩ => rfl | ⟨1, _⟩ => rfl | ⟨2, _⟩ => rfl
  rw [hy]
  exact Cert.Reference3Ideal.Pre.v81_at _ _ _ _ (y 0) (y 1) (y 2)

theorem same9 : Cert.Reference3Ideal.Read.val_main_v82 (F := Ideal) (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg3))
      = Cert.Kernel3Ideal.Pre.whole9 m c := by
  funext y
  have hy : y = ix3 (y 0) (y 1) (y 2) := by
    funext a
    match a with | ⟨0, _⟩ => rfl | ⟨1, _⟩ => rfl | ⟨2, _⟩ => rfl
  rw [hy]
  exact Cert.Reference3Ideal.Pre.v82_at _ _ _ _ (y 0) (y 1) (y 2)

theorem algebraic : Cert.algebraic_Kernel3Ideal_Reference3Ideal (hKernel3Ideal := Cert.Kernel3Ideal.Gen.facts)
    (hReference3Ideal := Cert.Reference3Ideal.Gen.facts) := by
  intro m g m' g' _ ha
  refine ⟨fun c => (Cert.Kernel3Ideal.Gen.dats m 0 c).arrAt 4 Cert.Kernel3Ideal.cfg0.N,
    fun c => (Cert.Kernel3Ideal.Gen.dats m 0 c).arrAt 5 Cert.Kernel3Ideal.cfg0.N,
    fun c => (Cert.Kernel3Ideal.Gen.dats m 0 c).arrAt 6 Cert.Kernel3Ideal.cfg0.N,
    fun c => (Cert.Kernel3Ideal.Gen.dats m 0 c).arrAt 7 Cert.Kernel3Ideal.cfg0.N,
    fun c => (Cert.Kernel3Ideal.Gen.dats m 0 c).arrAt 8 Cert.Kernel3Ideal.cfg0.N,
    fun c => (Cert.Kernel3Ideal.Gen.dats m 0 c).arrAt 9 Cert.Kernel3Ideal.cfg0.N,
    Cert.Kernel3Ideal.Value.run_blocks m g, ?_⟩
  refine (θ_run Cert.Reference3Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.Reference3Ideal.Value.run (F := Ideal) m' g')
  · obtain ⟨e0, e1, e2, e3⟩ := ha c
    rw [Cert.Reference3Ideal.Read.val_main_v77_eq, e0, e1, e2, e3]
    exact (same4 m c).trans (Cert.Kernel3Ideal.Pre.array_eq4 m c).symm
  · obtain ⟨e0, e1, e2, e3⟩ := ha c
    rw [Cert.Reference3Ideal.Read.val_main_v78_eq, e0, e1, e2, e3]
    exact (same5 m c).trans (Cert.Kernel3Ideal.Pre.array_eq5 m c).symm
  · obtain ⟨e0, e1, e2, e3⟩ := ha c
    rw [Cert.Reference3Ideal.Read.val_main_v79_eq, e0, e1, e2, e3]
    exact (same6 m c).trans (Cert.Kernel3Ideal.Pre.array_eq6 m c).symm
  · obtain ⟨e0, e1, e2, e3⟩ := ha c
    rw [Cert.Reference3Ideal.Read.val_main_v80_eq, e0, e1, e2, e3]
    exact (same7 m c).trans (Cert.Kernel3Ideal.Pre.array_eq7 m c).symm
  · obtain ⟨e0, e1, e2, e3⟩ := ha c
    rw [Cert.Reference3Ideal.Read.val_main_v81_eq, e0, e1, e2, e3]
    exact (same8 m c).trans (Cert.Kernel3Ideal.Pre.array_eq8 m c).symm
  · obtain ⟨e0, e1, e2, e3⟩ := ha c
    rw [Cert.Reference3Ideal.Read.val_main_v82_eq, e0, e1, e2, e3]
    exact (same9 m c).trans (Cert.Kernel3Ideal.Pre.array_eq9 m c).symm

end Cert.Pre

end
-- ==== Proof.Post.Spec.lean ====
/- The mixers' outputs brought back to the stream, over the extended reals: a token's 512 lanes of one mixer, and the
   512 of another summed over its two directions, normalised head by head and gated, are projected together to 1024
   numbers, which are normalised, scaled by the token's row of the modulation and added to the token.

   The 512 lanes are 8 heads of 64. -/
module

public import proofs.«01_k».proof.Proof.Pre.Spec

@[expose] public section

noncomputable section

namespace Cert.Post

open Idealize.ShloMosaic Cert.FFN Cert.Pre

/-- The columns of the gate among the 6144 of the modulation. -/
abbrev colGate (j : Fin 1024) : Fin 6144 := ⟨2048 + j.val, by omega⟩

/-- Lane `d` of the head of lane `f`, and the place of `f` in its head. -/
def lane (f : Fin 512) (d : Fin 64) : Fin 512 := ⟨64 * (f.val / 64) + d.val, by omega⟩
def place (f : Fin 512) : Fin 64 := ⟨f.val % 64, by omega⟩

/-- A lane normalised within its head, before and after its gain. -/
def headRow (o : Fin 512 → EReal) (f : Fin 512) : EReal :=
  o f * Ideal.rsqrt (Ideal.div (∑ d, o (lane f d) * o (lane f d)) (Ideal.ofBits .f32 0x42800000#32)
    + Ideal.ofBits .f32 0x358637BD#32)

/-- … and gated. -/
def gatedRow (o z : Fin 512 → EReal) (gd : Fin 64 → EReal) (f : Fin 512) : EReal :=
  headRow o f * gd (place f) * (z f * Ideal.div 1 (1 + Ideal.exp (-(z f))))

/-- The projection of the two mixers' lanes. -/
def mixRow (a t : Fin 512 → EReal) (W : Fin 1024 → Fin 1024 → EReal) (j : Fin 1024) : EReal :=
  (∑ f : Fin 512, a f * W ⟨f.val, by omega⟩ j) + ∑ f : Fin 512, t f * W ⟨512 + f.val, by omega⟩ j

section Layer

variable (x : Fin 8 → Fin 4352 → Fin 1024 → EReal) (md : Fin 16 → Fin 6144 → EReal)
  (a u v z : Fin 8 → Fin 4352 → Fin 512 → EReal) (gd : Fin 64 → EReal) (g : Fin 1024 → EReal)
  (W : Fin 1024 → Fin 1024 → EReal)

/-- A token's gated lanes, and its projection. -/
def gated (b : Fin 8) (n : Fin 4352) (f : Fin 512) : EReal := gatedRow (fun k => u b n k + v b n k) (z b n) gd f
def mixed (b : Fin 8) (n : Fin 4352) (j : Fin 1024) : EReal := mixRow (a b n) (gated u v z gd b n) W j

/-- THE RESULT. -/
def result (b : Fin 8) (n : Fin 4352) (j : Fin 1024) : EReal :=
  x b n j + md (rowOf b n) (colGate j) * rmsRow (mixed a u v z gd W b n) g j

end Layer

end Cert.Post

end
-- ==== Proof.Post.Ref.lean ====
/- The plain program's mixing, step by step at an index. -/
module

public import proofs.«01_k».proof.Proof.Gen.Reference4Ideal.Read
public import proofs.«01_k».proof.Proof.Post.Spec
public import proofs.«01_k».proof.Proof.Pre.Ref
public import Idealize.ShloMosaic.Lib.Pointwise

@[expose] public section

noncomputable section

namespace Cert.Reference4Ideal.Post

open Cert.Reference4Ideal Cert.Reference4Ideal.Gen Cert.Reference4Ideal.Read Idealize.ShloMosaic Idealize.ShloMosaic.TcCoe Idealize.SL.Sem Cert.FFN Cert.Pre Cert.Post
open Cert.Reference3Ideal.Pre (context row_latent row_context)

variable (x0 : Vec Ideal S8x4352x1024 .f32) (x1 : Vec Ideal S4x16x1x6144 .f32) (x2 x3 x4 x5 : Vec Ideal S8x4352x512 .bf16)
  (x6 : Vec Ideal S4x64 .f32) (x7 : Vec Ideal S4x1024 .f32) (x8 : Vec Ideal S4x1024x1024 .f32)

/-- The arguments as functions: the stream; layer 1 of the modulation; the lanes of one mixer, of the other's two
    directions and of its gate; layer 1 of the two gains and of the weights. -/
abbrev sX (b : Fin 8) (n : Fin 4352) (j : Fin 1024) : EReal := x0 (ix3 b n j)
abbrev sM (b : Fin 16) (k : Fin 6144) : EReal := x1 (ix4 1 b 0 k)
abbrev sL (x : Vec Ideal S8x4352x512 .bf16) (b : Fin 8) (n : Fin 4352) (f : Fin 512) : EReal := x (ix3 b n f)
abbrev sD (d : Fin 64) : EReal := x6 (ix2 1 d)
abbrev sG (j : Fin 1024) : EReal := x7 (ix2 1 j)
abbrev sW (k j : Fin 1024) : EReal := x8 (ix3 1 k j)

/-- The lane of a head's place. -/
abbrev at_ (h : Fin 8) (d : Fin 64) : Fin 512 := ⟨h.val * 64 + d.val, by omega⟩

theorem lane_at (h : Fin 8) (d e : Fin 64) : lane (at_ h d) e = at_ h e :=
  Fin.ext (by show 64 * ((h.val * 64 + d.val) / 64) + e.val = h.val * 64 + e.val; omega)
theorem place_at (h : Fin 8) (d : Fin 64) : place (at_ h d) = d :=
  Fin.ext (by show (h.val * 64 + d.val) % 64 = d.val; omega)

theorem v17_at (b : Fin 8) (n : Fin 4352) (h : Fin 8) (d : Fin 64) : val_main_v17 (F := Ideal) x5 (ix4 b n h d) = sL x5 b n (at_ h d) := by
  pointwise [val_main_v17, val_main_v16]
theorem v22_at (b : Fin 8) (n : Fin 4352) (h : Fin 8) (d : Fin 64) :
    val_main_v22 (F := Ideal) x3 x4 (ix4 b n h d) = sL x3 b n (at_ h d) + sL x4 b n (at_ h d) := by
  pointwise [val_main_v22, val_main_v19, val_main_v18, val_main_v21, val_main_v20]
theorem v24_at (d : Fin 64) : val_main_v24 (F := Ideal) x6 (ix1 d) = sD x6 d := by
  pointwise [val_main_v24, val_main_v23]

theorem v34_at (b : Fin 8) (n : Fin 4352) (h : Fin 8) (d : Fin 64) : val_main_v34 (F := Ideal) x3 x4 (ix4 b n h d)
    = headRow (fun k => sL x3 b n k + sL x4 b n k) (at_ h d) := by
  unfold headRow
  simp only [lane_at, ← v22_at x3 x4]
  unfold val_main_v34 val_main_v33 val_main_v32 val_main_v31 val_main_v29 val_main_v27 val_main_v26 val_main_v25
  generalize val_main_v22 (F := Ideal) x3 x4 = y
  pointwise [val_main_v28, val_main_v30, val_main_cst, val_main_cst_0, val_main_cst_1]

theorem v45_at (b : Fin 8) (n : Fin 4352) (h : Fin 8) (d : Fin 64) : val_main_v45 (F := Ideal) x3 x4 x5 x6 (ix4 b n h d)
    = Cert.Post.gated (sL x3) (sL x4) (sL x5) (sD x6) b n (at_ h d) := by
  unfold Cert.Post.gated gatedRow
  rw [place_at, ← v34_at x3 x4, ← v17_at x5 b n h d, ← v24_at x6 d]
  unfold val_main_v45 val_main_v44 val_main_v43 val_main_v41 val_main_v39 val_main_v38 val_main_v37 val_main_v36 val_main_v35
  generalize val_main_v34 (F := Ideal) x3 x4 = y
  generalize val_main_v17 (F := Ideal) x5 = z
  generalize val_main_v24 (F := Ideal) x6 = w
  pointwise [val_main_v40, val_main_v42, val_main_cst_2, val_main_cst_3]

theorem v47_at (b : Fin 8) (n : Fin 4352) (f : Fin 512) : val_main_v47 (F := Ideal) x3 x4 x5 x6 (ix3 b n f)
    = Cert.Post.gated (sL x3) (sL x4) (sL x5) (sD x6) b n f := by
  have e : f = at_ ⟨f.val / 64, by omega⟩ ⟨f.val % 64, by omega⟩ := Fin.ext (by show f.val = f.val / 64 * 64 + f.val % 64; omega)
  refine Eq.trans ?_ ((v45_at x3 x4 x5 x6 b n ⟨f.val / 64, by omega⟩ ⟨f.val % 64, by omega⟩).trans (congrArg _ e.symm))
  unfold val_main_v47
  generalize val_main_v45 (F := Ideal) x3 x4 x5 x6 = y
  pointwise []

/-- The lanes of the two mixers, side by side. -/
theorem v48_at (b : Fin 8) (n : Fin 4352) (k : Fin 1024) : val_main_v48 (F := Ideal) x2 x3 x4 x5 x6 (ix3 b n k)
    = if h : k.val < 512 then sL x2 b n ⟨k.val, h⟩
      else Cert.Post.gated (sL x3) (sL x4) (sL x5) (sD x6) b n ⟨k.val - 512, by omega⟩ := by
  simp only [← v47_at x3 x4 x5 x6]
  unfold val_main_v48
  generalize val_main_v47 (F := Ideal) x3 x4 x5 x6 = y
  pointwise [val_main_v46]

theorem v50_at (k j : Fin 1024) : val_main_v50 (F := Ideal) x8 (ix2 k j) = sW x8 k j := by
  pointwise [val_main_v50, val_main_v49]

/-- A sum over 1024 is that over the first 512 and that over the rest. -/
theorem sum_halves (p : Fin 1024 → EReal) :
    ∑ k, p k = (∑ f : Fin 512, p ⟨f.val, by omega⟩) + ∑ f : Fin 512, p ⟨512 + f.val, by omega⟩ :=
  Fin.sum_univ_add (a := 512) (b := 512) p

theorem v51_at (b : Fin 8) (n : Fin 4352) (j : Fin 1024) : val_main_v51 (F := Ideal) x2 x3 x4 x5 x6 x8 (ix3 b n j)
    = mixed (sL x2) (sL x3) (sL x4) (sL x5) (sD x6) (sW x8) b n j := by
  have e : val_main_v51 (F := Ideal) x2 x3 x4 x5 x6 x8 (ix3 b n j)
      = ∑ k, val_main_v48 (F := Ideal) x2 x3 x4 x5 x6 (ix3 b n k) * val_main_v50 (F := Ideal) x8 (ix2 k j) := by
    unfold val_main_v51
    generalize val_main_v48 (F := Ideal) x2 x3 x4 x5 x6 = y
    generalize val_main_v50 (F := Ideal) x8 = z
    pointwise []
  rw [e, sum_halves]
  unfold mixed mixRow
  refine congrArg₂ (fun a b : EReal => a + b) (Finset.sum_congr rfl fun f _ => ?_) (Finset.sum_congr rfl fun f _ => ?_)
  · rw [v48_at, v50_at, dif_pos f.isLt]
  · rw [v48_at, v50_at, dif_neg (by show ¬ 512 + f.val < 512; omega)]
    exact congrArg (fun a => Cert.Post.gated (sL x3) (sL x4) (sL x5) (sD x6) b n a * sW x8 ⟨512 + f.val, by omega⟩ j)
      (Fin.ext (by show 512 + f.val - 512 = f.val; omega))

theorem v53_at (j : Fin 1024) : val_main_v53 (F := Ideal) x7 (ix1 j) = sG x7 j := by
  pointwise [val_main_v53, val_main_v52]

/-- The projection, normalised. -/
theorem v66_at (b : Fin 8) (n : Fin 4352) (j : Fin 1024) : val_main_v66 (F := Ideal) x2 x3 x4 x5 x6 x7 x8 (ix3 b n j)
    = rmsRow (mixed (sL x2) (sL x3) (sL x4) (sL x5) (sD x6) (sW x8) b n) (sG x7) j := by
  unfold rmsRow
  simp only [← v51_at x2 x3 x4 x5 x6 x8]
  rw [← v53_at x7 j]
  unfold val_main_v66 val_main_v65 val_main_v64 val_main_v63 val_main_v62 val_main_v61 val_main_v60 val_main_v58 val_main_v56 val_main_v55 val_main_v54
  generalize val_main_v51 (F := Ideal) x2 x3 x4 x5 x6 x8 = y
  generalize val_main_v53 (F := Ideal) x7 = z
  pointwise [val_main_v57, val_main_v59, val_main_cst_4, val_main_cst_5, val_main_cst_6]

theorem v1_at (b : Fin 8) (k : Fin 6144) : val_main_v1 (F := Ideal) x1 (ix3 b 0 k) = sM x1 ⟨b.val, by omega⟩ k := by
  pointwise [val_main_v1, val_main_v0]
theorem v4_at (b : Fin 8) (j : Fin 1024) : val_main_v4 (F := Ideal) x1 (ix3 b 0 j) = sM x1 ⟨b.val, by omega⟩ (colGate j) := by
  refine Eq.trans ?_ (v1_at x1 b (colGate j))
  unfold val_main_v4
  generalize val_main_v1 (F := Ideal) x1 = y
  pointwise []
theorem v9_at (k : Fin 6144) : val_main_v9 (F := Ideal) x1 (ix2 0 k) = sM x1 8 k := by
  pointwise [val_main_v9, val_main_v8]
theorem v12_at (j : Fin 1024) : val_main_v12 (F := Ideal) x1 (ix2 0 j) = sM x1 8 (colGate j) := by
  refine Eq.trans ?_ (v9_at x1 (colGate j))
  unfold val_main_v12
  generalize val_main_v9 (F := Ideal) x1 = y
  pointwise []

/-- The context tokens' result, and the latent tokens'. -/
theorem v72_at (b : Fin 8) (n : Fin 256) (j : Fin 1024) : val_main_v72 (F := Ideal) x0 x1 x2 x3 x4 x5 x6 x7 x8 (ix3 b n j)
    = Cert.Post.result (sX x0) (sM x1) (sL x2) (sL x3) (sL x4) (sL x5) (sD x6) (sG x7) (sW x8) b (context n) j := by
  unfold Cert.Post.result
  rw [row_context, ← v66_at x2 x3 x4 x5 x6 x7 x8, ← v12_at x1 j]
  unfold val_main_v72 val_main_v71 val_main_v70 val_main_v69 val_main_v68 val_main_v67
  generalize val_main_v66 (F := Ideal) x2 x3 x4 x5 x6 x7 x8 = y
  generalize val_main_v12 (F := Ideal) x1 = z
  pointwise []

theorem v77_at (b : Fin 8) (n : Fin 4096) (j : Fin 1024) : val_main_v77 (F := Ideal) x0 x1 x2 x3 x4 x5 x6 x7 x8 (ix3 b n j)
    = Cert.Post.result (sX x0) (sM x1) (sL x2) (sL x3) (sL x4) (sL x5) (sD x6) (sG x7) (sW x8) b (latent n) j := by
  unfold Cert.Post.result
  rw [row_latent, ← v66_at x2 x3 x4 x5 x6 x7 x8, ← v4_at x1 b j]
  unfold val_main_v77 val_main_v76 val_main_v75 val_main_v74 val_main_v73
  generalize val_main_v66 (F := Ideal) x2 x3 x4 x5 x6 x7 x8 = y
  generalize val_main_v4 (F := Ideal) x1 = z
  pointwise []

/-- THE PLAIN RESULT at an index. -/
theorem v78_at (b : Fin 8) (n : Fin 4352) (j : Fin 1024) : val_main_v78 (F := Ideal) x0 x1 x2 x3 x4 x5 x6 x7 x8 (ix3 b n j)
    = Cert.Post.result (sX x0) (sM x1) (sL x2) (sL x3) (sL x4) (sL x5) (sD x6) (sG x7) (sW x8) b n j := by
  have e : val_main_v78 (F := Ideal) x0 x1 x2 x3 x4 x5 x6 x7 x8 (ix3 b n j)
      = if h : n.val < 256 then val_main_v72 (F := Ideal) x0 x1 x2 x3 x4 x5 x6 x7 x8 (ix3 b ⟨n.val, h⟩ j)
        else val_main_v77 (F := Ideal) x0 x1 x2 x3 x4 x5 x6 x7 x8 (ix3 b ⟨n.val - 256, by omega⟩ j) := by
    unfold val_main_v78
    generalize val_main_v72 (F := Ideal) x0 x1 x2 x3 x4 x5 x6 x7 x8 = y
    generalize val_main_v77 (F := Ideal) x0 x1 x2 x3 x4 x5 x6 x7 x8 = z
    pointwise []
  rw [e]
  by_cases h : n.val < 256
  · rw [dif_pos h, v72_at]
  · rw [dif_neg h, v77_at]
    exact congrArg (fun a => Cert.Post.result (sX x0) (sM x1) (sL x2) (sL x3) (sL x4) (sL x5) (sD x6) (sG x7) (sW x8) b a j)
      (Fin.ext (by show 256 + (n.val - 256) = n.val; omega))

end Cert.Reference4Ideal.Post

end
-- ==== Proof.Post.Elements.lean ====
/- The mixing kernel's stages read at one element over the extended reals. -/
module

public import proofs.«01_k».proof.Proof.Gen.Kernel4Ideal.Value
public import proofs.«01_k».proof.Proof.Post.Spec

@[expose] public section

noncomputable section

namespace Cert.Kernel4Ideal.Post

open Cert.Kernel4Ideal Cert.Kernel4Ideal.Gen Idealize.ShloMosaic Idealize.ShloMosaic.TcCoe Cert.FFN Cert.Pre Cert.Post

theorem word64 : Ideal.ofBits .f32 0x42800000#32 = ((64 : ℝ) : EReal) := by
  simp [Ideal.ofBits, Ideal.ieee, -EReal.coe_mul]; norm_num
theorem word_inv64 : Ideal.ofBits .f32 0x3C800000#32 = (((64 : ℝ)⁻¹ : ℝ) : EReal) := by
  simp [Ideal.ofBits, Ideal.ieee, -EReal.coe_mul]; norm_num

/-- A product with the sixty-fourth is the quotient by 64. -/
theorem mul_inv64 (s : EReal) : s * Ideal.ofBits .f32 0x3C800000#32 = Ideal.div s (Ideal.ofBits .f32 0x42800000#32) := by
  rw [word64, word_inv64, Ideal.div_coe (by norm_num : (64 : ℝ) ≠ 0)]
  norm_num

/-- Summing over all lanes with the heads' mask is summing over the lane's head. -/
theorem sum_mask (o : Fin 512 → EReal) (f : Fin 512) :
    ∑ k : Fin 512, o k * (if k.val / 64 = f.val / 64 then 1 else 0) = ∑ d, o (lane f d) := by
  have hf := f.isLt
  simp only [mul_ite, mul_one, mul_zero]
  rw [← Finset.sum_filter]
  symm
  refine Finset.sum_bij (fun d _ => lane f d) ?_ ?_ ?_ ?_
  · intro d _
    rw [Finset.mem_filter]
    refine ⟨Finset.mem_univ _, ?_⟩
    show (64 * (f.val / 64) + d.val) / 64 = _
    omega
  · intro d _ e _ h
    have := congrArg Fin.val h
    refine Fin.ext ?_
    change 64 * (f.val / 64) + d.val = 64 * (f.val / 64) + e.val at this
    omega
  · intro k hk
    have hk' := (Finset.mem_filter.mp hk).2
    refine ⟨⟨k.val % 64, by omega⟩, Finset.mem_univ _, Fin.ext ?_⟩
    show 64 * (f.val / 64) + k.val % 64 = k.val
    omega
  · intro d _; rfl

/-- The two halves of a tile are computed alike; these are the first half's stages. -/
theorem both_apply (a b : Vec Ideal S1x128x512 .bf16) (r : Fin 128) (f : Fin 512) :
    k0_pay6 a b (ix2 r f) = a (ix3 0 r f) + b (ix3 0 r f) := by
  pointwise [k0_pay6]

theorem mean_apply (w : Vec Ideal S512x512 .bf16) (a b : Vec Ideal S1x128x512 .bf16) (r : Fin 128) (f : Fin 512) :
    k0_pay7 w a b (ix2 r f) = (∑ k, k0_pay6 a b (ix2 r k) * k0_pay6 a b (ix2 r k) * w (ix2 k f)) * Ideal.ofBits .f32 0x3C800000#32 := by
  unfold k0_pay7 k0_pay5
  generalize k0_pay6 a b = h
  pointwise []

theorem proj_apply (o s e : FVec Ideal S128x512 .f32) (g : Vec Ideal S1x512 .f32) (z a : Vec Ideal S1x128x512 .bf16)
    (w₀ w₁ : Vec Ideal S1x512x1024 .bf16) (r : Fin 128) (j : Fin 1024) :
    k0_pay11 o s e g z a w₀ w₁ (ix2 r j) = (∑ f, a (ix3 0 r f) * w₀ (ix3 0 f j))
      + ∑ f, o (ix2 r f) * Ideal.rsqrt (s (ix2 r f) + e (ix2 r f)) * g (ix2 0 f)
        * (z (ix3 0 r f) * Ideal.div 1 (1 + Ideal.exp (-(z (ix3 0 r f))))) * w₁ (ix3 0 f j) := by
  pointwise [k0_pay11]
  simp only [zero_sub]

/-- The second half's stages are the first's. -/
theorem second_both (a b : Vec Ideal S1x128x512 .bf16) : k0_pay8 a b = k0_pay6 a b := rfl
theorem second_mean (w : Vec Ideal S512x512 .bf16) (a b : Vec Ideal S1x128x512 .bf16) : k0_pay9 w a b = k0_pay7 w a b := rfl
theorem second_proj (o s : FVec Ideal S128x512 .f32) (g : Vec Ideal S1x512 .f32) (z a : Vec Ideal S1x128x512 .bf16)
    (w₀ w₁ : Vec Ideal S1x512x1024 .bf16) :
    k0_pay13 (k0_pay12 o s g) z a w₀ w₁ = k0_pay11 o s k0_pay10 g z a w₀ w₁ := rfl

theorem eps_apply (r : Fin 128) (f : Fin 512) : k0_pay10 (F := Ideal) (ix2 r f) = Ideal.ofBits .f32 0x358637BD#32 := by
  pointwise [k0_pay10]

/-- What is stored. -/
theorem first_apply (x : Vec Ideal S1x256x1024 .f32) (md : Vec Ideal S1x1x1x6144 .f32) (y : FVec Ideal S128x1024 .f32)
    (g : Vec Ideal S1x1024 .f32) (r : Fin 128) (j : Fin 1024) :
    k0_pay1 (k0_pay14 (k0_pay3 x)) (k0_pay15 (k0_pay4 md) y g) (ix3 0 r j)
      = x (ix3 0 ⟨r.val, by omega⟩ j) + md (ix4 0 0 0 (colGate j)) * rmsRow (fun k => y (ix2 r k)) (fun k => g (ix2 0 k)) j := by
  pointwise [k0_pay1, k0_pay14, k0_pay3, k0_pay15, k0_pay4, rmsRow]

theorem second_apply (x : Vec Ideal S1x256x1024 .f32) (md : Vec Ideal S1x1x1x6144 .f32) (y : FVec Ideal S128x1024 .f32)
    (g : Vec Ideal S1x1024 .f32) (r : Fin 128) (j : Fin 1024) :
    k0_pay2 (k0_pay3 x) (k0_pay4 md) y g (ix3 0 r j)
      = x (ix3 0 ⟨128 + r.val, by omega⟩ j) + md (ix4 0 0 0 (colGate j)) * rmsRow (fun k => y (ix2 r k)) (fun k => g (ix2 0 k)) j := by
  pointwise [k0_pay2, k0_pay3, k0_pay4, rmsRow]

end Cert.Kernel4Ideal.Post

end
-- ==== Proof.Post.Blocks.lean ====
/- The blocks of a grid point of the mixing kernel, element by element.

   A point is a batch element `pb` and a tile `ps` of 256 tokens, the first of them context. It takes that tile of the
   stream and of the mixers' outputs, one row of the modulation, layer 1's gains and weights, and a mask of 512 by 512
   that is 1 where two lanes are of one head. -/
module

public import proofs.«01_k».proof.Proof.Post.Elements

@[expose] public section

noncomputable section

namespace Cert.Kernel4Ideal.Post

open Cert.Kernel4Ideal Cert.Kernel4Ideal.Gen Idealize.ShloMosaic Idealize.ShloMosaic.TcCoe Idealize.SL.Sem Cert.FFN Cert.Pre Cert.Post

/-- The batch element and the tile of a point. -/
def pb (i : grid0.Coords) : Fin 8 := i 0
def ps (i : grid0.Coords) : Fin 17 := i 1

/-- Token `r` of tile `s`. -/
def tok (s : Fin 17) (r : Fin 256) : Fin 4352 := ⟨256 * s.val + r.val, by omega⟩

theorem ld_at {Val : EltTy → Type} {S : Shape} {e : EltTy} (X : S.Idx → Val e) (off size : Fin S.rank → Nat)
    (inb : ∀ a, off a + size a ≤ S.size a) (x : (Rect.unit off size inb).shape.Idx) (k : S.Idx)
    (hk : ∀ a, (k a).val = off a + (x a).val) : View.ld X (Rect.unit off size inb) x = X k := by
  rw [View.ld_unit]
  exact extractStridedSlice_apply off X _ x k hk

theorem row_tok (b : Fin 8) (s : Fin 17) (r : Fin 256) :
    (rowOf b (tok s r)).val = if s.val = 0 then 8 else b.val := by
  unfold rowOf tok
  by_cases h : s.val = 0
  · rw [if_pos (by show 256 * s.val + r.val < 256; omega), if_pos h]; rfl
  · rw [if_neg (by show ¬ 256 * s.val + r.val < 256; omega), if_neg h]

theorem map1 (i : grid0.Coords) : cc0_transform_1 i = ![1, if (ps i).val = 0 then 8 else (pb i).val, 0, 0] := by
  unfold cc0_transform_1 pb ps
  generalize (i 0 : Fin 8) = b
  generalize (i 1 : Fin 17) = s
  revert b s; decide +kernel

theorem map0 (i : grid0.Coords) : cc0_transform_0 i = ![(pb i).val, (ps i).val, 0] := by
  unfold cc0_transform_0 pb ps
  generalize (i 0 : Fin 8) = b
  generalize (i 1 : Fin 17) = s
  revert b s; decide +kernel

theorem map2 (i : grid0.Coords) : cc0_transform_2 i = ![(pb i).val, (ps i).val, 0] := by
  unfold cc0_transform_2 pb ps
  generalize (i 0 : Fin 8) = b
  generalize (i 1 : Fin 17) = s
  revert b s; decide +kernel

theorem map3 (i : grid0.Coords) : cc0_transform_3 i = ![(pb i).val, (ps i).val, 0] := by
  unfold cc0_transform_3 pb ps
  generalize (i 0 : Fin 8) = b
  generalize (i 1 : Fin 17) = s
  revert b s; decide +kernel

theorem map4 (i : grid0.Coords) : cc0_transform_4 i = ![(pb i).val, (ps i).val, 0] := by
  unfold cc0_transform_4 pb ps
  generalize (i 0 : Fin 8) = b
  generalize (i 1 : Fin 17) = s
  revert b s; decide +kernel

theorem map5 (i : grid0.Coords) : cc0_transform_5 i = ![(pb i).val, (ps i).val, 0] := by
  unfold cc0_transform_5 pb ps
  generalize (i 0 : Fin 8) = b
  generalize (i 1 : Fin 17) = s
  revert b s; decide +kernel

theorem map10 (i : grid0.Coords) : cc0_transform_10 i = ![(pb i).val, (ps i).val, 0] := by
  unfold cc0_transform_10 pb ps
  generalize (i 0 : Fin 8) = b
  generalize (i 1 : Fin 17) = s
  revert b s; decide +kernel

section Blocks

variable {F : FTy → Type} [FloatOps F]
variable (m : (ℓ : Loc nD τ sig) → Buf (Elt F) ℓ)

/-- An element of the output's block, in the array. -/
theorem emb10 (t : Fin cfg0.N) (r : Fin 256) (f : Fin 1024) :
    ((cfg0.win 10).blk t).view.emb (ix3 0 r f : S1x256x1024.Idx) = ix3 (pb (grid0.coords t)) (tok (ps (grid0.coords t)) r) f := by
  funext a
  refine Fin.ext (((cfg0.win 10).rect_emb_val t _ a).trans ?_)
  show cc0_transform_10 (grid0.coords t) a * S1x256x1024.size a + _ = _
  rw [map10]
  fin_cases a
  · show (pb (grid0.coords t)).val * 1 + 0 = (pb (grid0.coords t)).val; omega
  · show (ps (grid0.coords t)).val * 256 + r.val = 256 * (ps (grid0.coords t)).val + r.val; omega
  · show 0 * 1024 + f.val = f.val; omega

theorem blk0_apply (c : Dev nD) (t : Fin cfg0.N) (r : Fin 256) (j : Fin 1024) :
    iblk m c 0 t (ix3 0 r j : S1x256x1024.Idx)
      = m ((c : Thread nD τ).loc main_arg0) (ix3 (pb (grid0.coords t)) (tok (ps (grid0.coords t)) r) j) := by
  rw [← V_main_arg0 m c]
  refine congrArg (V m c main_arg0) (funext fun a => ?_)
  refine Fin.ext (((cfg0.win 0).rect_emb_val t _ a).trans ?_)
  show cc0_transform_0 (grid0.coords t) a * S1x256x1024.size a + _ = _
  rw [map0]
  fin_cases a
  · show (pb (grid0.coords t)).val * 1 + 0 = (pb (grid0.coords t)).val; omega
  · show (ps (grid0.coords t)).val * 256 + r.val = 256 * (ps (grid0.coords t)).val + r.val; omega
  · show 0 * 1024 + j.val = j.val; omega

theorem blk2_apply (c : Dev nD) (t : Fin cfg0.N) (r : Fin 256) (j : Fin 512) :
    iblk m c 2 t (ix3 0 r j : S1x256x512.Idx)
      = m ((c : Thread nD τ).loc main_arg2) (ix3 (pb (grid0.coords t)) (tok (ps (grid0.coords t)) r) j) := by
  rw [← V_main_arg2 m c]
  refine congrArg (V m c main_arg2) (funext fun a => ?_)
  refine Fin.ext (((cfg0.win 2).rect_emb_val t _ a).trans ?_)
  show cc0_transform_2 (grid0.coords t) a * S1x256x512.size a + _ = _
  rw [map2]
  fin_cases a
  · show (pb (grid0.coords t)).val * 1 + 0 = (pb (grid0.coords t)).val; omega
  · show (ps (grid0.coords t)).val * 256 + r.val = 256 * (ps (grid0.coords t)).val + r.val; omega
  · show 0 * 512 + j.val = j.val; omega

theorem blk3_apply (c : Dev nD) (t : Fin cfg0.N) (r : Fin 256) (j : Fin 512) :
    iblk m c 3 t (ix3 0 r j : S1x256x512.Idx)
      = m ((c : Thread nD τ).loc main_arg3) (ix3 (pb (grid0.coords t)) (tok (ps (grid0.coords t)) r) j) := by
  rw [← V_main_arg3 m c]
  refine congrArg (V m c main_arg3) (funext fun a => ?_)
  refine Fin.ext (((cfg0.win 3).rect_emb_val t _ a).trans ?_)
  show cc0_transform_3 (grid0.coords t) a * S1x256x512.size a + _ = _
  rw [map3]
  fin_cases a
  · show (pb (grid0.coords t)).val * 1 + 0 = (pb (grid0.coords t)).val; omega
  · show (ps (grid0.coords t)).val * 256 + r.val = 256 * (ps (grid0.coords t)).val + r.val; omega
  · show 0 * 512 + j.val = j.val; omega

theorem blk4_apply (c : Dev nD) (t : Fin cfg0.N) (r : Fin 256) (j : Fin 512) :
    iblk m c 4 t (ix3 0 r j : S1x256x512.Idx)
      = m ((c : Thread nD τ).loc main_arg4) (ix3 (pb (grid0.coords t)) (tok (ps (grid0.coords t)) r) j) := by
  rw [← V_main_arg4 m c]
  refine congrArg (V m c main_arg4) (funext fun a => ?_)
  refine Fin.ext (((cfg0.win 4).rect_emb_val t _ a).trans ?_)
  show cc0_transform_4 (grid0.coords t) a * S1x256x512.size a + _ = _
  rw [map4]
  fin_cases a
  · show (pb (grid0.coords t)).val * 1 + 0 = (pb (grid0.coords t)).val; omega
  · show (ps (grid0.coords t)).val * 256 + r.val = 256 * (ps (grid0.coords t)).val + r.val; omega
  · show 0 * 512 + j.val = j.val; omega

theorem blk5_apply (c : Dev nD) (t : Fin cfg0.N) (r : Fin 256) (j : Fin 512) :
    iblk m c 5 t (ix3 0 r j : S1x256x512.Idx)
      = m ((c : Thread nD τ).loc main_arg5) (ix3 (pb (grid0.coords t)) (tok (ps (grid0.coords t)) r) j) := by
  rw [← V_main_arg5 m c]
  refine congrArg (V m c main_arg5) (funext fun a => ?_)
  refine Fin.ext (((cfg0.win 5).rect_emb_val t _ a).trans ?_)
  show cc0_transform_5 (grid0.coords t) a * S1x256x512.size a + _ = _
  rw [map5]
  fin_cases a
  · show (pb (grid0.coords t)).val * 1 + 0 = (pb (grid0.coords t)).val; omega
  · show (ps (grid0.coords t)).val * 256 + r.val = 256 * (ps (grid0.coords t)).val + r.val; omega
  · show 0 * 512 + j.val = j.val; omega

/-- The point's row of the modulation is the row of each of its tokens. -/
theorem blk1_apply (c : Dev nD) (t : Fin cfg0.N) (r : Fin 256) (j : Fin 6144) :
    iblk m c 1 t (ix4 0 0 0 j : S1x1x1x6144.Idx)
      = m ((c : Thread nD τ).loc main_arg1) (ix4 1 (rowOf (pb (grid0.coords t)) (tok (ps (grid0.coords t)) r)) 0 j) := by
  rw [← V_main_arg1 m c]
  refine congrArg (V m c main_arg1) (funext fun a => ?_)
  refine Fin.ext (((cfg0.win 1).rect_emb_val t _ a).trans ?_)
  show cc0_transform_1 (grid0.coords t) a * S1x1x1x6144.size a + _ = _
  rw [map1]
  fin_cases a
  · rfl
  · refine Eq.trans ?_ (row_tok _ _ r).symm
    show (if (ps (grid0.coords t)).val = 0 then 8 else (pb (grid0.coords t)).val) * 1 + 0 = _
    omega
  · rfl
  · show 0 * 6144 + j.val = j.val; omega

theorem blk6_apply (c : Dev nD) (t : Fin cfg0.N) (j : Fin 512) :
    iblk m c 6 t (ix2 0 j : S1x512.Idx) = V m c main_v14 (ix2 0 j) := by
  refine congrArg (V m c main_v14) (funext fun a => ?_)
  refine Fin.ext (((cfg0.win 6).rect_emb_val t _ a).trans ?_)
  fin_cases a
  · rfl
  · show 0 * 512 + j.val = j.val; omega

theorem blk7_apply (c : Dev nD) (t : Fin cfg0.N) (j : Fin 1024) :
    iblk m c 7 t (ix2 0 j : S1x1024.Idx) = V m c main_v17 (ix2 0 j) := by
  refine congrArg (V m c main_v17) (funext fun a => ?_)
  refine Fin.ext (((cfg0.win 7).rect_emb_val t _ a).trans ?_)
  fin_cases a
  · rfl
  · show 0 * 1024 + j.val = j.val; omega

theorem blk8_apply (c : Dev nD) (t : Fin cfg0.N) (j : Fin 1024) (f : Fin 1024) :
    iblk m c 8 t (ix3 0 j f : S1x1024x1024.Idx) = V m c main_v18 (ix3 1 j f) := by
  refine congrArg (V m c main_v18) (funext fun a => ?_)
  refine Fin.ext (((cfg0.win 8).rect_emb_val t _ a).trans ?_)
  fin_cases a
  · rfl
  · show 0 * 1024 + j.val = j.val; omega
  · show 0 * 1024 + f.val = f.val; omega

theorem blk9_apply (c : Dev nD) (t : Fin cfg0.N) (j : Fin 512) (f : Fin 512) :
    iblk m c 9 t (ix2 j f : S512x512.Idx) = V m c main_v8 (ix2 j f) := by
  refine congrArg (V m c main_v8) (funext fun a => ?_)
  refine Fin.ext (((cfg0.win 9).rect_emb_val t _ a).trans ?_)
  fin_cases a
  · show 0 * 512 + j.val = j.val; omega
  · show 0 * 512 + f.val = f.val; omega

end Blocks

section Host

variable (m : (ℓ : Loc nD τ sig) → Buf (Elt Ideal) ℓ)

section Segments

variable (W : Idealize.ShloMosaic.Valuation τ sig (Elt Ideal))

/-- The arguments the last segment reads are not written before it. -/
theorem seg0_arg6 : StableHlo.after hostOps0 W main_arg6 = W main_arg6 := by after_results_simp
theorem seg0_arg7 : StableHlo.after hostOps0 W main_arg7 = W main_arg7 := by after_results_simp
theorem seg0_arg8 : StableHlo.after hostOps0 W main_arg8 = W main_arg8 := by after_results_simp
theorem seg1_arg6 : StableHlo.after hostOps0_1 W main_arg6 = W main_arg6 := by after_results_simp
theorem seg1_arg7 : StableHlo.after hostOps0_1 W main_arg7 = W main_arg7 := by after_results_simp
theorem seg1_arg8 : StableHlo.after hostOps0_1 W main_arg8 = W main_arg8 := by after_results_simp

theorem seg0_lanes : StableHlo.after hostOps0 W main_v0 = iotaInDim S512 32 0 := by after_results_simp
theorem seg0_const : StableHlo.after hostOps0 W main_c = constantI S_ 32 64#32 := by after_results_simp

/-- The heads of the lanes, as the host divides. -/
def heads : Vec Ideal S512 .i32 :=
  have v0 : Vec Ideal S512 .i32 := iotaInDim S512 32 0
  have k : Vec Ideal S_ .i32 := constantI S_ 32 64#32
  have k' : Vec Ideal S512 .i32 := broadcastInDim S512 ![] bcast_S_S512 k
  have q : Vec Ideal S512 .i32 := Host.divsi v0 k'
  select (andi (cmpi .ne (signi v0) (broadcastInDim S512 ![] bcast_S_S512 (signi k)))
      (cmpi .ne (Host.remsi v0 k') (broadcastInDim S512 ![] bcast_S_S512 (constantI S_ 32 0#32))))
    (subi q (broadcastInDim S512 ![] bcast_S_S512 (constantI S_ 32 1#32))) q

theorem seg1_heads (h₀ : W main_v0 = iotaInDim S512 32 0) (h₁ : W main_c = constantI S_ 32 64#32) :
    StableHlo.after hostOps0_1 W main_v1 = heads := by
  after_results_simp
  rw [h₀, h₁]
  rfl

theorem heads_apply (f : Fin 512) : heads (ix1 f) = BitVec.ofNat 32 (f.val / 64) := by
  pointwise [heads]
  revert f; decide +kernel

theorem bit_real (p : Prop) [Decidable p] : (FloatOps.uitofp FTy.f32 (BitVec.ofBool (decide p)) : Ideal .f32) = if p then (1 : EReal) else 0 := by
  by_cases h : p
  · rw [if_pos h, decide_eq_true h]
    show (((1#1 : BitVec 1).toNat : ℝ) : EReal) = 1
    simp
  · rw [if_neg h, decide_eq_false h]
    show (((0#1 : BitVec 1).toNat : ℝ) : EReal) = 0
    simp

/-- The mask of the lanes of one head. -/
theorem seg2_mask (j f : Fin 512) : StableHlo.after hostOps0_2 W main_v8 (ix2 j f)
    = if (W main_v1 : Vec Ideal S512 .i32) (ix1 j) = (W main_v1 : Vec Ideal S512 .i32) (ix1 f) then (1 : EReal) else 0 := by
  after_results_simp
  generalize (W main_v1 : Vec Ideal S512 .i32) = y
  rw [← bit_real]
  pointwise []
  rfl

theorem seg2_gain1 (f : Fin 512) : StableHlo.after hostOps0_2 W main_v14 (ix2 0 f) = W main_arg6 (ix2 1 (place f)) := by
  after_results_simp
  generalize (W main_arg6 : Vec Ideal S4x64 .f32) = y
  pointwise [place]

theorem seg2_gain2 (j : Fin 1024) : StableHlo.after hostOps0_2 W main_v17 (ix2 0 j) = W main_arg7 (ix2 1 j) := by
  after_results_simp
  generalize (W main_arg7 : Vec Ideal S4x1024 .f32) = y
  pointwise []

theorem seg2_weights (l : Fin 4) (j f : Fin 1024) : StableHlo.after hostOps0_2 W main_v18 (ix3 l j f) = W main_arg8 (ix3 l j f) := by
  after_results_simp
  generalize (W main_arg8 : Vec Ideal S4x1024x1024 .f32) = y
  pointwise []

end Segments

theorem gain1_apply (c : Dev nD) (f : Fin 512) : V m c main_v14 (ix2 0 f) = m ((c : Thread nD τ).loc main_arg6) (ix2 1 (place f)) := by
  show StableHlo.after (hostOps0 ++ (hostOps0_1 ++ hostOps0_2)) _ _ _ = _
  rw [StableHlo.after_append, StableHlo.after_append, seg2_gain1, seg1_arg6, seg0_arg6]

theorem gain2_apply (c : Dev nD) (j : Fin 1024) : V m c main_v17 (ix2 0 j) = m ((c : Thread nD τ).loc main_arg7) (ix2 1 j) := by
  show StableHlo.after (hostOps0 ++ (hostOps0_1 ++ hostOps0_2)) _ _ _ = _
  rw [StableHlo.after_append, StableHlo.after_append, seg2_gain2, seg1_arg7, seg0_arg7]

theorem weights_apply (c : Dev nD) (l : Fin 4) (j f : Fin 1024) : V m c main_v18 (ix3 l j f) = m ((c : Thread nD τ).loc main_arg8) (ix3 l j f) := by
  show StableHlo.after (hostOps0 ++ (hostOps0_1 ++ hostOps0_2)) _ _ _ = _
  rw [StableHlo.after_append, StableHlo.after_append, seg2_weights, seg1_arg8, seg0_arg8]

theorem mask_apply (c : Dev nD) (j f : Fin 512) : V m c main_v8 (ix2 j f) = if j.val / 64 = f.val / 64 then (1 : EReal) else 0 := by
  show StableHlo.after (hostOps0 ++ (hostOps0_1 ++ hostOps0_2)) _ _ _ = _
  rw [StableHlo.after_append, StableHlo.after_append, seg2_mask, seg1_heads _ (seg0_lanes _) (seg0_const _)]
  refine if_congr ?_ rfl rfl
  rw [heads_apply, heads_apply]
  constructor
  · intro h
    have := congrArg BitVec.toNat h
    simp only [BitVec.toNat_ofNat] at this
    omega
  · intro h; rw [h]

end Host

end Cert.Kernel4Ideal.Post

end
-- ==== Proof.Post.Array.lean ====
/- The mixing kernel's whole output array, element by element. -/
module

public import proofs.«01_k».proof.Proof.Post.Blocks

@[expose] public section

noncomputable section

namespace Cert.Kernel4Ideal.Post

open Cert.Kernel4Ideal Cert.Kernel4Ideal.Gen Idealize.ShloMosaic Idealize.ShloMosaic.TcCoe Idealize.SL.Sem Cert.FFN Cert.Pre Cert.Post
open Idealize.ShloMosaic.Pipeline (Dat)

/-- The point's coordinates, from its number. -/
theorem coord_b (t : Fin cfg0.N) : (pb (grid0.coords t)).val = t.val / 17 := by
  have ht : t.val < 136 := Nat.lt_of_lt_of_eq t.isLt N_0
  have e : (grid0.coords t 0).val = t.val / 17 % 8 := Pipeline.Grid.coords_val t 0 (by decide) rfl
  show (grid0.coords t 0).val = _
  omega
theorem coord_s (t : Fin cfg0.N) : (ps (grid0.coords t)).val = t.val % 17 := by
  have e : (grid0.coords t 1).val = t.val / 1 % 17 := Pipeline.Grid.coords_val t 1 (by decide) rfl
  show (grid0.coords t 1).val = _
  omega

section Launch

variable (m : (ℓ : Loc nD τ sig) → Buf (Elt Ideal) ℓ) (c : Dev nD)

/-- The arguments as launched, as functions: the stream; layer 1 of the modulation; the lanes of one mixer, of the other's
    two directions and of its gate; layer 1 of the two gains and of the weights. -/
abbrev aX (b : Fin 8) (n : Fin 4352) (j : Fin 1024) : EReal := (m ((c : Thread nD τ).loc main_arg0) : Vec Ideal S8x4352x1024 .f32) (ix3 b n j)
abbrev aM (b : Fin 16) (k : Fin 6144) : EReal := (m ((c : Thread nD τ).loc main_arg1) : Vec Ideal S4x16x1x6144 .f32) (ix4 1 b 0 k)
abbrev aA (b : Fin 8) (n : Fin 4352) (f : Fin 512) : EReal := (m ((c : Thread nD τ).loc main_arg2) : Vec Ideal S8x4352x512 .bf16) (ix3 b n f)
abbrev aU (b : Fin 8) (n : Fin 4352) (f : Fin 512) : EReal := (m ((c : Thread nD τ).loc main_arg3) : Vec Ideal S8x4352x512 .bf16) (ix3 b n f)
abbrev aV (b : Fin 8) (n : Fin 4352) (f : Fin 512) : EReal := (m ((c : Thread nD τ).loc main_arg4) : Vec Ideal S8x4352x512 .bf16) (ix3 b n f)
abbrev aZ (b : Fin 8) (n : Fin 4352) (f : Fin 512) : EReal := (m ((c : Thread nD τ).loc main_arg5) : Vec Ideal S8x4352x512 .bf16) (ix3 b n f)
abbrev aD (d : Fin 64) : EReal := (m ((c : Thread nD τ).loc main_arg6) : Vec Ideal S4x64 .f32) (ix2 1 d)
abbrev aG (j : Fin 1024) : EReal := (m ((c : Thread nD τ).loc main_arg7) : Vec Ideal S4x1024 .f32) (ix2 1 j)
abbrev aW (k j : Fin 1024) : EReal := (m ((c : Thread nD τ).loc main_arg8) : Vec Ideal S4x1024x1024 .f32) (ix3 1 k j)

/-- The whole output. -/
def whole : S8x4352x1024.Idx → EReal := fun y =>
  Cert.Post.result (aX m c) (aM m c) (aA m c) (aU m c) (aV m c) (aZ m c) (aD m c) (aG m c) (aW m c) (y 0) (y 1) (y 2)

variable (t : Fin cfg0.N)

theorem load_tile (r : Fin 256) (j : Fin 1024) :
    View.ld (iblk m c 0 t) r0_0 (ix3 0 r j) = aX m c (pb (grid0.coords t)) (tok (ps (grid0.coords t)) r) j := by
  refine Eq.trans ?_ (blk0_apply m c t r j)
  exact ld_at _ _ _ _ _ _ fun x => by fin_cases x <;> simp [ix3]

theorem load_mod (r : Fin 256) (k : Fin 6144) : View.ld (iblk m c 1 t) r0_1 (ix4 0 0 0 k)
    = aM m c (rowOf (pb (grid0.coords t)) (tok (ps (grid0.coords t)) r)) k := by
  refine Eq.trans ?_ (blk1_apply m c t r k)
  exact ld_at _ _ _ _ _ _ fun x => by fin_cases x <;> simp [ix4]

theorem load2_low (r : Fin 128) (f : Fin 512) :
    View.ld (iblk m c 2 t) r0_3 (ix3 0 r f) = aA m c (pb (grid0.coords t)) (tok (ps (grid0.coords t)) ⟨r.val, by omega⟩) f := by
  refine Eq.trans ?_ (blk2_apply m c t ⟨r.val, by omega⟩ f)
  exact ld_at _ _ _ _ _ _ fun x => by fin_cases x <;> simp [ix3]

theorem load2_high (r : Fin 128) (f : Fin 512) :
    View.ld (iblk m c 2 t) r0_4 (ix3 0 r f) = aA m c (pb (grid0.coords t)) (tok (ps (grid0.coords t)) ⟨128 + r.val, by omega⟩) f := by
  refine Eq.trans ?_ (blk2_apply m c t ⟨128 + r.val, by omega⟩ f)
  exact ld_at _ _ _ _ _ _ fun x => by fin_cases x <;> simp [ix3]

theorem load3_low (r : Fin 128) (f : Fin 512) :
    View.ld (iblk m c 3 t) r0_3 (ix3 0 r f) = aU m c (pb (grid0.coords t)) (tok (ps (grid0.coords t)) ⟨r.val, by omega⟩) f := by
  refine Eq.trans ?_ (blk3_apply m c t ⟨r.val, by omega⟩ f)
  exact ld_at _ _ _ _ _ _ fun x => by fin_cases x <;> simp [ix3]

theorem load3_high (r : Fin 128) (f : Fin 512) :
    View.ld (iblk m c 3 t) r0_4 (ix3 0 r f) = aU m c (pb (grid0.coords t)) (tok (ps (grid0.coords t)) ⟨128 + r.val, by omega⟩) f := by
  refine Eq.trans ?_ (blk3_apply m c t ⟨128 + r.val, by omega⟩ f)
  exact ld_at _ _ _ _ _ _ fun x => by fin_cases x <;> simp [ix3]

theorem load4_low (r : Fin 128) (f : Fin 512) :
    View.ld (iblk m c 4 t) r0_3 (ix3 0 r f) = aV m c (pb (grid0.coords t)) (tok (ps (grid0.coords t)) ⟨r.val, by omega⟩) f := by
  refine Eq.trans ?_ (blk4_apply m c t ⟨r.val, by omega⟩ f)
  exact ld_at _ _ _ _ _ _ fun x => by fin_cases x <;> simp [ix3]

theorem load4_high (r : Fin 128) (f : Fin 512) :
    View.ld (iblk m c 4 t) r0_4 (ix3 0 r f) = aV m c (pb (grid0.coords t)) (tok (ps (grid0.coords t)) ⟨128 + r.val, by omega⟩) f := by
  refine Eq.trans ?_ (blk4_apply m c t ⟨128 + r.val, by omega⟩ f)
  exact ld_at _ _ _ _ _ _ fun x => by fin_cases x <;> simp [ix3]

theorem load5_low (r : Fin 128) (f : Fin 512) :
    View.ld (iblk m c 5 t) r0_3 (ix3 0 r f) = aZ m c (pb (grid0.coords t)) (tok (ps (grid0.coords t)) ⟨r.val, by omega⟩) f := by
  refine Eq.trans ?_ (blk5_apply m c t ⟨r.val, by omega⟩ f)
  exact ld_at _ _ _ _ _ _ fun x => by fin_cases x <;> simp [ix3]

theorem load5_high (r : Fin 128) (f : Fin 512) :
    View.ld (iblk m c 5 t) r0_4 (ix3 0 r f) = aZ m c (pb (grid0.coords t)) (tok (ps (grid0.coords t)) ⟨128 + r.val, by omega⟩) f := by
  refine Eq.trans ?_ (blk5_apply m c t ⟨128 + r.val, by omega⟩ f)
  exact ld_at _ _ _ _ _ _ fun x => by fin_cases x <;> simp [ix3]

theorem load_gain1 (f : Fin 512) : View.ld (iblk m c 6 t) r0_5 (ix2 0 f) = aD m c (place f) := by
  refine Eq.trans ?_ ((blk6_apply m c t f).trans (gain1_apply m c f))
  exact ld_at _ _ _ _ _ _ fun x => by fin_cases x <;> simp [ix2]

theorem load_gain2 (j : Fin 1024) : View.ld (iblk m c 7 t) r0_8 (ix2 0 j) = aG m c j := by
  refine Eq.trans ?_ ((blk7_apply m c t j).trans (gain2_apply m c j))
  exact ld_at _ _ _ _ _ _ fun x => by fin_cases x <;> simp [ix2]

theorem load_w0 (f : Fin 512) (j : Fin 1024) : View.ld (iblk m c 8 t) r0_6 (ix3 0 f j) = aW m c ⟨f.val, by omega⟩ j := by
  refine Eq.trans ?_ ((blk8_apply m c t ⟨f.val, by omega⟩ j).trans (weights_apply m c 1 _ j))
  exact ld_at _ _ _ _ _ _ fun x => by fin_cases x <;> simp [ix3]

theorem load_w1 (f : Fin 512) (j : Fin 1024) : View.ld (iblk m c 8 t) r0_7 (ix3 0 f j) = aW m c ⟨512 + f.val, by omega⟩ j := by
  refine Eq.trans ?_ ((blk8_apply m c t ⟨512 + f.val, by omega⟩ j).trans (weights_apply m c 1 _ j))
  exact ld_at _ _ _ _ _ _ fun x => by fin_cases x <;> simp [ix3]

theorem load_mask (k f : Fin 512) : View.ld (iblk m c 9 t) r0_2 (ix2 k f) = if k.val / 64 = f.val / 64 then (1 : EReal) else 0 := by
  refine Eq.trans ?_ ((blk9_apply m c t k f).trans (mask_apply m c k f))
  exact ld_at _ _ _ _ _ _ fun x => by fin_cases x <;> simp [ix2]

/-- A row of a half is a token's projection, when what it is computed from is the token's. -/
theorem half_apply (A U V Z : Fin 8 → Fin 4352 → Fin 512 → EReal) (D : Fin 64 → EReal) (X : Fin 1024 → Fin 1024 → EReal)
    (b : Fin 8) (n : Fin 4352) (r : Fin 128) (w : Vec Ideal S512x512 .bf16) (u v z a : Vec Ideal S1x128x512 .bf16)
    (g : Vec Ideal S1x512 .f32) (w₀ w₁ : Vec Ideal S1x512x1024 .bf16)
    (hw : ∀ k f, w (ix2 k f) = if k.val / 64 = f.val / 64 then (1 : EReal) else 0)
    (hu : ∀ f, u (ix3 0 r f) = U b n f) (hv : ∀ f, v (ix3 0 r f) = V b n f) (hz : ∀ f, z (ix3 0 r f) = Z b n f)
    (ha : ∀ f, a (ix3 0 r f) = A b n f) (hg : ∀ f, g (ix2 0 f) = D (place f))
    (h0 : ∀ f j, w₀ (ix3 0 f j) = X ⟨f.val, by omega⟩ j) (h1 : ∀ f j, w₁ (ix3 0 f j) = X ⟨512 + f.val, by omega⟩ j) (j : Fin 1024) :
    k0_pay11 (k0_pay6 u v) (k0_pay7 w u v) k0_pay10 g z a w₀ w₁ (ix2 r j) = mixed A U V Z D X b n j := by
  rw [proj_apply]
  unfold mixed mixRow
  refine congrArg₂ (fun a b : EReal => a + b) (Finset.sum_congr rfl fun f _ => ?_) (Finset.sum_congr rfl fun f _ => ?_)
  · exact congrArg₂ (fun a b : EReal => a * b) (ha f) (h0 f j)
  · refine congrArg₂ (fun a b : EReal => a * b) ?_ (h1 f j)
    unfold gated gatedRow headRow
    rw [← sum_mask (fun k => (U b n k + V b n k) * (U b n k + V b n k)) f, ← mul_inv64]
    simp only [mean_apply, both_apply, eps_apply, hu, hv, hz, hg, hw]

/-- The two halves of the point. -/
theorem low (r : Fin 128) (j : Fin 1024) :
    k0_pay11 (k0_pay6 (View.ld (iblk m c 3 t) r0_3) (View.ld (iblk m c 4 t) r0_3))
      (k0_pay7 (View.ld (iblk m c 9 t) r0_2) (View.ld (iblk m c 3 t) r0_3) (View.ld (iblk m c 4 t) r0_3)) k0_pay10
      (View.ld (iblk m c 6 t) r0_5) (View.ld (iblk m c 5 t) r0_3) (View.ld (iblk m c 2 t) r0_3)
      (View.ld (iblk m c 8 t) r0_6) (View.ld (iblk m c 8 t) r0_7) (ix2 r j)
    = mixed (aA m c) (aU m c) (aV m c) (aZ m c) (aD m c) (aW m c) (pb (grid0.coords t)) (tok (ps (grid0.coords t)) ⟨r.val, by omega⟩) j :=
  half_apply (aA m c) (aU m c) (aV m c) (aZ m c) (aD m c) (aW m c) _ _ r _ _ _ _ _ _ _ _ (load_mask m c t)
    (load3_low m c t r) (load4_low m c t r) (load5_low m c t r) (load2_low m c t r) (load_gain1 m c t) (load_w0 m c t) (load_w1 m c t) j

theorem high (r : Fin 128) (j : Fin 1024) :
    k0_pay11 (k0_pay6 (View.ld (iblk m c 3 t) r0_4) (View.ld (iblk m c 4 t) r0_4))
      (k0_pay7 (View.ld (iblk m c 9 t) r0_2) (View.ld (iblk m c 3 t) r0_4) (View.ld (iblk m c 4 t) r0_4)) k0_pay10
      (View.ld (iblk m c 6 t) r0_5) (View.ld (iblk m c 5 t) r0_4) (View.ld (iblk m c 2 t) r0_4)
      (View.ld (iblk m c 8 t) r0_6) (View.ld (iblk m c 8 t) r0_7) (ix2 r j)
    = mixed (aA m c) (aU m c) (aV m c) (aZ m c) (aD m c) (aW m c) (pb (grid0.coords t)) (tok (ps (grid0.coords t)) ⟨128 + r.val, by omega⟩) j :=
  half_apply (aA m c) (aU m c) (aV m c) (aZ m c) (aD m c) (aW m c) _ _ r _ _ _ _ _ _ _ _ (load_mask m c t)
    (load3_high m c t r) (load4_high m c t r) (load5_high m c t r) (load2_high m c t r) (load_gain1 m c t) (load_w0 m c t) (load_w1 m c t) j

/-- An element of what the first half stores, and of what the second stores. -/
theorem low_elem (y : FVec Ideal S128x1024 .f32) (r : Fin 128) (j : Fin 1024)
    (hy : ∀ j, y (ix2 r j) = mixed (aA m c) (aU m c) (aV m c) (aZ m c) (aD m c) (aW m c) (pb (grid0.coords t)) (tok (ps (grid0.coords t)) ⟨r.val, by omega⟩) j) :
    k0_pay1 (k0_pay14 (k0_pay3 (View.ld (iblk m c 0 t) r0_0))) (k0_pay15 (k0_pay4 (View.ld (iblk m c 1 t) r0_1)) y (View.ld (iblk m c 7 t) r0_8)) (ix3 0 r j)
      = Cert.Post.result (aX m c) (aM m c) (aA m c) (aU m c) (aV m c) (aZ m c) (aD m c) (aG m c) (aW m c) (pb (grid0.coords t)) (tok (ps (grid0.coords t)) ⟨r.val, by omega⟩) j := by
  refine (first_apply _ _ _ _ r j).trans ?_
  unfold Cert.Post.result
  exact congrArg₂ (fun a b : EReal => a + b) (load_tile m c t ⟨r.val, by omega⟩ j) (congrArg₂ (fun a b : EReal => a * b)
    (load_mod m c t ⟨r.val, by omega⟩ _) (congrArg₂ (fun a b => rmsRow a b j) (funext hy) (funext (load_gain2 m c t))))

theorem high_elem (y : FVec Ideal S128x1024 .f32) (r : Fin 128) (j : Fin 1024)
    (hy : ∀ j, y (ix2 r j) = mixed (aA m c) (aU m c) (aV m c) (aZ m c) (aD m c) (aW m c) (pb (grid0.coords t)) (tok (ps (grid0.coords t)) ⟨128 + r.val, by omega⟩) j) :
    k0_pay2 (k0_pay3 (View.ld (iblk m c 0 t) r0_0)) (k0_pay4 (View.ld (iblk m c 1 t) r0_1)) y (View.ld (iblk m c 7 t) r0_8) (ix3 0 r j)
      = Cert.Post.result (aX m c) (aM m c) (aA m c) (aU m c) (aV m c) (aZ m c) (aD m c) (aG m c) (aW m c) (pb (grid0.coords t)) (tok (ps (grid0.coords t)) ⟨128 + r.val, by omega⟩) j := by
  refine (second_apply _ _ _ _ r j).trans ?_
  unfold Cert.Post.result
  exact congrArg₂ (fun a b : EReal => a + b) (load_tile m c t ⟨128 + r.val, by omega⟩ j) (congrArg₂ (fun a b : EReal => a * b)
    (load_mod m c t ⟨128 + r.val, by omega⟩ _) (congrArg₂ (fun a b => rmsRow a b j) (funext hy) (funext (load_gain2 m c t))))

/-- The output's buffer after the body: the two halves, the second stored last. -/
theorem out_eq (x0 : Vec Ideal S1x256x1024 .f32) (x1 : Vec Ideal S1x1x1x6144 .f32) (x2 x3 x4 x5 : Vec Ideal S1x256x512 .bf16)
    (x6 : Vec Ideal S1x512 .f32) (x7 : Vec Ideal S1x1024 .f32) (x8 : Vec Ideal S1x1024x1024 .bf16) (x9 : Vec Ideal S512x512 .bf16) :
    out0_10 x0 x1 x2 x3 x4 x5 x6 x7 x8 x9 = View.canon
      [⟨r0_10, k0_pay2 (k0_pay3 (View.ld x0 r0_0)) (k0_pay4 (View.ld x1 r0_1))
        (k0_pay11 (k0_pay6 (View.ld x3 r0_4) (View.ld x4 r0_4)) (k0_pay7 (View.ld x9 r0_2) (View.ld x3 r0_4) (View.ld x4 r0_4)) k0_pay10
          (View.ld x6 r0_5) (View.ld x5 r0_4) (View.ld x2 r0_4) (View.ld x8 r0_6) (View.ld x8 r0_7)) (View.ld x7 r0_8)⟩,
       ⟨r0_9, k0_pay1 (k0_pay14 (k0_pay3 (View.ld x0 r0_0))) (k0_pay15 (k0_pay4 (View.ld x1 r0_1))
        (k0_pay11 (k0_pay6 (View.ld x3 r0_3) (View.ld x4 r0_3)) (k0_pay7 (View.ld x9 r0_2) (View.ld x3 r0_3) (View.ld x4 r0_3)) k0_pay10
          (View.ld x6 r0_5) (View.ld x5 r0_3) (View.ld x2 r0_3) (View.ld x8 r0_6) (View.ld x8 r0_7)) (View.ld x7 r0_8))⟩] := rfl

theorem half_idx (x : S1x128x1024.Idx) : ∃ (r : Fin 128) (j : Fin 1024), x = ix3 0 r j := by
  have h0 : (x 0).val < 1 := (x 0).isLt
  refine ⟨x 1, x 2, ?_⟩
  funext a
  match a with
  | ⟨0, _⟩ => exact Fin.ext (by show (x 0).val = 0; omega)
  | ⟨1, _⟩ => rfl
  | ⟨2, _⟩ => rfl

/-- WHAT A POINT LEAVES in the output's buffer is its block of the whole output. -/
theorem point_eq (y : S1x256x1024.Idx) : out0_10 (iblk m c 0 t) (iblk m c 1 t) (iblk m c 2 t) (iblk m c 3 t) (iblk m c 4 t)
    (iblk m c 5 t) (iblk m c 6 t) (iblk m c 7 t) (iblk m c 8 t) (iblk m c 9 t) y = whole m c (((cfg0.win 10).blk t).view.emb y) := by
  rw [out_eq]
  refine View.canon_apply_of_pieces (Val := Elt Ideal) (e := .f32) (fun y : S1x256x1024.Idx => whole m c (((cfg0.win 10).blk t).view.emb y)) _ ?_ y ?_
  · intro p hp x
    rcases List.mem_cons.mp hp with rfl | hp
    · obtain ⟨r, j, rfl⟩ := half_idx x
      have e : r0_10.emb (ix3 0 r j : S1x128x1024.Idx) = ix3 0 ⟨128 + r.val, by omega⟩ j := by
        funext a
        refine Fin.ext ?_
        rw [Rect.emb_apply]
        fin_cases a <;> simp [ix3, Rect.unit]
      refine Eq.trans ?_ (congrArg (fun z => whole m c (((cfg0.win 10).blk t).view.emb z)) e.symm)
      refine Eq.trans ?_ (congrArg (whole m c) (emb10 t ⟨128 + r.val, by omega⟩ j).symm)
      exact high_elem m c t _ r j (high m c t r)
    · obtain rfl := List.mem_singleton.mp hp
      obtain ⟨r, j, rfl⟩ := half_idx x
      have e : r0_9.emb (ix3 0 r j : S1x128x1024.Idx) = ix3 0 ⟨r.val, by omega⟩ j := by
        funext a
        refine Fin.ext ?_
        rw [Rect.emb_apply]
        fin_cases a <;> simp [ix3, Rect.unit]
      refine Eq.trans ?_ (congrArg (fun z => whole m c (((cfg0.win 10).blk t).view.emb z)) e.symm)
      refine Eq.trans ?_ (congrArg (whole m c) (emb10 t ⟨r.val, by omega⟩ j).symm)
      exact low_elem m c t _ r j (low m c t r)
  · have h0 : (y 0).val < 1 := (y 0).isLt
    have h1 : (y 1).val < 256 := (y 1).isLt
    have h2 : (y 2).val < 1024 := (y 2).isLt
    by_cases h : (y 1).val < 128
    · refine ⟨_, List.mem_cons_of_mem _ (List.mem_singleton_self _), ?_⟩
      show y ∈ r0_9.set
      rw [Rect.mem_set_unit]
      intro a
      fin_cases a <;> simp <;> omega
    · refine ⟨_, List.mem_cons_self, ?_⟩
      show y ∈ r0_10.set
      rw [Rect.mem_set_unit]
      intro a
      fin_cases a <;> simp <;> omega

/-- Every element of the output is in the block of some point. -/
theorem covered (i : S8x4352x1024.Idx) : ∃ t : Fin cfg0.N, (cfg0.win 10).flush t = true ∧ i ∈ ((cfg0.win 10).blk t).view.set := by
  have h0 : (i 0).val < 8 := (i 0).isLt
  have h1 : (i 1).val < 4352 := (i 1).isLt
  have h2 : (i 2).val < 1024 := (i 2).isLt
  have hN : 17 * (i 0).val + (i 1).val / 256 < cfg0.N := by
    show _ < grid0.N
    rw [N_0]; omega
  refine ⟨⟨_, hN⟩, flush0_10 _, Finset.mem_map.mpr ⟨ix3 0 ⟨(i 1).val % 256, by omega⟩ ⟨(i 2).val, h2⟩, Finset.mem_univ _, ?_⟩⟩
  refine (emb10 _ _ _).trans ?_
  funext a
  refine Fin.ext ?_
  fin_cases a
  · refine (coord_b _).trans ?_
    show (17 * (i 0).val + (i 1).val / 256) / 17 = (i 0).val
    omega
  · show 256 * (ps _).val + (i 1).val % 256 = (i 1).val
    rw [coord_s]
    show 256 * ((17 * (i 0).val + (i 1).val / 256) % 17) + (i 1).val % 256 = (i 1).val
    omega
  · rfl

/-- THE KERNEL'S OUTPUT, whole. -/
theorem array_eq : (dats m 0 c).arrAt 10 cfg0.N = whole m c := by
  refine (dats m 0 c).arrAt_eq_of_cover 10 _ (fun t _ => ?_) covered
  rw [Value.flushed10]
  funext y
  exact point_eq m c t y

end Launch

end Cert.Kernel4Ideal.Post

end
-- ==== Proof.Post.Final.lean ====
/- The mixing kernel's output is the plain program's, for all arguments. -/
module

public import proofs.«01_k».proof.Defs
public import proofs.«01_k».proof.Proof.Post.Ref
public import proofs.«01_k».proof.Proof.Post.Array
public import proofs.«01_k».proof.Proof.Gen.Reference4Ideal.Run

@[expose] public section

noncomputable section

namespace Cert.Post

open Idealize.ShloMosaic Idealize.ShloMosaic.TcCoe Idealize.SL.Sem

theorem same (m : (ℓ : Loc Cert.Kernel4Ideal.nD Cert.Kernel4Ideal.τ Cert.Kernel4Ideal.sig) → Buf (Elt Ideal) ℓ) (c : Dev Cert.Kernel4Ideal.nD) :
    Cert.Reference4Ideal.Read.val_main_v78 (F := Ideal) (m ((c.tc : Thread Cert.Kernel4Ideal.nD Cert.Kernel4Ideal.τ).loc Cert.Kernel4Ideal.main_arg0))
        (m ((c.tc : Thread Cert.Kernel4Ideal.nD Cert.Kernel4Ideal.τ).loc Cert.Kernel4Ideal.main_arg1))
        (m ((c.tc : Thread Cert.Kernel4Ideal.nD Cert.Kernel4Ideal.τ).loc Cert.Kernel4Ideal.main_arg2))
        (m ((c.tc : Thread Cert.Kernel4Ideal.nD Cert.Kernel4Ideal.τ).loc Cert.Kernel4Ideal.main_arg3))
        (m ((c.tc : Thread Cert.Kernel4Ideal.nD Cert.Kernel4Ideal.τ).loc Cert.Kernel4Ideal.main_arg4))
        (m ((c.tc : Thread Cert.Kernel4Ideal.nD Cert.Kernel4Ideal.τ).loc Cert.Kernel4Ideal.main_arg5))
        (m ((c.tc : Thread Cert.Kernel4Ideal.nD Cert.Kernel4Ideal.τ).loc Cert.Kernel4Ideal.main_arg6))
        (m ((c.tc : Thread Cert.Kernel4Ideal.nD Cert.Kernel4Ideal.τ).loc Cert.Kernel4Ideal.main_arg7))
        (m ((c.tc : Thread Cert.Kernel4Ideal.nD Cert.Kernel4Ideal.τ).loc Cert.Kernel4Ideal.main_arg8))
      = Cert.Kernel4Ideal.Post.whole m c := by
  funext y
  have hy : y = ix3 (y 0) (y 1) (y 2) := by
    funext a
    match a with | ⟨0, _⟩ => rfl | ⟨1, _⟩ => rfl | ⟨2, _⟩ => rfl
  rw [hy]
  exact Cert.Reference4Ideal.Post.v78_at _ _ _ _ _ _ _ _ _ (y 0) (y 1) (y 2)

theorem algebraic : Cert.algebraic_Kernel4Ideal_Reference4Ideal (hKernel4Ideal := Cert.Kernel4Ideal.Gen.facts)
    (hReference4Ideal := Cert.Reference4Ideal.Gen.facts) := by
  intro m g m' g' _ ha
  refine ⟨fun c => (Cert.Kernel4Ideal.Gen.dats m 0 c).arrAt 10 Cert.Kernel4Ideal.cfg0.N, Cert.Kernel4Ideal.Value.run_blocks m g, ?_⟩
  refine (θ_run Cert.Reference4Ideal.defs _ _).mono (fun r h c => ⟨(h c).1.trans ?_, (h c).2⟩) (Cert.Reference4Ideal.Value.run (F := Ideal) m' g')
  obtain ⟨e0, e1, e2, e3, e4, e5, e6, e7, e8⟩ := ha c
  rw [Cert.Reference4Ideal.Read.val_main_v78_eq, e0, e1, e2, e3, e4, e5, e6, e7, e8]
  exact (same m c).trans (Cert.Kernel4Ideal.Post.array_eq m c).symm

end Cert.Post

end
-- ==== Proof.FFNAll.Spec.lean ====
/- The whole feed-forward's mathematics over the extended reals: as for the latent tokens alone, over all 4352 tokens. The
   first 256 are the context's. They have a modulation of their own, and the convolution does not cross from them to the
   latent tokens. -/
module

public import proofs.«01_k».proof.Proof.FFN.Spec

@[expose] public section

noncomputable section

namespace Cert.FFNAll

open Idealize.ShloMosaic Cert.FFN

/-- The row of the modulation for token `n` of batch element `b`: row 8 for the context, row `b` for the latent tokens. -/
def rowOf (b : Fin 8) (n : Fin 4352) : Fin 16 := if n.val < 256 then 8 else ⟨b.val, by omega⟩

section Layer

variable (x : Fin 8 → Fin 4352 → Fin 1024 → EReal) (md : Fin 16 → Fin 6144 → EReal) (g₁ g₂ : Fin 1024 → EReal)
  (W : Fin 1024 → Fin 5632 → EReal) (C : Fin 3 → Fin 5632 → EReal) (D : Fin 2816 → Fin 1024 → EReal)

/-- A token, normalised and modulated. -/
def hiddenAt (b : Fin 8) (n : Fin 4352) (j : Fin 1024) : EReal :=
  hid (x b n) g₁ (fun k => md (rowOf b n) (colSc k)) (fun k => md (rowOf b n) (colSh k)) j

/-- A token's column; the column of the token before, and of the token after, within the context or the latent tokens. -/
def up (b : Fin 8) (n : Fin 4352) (f : Fin 5632) : EReal := ∑ j, hiddenAt x md g₁ b n j * W j f
def upBefore (b : Fin 8) (n : Fin 4352) (f : Fin 5632) : EReal :=
  if h : n.val = 0 ∨ n.val = 256 then 0 else up x md g₁ W b ⟨n.val - 1, by omega⟩ f
def upAfter (b : Fin 8) (n : Fin 4352) (f : Fin 5632) : EReal :=
  if h : n.val = 255 ∨ n.val = 4351 then 0 else up x md g₁ W b ⟨n.val + 1, by omega⟩ f

/-- The convolution along the tokens. -/
def conved (b : Fin 8) (n : Fin 4352) (f : Fin 5632) : EReal :=
  C 0 f * upBefore x md g₁ W b n f + C 1 f * up x md g₁ W b n f + C 2 f * upAfter x md g₁ W b n f

/-- A gated column. -/
def act (b : Fin 8) (n : Fin 4352) (f : Fin 2816) : EReal :=
  glu (conved x md g₁ W C b n (colA f)) (conved x md g₁ W C b n (colV f))

/-- The product down. -/
def down (b : Fin 8) (n : Fin 4352) (k : Fin 1024) : EReal := ∑ f, act x md g₁ W C b n f * D f k

/-- The layer's result. -/
def result (b : Fin 8) (n : Fin 4352) (j : Fin 1024) : EReal :=
  x b n j + md (rowOf b n) (colGt j) * rmsRow (down x md g₁ W C D b n) g₂ j

end Layer

end Cert.FFNAll

end
-- ==== Proof.FFNAll.Ref.lean ====
/- The plain program's whole feed-forward, step by step at an index. -/
module

public import proofs.«01_k».proof.Proof.Gen.Reference5Ideal.Read
public import proofs.«01_k».proof.Proof.FFNAll.Spec
public import Idealize.ShloMosaic.Lib.Pointwise

@[expose] public section

noncomputable section

namespace Cert.Reference5Ideal.FFN

open Cert.Reference5Ideal Cert.Reference5Ideal.Gen Cert.Reference5Ideal.Read Idealize.ShloMosaic Idealize.ShloMosaic.TcCoe Idealize.SL.Sem Cert.FFNAll
open Cert.FFN (rmsRow hid glu colSh colSc colGt colA colV)

variable (x0 : Vec Ideal S8x4352x1024 .f32) (x1 : Vec Ideal S4x16x1x6144 .f32) (x2 x3 : Vec Ideal S4x1024 .f32)
  (x4 : Vec Ideal S4x1024x5632 .f32) (x5 : Vec Ideal S4x3x5632 .f32) (x6 : Vec Ideal S4x2816x1024 .f32)

/-- The arguments as functions: the stream; layer 1 of the modulation, of the gains and of the weights. -/
abbrev sX (b : Fin 8) (n : Fin 4352) (j : Fin 1024) : EReal := x0 (ix3 b n j)
abbrev sM (b : Fin 16) (k : Fin 6144) : EReal := x1 (ix4 1 b 0 k)
abbrev sG (j : Fin 1024) : EReal := x2 (ix2 1 j)
abbrev sW (j : Fin 1024) (f : Fin 5632) : EReal := x4 (ix3 1 j f)
abbrev sC (k : Fin 3) (f : Fin 5632) : EReal := x5 (ix3 1 k f)
abbrev sD (f : Fin 2816) (j : Fin 1024) : EReal := x6 (ix3 1 f j)

/-- The modulation of a context token, and of a latent token. -/
theorem v2_at (b : Fin 8) (n : Fin 256) (k : Fin 6144) : val_main_v2 (F := Ideal) x1 (ix3 b n k) = sM x1 8 k := by
  pointwise [val_main_v2, val_main_v1, val_main_v0]

theorem v5_at (b : Fin 8) (n : Fin 4096) (k : Fin 6144) : val_main_v5 (F := Ideal) x1 (ix3 b n k) = sM x1 ⟨b.val, by omega⟩ k := by
  pointwise [val_main_v5, val_main_v4, val_main_v3]

/-- The modulation of every token. -/
theorem v6_at (b : Fin 8) (n : Fin 4352) (k : Fin 6144) : val_main_v6 (F := Ideal) x1 (ix3 b n k) = sM x1 (rowOf b n) k := by
  have e : val_main_v6 (F := Ideal) x1 (ix3 b n k) = if h : n.val < 256 then val_main_v2 (F := Ideal) x1 (ix3 b ⟨n.val, h⟩ k)
      else val_main_v5 (F := Ideal) x1 (ix3 b ⟨n.val - 256, by omega⟩ k) := by
    unfold val_main_v6
    generalize val_main_v2 (F := Ideal) x1 = y
    generalize val_main_v5 (F := Ideal) x1 = z
    pointwise []
  rw [e]
  unfold rowOf
  by_cases h : n.val < 256
  · rw [dif_pos h, if_pos h, v2_at]
  · rw [dif_neg h, if_neg h, v5_at]

theorem v10_at (b : Fin 8) (n : Fin 4352) (j : Fin 1024) : val_main_v10 (F := Ideal) x1 (ix3 b n j) = sM x1 (rowOf b n) (colSh j) := by
  refine Eq.trans ?_ (v6_at x1 b n (colSh j))
  unfold val_main_v10
  generalize val_main_v6 (F := Ideal) x1 = y
  pointwise []

theorem v11_at (b : Fin 8) (n : Fin 4352) (j : Fin 1024) : val_main_v11 (F := Ideal) x1 (ix3 b n j) = sM x1 (rowOf b n) (colSc j) := by
  refine Eq.trans ?_ (v6_at x1 b n (colSc j))
  unfold val_main_v11
  generalize val_main_v6 (F := Ideal) x1 = y
  pointwise []

theorem v12_at (b : Fin 8) (n : Fin 4352) (j : Fin 1024) : val_main_v12 (F := Ideal) x1 (ix3 b n j) = sM x1 (rowOf b n) (colGt j) := by
  refine Eq.trans ?_ (v6_at x1 b n (colGt j))
  unfold val_main_v12
  generalize val_main_v6 (F := Ideal) x1 = y
  pointwise []

theorem v14_at (j : Fin 1024) : val_main_v14 (F := Ideal) x2 (ix1 j) = sG x2 j := by
  pointwise [val_main_v14, val_main_v13]

theorem v78_at (j : Fin 1024) : val_main_v78 (F := Ideal) x3 (ix1 j) = sG x3 j := by
  pointwise [val_main_v78, val_main_v77]

/-- The normalised tokens. -/
theorem v27_at (b : Fin 8) (n : Fin 4352) (j : Fin 1024) : val_main_v27 (F := Ideal) x0 x2 (ix3 b n j)
    = rmsRow (fun k => x0 (ix3 b n k)) (sG x2) j := by
  unfold rmsRow
  rw [← v14_at x2 j]
  unfold val_main_v27 val_main_v26 val_main_v25 val_main_v24 val_main_v23 val_main_v22 val_main_v21 val_main_v19 val_main_v17 val_main_v16 val_main_v15
  generalize val_main_v14 (F := Ideal) x2 = z
  pointwise [val_main_v20, val_main_v18, val_main_cst, val_main_cst_0, val_main_cst_1]

/-- … modulated. -/
theorem v31_at (b : Fin 8) (n : Fin 4352) (j : Fin 1024) : val_main_v31 (F := Ideal) x0 x1 x2 (ix3 b n j)
    = hiddenAt (sX x0) (sM x1) (sG x2) b n j := by
  unfold hiddenAt hid
  dsimp only
  rw [← v27_at x0 x2 b n j, ← v10_at x1 b n j, ← v11_at x1 b n j]
  unfold val_main_v31 val_main_v30 val_main_v29
  generalize val_main_v27 (F := Ideal) x0 x2 = y
  generalize val_main_v10 (F := Ideal) x1 = z
  generalize val_main_v11 (F := Ideal) x1 = w
  pointwise [val_main_v28, val_main_cst_2]

theorem v33_at (j : Fin 1024) (f : Fin 5632) : val_main_v33 (F := Ideal) x4 (ix2 j f) = sW x4 j f := by
  pointwise [val_main_v33, val_main_v32]

/-- The product up. -/
theorem v34_at (b : Fin 8) (n : Fin 4352) (f : Fin 5632) : val_main_v34 (F := Ideal) x0 x1 x2 x4 (ix3 b n f)
    = up (sX x0) (sM x1) (sG x2) (sW x4) b n f := by
  unfold up
  simp only [← v31_at x0 x1 x2, ← v33_at x4]
  unfold val_main_v34
  generalize val_main_v31 (F := Ideal) x0 x1 x2 = y
  generalize val_main_v33 (F := Ideal) x4 = z
  pointwise []

theorem zero_int : (FloatOps.sitofp FTy.f32 0#32 : Ideal .f32) = 0 := by
  show (((0#32 : BitVec 32).toInt : ℝ) : EReal) = 0
  rw [show (0#32 : BitVec 32).toInt = 0 by decide]; simp

/-- The context's columns and the latent tokens' columns, each with its tokens moved by one. -/
theorem v38_at (b : Fin 8) (n : Fin 256) (f : Fin 5632) : val_main_v38 (F := Ideal) x0 x1 x2 x4 (ix3 b n f)
    = if h : n.val = 0 then 0 else val_main_v34 (F := Ideal) x0 x1 x2 x4 (ix3 b ⟨n.val - 1, by omega⟩ f) := by
  unfold val_main_v38 val_main_v37 val_main_v35
  generalize val_main_v34 (F := Ideal) x0 x1 x2 x4 = y
  pointwise [val_main_call0_v0, val_main_c]
  rw [zero_int]
  by_cases h : n.val = 0
  · rw [dif_neg (by omega), dif_pos h]
  · rw [dif_pos (by omega), dif_neg h]

theorem v40_at (b : Fin 8) (n : Fin 4096) (f : Fin 5632) : val_main_v40 (F := Ideal) x0 x1 x2 x4 (ix3 b n f)
    = if h : n.val = 0 then 0 else val_main_v34 (F := Ideal) x0 x1 x2 x4 (ix3 b ⟨256 + n.val - 1, by omega⟩ f) := by
  unfold val_main_v40 val_main_v39 val_main_v36
  generalize val_main_v34 (F := Ideal) x0 x1 x2 x4 = y
  pointwise [val_main_call1_v0, val_main_c_3]
  rw [zero_int]
  by_cases h : n.val = 0
  · rw [dif_neg (by omega), dif_pos h]
  · rw [dif_pos (by omega), dif_neg h]
    exact congrArg y (congrArg (fun a => ix3 b a f) (Fin.ext (by dsimp only; omega)))

theorem v43_at (b : Fin 8) (n : Fin 256) (f : Fin 5632) : val_main_v43 (F := Ideal) x0 x1 x2 x4 (ix3 b n f)
    = if h : n.val = 255 then 0 else val_main_v34 (F := Ideal) x0 x1 x2 x4 (ix3 b ⟨n.val + 1, by omega⟩ f) := by
  unfold val_main_v43 val_main_v42 val_main_v35
  generalize val_main_v34 (F := Ideal) x0 x1 x2 x4 = y
  pointwise [val_main_call2_v0, val_main_c_4]
  rw [zero_int]
  by_cases h : n.val = 255
  · rw [dif_neg (by omega), dif_pos h]
  · rw [dif_pos (by omega), dif_neg h]
    exact congrArg y (congrArg (fun a => ix3 b a f) (Fin.ext (by dsimp only; omega)))

theorem v45_at (b : Fin 8) (n : Fin 4096) (f : Fin 5632) : val_main_v45 (F := Ideal) x0 x1 x2 x4 (ix3 b n f)
    = if h : n.val = 4095 then 0 else val_main_v34 (F := Ideal) x0 x1 x2 x4 (ix3 b ⟨256 + n.val + 1, by omega⟩ f) := by
  unfold val_main_v45 val_main_v44 val_main_v36
  generalize val_main_v34 (F := Ideal) x0 x1 x2 x4 = y
  pointwise [val_main_call3_v0, val_main_c_5]
  rw [zero_int]
  by_cases h : n.val = 4095
  · rw [dif_neg (by omega), dif_pos h]
  · rw [dif_pos (by omega), dif_neg h]
    exact congrArg y (congrArg (fun a => ix3 b a f) (Fin.ext (by dsimp only; omega)))

/-- The token before, and the token after. -/
theorem v41_at (b : Fin 8) (n : Fin 4352) (f : Fin 5632) : val_main_v41 (F := Ideal) x0 x1 x2 x4 (ix3 b n f)
    = upBefore (sX x0) (sM x1) (sG x2) (sW x4) b n f := by
  have e : val_main_v41 (F := Ideal) x0 x1 x2 x4 (ix3 b n f) = if h : n.val < 256 then val_main_v38 (F := Ideal) x0 x1 x2 x4 (ix3 b ⟨n.val, h⟩ f)
      else val_main_v40 (F := Ideal) x0 x1 x2 x4 (ix3 b ⟨n.val - 256, by omega⟩ f) := by
    unfold val_main_v41
    generalize val_main_v38 (F := Ideal) x0 x1 x2 x4 = y
    generalize val_main_v40 (F := Ideal) x0 x1 x2 x4 = z
    pointwise []
  rw [e]
  unfold upBefore
  simp only [← v34_at x0 x1 x2 x4]
  by_cases h : n.val < 256
  · rw [dif_pos h, v38_at]
    dsimp only
    by_cases h' : n.val = 0
    · rw [dif_pos h', dif_pos (Or.inl h')]
    · rw [dif_neg h', dif_neg (by omega)]
  · rw [dif_neg h, v40_at]
    dsimp only
    by_cases h' : n.val = 256
    · rw [dif_pos (by omega), dif_pos (Or.inr h')]
    · rw [dif_neg (by omega), dif_neg (by omega)]
      exact congrArg (fun a => val_main_v34 (F := Ideal) x0 x1 x2 x4 (ix3 b a f)) (Fin.ext (by dsimp only; omega))

theorem v46_at (b : Fin 8) (n : Fin 4352) (f : Fin 5632) : val_main_v46 (F := Ideal) x0 x1 x2 x4 (ix3 b n f)
    = upAfter (sX x0) (sM x1) (sG x2) (sW x4) b n f := by
  have e : val_main_v46 (F := Ideal) x0 x1 x2 x4 (ix3 b n f) = if h : n.val < 256 then val_main_v43 (F := Ideal) x0 x1 x2 x4 (ix3 b ⟨n.val, h⟩ f)
      else val_main_v45 (F := Ideal) x0 x1 x2 x4 (ix3 b ⟨n.val - 256, by omega⟩ f) := by
    unfold val_main_v46
    generalize val_main_v43 (F := Ideal) x0 x1 x2 x4 = y
    generalize val_main_v45 (F := Ideal) x0 x1 x2 x4 = z
    pointwise []
  rw [e]
  unfold upAfter
  simp only [← v34_at x0 x1 x2 x4]
  by_cases h : n.val < 256
  · rw [dif_pos h, v43_at]
    dsimp only
    by_cases h' : n.val = 255
    · rw [dif_pos h', dif_pos (Or.inl h')]
    · rw [dif_neg h', dif_neg (by omega)]
  · rw [dif_neg h, v45_at]
    dsimp only
    by_cases h' : n.val = 4351
    · rw [dif_pos (by omega), dif_pos (Or.inr h')]
    · rw [dif_neg (by omega), dif_neg (by omega)]
      exact congrArg (fun a => val_main_v34 (F := Ideal) x0 x1 x2 x4 (ix3 b a f)) (Fin.ext (by dsimp only; omega))

theorem v50_at (b : Fin 8) (n : Fin 4352) (f : Fin 5632) : val_main_v50 (F := Ideal) x5 (ix3 b n f) = sC x5 0 f := by
  pointwise [val_main_v50, val_main_v49, val_main_v48, val_main_v47]
theorem v55_at (b : Fin 8) (n : Fin 4352) (f : Fin 5632) : val_main_v55 (F := Ideal) x5 (ix3 b n f) = sC x5 1 f := by
  pointwise [val_main_v55, val_main_v54, val_main_v53, val_main_v52]
theorem v61_at (b : Fin 8) (n : Fin 4352) (f : Fin 5632) : val_main_v61 (F := Ideal) x5 (ix3 b n f) = sC x5 2 f := by
  pointwise [val_main_v61, val_main_v60, val_main_v59, val_main_v58]

/-- The convolution. -/
theorem v63_at (b : Fin 8) (n : Fin 4352) (f : Fin 5632) : val_main_v63 (F := Ideal) x0 x1 x2 x4 x5 (ix3 b n f)
    = conved (sX x0) (sM x1) (sG x2) (sW x4) (sC x5) b n f := by
  unfold conved
  rw [← v50_at x5 b n f, ← v55_at x5 b n f, ← v61_at x5 b n f, ← v34_at x0 x1 x2 x4, ← v41_at x0 x1 x2 x4, ← v46_at x0 x1 x2 x4]
  rfl

/-- The gated columns. -/
theorem v73_at (b : Fin 8) (n : Fin 4352) (f : Fin 2816) : val_main_v73 (F := Ideal) x0 x1 x2 x4 x5 (ix3 b n f)
    = act (sX x0) (sM x1) (sG x2) (sW x4) (sC x5) b n f := by
  unfold act glu
  rw [← v63_at x0 x1 x2 x4 x5, ← v63_at x0 x1 x2 x4 x5]
  unfold val_main_v73 val_main_v72 val_main_v71 val_main_v69 val_main_v67 val_main_v66 val_main_v65 val_main_v64
  generalize val_main_v63 (F := Ideal) x0 x1 x2 x4 x5 = y
  pointwise [val_main_v70, val_main_v68, val_main_cst_6, val_main_cst_7]

theorem v75_at (f : Fin 2816) (j : Fin 1024) : val_main_v75 (F := Ideal) x6 (ix2 f j) = sD x6 f j := by
  pointwise [val_main_v75, val_main_v74]

/-- The product down. -/
theorem v76_at (b : Fin 8) (n : Fin 4352) (j : Fin 1024) : val_main_v76 (F := Ideal) x0 x1 x2 x4 x5 x6 (ix3 b n j)
    = down (sX x0) (sM x1) (sG x2) (sW x4) (sC x5) (sD x6) b n j := by
  unfold down
  simp only [← v73_at x0 x1 x2 x4 x5, ← v75_at x6]
  unfold val_main_v76
  generalize val_main_v73 (F := Ideal) x0 x1 x2 x4 x5 = y
  generalize val_main_v75 (F := Ideal) x6 = z
  pointwise []

theorem v91_at (b : Fin 8) (n : Fin 4352) (j : Fin 1024) : val_main_v91 (F := Ideal) x0 x1 x2 x3 x4 x5 x6 (ix3 b n j)
    = rmsRow (down (sX x0) (sM x1) (sG x2) (sW x4) (sC x5) (sD x6) b n) (sG x3) j := by
  rw [show down (sX x0) (sM x1) (sG x2) (sW x4) (sC x5) (sD x6) b n = fun k => val_main_v76 (F := Ideal) x0 x1 x2 x4 x5 x6 (ix3 b n k)
    from funext fun k => (v76_at x0 x1 x2 x4 x5 x6 b n k).symm]
  unfold rmsRow
  rw [← v78_at x3 j]
  unfold val_main_v91 val_main_v90 val_main_v89 val_main_v88 val_main_v87 val_main_v86 val_main_v85 val_main_v83 val_main_v81 val_main_v80 val_main_v79
  generalize val_main_v76 (F := Ideal) x0 x1 x2 x4 x5 x6 = y
  generalize val_main_v78 (F := Ideal) x3 = z
  pointwise [val_main_v84, val_main_v82, val_main_cst_8, val_main_cst_9, val_main_cst_10]

/-- THE PLAIN RESULT at an index. -/
theorem v93_at (b : Fin 8) (n : Fin 4352) (j : Fin 1024) : val_main_v93 (F := Ideal) x0 x1 x2 x3 x4 x5 x6 (ix3 b n j)
    = result (sX x0) (sM x1) (sG x2) (sG x3) (sW x4) (sC x5) (sD x6) b n j := by
  unfold result
  rw [← v91_at x0 x1 x2 x3 x4 x5 x6 b n j, ← v12_at x1 b n j]
  show _ = x0 (ix3 b n j) + _
  unfold val_main_v93 val_main_v92
  generalize val_main_v91 (F := Ideal) x0 x1 x2 x3 x4 x5 x6 = y
  generalize val_main_v12 (F := Ideal) x1 = z
  pointwise []

end Cert.Reference5Ideal.FFN
-- ==== Proof.FFNAll.Stages.lean ====
/- The whole feed-forward's arithmetic at one grid point, as named stages.

   A point normalises its tile of 256 tokens and a halo of eight tokens on either side, raises them to 5632 columns in
   slices of 256, convolves each column along the tokens, gates one half of the columns by the other, and stores the
   eleven slices of gated columns in a scratch buffer, which it then multiplies down. `out_eq` says that what the point
   stores is these stages of what it loads. -/
module

public import proofs.«01_k».proof.Proof.Gen.Kernel5Ideal.Value

@[expose] public section

noncomputable section

namespace Cert.Kernel5Ideal.FFN

open Cert.Kernel5Ideal Cert.Kernel5Ideal.Gen Idealize.ShloMosaic Idealize.ShloMosaic.TcCoe Idealize.SL.Sem

variable {F : FTy → Type} [FloatOps F]

/-- The tile and its halo, normalised and modulated; the halo outside the context or the latent tokens is made zero. -/
def hAll (i : grid0.Coords) (x : Vec F S1x256x1024 .f32) (xp xn : Vec F S1x8x1024 .f32) (md : Vec F S1x1x1x6144 .f32)
    (g : Vec F S1x1024 .f32) : FVec F S272x1024 .bf16 :=
  k0_pay14 (k0_pay10 (k0_pay7 i) (k0_pay9 md xp g)) (k0_pay11 (k0_pay3 md) (k0_pay4 md) (k0_pay6 x) g)
    (k0_pay12 (k0_pay3 md) (k0_pay4 md) xn g) (k0_pay13 (k0_pay8 i))

/-- Three weights along the tokens: the token before, the token itself, the token after. -/
def conv (u : FVec F S272x256 .f32) (w0 w1 w2 : Vec F S1x256 .f32) : FVec F S256x256 .f32 :=
  addf (addf
    (mulf (broadcastTo S256x256 (shapeCast S1x256 w0 shapeCasts_S1x256_S1x256) broadcasts_S1x256_S256x256)
      (extractStridedSlice S256x256 ![8, 0] (dynamicRotate 0 1#32 none u rotates_S272x256_d0) slices_S272x256_o8_0_S256x256))
    (mulf (broadcastTo S256x256 (shapeCast S1x256 w1 shapeCasts_S1x256_S1x256) broadcasts_S1x256_S256x256)
      (extractStridedSlice S256x256 ![8, 0] u slices_S272x256_o8_0_S256x256)))
    (mulf (broadcastTo S256x256 (shapeCast S1x256 w2 shapeCasts_S1x256_S1x256) broadcasts_S1x256_S256x256)
      (extractStridedSlice S256x256 ![8, 0] (dynamicRotate 0 271#32 none u rotates_S272x256_d0) slices_S272x256_o8_0_S256x256))

/-- The gate times its logistic, times the value. -/
def gated (a v : FVec F S256x256 .f32) : FVec F S256x256 .bf16 :=
  shapeCast S256x256 (truncf .bf16
    (mulf (mulf a (divf (broadcast S256x256 (Scalar.ofBits .f32 0x3F800000#32))
      (addf (broadcast S256x256 (Scalar.ofBits .f32 0x3F800000#32))
        (exp (subf (broadcast S256x256 (Scalar.ofBits .f32 0x00000000#32)) a))))) v) bitsLt_bf16_f32)
    shapeCasts_S256x256_S256x256

/-- One slice of gated columns. -/
def slice (h : FVec F S272x1024 .bf16) (wa wv : Vec F S1x1024x256 .bf16) (a0 a1 a2 v0 v1 v2 : Vec F S1x256 .f32) :
    FVec F S256x256 .bf16 :=
  gated (conv (k0_pay21 h wa) a0 a1 a2) (conv (k0_pay21 h wv) v0 v1 v2)

/-- Where slice `n` of the columns lies: among the gates, among the values, in the scratch buffer. -/
theorem inbA (n : Fin 11) : ∀ a, (![0, 0, 256 * n.val] : Fin 3 → Nat) a + S1x1024x256.size a ≤ S1x1024x5632.size a := by
  revert n; decide +kernel
theorem inbV (n : Fin 11) : ∀ a, (![0, 0, 2816 + 256 * n.val] : Fin 3 → Nat) a + S1x1024x256.size a ≤ S1x1024x5632.size a := by
  revert n; decide +kernel
theorem inbCA (k : Fin 3) (n : Fin 11) : ∀ a, (![k.val, 256 * n.val] : Fin 2 → Nat) a + S1x256.size a ≤ S3x5632.size a := by
  revert k n; decide +kernel
theorem inbCV (k : Fin 3) (n : Fin 11) : ∀ a, (![k.val, 2816 + 256 * n.val] : Fin 2 → Nat) a + S1x256.size a ≤ S3x5632.size a := by
  revert k n; decide +kernel
theorem inbS (n : Fin 11) : ∀ a, (![0, 256 * n.val] : Fin 2 → Nat) a + S256x256.size a ≤ S256x2816.size a := by
  revert n; decide +kernel

/-- Slice `n`, from the whole blocks of the weights. -/
def sliceAt (h : FVec F S272x1024 .bf16) (W : Vec F S1x1024x5632 .bf16) (C : Vec F S3x5632 .f32) (n : Fin 11) :
    FVec F S256x256 .bf16 :=
  slice h (View.ld W (Rect.unit ![0, 0, 256 * n.val] S1x1024x256.size (inbA n)))
    (View.ld W (Rect.unit ![0, 0, 2816 + 256 * n.val] S1x1024x256.size (inbV n)))
    (View.ld C (Rect.unit ![(0 : Fin 3).val, 256 * n.val] S1x256.size (inbCA 0 n)))
    (View.ld C (Rect.unit ![(1 : Fin 3).val, 256 * n.val] S1x256.size (inbCA 1 n)))
    (View.ld C (Rect.unit ![(2 : Fin 3).val, 256 * n.val] S1x256.size (inbCA 2 n)))
    (View.ld C (Rect.unit ![(0 : Fin 3).val, 2816 + 256 * n.val] S1x256.size (inbCV 0 n)))
    (View.ld C (Rect.unit ![(1 : Fin 3).val, 2816 + 256 * n.val] S1x256.size (inbCV 1 n)))
    (View.ld C (Rect.unit ![(2 : Fin 3).val, 2816 + 256 * n.val] S1x256.size (inbCV 2 n)))

/-- The rectangle of slice `n` in the scratch buffer. -/
abbrev rS (n : Fin 11) : Rect S256x2816 := Rect.unit ![0, 256 * n.val] S256x256.size (inbS n)

/-- The eleven stores of the scratch buffer, the last first. -/
def pieces (h : FVec F S272x1024 .bf16) (W : Vec F S1x1024x5632 .bf16) (C : Vec F S3x5632 .f32) :
    List (View.Piece (Elt F) S256x2816 .bf16) :=
  [⟨rS 10, sliceAt h W C 10⟩,
    ⟨rS 9, sliceAt h W C 9⟩,
    ⟨rS 8, sliceAt h W C 8⟩,
    ⟨rS 7, sliceAt h W C 7⟩,
    ⟨rS 6, sliceAt h W C 6⟩,
    ⟨rS 5, sliceAt h W C 5⟩,
    ⟨rS 4, sliceAt h W C 4⟩,
    ⟨rS 3, sliceAt h W C 3⟩,
    ⟨rS 2, sliceAt h W C 2⟩,
    ⟨rS 1, sliceAt h W C 1⟩,
    ⟨rS 0, sliceAt h W C 0⟩]

variable (m : (ℓ : Loc nD τ sig) → Buf (Elt F) ℓ) (ρ : Dev nD → PrngReg)

abbrev rOut : Rect S1x256x1024 := Rect.unit ![0, 0, 0] S1x256x1024.size inb_S1x256x1024_S1x256x1024_0_0_0
abbrev rHalo : Rect S1x8x1024 := Rect.unit ![0, 0, 0] S1x8x1024.size inb_S1x8x1024_S1x8x1024_0_0_0
abbrev rMod : Rect S1x1x1x6144 := Rect.unit ![0, 0, 0, 0] S1x1x1x6144.size inb_S1x1x1x6144_S1x1x1x6144_0_0_0_0
abbrev rGain : Rect S1x1024 := Rect.unit ![0, 0] S1x1024.size inb_S1x1024_S1x1024_0_0
abbrev rDown : Rect S1x2816x1024 := Rect.unit ![0, 0, 0] S1x2816x1024.size inb_S1x2816x1024_S1x2816x1024_0_0_0
abbrev rScr : Rect S256x2816 := Rect.unit ![0, 0] S256x2816.size inb_S256x2816_S256x2816_0_0

/-- The normalised tile of a point. -/
def hAt (c : Dev nD) (t : Fin cfg0.N) : FVec F S272x1024 .bf16 :=
  hAll (grid0.coords t) (View.ld (iblk m c 0 t) rOut) (View.ld (iblk m c 1 t) rHalo) (View.ld (iblk m c 2 t) rHalo)
    (View.ld (iblk m c 3 t) rMod) (View.ld (iblk m c 4 t) rGain)

set_option maxHeartbeats 4000000 in
/-- What a point leaves in the output's buffer. -/
theorem out_eq (c : Dev nD) (t : Fin cfg0.N) :
    outsAt0 m c t = View.canon [⟨rOut, k0_pay1 (k0_pay5 (View.ld (iblk m c 3 t) rMod)) (k0_pay6 (View.ld (iblk m c 0 t) rOut))
      ((View.whole cc0_scratch0).readCov (pieces (hAt m c t) (iblk m c 6 t) (iblk m c 7 t)) rScr.toLoadRect)
      (View.ld (iblk m c 8 t) rDown) (View.ld (iblk m c 5 t) rGain)⟩] := by
  unfold outsAt0
  unfold out0_A_9
  rw [View.read_writes_eq_canon _ _ _ (fun y => cover0_A_9 c _ _ _ _ _ _ _ _ _ _ _ _ _ _ _ _ _ _ _ _ _ _ _ _ _ _ _ _ _ _ _ _ y)]
  unfold kernelRun0_A
  dsimp only
  sl_unfold_run_names
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  rfl

end Cert.Kernel5Ideal.FFN

end
-- ==== Proof.FFNAll.Elements.lean ====
/- The whole feed-forward's stages read at one element over the extended reals. -/
module

public import proofs.«01_k».proof.Proof.FFNAll.Stages
public import proofs.«01_k».proof.Proof.FFNAll.Spec

@[expose] public section

noncomputable section

namespace Cert.Kernel5Ideal.FFN

open Cert.Kernel5Ideal Cert.Kernel5Ideal.Gen Idealize.ShloMosaic Idealize.ShloMosaic.TcCoe Cert.FFN

theorem pay3_apply (md : Vec Ideal S1x1x1x6144 .f32) (j : Fin 1024) : k0_pay3 md (ix2 0 j) = md (ix4 0 0 0 (colSh j)) := by
  pointwise [k0_pay3, k0_pay2]
theorem pay4_apply (md : Vec Ideal S1x1x1x6144 .f32) (j : Fin 1024) : k0_pay4 md (ix2 0 j) = md (ix4 0 0 0 (colSc j)) := by
  pointwise [k0_pay4, k0_pay2]
theorem pay5_apply (md : Vec Ideal S1x1x1x6144 .f32) (j : Fin 1024) : k0_pay5 md (ix2 0 j) = md (ix4 0 0 0 (colGt j)) := by
  pointwise [k0_pay5, k0_pay2]

theorem before_apply (md : Vec Ideal S1x1x1x6144 .f32) (x : Vec Ideal S1x8x1024 .f32) (g : Vec Ideal S1x1024 .f32) (i : Fin 8) (j : Fin 1024) :
    k0_pay9 md x g (ix2 i j) = hid (fun k => x (ix3 0 i k)) (fun k => g (ix2 0 k)) (fun k => md (ix4 0 0 0 (colSc k)))
      (fun k => md (ix4 0 0 0 (colSh k))) j := by
  show _ = hid _ _ (fun k => md (ix4 0 0 0 (colSc k))) (fun k => md (ix4 0 0 0 (colSh k))) j
  simp only [← pay3_apply, ← pay4_apply]
  unfold k0_pay9
  generalize k0_pay3 md = sh
  generalize k0_pay4 md = sc
  pointwise [hid, rmsRow]

theorem after_apply (sh sc : FVec Ideal S1x1024 .f32) (x : Vec Ideal S1x8x1024 .f32) (g : Vec Ideal S1x1024 .f32) (i : Fin 8) (j : Fin 1024) :
    k0_pay12 sh sc x g (ix2 i j) = hid (fun k => x (ix3 0 i k)) (fun k => g (ix2 0 k)) (fun k => sc (ix2 0 k)) (fun k => sh (ix2 0 k)) j := by
  pointwise [k0_pay12, hid, rmsRow]

theorem tile_apply (sh sc : FVec Ideal S1x1024 .f32) (x : FVec Ideal S256x1024 .f32) (g : Vec Ideal S1x1024 .f32) (i : Fin 256) (j : Fin 1024) :
    k0_pay11 sh sc x g (ix2 i j) = hid (fun k => x (ix2 i k)) (fun k => g (ix2 0 k)) (fun k => sc (ix2 0 k)) (fun k => sh (ix2 0 k)) j := by
  pointwise [k0_pay11, hid, rmsRow]

theorem pay6_apply (x : Vec Ideal S1x256x1024 .f32) (i : Fin 256) (j : Fin 1024) : k0_pay6 x (ix2 i j) = x (ix3 0 i j) := by
  pointwise [k0_pay6]

theorem up_apply (h : FVec Ideal S272x1024 .bf16) (w : Vec Ideal S1x1024x256 .bf16) (i : Fin 272) (f : Fin 256) :
    k0_pay21 h w (ix2 i f) = ∑ j, h (ix2 i j) * w (ix3 0 j f) := by
  pointwise [k0_pay21]

theorem gated_apply (a v : FVec Ideal S256x256 .f32) (r f : Fin 256) : gated a v (ix2 r f) = glu (a (ix2 r f)) (v (ix2 r f)) := by
  have e : gated a v (ix2 r f) = a (ix2 r f) * Ideal.div 1
      (1 + Ideal.exp (0 - a (ix2 r f))) * v (ix2 r f) := by
    pointwise [gated]
  rw [e, zero_sub]; rfl

theorem cat_apply (a b : FVec Ideal S8x1024 .f32) (d : FVec Ideal S256x1024 .f32) (e : FVec Ideal S8x1024 .f32) (i : Fin 272) (j : Fin 1024) :
    k0_pay14 a d b e (ix2 i j) = if h : i.val < 8 then a (ix2 ⟨i.val, h⟩ j)
      else if h' : i.val - 8 < 256 then d (ix2 ⟨i.val - 8, h'⟩ j)
      else b (ix2 ⟨i.val - 8 - 256, by omega⟩ j) * e (ix2 ⟨i.val - 8 - 256, by omega⟩ j) := by
  pointwise [k0_pay14]

theorem conv_apply (u : FVec Ideal S272x256 .f32) (w0 w1 w2 : Vec Ideal S1x256 .f32) (r f : Fin 256) :
    conv u w0 w1 w2 (ix2 r f) = w0 (ix2 0 f) * u (ix2 ⟨7 + r.val, by omega⟩ f) + w1 (ix2 0 f) * u (ix2 ⟨8 + r.val, by omega⟩ f)
      + w2 (ix2 0 f) * u (ix2 ⟨9 + r.val, by omega⟩ f) := by
  have e : conv u w0 w1 w2 (ix2 r f) = w0 (ix2 0 f) * u (ix2 ⟨(8 + r.val + 272 - 1) % 272, by omega⟩ f)
      + w1 (ix2 0 f) * u (ix2 ⟨8 + r.val, by omega⟩ f) + w2 (ix2 0 f) * u (ix2 ⟨(8 + r.val + 272 - 271) % 272, by omega⟩ f) := by
    pointwise [conv]
  rw [e, show (⟨(8 + r.val + 272 - 1) % 272, by omega⟩ : Fin 272) = ⟨7 + r.val, by omega⟩ from Fin.ext (by dsimp only; omega),
    show (⟨(8 + r.val + 272 - 271) % 272, by omega⟩ : Fin 272) = ⟨9 + r.val, by omega⟩ from Fin.ext (by dsimp only; omega)]

/-- What a point stores, from its product down. -/
theorem last_apply (gt : FVec Ideal S1x1024 .f32) (x : FVec Ideal S256x1024 .f32) (a : Vec Ideal S256x2816 .bf16)
    (D : Vec Ideal S1x2816x1024 .bf16) (g : Vec Ideal S1x1024 .f32) (r : Fin 256) (j : Fin 1024) :
    k0_pay1 gt x a D g (ix3 0 r j) = x (ix2 r j)
      + gt (ix2 0 j) * rmsRow (fun k => ∑ f, a (ix2 r f) * D (ix3 0 f k)) (fun k => g (ix2 0 k)) j := by
  pointwise [k0_pay1, rmsRow]

/-- The words of the two halo tests. -/
theorem before_word (i : grid0.Coords) : k0_pay7 (F := Ideal) i = if (i 1).val < 2 then 0 else 1 := by
  have e : Scalar.extui (Scalar.cmpi .sge (Scalar.addi (BitVec.ofNat 32 (i 1).val) 0#32) 2#32) = if (i 1).val < 2 then 0#32 else 1#32 := by
    generalize (i 1 : Fin 17) = s
    revert s; decide +kernel
  unfold k0_pay7
  dsimp only
  rw [e]
  split
  · show (((0#32 : BitVec 32).toInt : ℝ) : EReal) = 0
    rw [show (0#32 : BitVec 32).toInt = 0 by decide]; simp
  · show (((1#32 : BitVec 32).toInt : ℝ) : EReal) = 1
    rw [show (1#32 : BitVec 32).toInt = 1 by decide]; simp

theorem after_word (i : grid0.Coords) : k0_pay8 (F := Ideal) i = if (i 1).val = 0 ∨ (i 1).val = 16 then 0 else 1 := by
  have e : Scalar.extui (Scalar.andi (Scalar.cmpi .sge (Scalar.addi (BitVec.ofNat 32 (i 1).val) 0#32) 1#32)
      (Scalar.cmpi .slt (Scalar.addi (BitVec.ofNat 32 (i 1).val) 0#32) 16#32)) = if (i 1).val = 0 ∨ (i 1).val = 16 then 0#32 else 1#32 := by
    generalize (i 1 : Fin 17) = s
    revert s; decide +kernel
  unfold k0_pay8
  dsimp only
  rw [e]
  split
  · show (((0#32 : BitVec 32).toInt : ℝ) : EReal) = 0
    rw [show (0#32 : BitVec 32).toInt = 0 by decide]; simp
  · show (((1#32 : BitVec 32).toInt : ℝ) : EReal) = 1
    rw [show (1#32 : BitVec 32).toInt = 1 by decide]; simp

section Rows

variable (i : grid0.Coords) (x : Vec Ideal S1x256x1024 .f32) (xp xn : Vec Ideal S1x8x1024 .f32) (md : Vec Ideal S1x1x1x6144 .f32)
  (g : Vec Ideal S1x1024 .f32)

/-- A row of the block, normalised and modulated. -/
def hidOf (y : Fin 1024 → EReal) (j : Fin 1024) : EReal :=
  hid y (fun k => g (ix2 0 k)) (fun k => md (ix4 0 0 0 (colSc k))) (fun k => md (ix4 0 0 0 (colSh k))) j

theorem row_tile (r : Fin 256) (j : Fin 1024) :
    hAll i x xp xn md g (ix2 ⟨8 + r.val, by omega⟩ j) = hidOf md g (fun k => x (ix3 0 r k)) j := by
  unfold hAll
  rw [cat_apply, dif_neg (by dsimp only; omega), dif_pos (by dsimp only; omega),
    show (⟨8 + r.val - 8, by omega⟩ : Fin 256) = r from Fin.ext (by dsimp only; omega), tile_apply]
  simp only [pay3_apply, pay4_apply, pay6_apply]
  rfl

theorem row_before (j : Fin 1024) :
    hAll i x xp xn md g (ix2 7 j) = if (i 1).val < 2 then 0 else hidOf md g (fun k => xp (ix3 0 7 k)) j := by
  unfold hAll
  rw [cat_apply, dif_pos (by decide)]
  have e : ∀ (w : Ideal .f32) (v : FVec Ideal S8x1024 .f32), k0_pay10 w v (ix2 7 j) = v (ix2 7 j) * w := by
    intro w v
    pointwise [k0_pay10]
  refine (e _ _).trans ?_
  rw [before_word, before_apply]
  split
  · exact mul_zero _
  · exact mul_one _

theorem row_after (j : Fin 1024) :
    hAll i x xp xn md g (ix2 264 j) = if (i 1).val = 0 ∨ (i 1).val = 16 then 0 else hidOf md g (fun k => xn (ix3 0 0 k)) j := by
  unfold hAll
  rw [cat_apply, dif_neg (by decide), dif_neg (by decide)]
  have e : ∀ (w : Ideal .f32) (a : Fin 8), k0_pay13 w (ix2 a j) = w := by
    intro w a
    pointwise [k0_pay13]
  rw [e, after_word, after_apply]
  simp only [pay3_apply, pay4_apply]
  split
  · exact mul_zero _
  · exact mul_one _

end Rows

end Cert.Kernel5Ideal.FFN

end
-- ==== Proof.FFNAll.Blocks.lean ====
/- The blocks of a grid point of the whole feed-forward, element by element.

   A point is a batch element `pb` and a tile `ps` of 256 tokens, the first tile being the context. It takes that tile, the
   eight tokens before it and the eight after it (both kept within the array), the modulation of its batch element or of the
   context, and the layer's weights. -/
module

public import proofs.«01_k».proof.Proof.FFNAll.Elements

@[expose] public section

noncomputable section

namespace Cert.Kernel5Ideal.FFN

open Cert.Kernel5Ideal Cert.Kernel5Ideal.Gen Idealize.ShloMosaic Idealize.ShloMosaic.TcCoe Idealize.SL.Sem Cert.FFN Cert.FFNAll

/-- The batch element and the tile of a point. -/
def pb (i : grid0.Coords) : Fin 8 := i 0
def ps (i : grid0.Coords) : Fin 17 := i 1

/-- The row of the modulation for a tile. -/
def mrow (b : Fin 8) (s : Fin 17) : Fin 16 := if s.val = 0 then 8 else ⟨b.val, by omega⟩

/-- Token `r` of tile `s`. -/
def tok (s : Fin 17) (r : Fin 256) : Fin 4352 := ⟨256 * s.val + r.val, by omega⟩

theorem rowOf_tok (b : Fin 8) (s : Fin 17) (r : Fin 256) : rowOf b (tok s r) = mrow b s := by
  unfold rowOf mrow
  by_cases h : s.val = 0
  · rw [if_pos (by show 256 * s.val + r.val < 256; omega), if_pos h]
  · rw [if_neg (by show ¬ 256 * s.val + r.val < 256; omega), if_neg h]

theorem rowOf_other (b : Fin 8) (s : Fin 17) (n : Fin 4352) (hs : s.val ≠ 0) (hn : 256 ≤ n.val) : rowOf b n = mrow b s := by
  unfold rowOf mrow
  rw [if_neg (by omega), if_neg hs]

theorem ld_at {Val : EltTy → Type} {S : Shape} {e : EltTy} (X : S.Idx → Val e) (off size : Fin S.rank → Nat)
    (inb : ∀ a, off a + size a ≤ S.size a) (x : (Rect.unit off size inb).shape.Idx) (k : S.Idx)
    (hk : ∀ a, (k a).val = off a + (x a).val) : View.ld X (Rect.unit off size inb) x = X k := by
  rw [View.ld_unit]
  exact extractStridedSlice_apply off X _ x k hk

theorem map0 (i : grid0.Coords) : cc0_transform_0 i = ![(pb i).val, (ps i).val, 0] := by
  unfold cc0_transform_0 pb ps
  generalize (i 0 : Fin 8) = b
  generalize (i 1 : Fin 17) = s
  revert b s; decide +kernel

theorem map1 (i : grid0.Coords) : cc0_transform_1 i = ![(pb i).val, 32 * (ps i).val - 1, 0] := by
  unfold cc0_transform_1 pb ps
  generalize (i 0 : Fin 8) = b
  generalize (i 1 : Fin 17) = s
  revert b s; decide +kernel

theorem map2 (i : grid0.Coords) : cc0_transform_2 i = ![(pb i).val, min (32 * (ps i).val + 32) 543, 0] := by
  unfold cc0_transform_2 pb ps
  generalize (i 0 : Fin 8) = b
  generalize (i 1 : Fin 17) = s
  revert b s; decide +kernel

theorem map3 (i : grid0.Coords) : cc0_transform_3 i = ![1, (mrow (pb i) (ps i)).val, 0, 0] := by
  unfold cc0_transform_3 pb ps
  generalize (i 0 : Fin 8) = b
  generalize (i 1 : Fin 17) = s
  revert b s; decide +kernel

theorem map9 (i : grid0.Coords) : cc0_transform_9 i = ![(pb i).val, (ps i).val, 0] := by
  unfold cc0_transform_9 pb ps
  generalize (i 0 : Fin 8) = b
  generalize (i 1 : Fin 17) = s
  revert b s; decide +kernel

section Blocks

variable {F : FTy → Type} [FloatOps F]
variable (m : (ℓ : Loc nD τ sig) → Buf (Elt F) ℓ)

/-- An element of the output's block, in the array. -/
theorem emb9 (t : Fin cfg0.N) (r : Fin 256) (j : Fin 1024) :
    ((cfg0.win 9).blk t).view.emb (ix3 0 r j : S1x256x1024.Idx)
      = ix3 (pb (grid0.coords t)) (tok (ps (grid0.coords t)) r) j := by
  funext a
  refine Fin.ext (((cfg0.win 9).rect_emb_val t _ a).trans ?_)
  show cc0_transform_9 (grid0.coords t) a * S1x256x1024.size a + _ = _
  rw [map9]
  fin_cases a
  · show (pb (grid0.coords t)).val * 1 + 0 = (pb (grid0.coords t)).val; omega
  · show (ps (grid0.coords t)).val * 256 + r.val = 256 * (ps (grid0.coords t)).val + r.val; omega
  · show 0 * 1024 + j.val = j.val; omega

theorem blk0_apply (c : Dev nD) (t : Fin cfg0.N) (r : Fin 256) (j : Fin 1024) :
    iblk m c 0 t (ix3 0 r j : S1x256x1024.Idx)
      = m ((c : Thread nD τ).loc main_arg0) (ix3 (pb (grid0.coords t)) (tok (ps (grid0.coords t)) r) j) := by
  rw [← V_main_arg0 m c]
  refine congrArg (V m c main_arg0) (funext fun a => ?_)
  refine Fin.ext (((cfg0.win 0).rect_emb_val t _ a).trans ?_)
  show cc0_transform_0 (grid0.coords t) a * S1x256x1024.size a + _ = _
  rw [map0]
  fin_cases a
  · show (pb (grid0.coords t)).val * 1 + 0 = (pb (grid0.coords t)).val; omega
  · show (ps (grid0.coords t)).val * 256 + r.val = 256 * (ps (grid0.coords t)).val + r.val; omega
  · show 0 * 1024 + j.val = j.val; omega

/-- The token before the tile, when there is one. -/
theorem blk1_apply (c : Dev nD) (t : Fin cfg0.N) (n : Fin 4352) (j : Fin 1024)
    (hn : n.val + 1 = 256 * (ps (grid0.coords t)).val) :
    iblk m c 1 t (ix3 0 7 j : S1x8x1024.Idx)
      = m ((c : Thread nD τ).loc main_arg0) (ix3 (pb (grid0.coords t)) n j) := by
  rw [← V_main_arg0 m c]
  refine congrArg (V m c main_arg0) (funext fun a => ?_)
  refine Fin.ext (((cfg0.win 1).rect_emb_val t _ a).trans ?_)
  show cc0_transform_1 (grid0.coords t) a * S1x8x1024.size a + _ = _
  rw [map1]
  fin_cases a
  · show (pb (grid0.coords t)).val * 1 + 0 = (pb (grid0.coords t)).val; omega
  · show (32 * (ps (grid0.coords t)).val - 1) * 8 + 7 = n.val; omega
  · show 0 * 1024 + j.val = j.val; omega

/-- The token after the tile, when there is one. -/
theorem blk2_apply (c : Dev nD) (t : Fin cfg0.N) (n : Fin 4352) (j : Fin 1024)
    (hn : n.val = 256 * (ps (grid0.coords t)).val + 256) :
    iblk m c 2 t (ix3 0 0 j : S1x8x1024.Idx)
      = m ((c : Thread nD τ).loc main_arg0) (ix3 (pb (grid0.coords t)) n j) := by
  rw [← V_main_arg0 m c]
  refine congrArg (V m c main_arg0) (funext fun a => ?_)
  refine Fin.ext (((cfg0.win 2).rect_emb_val t _ a).trans ?_)
  show cc0_transform_2 (grid0.coords t) a * S1x8x1024.size a + _ = _
  rw [map2]
  have := n.isLt
  fin_cases a
  · show (pb (grid0.coords t)).val * 1 + 0 = (pb (grid0.coords t)).val; omega
  · show (min (32 * (ps (grid0.coords t)).val + 32) 543) * 8 + 0 = n.val; omega
  · show 0 * 1024 + j.val = j.val; omega

theorem blk3_apply (c : Dev nD) (t : Fin cfg0.N) (j : Fin 6144) :
    iblk m c 3 t (ix4 0 0 0 j : S1x1x1x6144.Idx)
      = m ((c : Thread nD τ).loc main_arg1) (ix4 1 (mrow (pb (grid0.coords t)) (ps (grid0.coords t))) 0 j) := by
  rw [← V_main_arg1 m c]
  refine congrArg (V m c main_arg1) (funext fun a => ?_)
  refine Fin.ext (((cfg0.win 3).rect_emb_val t _ a).trans ?_)
  show cc0_transform_3 (grid0.coords t) a * S1x1x1x6144.size a + _ = _
  rw [map3]
  fin_cases a
  · rfl
  · show (mrow (pb (grid0.coords t)) (ps (grid0.coords t))).val * 1 + 0 = (mrow (pb (grid0.coords t)) (ps (grid0.coords t))).val; omega
  · rfl
  · show 0 * 6144 + j.val = j.val; omega

theorem blk4_apply (c : Dev nD) (t : Fin cfg0.N) (j : Fin 1024) :
    iblk m c 4 t (ix2 0 j : S1x1024.Idx) = V m c main_v2 (ix2 0 j) := by
  refine congrArg (V m c main_v2) (funext fun a => ?_)
  refine Fin.ext (((cfg0.win 4).rect_emb_val t _ a).trans ?_)
  fin_cases a
  · rfl
  · show 0 * 1024 + j.val = j.val; omega

theorem blk5_apply (c : Dev nD) (t : Fin cfg0.N) (j : Fin 1024) :
    iblk m c 5 t (ix2 0 j : S1x1024.Idx) = V m c main_v5 (ix2 0 j) := by
  refine congrArg (V m c main_v5) (funext fun a => ?_)
  refine Fin.ext (((cfg0.win 5).rect_emb_val t _ a).trans ?_)
  fin_cases a
  · rfl
  · show 0 * 1024 + j.val = j.val; omega

theorem blk6_apply (c : Dev nD) (t : Fin cfg0.N) (j : Fin 1024) (f : Fin 5632) :
    iblk m c 6 t (ix3 0 j f : S1x1024x5632.Idx) = V m c main_v6 (ix3 1 j f) := by
  refine congrArg (V m c main_v6) (funext fun a => ?_)
  refine Fin.ext (((cfg0.win 6).rect_emb_val t _ a).trans ?_)
  fin_cases a
  · rfl
  · show 0 * 1024 + j.val = j.val; omega
  · show 0 * 5632 + f.val = f.val; omega

theorem blk7_apply (c : Dev nD) (t : Fin cfg0.N) (k : Fin 3) (f : Fin 5632) :
    iblk m c 7 t (ix2 k f : S3x5632.Idx) = V m c main_v8 (ix2 k f) := by
  refine congrArg (V m c main_v8) (funext fun a => ?_)
  refine Fin.ext (((cfg0.win 7).rect_emb_val t _ a).trans ?_)
  fin_cases a
  · show 0 * 3 + k.val = k.val; omega
  · show 0 * 5632 + f.val = f.val; omega

theorem blk8_apply (c : Dev nD) (t : Fin cfg0.N) (f : Fin 2816) (j : Fin 1024) :
    iblk m c 8 t (ix3 0 f j : S1x2816x1024.Idx) = V m c main_v9 (ix3 1 f j) := by
  refine congrArg (V m c main_v9) (funext fun a => ?_)
  refine Fin.ext (((cfg0.win 8).rect_emb_val t _ a).trans ?_)
  fin_cases a
  · rfl
  · show 0 * 2816 + f.val = f.val; omega
  · show 0 * 1024 + j.val = j.val; omega

end Blocks

section Host

variable (m : (ℓ : Loc nD τ sig) → Buf (Elt Ideal) ℓ)

/-- The host's weights: layer 1 of each. -/
theorem gain1_apply (c : Dev nD) (j : Fin 1024) : V m c main_v2 (ix2 0 j) = m ((c : Thread nD τ).loc main_arg2) (ix2 1 j) := by
  have e : ∀ W : Idealize.ShloMosaic.Valuation τ sig (Elt Ideal), StableHlo.after hostOps0 W main_v2 (ix2 0 j) = W main_arg2 (ix2 1 j) := by
    intro W
    after_results_simp
    generalize (W main_arg2 : Vec Ideal S4x1024 .f32) = y
    pointwise []
  exact e _

theorem gain2_apply (c : Dev nD) (j : Fin 1024) : V m c main_v5 (ix2 0 j) = m ((c : Thread nD τ).loc main_arg3) (ix2 1 j) := by
  have e : ∀ W : Idealize.ShloMosaic.Valuation τ sig (Elt Ideal), StableHlo.after hostOps0 W main_v5 (ix2 0 j) = W main_arg3 (ix2 1 j) := by
    intro W
    after_results_simp
    generalize (W main_arg3 : Vec Ideal S4x1024 .f32) = y
    pointwise []
  exact e _

theorem wUp_apply (c : Dev nD) (l : Fin 4) (j : Fin 1024) (f : Fin 5632) :
    V m c main_v6 (ix3 l j f) = m ((c : Thread nD τ).loc main_arg4) (ix3 l j f) := by
  have e : ∀ W : Idealize.ShloMosaic.Valuation τ sig (Elt Ideal), StableHlo.after hostOps0 W main_v6 (ix3 l j f) = W main_arg4 (ix3 l j f) := by
    intro W
    after_results_simp
    generalize (W main_arg4 : Vec Ideal S4x1024x5632 .f32) = y
    pointwise []
  exact e _

theorem wConv_apply (c : Dev nD) (k : Fin 3) (f : Fin 5632) :
    V m c main_v8 (ix2 k f) = m ((c : Thread nD τ).loc main_arg5) (ix3 1 k f) := by
  have e : ∀ W : Idealize.ShloMosaic.Valuation τ sig (Elt Ideal), StableHlo.after hostOps0 W main_v8 (ix2 k f) = W main_arg5 (ix3 1 k f) := by
    intro W
    after_results_simp
    generalize (W main_arg5 : Vec Ideal S4x3x5632 .f32) = y
    pointwise []
  exact e _

theorem wDown_apply (c : Dev nD) (l : Fin 4) (f : Fin 2816) (j : Fin 1024) :
    V m c main_v9 (ix3 l f j) = m ((c : Thread nD τ).loc main_arg6) (ix3 l f j) := by
  have e : ∀ W : Idealize.ShloMosaic.Valuation τ sig (Elt Ideal), StableHlo.after hostOps0 W main_v9 (ix3 l f j) = W main_arg6 (ix3 l f j) := by
    intro W
    after_results_simp
    generalize (W main_arg6 : Vec Ideal S4x2816x1024 .f32) = y
    pointwise []
  exact e _

end Host

end Cert.Kernel5Ideal.FFN
-- ==== Proof.FFNAll.Array.lean ====
/- The whole feed-forward's whole output array, element by element. -/
module

public import proofs.«01_k».proof.Proof.FFNAll.Blocks

@[expose] public section

noncomputable section

namespace Cert.Kernel5Ideal.FFN

open Cert.Kernel5Ideal Cert.Kernel5Ideal.Gen Idealize.ShloMosaic Idealize.ShloMosaic.TcCoe Idealize.SL.Sem Cert.FFNAll
open Cert.FFN (rmsRow hid glu colSh colSc colGt colA colV)
open Idealize.ShloMosaic.Pipeline (Dat)

/-- The point's coordinates, from its number. -/
theorem coord_b (t : Fin cfg0.N) : (pb (grid0.coords t)).val = t.val / 17 := by
  have ht : t.val < 136 := Nat.lt_of_lt_of_eq t.isLt N_0
  have e : (grid0.coords t 0).val = t.val / 17 % 8 := Pipeline.Grid.coords_val t 0 (by decide) rfl
  show (grid0.coords t 0).val = _
  omega
theorem coord_s (t : Fin cfg0.N) : (ps (grid0.coords t)).val = t.val % 17 := by
  have e : (grid0.coords t 1).val = t.val / 1 % 17 := Pipeline.Grid.coords_val t 1 (by decide) rfl
  show (grid0.coords t 1).val = _
  omega

section Launch

variable (m : (ℓ : Loc nD τ sig) → Buf (Elt Ideal) ℓ) (c : Dev nD)

/-- The arguments as launched, as functions: the stream; layer 1 of the modulation, of the gains and of the weights. -/
abbrev aX (b : Fin 8) (n : Fin 4352) (j : Fin 1024) : EReal := (m ((c : Thread nD τ).loc main_arg0) : Vec Ideal S8x4352x1024 .f32) (ix3 b n j)
abbrev aM (b : Fin 16) (k : Fin 6144) : EReal := (m ((c : Thread nD τ).loc main_arg1) : Vec Ideal S4x16x1x6144 .f32) (ix4 1 b 0 k)
abbrev aG (j : Fin 1024) : EReal := (m ((c : Thread nD τ).loc main_arg2) : Vec Ideal S4x1024 .f32) (ix2 1 j)
abbrev aH (j : Fin 1024) : EReal := (m ((c : Thread nD τ).loc main_arg3) : Vec Ideal S4x1024 .f32) (ix2 1 j)
abbrev aW (j : Fin 1024) (f : Fin 5632) : EReal := (m ((c : Thread nD τ).loc main_arg4) : Vec Ideal S4x1024x5632 .f32) (ix3 1 j f)
abbrev aC (k : Fin 3) (f : Fin 5632) : EReal := (m ((c : Thread nD τ).loc main_arg5) : Vec Ideal S4x3x5632 .f32) (ix3 1 k f)
abbrev aD (f : Fin 2816) (j : Fin 1024) : EReal := (m ((c : Thread nD τ).loc main_arg6) : Vec Ideal S4x2816x1024 .f32) (ix3 1 f j)

/-- The whole output. -/
def whole : S8x4352x1024.Idx → EReal := fun y => result (aX m c) (aM m c) (aG m c) (aH m c) (aW m c) (aC m c) (aD m c) (y 0) (y 1) (y 2)

variable (t : Fin cfg0.N)

theorem load_tile (r : Fin 256) (j : Fin 1024) :
    View.ld (iblk m c 0 t) rOut (ix3 0 r j) = aX m c (pb (grid0.coords t)) (tok (ps (grid0.coords t)) r) j := by
  refine Eq.trans ?_ (blk0_apply m c t r j)
  exact ld_at _ _ _ _ _ _ fun x => by fin_cases x <;> simp [ix3]

theorem load_before (n : Fin 4352) (j : Fin 1024) (hn : n.val + 1 = 256 * (ps (grid0.coords t)).val) :
    View.ld (iblk m c 1 t) rHalo (ix3 0 7 j) = aX m c (pb (grid0.coords t)) n j := by
  refine Eq.trans ?_ (blk1_apply m c t n j hn)
  exact ld_at _ _ _ _ _ _ fun x => by fin_cases x <;> simp [ix3]

theorem load_after (n : Fin 4352) (j : Fin 1024) (hn : n.val = 256 * (ps (grid0.coords t)).val + 256) :
    View.ld (iblk m c 2 t) rHalo (ix3 0 0 j) = aX m c (pb (grid0.coords t)) n j := by
  refine Eq.trans ?_ (blk2_apply m c t n j hn)
  exact ld_at _ _ _ _ _ _ fun x => by fin_cases x <;> simp [ix3]

theorem load_mod (k : Fin 6144) : View.ld (iblk m c 3 t) rMod (ix4 0 0 0 k) = aM m c (mrow (pb (grid0.coords t)) (ps (grid0.coords t))) k := by
  refine Eq.trans ?_ (blk3_apply m c t k)
  exact ld_at _ _ _ _ _ _ fun x => by fin_cases x <;> simp [ix4]

theorem load_gain1 (j : Fin 1024) : View.ld (iblk m c 4 t) rGain (ix2 0 j) = aG m c j := by
  refine Eq.trans ?_ ((blk4_apply m c t j).trans (gain1_apply m c j))
  exact ld_at _ _ _ _ _ _ fun x => by fin_cases x <;> simp [ix2]

theorem load_gain2 (j : Fin 1024) : View.ld (iblk m c 5 t) rGain (ix2 0 j) = aH m c j := by
  refine Eq.trans ?_ ((blk5_apply m c t j).trans (gain2_apply m c j))
  exact ld_at _ _ _ _ _ _ fun x => by fin_cases x <;> simp [ix2]

theorem load_down (f : Fin 2816) (j : Fin 1024) : View.ld (iblk m c 8 t) rDown (ix3 0 f j) = aD m c f j := by
  refine Eq.trans ?_ ((blk8_apply m c t f j).trans (wDown_apply m c 1 f j))
  exact ld_at _ _ _ _ _ _ fun x => by fin_cases x <;> simp [ix3]

theorem load_up (off : Nat) (inb) (j : Fin 1024) (f : Fin 256) (k : Fin 5632) (hk : k.val = off + f.val) :
    View.ld (iblk m c 6 t) (Rect.unit (s := S1x1024x5632) ![0, 0, off] S1x1024x256.size inb) (ix3 0 j f) = aW m c j k := by
  refine Eq.trans ?_ ((blk6_apply m c t j k).trans (wUp_apply m c 1 j k))
  exact ld_at _ _ _ _ _ _ fun x => by fin_cases x <;> simp [ix3, hk]

theorem load_conv (p : Fin 3) (off : Nat) (inb) (f : Fin 256) (k : Fin 5632) (hk : k.val = off + f.val) :
    View.ld (iblk m c 7 t) (Rect.unit (s := S3x5632) ![p.val, off] S1x256.size inb) (ix2 0 f) = aC m c p k := by
  refine Eq.trans ?_ ((blk7_apply m c t p k).trans (wConv_apply m c p k))
  exact ld_at _ _ _ _ _ _ fun x => by fin_cases x <;> simp [ix2, hk]

/-- The rows of the normalised tile: the tokens of the tile, the one before and the one after. -/
theorem row_tok (r : Fin 256) (j : Fin 1024) : hAt m c t (ix2 ⟨8 + r.val, by omega⟩ j)
    = hiddenAt (aX m c) (aM m c) (aG m c) (pb (grid0.coords t)) (tok (ps (grid0.coords t)) r) j := by
  unfold hAt
  rw [row_tile]
  unfold hidOf hiddenAt
  rw [rowOf_tok]
  simp only [load_tile, load_mod, load_gain1]

theorem row_prev (j : Fin 1024) : hAt m c t (ix2 7 j)
    = if h : (ps (grid0.coords t)).val < 2 then 0
      else hiddenAt (aX m c) (aM m c) (aG m c) (pb (grid0.coords t)) ⟨256 * (ps (grid0.coords t)).val - 1, by omega⟩ j := by
  unfold hAt
  rw [row_before]
  show (if (ps (grid0.coords t)).val < 2 then (0 : EReal) else _) = _
  by_cases h : (ps (grid0.coords t)).val < 2
  · rw [if_pos h, dif_pos h]
  · rw [if_neg h, dif_neg h]
    unfold hidOf hiddenAt
    rw [rowOf_other (pb (grid0.coords t)) (ps (grid0.coords t)) _ (by omega) (by dsimp only; omega)]
    simp only [load_before m c t ⟨256 * (ps (grid0.coords t)).val - 1, by omega⟩ _ (by dsimp only; omega), load_mod, load_gain1]

theorem row_next (j : Fin 1024) : hAt m c t (ix2 264 j)
    = if h : (ps (grid0.coords t)).val = 0 ∨ (ps (grid0.coords t)).val = 16 then 0
      else hiddenAt (aX m c) (aM m c) (aG m c) (pb (grid0.coords t)) ⟨256 * (ps (grid0.coords t)).val + 256, by omega⟩ j := by
  unfold hAt
  rw [row_after]
  show (if (ps (grid0.coords t)).val = 0 ∨ (ps (grid0.coords t)).val = 16 then (0 : EReal) else _) = _
  by_cases h : (ps (grid0.coords t)).val = 0 ∨ (ps (grid0.coords t)).val = 16
  · rw [if_pos h, dif_pos h]
  · rw [if_neg h, dif_neg h]
    unfold hidOf hiddenAt
    rw [rowOf_other (pb (grid0.coords t)) (ps (grid0.coords t)) _ (by omega) (by dsimp only; omega)]
    simp only [load_after m c t ⟨256 * (ps (grid0.coords t)).val + 256, by omega⟩ _ rfl, load_mod, load_gain1]

/-- A column of the tile: of a token, of the token before, of the token after. -/
theorem col_tok (w : Vec Ideal S1x1024x256 .bf16) (f : Fin 256) (k : Fin 5632) (hw : ∀ j, w (ix3 0 j f) = aW m c j k) (r : Fin 256) :
    k0_pay21 (hAt m c t) w (ix2 ⟨8 + r.val, by omega⟩ f)
      = up (aX m c) (aM m c) (aG m c) (aW m c) (pb (grid0.coords t)) (tok (ps (grid0.coords t)) r) k := by
  rw [up_apply]
  exact Finset.sum_congr rfl fun j _ => by rw [hw, row_tok]

theorem col_before (w : Vec Ideal S1x1024x256 .bf16) (f : Fin 256) (k : Fin 5632) (hw : ∀ j, w (ix3 0 j f) = aW m c j k) (r : Fin 256) :
    k0_pay21 (hAt m c t) w (ix2 ⟨7 + r.val, by omega⟩ f)
      = upBefore (aX m c) (aM m c) (aG m c) (aW m c) (pb (grid0.coords t)) (tok (ps (grid0.coords t)) r) k := by
  unfold upBefore
  by_cases hr : r.val = 0
  · rw [show (⟨7 + r.val, by omega⟩ : Fin 272) = 7 from Fin.ext (by show 7 + r.val = 7; omega), up_apply]
    by_cases h : (ps (grid0.coords t)).val < 2
    · rw [dif_pos (by show 256 * (ps (grid0.coords t)).val + r.val = 0 ∨ 256 * (ps (grid0.coords t)).val + r.val = 256; omega)]
      exact Finset.sum_eq_zero fun j _ => by rw [row_prev, dif_pos h]; exact zero_mul _
    · rw [dif_neg (by show ¬ (256 * (ps (grid0.coords t)).val + r.val = 0 ∨ 256 * (ps (grid0.coords t)).val + r.val = 256); omega)]
      refine Finset.sum_congr rfl fun j _ => ?_
      rw [hw, row_prev, dif_neg h]
      exact congrArg (fun a => hiddenAt (aX m c) (aM m c) (aG m c) (pb (grid0.coords t)) a j * aW m c j k)
        (Fin.ext (by show 256 * (ps (grid0.coords t)).val - 1 = 256 * (ps (grid0.coords t)).val + r.val - 1; omega))
  · rw [dif_neg (by show ¬ (256 * (ps (grid0.coords t)).val + r.val = 0 ∨ 256 * (ps (grid0.coords t)).val + r.val = 256); omega)]
    refine Eq.trans ?_ ((col_tok m c t w f k hw ⟨r.val - 1, by omega⟩).trans ?_)
    · exact congrArg (fun a => k0_pay21 (hAt m c t) w (ix2 a f)) (Fin.ext (by show 7 + r.val = 8 + (r.val - 1); omega))
    · exact congrArg (fun a => up (aX m c) (aM m c) (aG m c) (aW m c) (pb (grid0.coords t)) a k)
        (Fin.ext (by show 256 * (ps (grid0.coords t)).val + (r.val - 1) = 256 * (ps (grid0.coords t)).val + r.val - 1; omega))

theorem col_after (w : Vec Ideal S1x1024x256 .bf16) (f : Fin 256) (k : Fin 5632) (hw : ∀ j, w (ix3 0 j f) = aW m c j k) (r : Fin 256) :
    k0_pay21 (hAt m c t) w (ix2 ⟨9 + r.val, by omega⟩ f)
      = upAfter (aX m c) (aM m c) (aG m c) (aW m c) (pb (grid0.coords t)) (tok (ps (grid0.coords t)) r) k := by
  unfold upAfter
  by_cases hr : r.val = 255
  · rw [show (⟨9 + r.val, by omega⟩ : Fin 272) = 264 from Fin.ext (by show 9 + r.val = 264; omega), up_apply]
    by_cases h : (ps (grid0.coords t)).val = 0 ∨ (ps (grid0.coords t)).val = 16
    · rw [dif_pos (by show 256 * (ps (grid0.coords t)).val + r.val = 255 ∨ 256 * (ps (grid0.coords t)).val + r.val = 4351; omega)]
      exact Finset.sum_eq_zero fun j _ => by rw [row_next, dif_pos h]; exact zero_mul _
    · rw [dif_neg (by show ¬ (256 * (ps (grid0.coords t)).val + r.val = 255 ∨ 256 * (ps (grid0.coords t)).val + r.val = 4351); omega)]
      refine Finset.sum_congr rfl fun j _ => ?_
      rw [hw, row_next, dif_neg h]
      exact congrArg (fun a => hiddenAt (aX m c) (aM m c) (aG m c) (pb (grid0.coords t)) a j * aW m c j k)
        (Fin.ext (by show 256 * (ps (grid0.coords t)).val + 256 = 256 * (ps (grid0.coords t)).val + r.val + 1; omega))
  · have hs := (ps (grid0.coords t)).isLt
    rw [dif_neg (by show ¬ (256 * (ps (grid0.coords t)).val + r.val = 255 ∨ 256 * (ps (grid0.coords t)).val + r.val = 4351); omega)]
    refine Eq.trans ?_ ((col_tok m c t w f k hw ⟨r.val + 1, by omega⟩).trans ?_)
    · exact congrArg (fun a => k0_pay21 (hAt m c t) w (ix2 a f)) (Fin.ext (by show 9 + r.val = 8 + (r.val + 1); omega))
    · exact congrArg (fun a => up (aX m c) (aM m c) (aG m c) (aW m c) (pb (grid0.coords t)) a k)
        (Fin.ext (by show 256 * (ps (grid0.coords t)).val + (r.val + 1) = 256 * (ps (grid0.coords t)).val + r.val + 1; omega))

/-- A convolved column. -/
theorem col_conv (w : Vec Ideal S1x1024x256 .bf16) (w0 w1 w2 : Vec Ideal S1x256 .f32) (f : Fin 256) (k : Fin 5632)
    (hw : ∀ j, w (ix3 0 j f) = aW m c j k) (h0 : w0 (ix2 0 f) = aC m c 0 k) (h1 : w1 (ix2 0 f) = aC m c 1 k)
    (h2 : w2 (ix2 0 f) = aC m c 2 k) (r : Fin 256) :
    conv (k0_pay21 (hAt m c t) w) w0 w1 w2 (ix2 r f)
      = conved (aX m c) (aM m c) (aG m c) (aW m c) (aC m c) (pb (grid0.coords t)) (tok (ps (grid0.coords t)) r) k := by
  rw [conv_apply, col_tok m c t w f k hw, col_before m c t w f k hw, col_after m c t w f k hw, h0, h1, h2]
  rfl

/-- Column `f` of slice `n`. -/
def colOf (n : Fin 11) (f : Fin 256) : Fin 2816 := ⟨256 * n.val + f.val, by omega⟩

/-- An element of a slice of gated columns. -/
theorem slice_elem (n : Fin 11) (r f : Fin 256) : sliceAt (hAt m c t) (iblk m c 6 t) (iblk m c 7 t) n (ix2 r f)
    = act (aX m c) (aM m c) (aG m c) (aW m c) (aC m c) (pb (grid0.coords t)) (tok (ps (grid0.coords t)) r) (colOf n f) := by
  unfold sliceAt slice
  have ha : (colA (colOf n f)).val = 256 * n.val + f.val := rfl
  have hv : (colV (colOf n f)).val = 2816 + 256 * n.val + f.val := by show 2816 + (256 * n.val + f.val) = _; omega
  rw [gated_apply,
    col_conv m c t _ _ _ _ f (colA (colOf n f)) (fun j => load_up m c t _ _ j f _ ha) (load_conv m c t 0 _ _ f _ ha)
      (load_conv m c t 1 _ _ f _ ha) (load_conv m c t 2 _ _ f _ ha) r,
    col_conv m c t _ _ _ _ f (colV (colOf n f)) (fun j => load_up m c t _ _ j f _ hv) (load_conv m c t 0 _ _ f _ hv)
      (load_conv m c t 1 _ _ f _ hv) (load_conv m c t 2 _ _ f _ hv) r]
  rfl

/-- The scratch buffer, whole. -/
def scratch : S256x2816.Idx → EReal := fun y =>
  act (aX m c) (aM m c) (aG m c) (aW m c) (aC m c) (pb (grid0.coords t)) (tok (ps (grid0.coords t)) (y 0)) (y 1)

theorem mem_pieces (p : View.Piece (Elt Ideal) S256x2816 .bf16) (h : FVec Ideal S272x1024 .bf16) (W : Vec Ideal S1x1024x5632 .bf16)
    (C : Vec Ideal S3x5632 .f32) (hp : p ∈ pieces h W C) : ∃ n : Fin 11, p = ⟨rS n, sliceAt h W C n⟩ := by
  unfold pieces at hp
  simp only [List.mem_cons, List.not_mem_nil, or_false] at hp
  rcases hp with hp | hp | hp | hp | hp | hp | hp | hp | hp | hp | hp
  · exact ⟨10, hp⟩
  · exact ⟨9, hp⟩
  · exact ⟨8, hp⟩
  · exact ⟨7, hp⟩
  · exact ⟨6, hp⟩
  · exact ⟨5, hp⟩
  · exact ⟨4, hp⟩
  · exact ⟨3, hp⟩
  · exact ⟨2, hp⟩
  · exact ⟨1, hp⟩
  · exact ⟨0, hp⟩

theorem piece_mem (h : FVec Ideal S272x1024 .bf16) (W : Vec Ideal S1x1024x5632 .bf16) (C : Vec Ideal S3x5632 .f32) (n : Fin 11) :
    (⟨rS n, sliceAt h W C n⟩ : View.Piece (Elt Ideal) S256x2816 .bf16) ∈ pieces h W C := by
  unfold pieces
  fin_cases n <;> simp [List.mem_cons]

theorem pieces_cover (h : FVec Ideal S272x1024 .bf16) (W : Vec Ideal S1x1024x5632 .bf16) (C : Vec Ideal S3x5632 .f32) (y : S256x2816.Idx) :
    ∃ p ∈ pieces h W C, y ∈ p.1.set := by
  have h0 : (y 0).val < 256 := (y 0).isLt
  have h1 : (y 1).val < 2816 := (y 1).isLt
  refine ⟨_, piece_mem h W C ⟨(y 1).val / 256, by omega⟩, ?_⟩
  show y ∈ (rS _).set
  rw [Rect.mem_set_unit]
  intro a
  fin_cases a <;> simp <;> omega

theorem scratch_eq (y : S256x2816.Idx) :
    View.canon (pieces (hAt m c t) (iblk m c 6 t) (iblk m c 7 t)) y = scratch m c t y := by
  refine View.canon_apply_of_pieces (scratch m c t) _ ?_ y (pieces_cover _ _ _ y)
  intro p hp x
  obtain ⟨n, rfl⟩ := mem_pieces p _ _ _ hp
  have hx : x = (ix2 (x 0) (x 1) : S256x256.Idx) := by
    funext a
    match a with | ⟨0, _⟩ => rfl | ⟨1, _⟩ => rfl
  rw [hx]
  refine (slice_elem m c t n (x 0) (x 1)).trans ?_
  have e : (rS n).emb (ix2 (x 0) (x 1) : S256x256.Idx) = ix2 (x 0) (colOf n (x 1)) := by
    funext a
    refine Fin.ext ?_
    rw [Rect.emb_apply]
    fin_cases a <;> simp [ix2, colOf, Rect.unit]
  show _ = scratch m c t ((rS n).emb (ix2 (x 0) (x 1) : S256x256.Idx))
  rw [e]
  rfl

theorem scratch_read (r : Fin 256) (f : Fin 2816) :
    (View.whole cc0_scratch0).readCov (pieces (hAt m c t) (iblk m c 6 t) (iblk m c 7 t)) rScr.toLoadRect (ix2 r f)
      = act (aX m c) (aM m c) (aG m c) (aW m c) (aC m c) (pb (grid0.coords t)) (tok (ps (grid0.coords t)) r) f := by
  rw [View.readCov_eq_canon_ld _ _ _ (pieces_cover _ _ _)]
  refine Eq.trans ?_ (scratch_eq m c t (ix2 r f))
  exact ld_at _ _ _ _ _ _ fun x => by fin_cases x <;> simp [ix2]

theorem tile_idx (x : S1x256x1024.Idx) : ∃ (r : Fin 256) (j : Fin 1024), x = ix3 0 r j := by
  have h0 : (x 0).val < 1 := (x 0).isLt
  refine ⟨x 1, x 2, ?_⟩
  funext a
  match a with
  | ⟨0, _⟩ => exact Fin.ext (by show (x 0).val = 0; omega)
  | ⟨1, _⟩ => rfl
  | ⟨2, _⟩ => rfl

/-- WHAT A POINT LEAVES in the output's buffer is its block of the whole output. -/
theorem point_eq (y : S1x256x1024.Idx) : outsAt0 m c t y = whole m c (((cfg0.win 9).blk t).view.emb y) := by
  rw [out_eq m c t]
  refine View.canon_apply_of_pieces (Val := Elt Ideal) (e := .f32) (fun y : S1x256x1024.Idx => whole m c (((cfg0.win 9).blk t).view.emb y)) _ ?_ y ⟨_, List.mem_singleton_self _, ?_⟩
  · intro p hp x
    obtain rfl := List.mem_singleton.mp hp
    obtain ⟨r, j, rfl⟩ := tile_idx x
    have e : rOut.emb (ix3 0 r j : S1x256x1024.Idx) = ix3 0 r j := by
      funext a
      refine Fin.ext ?_
      rw [Rect.emb_apply]
      fin_cases a <;> simp [ix3, Rect.unit]
    refine Eq.trans ?_ (congrArg (fun z => whole m c (((cfg0.win 9).blk t).view.emb z)) e.symm)
    refine Eq.trans ?_ (congrArg (whole m c) (emb9 t r j).symm)
    refine (last_apply _ _ _ _ _ _ _).trans ?_
    show _ = result _ _ _ _ _ _ _ (pb (grid0.coords t)) (tok (ps (grid0.coords t)) r) j
    unfold result
    rw [rowOf_tok]
    simp only [pay5_apply, pay6_apply, load_tile, load_mod, load_gain2, load_down, scratch_read]
    rfl
  · show y ∈ rOut.set
    have h0 : (y 0).val < 1 := (y 0).isLt
    have h1 : (y 1).val < 256 := (y 1).isLt
    have h2 : (y 2).val < 1024 := (y 2).isLt
    rw [Rect.mem_set_unit]
    intro a
    fin_cases a <;> simp <;> omega

/-- Every element of the output is in the block of some point. -/
theorem covered (i : S8x4352x1024.Idx) : ∃ t : Fin cfg0.N, (cfg0.win 9).flush t = true ∧ i ∈ ((cfg0.win 9).blk t).view.set := by
  have h0 : (i 0).val < 8 := (i 0).isLt
  have h1 : (i 1).val < 4352 := (i 1).isLt
  have h2 : (i 2).val < 1024 := (i 2).isLt
  have hN : 17 * (i 0).val + (i 1).val / 256 < cfg0.N := by
    show _ < grid0.N
    rw [N_0]; omega
  refine ⟨⟨_, hN⟩, flush0_9 _, Finset.mem_map.mpr ⟨ix3 0 ⟨(i 1).val % 256, by omega⟩ ⟨(i 2).val, h2⟩, Finset.mem_univ _, ?_⟩⟩
  refine (emb9 _ _ _).trans ?_
  funext a
  refine Fin.ext ?_
  fin_cases a
  · refine (coord_b _).trans ?_
    show (17 * (i 0).val + (i 1).val / 256) / 17 = (i 0).val
    omega
  · show 256 * (ps _).val + (i 1).val % 256 = (i 1).val
    rw [coord_s]
    show 256 * ((17 * (i 0).val + (i 1).val / 256) % 17) + (i 1).val % 256 = (i 1).val
    omega
  · rfl

/-- THE KERNEL'S OUTPUT, whole. -/
theorem array_eq : (dats m 0 c).arrAt 9 cfg0.N = whole m c := by
  refine (dats m 0 c).arrAt_eq_of_cover 9 _ (fun t _ => ?_) covered
  rw [Value.flushed9]
  funext y
  exact point_eq m c t y

end Launch

end Cert.Kernel5Ideal.FFN
-- ==== Proof.FFNAll.Final.lean ====
/- The whole feed-forward's output is the plain program's, for all arguments. -/
module

public import proofs.«01_k».proof.Defs
public import proofs.«01_k».proof.Proof.FFNAll.Ref
public import proofs.«01_k».proof.Proof.FFNAll.Array
public import proofs.«01_k».proof.Proof.Gen.Reference5Ideal.Run

@[expose] public section

noncomputable section

namespace Cert.FFNAll

open Idealize.ShloMosaic Idealize.ShloMosaic.TcCoe Idealize.SL.Sem

theorem same (m : (ℓ : Loc Cert.Kernel5Ideal.nD Cert.Kernel5Ideal.τ Cert.Kernel5Ideal.sig) → Buf (Elt Ideal) ℓ) (c : Dev Cert.Kernel5Ideal.nD) :
    Cert.Reference5Ideal.Read.val_main_v93 (F := Ideal) (m ((c.tc : Thread Cert.Kernel5Ideal.nD Cert.Kernel5Ideal.τ).loc Cert.Kernel5Ideal.main_arg0))
        (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))
        (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))
        (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))
      = Cert.Kernel5Ideal.FFN.whole m c := by
  funext y
  have hy : y = ix3 (y 0) (y 1) (y 2) := by
    funext a
    match a with | ⟨0, _⟩ => rfl | ⟨1, _⟩ => rfl | ⟨2, _⟩ => rfl
  rw [hy]
  exact Cert.Reference5Ideal.FFN.v93_at _ _ _ _ _ _ _ (y 0) (y 1) (y 2)

theorem algebraic : Cert.algebraic_Kernel5Ideal_Reference5Ideal (hKernel5Ideal := Cert.Kernel5Ideal.Gen.facts)
    (hReference5Ideal := Cert.Reference5Ideal.Gen.facts) := by
  intro m g m' g' _ ha
  refine ⟨fun c => (Cert.Kernel5Ideal.Gen.dats m 0 c).arrAt 9 Cert.Kernel5Ideal.cfg0.N, Cert.Kernel5Ideal.Value.run_blocks m g, ?_⟩
  refine (θ_run Cert.Reference5Ideal.defs _ _).mono (fun r h c => ⟨(h c).1.trans ?_, (h c).2⟩) (Cert.Reference5Ideal.Value.run (F := Ideal) m' g')
  obtain ⟨e0, e1, e2, e3, e4, e5, e6⟩ := ha c
  have h0 : StableHlo.launchContents m' c (Proc.tc.devRef Cert.Reference5Ideal.main_arg0)
      = m ((c.tc : Thread Cert.Kernel5Ideal.nD Cert.Kernel5Ideal.τ).loc Cert.Kernel5Ideal.main_arg0) := e0
  have h1 : StableHlo.launchContents m' c (Proc.tc.devRef Cert.Reference5Ideal.main_arg1)
      = m ((c.tc : Thread Cert.Kernel5Ideal.nD Cert.Kernel5Ideal.τ).loc Cert.Kernel5Ideal.main_arg1) := e1
  have h2 : StableHlo.launchContents m' c (Proc.tc.devRef Cert.Reference5Ideal.main_arg2)
      = m ((c.tc : Thread Cert.Kernel5Ideal.nD Cert.Kernel5Ideal.τ).loc Cert.Kernel5Ideal.main_arg2) := e2
  have h3 : StableHlo.launchContents m' c (Proc.tc.devRef Cert.Reference5Ideal.main_arg3)
      = m ((c.tc : Thread Cert.Kernel5Ideal.nD Cert.Kernel5Ideal.τ).loc Cert.Kernel5Ideal.main_arg3) := e3
  have h4 : StableHlo.launchContents m' c (Proc.tc.devRef Cert.Reference5Ideal.main_arg4)
      = m ((c.tc : Thread Cert.Kernel5Ideal.nD Cert.Kernel5Ideal.τ).loc Cert.Kernel5Ideal.main_arg4) := e4
  have h5 : StableHlo.launchContents m' c (Proc.tc.devRef Cert.Reference5Ideal.main_arg5)
      = m ((c.tc : Thread Cert.Kernel5Ideal.nD Cert.Kernel5Ideal.τ).loc Cert.Kernel5Ideal.main_arg5) := e5
  have h6 : StableHlo.launchContents m' c (Proc.tc.devRef Cert.Reference5Ideal.main_arg6)
      = m ((c.tc : Thread Cert.Kernel5Ideal.nD Cert.Kernel5Ideal.τ).loc Cert.Kernel5Ideal.main_arg6) := e6
  rw [Cert.Reference5Ideal.Read.val_main_v93_eq, h0, h1, h2, h3, h4, h5, h6]
  exact (same m c).trans (Cert.Kernel5Ideal.FFN.array_eq m c).symm

end Cert.FFNAll
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.NA.Final
public import proofs.«01_k».proof.Proof.FFN.Final
public import proofs.«01_k».proof.Proof.Pre.Final
public import proofs.«01_k».proof.Proof.Post.Final
public import proofs.«01_k».proof.Proof.FFNAll.Final
public import Idealize.ShloMosaic.Adequacy
public import Idealize.ShloMosaic.Init

@[expose] public section

noncomputable section

namespace Cert.Proof

open Idealize.ShloMosaic Idealize.SL.Sem Cert.Kernel

/-- The frame of the plain neighbourhood attention: it returns what its value run returns, and no
semaphore is ever used by it. -/
theorem referenceFrame :
    Cert.quiescent_ReferenceIdeal (hReferenceIdeal := Cert.ReferenceIdeal.Gen.facts) :=
  fun m ρ _ => (θ_run Cert.ReferenceIdeal.defs _ _).mono (fun r h => ⟨fun c => (h c).2,
    Idealize.ShloMosaic.sem_eq_zero_of_no_sems (by decide) r.2⟩)
    (Cert.ReferenceIdeal.Value.run (F := Ideal) m ρ)

/-- The frame of the plain feed-forward. -/
theorem reference2Frame :
    Cert.quiescent_Reference2Ideal (hReference2Ideal := Cert.Reference2Ideal.Gen.facts) :=
  fun m ρ _ => (θ_run Cert.Reference2Ideal.defs _ _).mono (fun r h => ⟨fun c => (h c).2,
    Idealize.ShloMosaic.sem_eq_zero_of_no_sems (by decide) r.2⟩)
    (Cert.Reference2Ideal.Value.run (F := Ideal) m ρ)

/-- The frame of the plain projections, which have six results. -/
theorem reference3Frame :
    Cert.quiescent_Reference3Ideal (hReference3Ideal := Cert.Reference3Ideal.Gen.facts) :=
  fun m ρ _ => (θ_run Cert.Reference3Ideal.defs _ _).mono (fun r h => ⟨fun c => (h c).2.2.2.2.2.2,
    Idealize.ShloMosaic.sem_eq_zero_of_no_sems (by decide) r.2⟩)
    (Cert.Reference3Ideal.Value.run (F := Ideal) m ρ)

/-- The frame of the plain mixing. -/
theorem reference4Frame :
    Cert.quiescent_Reference4Ideal (hReference4Ideal := Cert.Reference4Ideal.Gen.facts) :=
  fun m ρ _ => (θ_run Cert.Reference4Ideal.defs _ _).mono (fun r h => ⟨fun c => (h c).2,
    Idealize.ShloMosaic.sem_eq_zero_of_no_sems (by decide) r.2⟩)
    (Cert.Reference4Ideal.Value.run (F := Ideal) m ρ)

/-- The frame of the plain whole feed-forward. -/
theorem reference5Frame :
    Cert.quiescent_Reference5Ideal (hReference5Ideal := Cert.Reference5Ideal.Gen.facts) :=
  fun m ρ _ => (θ_run Cert.Reference5Ideal.defs _ _).mono (fun r h => ⟨fun c => (h c).2,
    Idealize.ShloMosaic.sem_eq_zero_of_no_sems (by decide) r.2⟩)
    (Cert.Reference5Ideal.Value.run (F := Ideal) m ρ)

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.NA.preFacts,
    fun m ρ _ => Cert.Kernel.Gen.frame m ρ,
    fun m ρ _ => Cert.KernelIdeal.Gen.frame m ρ,
    fun m ρ _ => Cert.KernelIdeal.Gen.frame m ρ,
    referenceFrame,
    fun m ρ _ => referenceFrame m ρ trivial,
    fun m ρ _ => Cert.Kernel2.Gen.frame m ρ,
    fun m ρ _ => Cert.Kernel2Ideal.Gen.frame m ρ,
    reference2Frame,
    fun m ρ _ => Cert.Kernel3.Gen.frame m ρ,
    fun m ρ _ => Cert.Kernel3Ideal.Gen.frame m ρ,
    reference3Frame,
    fun m ρ _ => Cert.Kernel4.Gen.frame m ρ,
    fun m ρ _ => Cert.Kernel4Ideal.Gen.frame m ρ,
    reference4Frame,
    fun m ρ _ => Cert.Kernel5.Gen.frame m ρ,
    fun m ρ _ => Cert.Kernel5Ideal.Gen.frame m ρ,
    reference5Frame,
    trivial,
    Cert.NA.algebraic,
    trivial,
    Cert.FFN.algebraic,
    trivial,
    Cert.Pre.algebraic,
    trivial,
    Cert.Post.algebraic,
    trivial,
    Cert.FFNAll.algebraic⟩

end Cert.Proof

end
